-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_scan_finite [hPre_scan_finite : Cert.Pre_scan_finite.Facts] (m : (ℓ : Loc Cert.ScanIdeal.nD Cert.ScanIdeal.τ Cert.ScanIdeal.sig) → Buf (Elt Ideal) ℓ) : Prop :=
  ∀ c : Dev Cert.ScanIdeal.nD,
    (Cert.Pre_scan_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_scan_finite [hPre_scan_finite : Cert.Pre_scan_finite.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_scan_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3))) = (fun _ => 1#1)

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInIdeal_ssd_in_finite [hPre_ssd_in_finite : Cert.Pre_ssd_in_finite.Facts] (m : (ℓ : Loc Cert.SsdInIdeal.nD Cert.SsdInIdeal.τ Cert.SsdInIdeal.sig) → Buf (Elt Ideal) ℓ) : Prop :=
  ∀ c : Dev Cert.SsdInIdeal.nD,
    (Cert.Pre_ssd_in_finite.fn (F := Ideal) (m ((c.tc : Thread Cert.SsdInIdeal.nD Cert.SsdInIdeal.τ).loc Cert.SsdInIdeal.main_arg0)) (m ((c.tc : Thread Cert.SsdInIdeal.nD Cert.SsdInIdeal.τ).loc Cert.SsdInIdeal.main_arg1)) (m ((c.tc : Thread Cert.SsdInIdeal.nD Cert.SsdInIdeal.τ).loc Cert.SsdInIdeal.main_arg2)) (m ((c.tc : Thread Cert.SsdInIdeal.nD Cert.SsdInIdeal.τ).loc Cert.SsdInIdeal.main_arg3)) (m ((c.tc : Thread Cert.SsdInIdeal.nD Cert.SsdInIdeal.τ).loc Cert.SsdInIdeal.main_arg4)) (m ((c.tc : Thread Cert.SsdInIdeal.nD Cert.SsdInIdeal.τ).loc Cert.SsdInIdeal.main_arg5)) (m ((c.tc : Thread Cert.SsdInIdeal.nD Cert.SsdInIdeal.τ).loc Cert.SsdInIdeal.main_arg6))) = (fun _ => 1#1)

def Pre_SsdInRefIdeal (m : (ℓ : Loc Cert.SsdInRefIdeal.nD Cert.SsdInRefIdeal.τ Cert.SsdInRefIdeal.sig) → Buf (Elt Ideal) ℓ) : Prop :=
  True

def Pre_SsdInRefIdeal_ssd_in_finite [hPre_ssd_in_finite : Cert.Pre_ssd_in_finite.Facts] (m : (ℓ : Loc Cert.SsdInRefIdeal.nD Cert.SsdInRefIdeal.τ Cert.SsdInRefIdeal.sig) → Buf (Elt Ideal) ℓ) : Prop :=
  ∀ c : Dev Cert.SsdInRefIdeal.nD,
    (Cert.Pre_ssd_in_finite.fn (F := Ideal) (m ((c.tc : Thread Cert.SsdInRefIdeal.nD Cert.SsdInRefIdeal.τ).loc Cert.SsdInRefIdeal.main_arg0)) (m ((c.tc : Thread Cert.SsdInRefIdeal.nD Cert.SsdInRefIdeal.τ).loc Cert.SsdInRefIdeal.main_arg1)) (m ((c.tc : Thread Cert.SsdInRefIdeal.nD Cert.SsdInRefIdeal.τ).loc Cert.SsdInRefIdeal.main_arg2)) (m ((c.tc : Thread Cert.SsdInRefIdeal.nD Cert.SsdInRefIdeal.τ).loc Cert.SsdInRefIdeal.main_arg3)) (m ((c.tc : Thread Cert.SsdInRefIdeal.nD Cert.SsdInRefIdeal.τ).loc Cert.SsdInRefIdeal.main_arg4)) (m ((c.tc : Thread Cert.SsdInRefIdeal.nD Cert.SsdInRefIdeal.τ).loc Cert.SsdInRefIdeal.main_arg5)) (m ((c.tc : Thread Cert.SsdInRefIdeal.nD Cert.SsdInRefIdeal.τ).loc Cert.SsdInRefIdeal.main_arg6))) = (fun _ => 1#1)

def Pre_ScIn (m : (ℓ : Loc Cert.ScIn.nD Cert.ScIn.τ Cert.ScIn.sig) → Buf (Elt Bits) ℓ) : Prop :=
  True

def Pre_ScInIdeal (m : (ℓ : Loc Cert.ScInIdeal.nD Cert.ScInIdeal.τ Cert.ScInIdeal.sig) → Buf (Elt Ideal) ℓ) : Prop :=
  True

def Pre_ScInIdeal_sc_in_finite [hPre_sc_in_finite : Cert.Pre_sc_in_finite.Facts] (m : (ℓ : Loc Cert.ScInIdeal.nD Cert.ScInIdeal.τ Cert.ScInIdeal.sig) → Buf (Elt Ideal) ℓ) : Prop :=
  ∀ c : Dev Cert.ScInIdeal.nD,
    (Cert.Pre_sc_in_finite.fn (F := Ideal) (m ((c.tc : Thread Cert.ScInIdeal.nD Cert.ScInIdeal.τ).loc Cert.ScInIdeal.main_arg0)) (m ((c.tc : Thread Cert.ScInIdeal.nD Cert.ScInIdeal.τ).loc Cert.ScInIdeal.main_arg1)) (m ((c.tc : Thread Cert.ScInIdeal.nD Cert.ScInIdeal.τ).loc Cert.ScInIdeal.main_arg2)) (m ((c.tc : Thread Cert.ScInIdeal.nD Cert.ScInIdeal.τ).loc Cert.ScInIdeal.main_arg3)) (m ((c.tc : Thread Cert.ScInIdeal.nD Cert.ScInIdeal.τ).loc Cert.ScInIdeal.main_arg4))) = (fun _ => 1#1)

def Pre_ScInRefIdeal (m : (ℓ : Loc Cert.ScInRefIdeal.nD Cert.ScInRefIdeal.τ Cert.ScInRefIdeal.sig) → Buf (Elt Ideal) ℓ) : Prop :=
  True

def Pre_ScInRefIdeal_sc_in_finite [hPre_sc_in_finite : Cert.Pre_sc_in_finite.Facts] (m : (ℓ : Loc Cert.ScInRefIdeal.nD Cert.ScInRefIdeal.τ Cert.ScInRefIdeal.sig) → Buf (Elt Ideal) ℓ) : Prop :=
  ∀ c : Dev Cert.ScInRefIdeal.nD,
    (Cert.Pre_sc_in_finite.fn (F := Ideal) (m ((c.tc : Thread Cert.ScInRefIdeal.nD Cert.ScInRefIdeal.τ).loc Cert.ScInRefIdeal.main_arg0)) (m ((c.tc : Thread Cert.ScInRefIdeal.nD Cert.ScInRefIdeal.τ).loc Cert.ScInRefIdeal.main_arg1)) (m ((c.tc : Thread Cert.ScInRefIdeal.nD Cert.ScInRefIdeal.τ).loc Cert.ScInRefIdeal.main_arg2)) (m ((c.tc : Thread Cert.ScInRefIdeal.nD Cert.ScInRefIdeal.τ).loc Cert.ScInRefIdeal.main_arg3)) (m ((c.tc : Thread Cert.ScInRefIdeal.nD Cert.ScInRefIdeal.τ).loc Cert.ScInRefIdeal.main_arg4))) = (fun _ => 1#1)

def Pre_ZGrad (m : (ℓ : Loc Cert.ZGrad.nD Cert.ZGrad.τ Cert.ZGrad.sig) → Buf (Elt Bits) ℓ) : Prop :=
  True

def Pre_ZGradIdeal (m : (ℓ : Loc Cert.ZGradIdeal.nD Cert.ZGradIdeal.τ Cert.ZGradIdeal.sig) → Buf (Elt Ideal) ℓ) : Prop :=
  True

def Pre_ZGradRefIdeal (m : (ℓ : Loc Cert.ZGradRefIdeal.nD Cert.ZGradRefIdeal.τ Cert.ZGradRefIdeal.sig) → Buf (Elt Ideal) ℓ) : Prop :=
  True

def Pre_XbcGrad (m : (ℓ : Loc Cert.XbcGrad.nD Cert.XbcGrad.τ Cert.XbcGrad.sig) → Buf (Elt Bits) ℓ) : Prop :=
  True

def Pre_XbcGradIdeal (m : (ℓ : Loc Cert.XbcGradIdeal.nD Cert.XbcGradIdeal.τ Cert.XbcGradIdeal.sig) → Buf (Elt Ideal) ℓ) : Prop :=
  True

def Pre_XbcGradRefIdeal (m : (ℓ : Loc Cert.XbcGradRefIdeal.nD Cert.XbcGradRefIdeal.τ Cert.XbcGradRefIdeal.sig) → Buf (Elt Ideal) ℓ) : Prop :=
  True

def Pre_SsdFirst (m : (ℓ : Loc Cert.SsdFirst.nD Cert.SsdFirst.τ Cert.SsdFirst.sig) → Buf (Elt Bits) ℓ) : Prop :=
  True

def Pre_SsdFirstIdeal (m : (ℓ : Loc Cert.SsdFirstIdeal.nD Cert.SsdFirstIdeal.τ Cert.SsdFirstIdeal.sig) → Buf (Elt Ideal) ℓ) : Prop :=
  True

def Pre_SsdFirstRefIdeal (m : (ℓ : Loc Cert.SsdFirstRefIdeal.nD Cert.SsdFirstRefIdeal.τ Cert.SsdFirstRefIdeal.sig) → Buf (Elt Ideal) ℓ) : Prop :=
  True

def Pre_ScFirst (m : (ℓ : Loc Cert.ScFirst.nD Cert.ScFirst.τ Cert.ScFirst.sig) → Buf (Elt Bits) ℓ) : Prop :=
  True

def Pre_ScFirstIdeal (m : (ℓ : Loc Cert.ScFirstIdeal.nD Cert.ScFirstIdeal.τ Cert.ScFirstIdeal.sig) → Buf (Elt Ideal) ℓ) : Prop :=
  True

def Pre_ScFirstRefIdeal (m : (ℓ : Loc Cert.ScFirstRefIdeal.nD Cert.ScFirstRefIdeal.τ Cert.ScFirstRefIdeal.sig) → Buf (Elt Ideal) ℓ) : Prop :=
  True

def Pre_SsdLast (m : (ℓ : Loc Cert.SsdLast.nD Cert.SsdLast.τ Cert.SsdLast.sig) → Buf (Elt Bits) ℓ) : Prop :=
  True

def Pre_SsdLastIdeal (m : (ℓ : Loc Cert.SsdLastIdeal.nD Cert.SsdLastIdeal.τ Cert.SsdLastIdeal.sig) → Buf (Elt Ideal) ℓ) : Prop :=
  True

def Pre_SsdLastRefIdeal (m : (ℓ : Loc Cert.SsdLastRefIdeal.nD Cert.SsdLastRefIdeal.τ Cert.SsdLastRefIdeal.sig) → Buf (Elt Ideal) ℓ) : Prop :=
  True

def Pre_ScLast (m : (ℓ : Loc Cert.ScLast.nD Cert.ScLast.τ Cert.ScLast.sig) → Buf (Elt Bits) ℓ) : Prop :=
  True

def Pre_ScLastIdeal (m : (ℓ : Loc Cert.ScLastIdeal.nD Cert.ScLastIdeal.τ Cert.ScLastIdeal.sig) → Buf (Elt Ideal) ℓ) : Prop :=
  True

def Pre_ScLastRefIdeal (m : (ℓ : Loc Cert.ScLastRefIdeal.nD Cert.ScLastRefIdeal.τ Cert.ScLastRefIdeal.sig) → Buf (Elt Ideal) ℓ) : Prop :=
  True

def Pre_DtGrad (m : (ℓ : Loc Cert.DtGrad.nD Cert.DtGrad.τ Cert.DtGrad.sig) → Buf (Elt Bits) ℓ) : Prop :=
  True

def Pre_DtGradIdeal (m : (ℓ : Loc Cert.DtGradIdeal.nD Cert.DtGradIdeal.τ Cert.DtGradIdeal.sig) → Buf (Elt Ideal) ℓ) : Prop :=
  True

def Pre_DtGradRefIdeal (m : (ℓ : Loc Cert.DtGradRefIdeal.nD Cert.DtGradRefIdeal.τ Cert.DtGradRefIdeal.sig) → Buf (Elt Ideal) ℓ) : Prop :=
  True

def Pre_ScWGrad (m : (ℓ : Loc Cert.ScWGrad.nD Cert.ScWGrad.τ Cert.ScWGrad.sig) → Buf (Elt Bits) ℓ) : Prop :=
  True

def Pre_ScWGradIdeal (m : (ℓ : Loc Cert.ScWGradIdeal.nD Cert.ScWGradIdeal.τ Cert.ScWGradIdeal.sig) → Buf (Elt Ideal) ℓ) : Prop :=
  True

def Pre_ScWGradRefIdeal (m : (ℓ : Loc Cert.ScWGradRefIdeal.nD Cert.ScWGradRefIdeal.τ Cert.ScWGradRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ r.2.sem = fun _ => 0)

def quiescent_ScanIdeal_pre_scan_finite [hScanIdeal : Cert.ScanIdeal.Facts] [hPre_scan_finite : Cert.Pre_scan_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_scan_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3))
      ∧ r.2.sem = fun _ => 0)

def quiescent_ScanRefIdeal_pre_scan_finite [hScanRefIdeal : Cert.ScanRefIdeal.Facts] [hPre_scan_finite : Cert.Pre_scan_finite.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_scan_finite m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2)
      ∧ r.2.mem ((c.tc : Thread Cert.SsdIn.nD Cert.SsdIn.τ).loc Cert.SsdIn.main_arg3) = m ((c.tc : Thread Cert.SsdIn.nD Cert.SsdIn.τ).loc Cert.SsdIn.main_arg3)
      ∧ r.2.mem ((c.tc : Thread Cert.SsdIn.nD Cert.SsdIn.τ).loc Cert.SsdIn.main_arg4) = m ((c.tc : Thread Cert.SsdIn.nD Cert.SsdIn.τ).loc Cert.SsdIn.main_arg4)
      ∧ r.2.mem ((c.tc : Thread Cert.SsdIn.nD Cert.SsdIn.τ).loc Cert.SsdIn.main_arg5) = m ((c.tc : Thread Cert.SsdIn.nD Cert.SsdIn.τ).loc Cert.SsdIn.main_arg5)
      ∧ r.2.mem ((c.tc : Thread Cert.SsdIn.nD Cert.SsdIn.τ).loc Cert.SsdIn.main_arg6) = m ((c.tc : Thread Cert.SsdIn.nD Cert.SsdIn.τ).loc Cert.SsdIn.main_arg6))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
      ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
      ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
      ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5)
      ∧ r.2.mem ((c.tc : Thread Cert.SsdInIdeal.nD Cert.SsdInIdeal.τ).loc Cert.SsdInIdeal.main_arg6) = m ((c.tc : Thread Cert.SsdInIdeal.nD Cert.SsdInIdeal.τ).loc Cert.SsdInIdeal.main_arg6))
      ∧ r.2.sem = fun _ => 0)

def quiescent_SsdInIdeal_pre_ssd_in_finite [hSsdInIdeal : Cert.SsdInIdeal.Facts] [hPre_ssd_in_finite : Cert.Pre_ssd_in_finite.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal_ssd_in_finite m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
      ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
      ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
      ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5)
      ∧ r.2.mem ((c.tc : Thread Cert.SsdInIdeal.nD Cert.SsdInIdeal.τ).loc Cert.SsdInIdeal.main_arg6) = m ((c.tc : Thread Cert.SsdInIdeal.nD Cert.SsdInIdeal.τ).loc Cert.SsdInIdeal.main_arg6))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2)
      ∧ r.2.mem ((c.tc : Thread Cert.SsdInRefIdeal.nD Cert.SsdInRefIdeal.τ).loc Cert.SsdInRefIdeal.main_arg3) = m ((c.tc : Thread Cert.SsdInRefIdeal.nD Cert.SsdInRefIdeal.τ).loc Cert.SsdInRefIdeal.main_arg3)
      ∧ r.2.mem ((c.tc : Thread Cert.SsdInRefIdeal.nD Cert.SsdInRefIdeal.τ).loc Cert.SsdInRefIdeal.main_arg4) = m ((c.tc : Thread Cert.SsdInRefIdeal.nD Cert.SsdInRefIdeal.τ).loc Cert.SsdInRefIdeal.main_arg4)
      ∧ r.2.mem ((c.tc : Thread Cert.SsdInRefIdeal.nD Cert.SsdInRefIdeal.τ).loc Cert.SsdInRefIdeal.main_arg5) = m ((c.tc : Thread Cert.SsdInRefIdeal.nD Cert.SsdInRefIdeal.τ).loc Cert.SsdInRefIdeal.main_arg5)
      ∧ r.2.mem ((c.tc : Thread Cert.SsdInRefIdeal.nD Cert.SsdInRefIdeal.τ).loc Cert.SsdInRefIdeal.main_arg6) = m ((c.tc : Thread Cert.SsdInRefIdeal.nD Cert.SsdInRefIdeal.τ).loc Cert.SsdInRefIdeal.main_arg6))
      ∧ r.2.sem = fun _ => 0)

def quiescent_SsdInRefIdeal_pre_ssd_in_finite [hSsdInRefIdeal : Cert.SsdInRefIdeal.Facts] [hPre_ssd_in_finite : Cert.Pre_ssd_in_finite.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal_ssd_in_finite m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2)
      ∧ r.2.mem ((c.tc : Thread Cert.SsdInRefIdeal.nD Cert.SsdInRefIdeal.τ).loc Cert.SsdInRefIdeal.main_arg3) = m ((c.tc : Thread Cert.SsdInRefIdeal.nD Cert.SsdInRefIdeal.τ).loc Cert.SsdInRefIdeal.main_arg3)
      ∧ r.2.mem ((c.tc : Thread Cert.SsdInRefIdeal.nD Cert.SsdInRefIdeal.τ).loc Cert.SsdInRefIdeal.main_arg4) = m ((c.tc : Thread Cert.SsdInRefIdeal.nD Cert.SsdInRefIdeal.τ).loc Cert.SsdInRefIdeal.main_arg4)
      ∧ r.2.mem ((c.tc : Thread Cert.SsdInRefIdeal.nD Cert.SsdInRefIdeal.τ).loc Cert.SsdInRefIdeal.main_arg5) = m ((c.tc : Thread Cert.SsdInRefIdeal.nD Cert.SsdInRefIdeal.τ).loc Cert.SsdInRefIdeal.main_arg5)
      ∧ r.2.mem ((c.tc : Thread Cert.SsdInRefIdeal.nD Cert.SsdInRefIdeal.τ).loc Cert.SsdInRefIdeal.main_arg6) = m ((c.tc : Thread Cert.SsdInRefIdeal.nD Cert.SsdInRefIdeal.τ).loc Cert.SsdInRefIdeal.main_arg6))
      ∧ r.2.sem = fun _ => 0)

def quiescent_ScIn [hScIn : Cert.ScIn.Facts] : Prop :=
  ∀ (m : (ℓ : Loc Cert.ScIn.nD Cert.ScIn.τ Cert.ScIn.sig) → Buf (Elt Bits) ℓ) (g : Dev Cert.ScIn.nD → PrngReg), Pre_ScIn m →
    θ_run (Cert.ScIn.defs (F := Bits)) (onTc (τ := Cert.ScIn.τ) (Cert.ScIn.main (F := Bits))) ⟨m, fun _ => 0, g⟩ (fun r => (∀ c : Dev Cert.ScIn.nD,
      r.2.mem ((c.tc : Thread Cert.ScIn.nD Cert.ScIn.τ).loc Cert.ScIn.main_arg0) = m ((c.tc : Thread Cert.ScIn.nD Cert.ScIn.τ).loc Cert.ScIn.main_arg0)
      ∧ r.2.mem ((c.tc : Thread Cert.ScIn.nD Cert.ScIn.τ).loc Cert.ScIn.main_arg1) = m ((c.tc : Thread Cert.ScIn.nD Cert.ScIn.τ).loc Cert.ScIn.main_arg1)
      ∧ r.2.mem ((c.tc : Thread Cert.ScIn.nD Cert.ScIn.τ).loc Cert.ScIn.main_arg2) = m ((c.tc : Thread Cert.ScIn.nD Cert.ScIn.τ).loc Cert.ScIn.main_arg2)
      ∧ r.2.mem ((c.tc : Thread Cert.ScIn.nD Cert.ScIn.τ).loc Cert.ScIn.main_arg3) = m ((c.tc : Thread Cert.ScIn.nD Cert.ScIn.τ).loc Cert.ScIn.main_arg3)
      ∧ r.2.mem ((c.tc : Thread Cert.ScIn.nD Cert.ScIn.τ).loc Cert.ScIn.main_arg4) = m ((c.tc : Thread Cert.ScIn.nD Cert.ScIn.τ).loc Cert.ScIn.main_arg4))
      ∧ r.2.sem = fun _ => 0)

def quiescent_ScInIdeal [hScInIdeal : Cert.ScInIdeal.Facts] : Prop :=
  ∀ (m : (ℓ : Loc Cert.ScInIdeal.nD Cert.ScInIdeal.τ Cert.ScInIdeal.sig) → Buf (Elt Ideal) ℓ) (g : Dev Cert.ScInIdeal.nD → PrngReg), Pre_ScInIdeal m →
    θ_run (Cert.ScInIdeal.defs (F := Ideal)) (onTc (τ := Cert.ScInIdeal.τ) (Cert.ScInIdeal.main (F := Ideal))) ⟨m, fun _ => 0, g⟩ (fun r => (∀ c : Dev Cert.ScInIdeal.nD,
      r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
      ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1)
      ∧ r.2.mem ((c.tc : Thread Cert.ScInIdeal.nD Cert.ScInIdeal.τ).loc Cert.ScInIdeal.main_arg2) = m ((c.tc : Thread Cert.ScInIdeal.nD Cert.ScInIdeal.τ).loc Cert.ScInIdeal.main_arg2)
      ∧ r.2.mem ((c.tc : Thread Cert.ScInIdeal.nD Cert.ScInIdeal.τ).loc Cert.ScInIdeal.main_arg3) = m ((c.tc : Thread Cert.ScInIdeal.nD Cert.ScInIdeal.τ).loc Cert.ScInIdeal.main_arg3)
      ∧ r.2.mem ((c.tc : Thread Cert.ScInIdeal.nD Cert.ScInIdeal.τ).loc Cert.ScInIdeal.main_arg4) = m ((c.tc : Thread Cert.ScInIdeal.nD Cert.ScInIdeal.τ).loc Cert.ScInIdeal.main_arg4))
      ∧ r.2.sem = fun _ => 0)

def quiescent_ScInIdeal_pre_sc_in_finite [hScInIdeal : Cert.ScInIdeal.Facts] [hPre_sc_in_finite : Cert.Pre_sc_in_finite.Facts] : Prop :=
  ∀ (m : (ℓ : Loc Cert.ScInIdeal.nD Cert.ScInIdeal.τ Cert.ScInIdeal.sig) → Buf (Elt Ideal) ℓ) (g : Dev Cert.ScInIdeal.nD → PrngReg), Pre_ScInIdeal_sc_in_finite m →
    θ_run (Cert.ScInIdeal.defs (F := Ideal)) (onTc (τ := Cert.ScInIdeal.τ) (Cert.ScInIdeal.main (F := Ideal))) ⟨m, fun _ => 0, g⟩ (fun r => (∀ c : Dev Cert.ScInIdeal.nD,
      r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
      ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1)
      ∧ r.2.mem ((c.tc : Thread Cert.ScInIdeal.nD Cert.ScInIdeal.τ).loc Cert.ScInIdeal.main_arg2) = m ((c.tc : Thread Cert.ScInIdeal.nD Cert.ScInIdeal.τ).loc Cert.ScInIdeal.main_arg2)
      ∧ r.2.mem ((c.tc : Thread Cert.ScInIdeal.nD Cert.ScInIdeal.τ).loc Cert.ScInIdeal.main_arg3) = m ((c.tc : Thread Cert.ScInIdeal.nD Cert.ScInIdeal.τ).loc Cert.ScInIdeal.main_arg3)
      ∧ r.2.mem ((c.tc : Thread Cert.ScInIdeal.nD Cert.ScInIdeal.τ).loc Cert.ScInIdeal.main_arg4) = m ((c.tc : Thread Cert.ScInIdeal.nD Cert.ScInIdeal.τ).loc Cert.ScInIdeal.main_arg4))
      ∧ r.2.sem = fun _ => 0)

def quiescent_ScInRefIdeal [hScInRefIdeal : Cert.ScInRefIdeal.Facts] : Prop :=
  ∀ (m : (ℓ : Loc Cert.ScInRefIdeal.nD Cert.ScInRefIdeal.τ Cert.ScInRefIdeal.sig) → Buf (Elt Ideal) ℓ) (g : Dev Cert.ScInRefIdeal.nD → PrngReg), Pre_ScInRefIdeal m →
    θ_run (Cert.ScInRefIdeal.defs (F := Ideal)) (onTc (τ := Cert.ScInRefIdeal.τ) (Cert.ScInRefIdeal.main (F := Ideal))) ⟨m, fun _ => 0, g⟩ (fun r => (∀ c : Dev Cert.ScInRefIdeal.nD,
      r.2.mem ((c.tc : Thread Cert.ScInRefIdeal.nD Cert.ScInRefIdeal.τ).loc Cert.ScInRefIdeal.main_arg0) = m ((c.tc : Thread Cert.ScInRefIdeal.nD Cert.ScInRefIdeal.τ).loc Cert.ScInRefIdeal.main_arg0)
      ∧ r.2.mem ((c.tc : Thread Cert.ScInRefIdeal.nD Cert.ScInRefIdeal.τ).loc Cert.ScInRefIdeal.main_arg1) = m ((c.tc : Thread Cert.ScInRefIdeal.nD Cert.ScInRefIdeal.τ).loc Cert.ScInRefIdeal.main_arg1)
      ∧ r.2.mem ((c.tc : Thread Cert.ScInRefIdeal.nD Cert.ScInRefIdeal.τ).loc Cert.ScInRefIdeal.main_arg2) = m ((c.tc : Thread Cert.ScInRefIdeal.nD Cert.ScInRefIdeal.τ).loc Cert.ScInRefIdeal.main_arg2)
      ∧ r.2.mem ((c.tc : Thread Cert.ScInRefIdeal.nD Cert.ScInRefIdeal.τ).loc Cert.ScInRefIdeal.main_arg3) = m ((c.tc : Thread Cert.ScInRefIdeal.nD Cert.ScInRefIdeal.τ).loc Cert.ScInRefIdeal.main_arg3)
      ∧ r.2.mem ((c.tc : Thread Cert.ScInRefIdeal.nD Cert.ScInRefIdeal.τ).loc Cert.ScInRefIdeal.main_arg4) = m ((c.tc : Thread Cert.ScInRefIdeal.nD Cert.ScInRefIdeal.τ).loc Cert.ScInRefIdeal.main_arg4))
      ∧ r.2.sem = fun _ => 0)

def quiescent_ScInRefIdeal_pre_sc_in_finite [hScInRefIdeal : Cert.ScInRefIdeal.Facts] [hPre_sc_in_finite : Cert.Pre_sc_in_finite.Facts] : Prop :=
  ∀ (m : (ℓ : Loc Cert.ScInRefIdeal.nD Cert.ScInRefIdeal.τ Cert.ScInRefIdeal.sig) → Buf (Elt Ideal) ℓ) (g : Dev Cert.ScInRefIdeal.nD → PrngReg), Pre_ScInRefIdeal_sc_in_finite m →
    θ_run (Cert.ScInRefIdeal.defs (F := Ideal)) (onTc (τ := Cert.ScInRefIdeal.τ) (Cert.ScInRefIdeal.main (F := Ideal))) ⟨m, fun _ => 0, g⟩ (fun r => (∀ c : Dev Cert.ScInRefIdeal.nD,
      r.2.mem ((c.tc : Thread Cert.ScInRefIdeal.nD Cert.ScInRefIdeal.τ).loc Cert.ScInRefIdeal.main_arg0) = m ((c.tc : Thread Cert.ScInRefIdeal.nD Cert.ScInRefIdeal.τ).loc Cert.ScInRefIdeal.main_arg0)
      ∧ r.2.mem ((c.tc : Thread Cert.ScInRefIdeal.nD Cert.ScInRefIdeal.τ).loc Cert.ScInRefIdeal.main_arg1) = m ((c.tc : Thread Cert.ScInRefIdeal.nD Cert.ScInRefIdeal.τ).loc Cert.ScInRefIdeal.main_arg1)
      ∧ r.2.mem ((c.tc : Thread Cert.ScInRefIdeal.nD Cert.ScInRefIdeal.τ).loc Cert.ScInRefIdeal.main_arg2) = m ((c.tc : Thread Cert.ScInRefIdeal.nD Cert.ScInRefIdeal.τ).loc Cert.ScInRefIdeal.main_arg2)
      ∧ r.2.mem ((c.tc : Thread Cert.ScInRefIdeal.nD Cert.ScInRefIdeal.τ).loc Cert.ScInRefIdeal.main_arg3) = m ((c.tc : Thread Cert.ScInRefIdeal.nD Cert.ScInRefIdeal.τ).loc Cert.ScInRefIdeal.main_arg3)
      ∧ r.2.mem ((c.tc : Thread Cert.ScInRefIdeal.nD Cert.ScInRefIdeal.τ).loc Cert.ScInRefIdeal.main_arg4) = m ((c.tc : Thread Cert.ScInRefIdeal.nD Cert.ScInRefIdeal.τ).loc Cert.ScInRefIdeal.main_arg4))
      ∧ r.2.sem = fun _ => 0)

def quiescent_ZGrad [hZGrad : Cert.ZGrad.Facts] : Prop :=
  ∀ (m : (ℓ : Loc Cert.ZGrad.nD Cert.ZGrad.τ Cert.ZGrad.sig) → Buf (Elt Bits) ℓ) (g : Dev Cert.ZGrad.nD → PrngReg), Pre_ZGrad m →
    θ_run (Cert.ZGrad.defs (F := Bits)) (onTc (τ := Cert.ZGrad.τ) (Cert.ZGrad.main (F := Bits))) ⟨m, fun _ => 0, g⟩ (fun r => (∀ c : Dev Cert.ZGrad.nD,
      r.2.mem ((c.tc : Thread Cert.ZGrad.nD Cert.ZGrad.τ).loc Cert.ZGrad.main_arg0) = m ((c.tc : Thread Cert.ZGrad.nD Cert.ZGrad.τ).loc Cert.ZGrad.main_arg0)
      ∧ r.2.mem ((c.tc : Thread Cert.ZGrad.nD Cert.ZGrad.τ).loc Cert.ZGrad.main_arg1) = m ((c.tc : Thread Cert.ZGrad.nD Cert.ZGrad.τ).loc Cert.ZGrad.main_arg1))
      ∧ r.2.sem = fun _ => 0)

def quiescent_ZGradIdeal [hZGradIdeal : Cert.ZGradIdeal.Facts] : Prop :=
  ∀ (m : (ℓ : Loc Cert.ZGradIdeal.nD Cert.ZGradIdeal.τ Cert.ZGradIdeal.sig) → Buf (Elt Ideal) ℓ) (g : Dev Cert.ZGradIdeal.nD → PrngReg), Pre_ZGradIdeal m →
    θ_run (Cert.ZGradIdeal.defs (F := Ideal)) (onTc (τ := Cert.ZGradIdeal.τ) (Cert.ZGradIdeal.main (F := Ideal))) ⟨m, fun _ => 0, g⟩ (fun r => (∀ c : Dev Cert.ZGradIdeal.nD,
      r.2.mem ((c.tc : Thread Cert.ZGradIdeal.nD Cert.ZGradIdeal.τ).loc Cert.ZGradIdeal.main_arg0) = m ((c.tc : Thread Cert.ZGradIdeal.nD Cert.ZGradIdeal.τ).loc Cert.ZGradIdeal.main_arg0)
      ∧ r.2.mem ((c.tc : Thread Cert.ZGradIdeal.nD Cert.ZGradIdeal.τ).loc Cert.ZGradIdeal.main_arg1) = m ((c.tc : Thread Cert.ZGradIdeal.nD Cert.ZGradIdeal.τ).loc Cert.ZGradIdeal.main_arg1))
      ∧ r.2.sem = fun _ => 0)

def quiescent_ZGradRefIdeal [hZGradRefIdeal : Cert.ZGradRefIdeal.Facts] : Prop :=
  ∀ (m : (ℓ : Loc Cert.ZGradRefIdeal.nD Cert.ZGradRefIdeal.τ Cert.ZGradRefIdeal.sig) → Buf (Elt Ideal) ℓ) (g : Dev Cert.ZGradRefIdeal.nD → PrngReg), Pre_ZGradRefIdeal m →
    θ_run (Cert.ZGradRefIdeal.defs (F := Ideal)) (onTc (τ := Cert.ZGradRefIdeal.τ) (Cert.ZGradRefIdeal.main (F := Ideal))) ⟨m, fun _ => 0, g⟩ (fun r => (∀ c : Dev Cert.ZGradRefIdeal.nD,
      r.2.mem ((c.tc : Thread Cert.ZGradRefIdeal.nD Cert.ZGradRefIdeal.τ).loc Cert.ZGradRefIdeal.main_arg0) = m ((c.tc : Thread Cert.ZGradRefIdeal.nD Cert.ZGradRefIdeal.τ).loc Cert.ZGradRefIdeal.main_arg0)
      ∧ r.2.mem ((c.tc : Thread Cert.ZGradRefIdeal.nD Cert.ZGradRefIdeal.τ).loc Cert.ZGradRefIdeal.main_arg1) = m ((c.tc : Thread Cert.ZGradRefIdeal.nD Cert.ZGradRefIdeal.τ).loc Cert.ZGradRefIdeal.main_arg1))
      ∧ r.2.sem = fun _ => 0)

def quiescent_XbcGrad [hXbcGrad : Cert.XbcGrad.Facts] : Prop :=
  ∀ (m : (ℓ : Loc Cert.XbcGrad.nD Cert.XbcGrad.τ Cert.XbcGrad.sig) → Buf (Elt Bits) ℓ) (g : Dev Cert.XbcGrad.nD → PrngReg), Pre_XbcGrad m →
    θ_run (Cert.XbcGrad.defs (F := Bits)) (onTc (τ := Cert.XbcGrad.τ) (Cert.XbcGrad.main (F := Bits))) ⟨m, fun _ => 0, g⟩ (fun r => (∀ c : Dev Cert.XbcGrad.nD,
      r.2.mem ((c.tc : Thread Cert.XbcGrad.nD Cert.XbcGrad.τ).loc Cert.XbcGrad.main_arg0) = m ((c.tc : Thread Cert.XbcGrad.nD Cert.XbcGrad.τ).loc Cert.XbcGrad.main_arg0)
      ∧ r.2.mem ((c.tc : Thread Cert.XbcGrad.nD Cert.XbcGrad.τ).loc Cert.XbcGrad.main_arg1) = m ((c.tc : Thread Cert.XbcGrad.nD Cert.XbcGrad.τ).loc Cert.XbcGrad.main_arg1))
      ∧ r.2.sem = fun _ => 0)

def quiescent_XbcGradIdeal [hXbcGradIdeal : Cert.XbcGradIdeal.Facts] : Prop :=
  ∀ (m : (ℓ : Loc Cert.XbcGradIdeal.nD Cert.XbcGradIdeal.τ Cert.XbcGradIdeal.sig) → Buf (Elt Ideal) ℓ) (g : Dev Cert.XbcGradIdeal.nD → PrngReg), Pre_XbcGradIdeal m →
    θ_run (Cert.XbcGradIdeal.defs (F := Ideal)) (onTc (τ := Cert.XbcGradIdeal.τ) (Cert.XbcGradIdeal.main (F := Ideal))) ⟨m, fun _ => 0, g⟩ (fun r => (∀ c : Dev Cert.XbcGradIdeal.nD,
      r.2.mem ((c.tc : Thread Cert.XbcGradIdeal.nD Cert.XbcGradIdeal.τ).loc Cert.XbcGradIdeal.main_arg0) = m ((c.tc : Thread Cert.XbcGradIdeal.nD Cert.XbcGradIdeal.τ).loc Cert.XbcGradIdeal.main_arg0)
      ∧ r.2.mem ((c.tc : Thread Cert.XbcGradIdeal.nD Cert.XbcGradIdeal.τ).loc Cert.XbcGradIdeal.main_arg1) = m ((c.tc : Thread Cert.XbcGradIdeal.nD Cert.XbcGradIdeal.τ).loc Cert.XbcGradIdeal.main_arg1))
      ∧ r.2.sem = fun _ => 0)

def quiescent_XbcGradRefIdeal [hXbcGradRefIdeal : Cert.XbcGradRefIdeal.Facts] : Prop :=
  ∀ (m : (ℓ : Loc Cert.XbcGradRefIdeal.nD Cert.XbcGradRefIdeal.τ Cert.XbcGradRefIdeal.sig) → Buf (Elt Ideal) ℓ) (g : Dev Cert.XbcGradRefIdeal.nD → PrngReg), Pre_XbcGradRefIdeal m →
    θ_run (Cert.XbcGradRefIdeal.defs (F := Ideal)) (onTc (τ := Cert.XbcGradRefIdeal.τ) (Cert.XbcGradRefIdeal.main (F := Ideal))) ⟨m, fun _ => 0, g⟩ (fun r => (∀ c : Dev Cert.XbcGradRefIdeal.nD,
      r.2.mem ((c.tc : Thread Cert.XbcGradRefIdeal.nD Cert.XbcGradRefIdeal.τ).loc Cert.XbcGradRefIdeal.main_arg0) = m ((c.tc : Thread Cert.XbcGradRefIdeal.nD Cert.XbcGradRefIdeal.τ).loc Cert.XbcGradRefIdeal.main_arg0)
      ∧ r.2.mem ((c.tc : Thread Cert.XbcGradRefIdeal.nD Cert.XbcGradRefIdeal.τ).loc Cert.XbcGradRefIdeal.main_arg1) = m ((c.tc : Thread Cert.XbcGradRefIdeal.nD Cert.XbcGradRefIdeal.τ).loc Cert.XbcGradRefIdeal.main_arg1))
      ∧ r.2.sem = fun _ => 0)

def quiescent_SsdFirst [hSsdFirst : Cert.SsdFirst.Facts] : Prop :=
  ∀ (m : (ℓ : Loc Cert.SsdFirst.nD Cert.SsdFirst.τ Cert.SsdFirst.sig) → Buf (Elt Bits) ℓ) (g : Dev Cert.SsdFirst.nD → PrngReg), Pre_SsdFirst m →
    θ_run (Cert.SsdFirst.defs (F := Bits)) (onTc (τ := Cert.SsdFirst.τ) (Cert.SsdFirst.main (F := Bits))) ⟨m, fun _ => 0, g⟩ (fun r => (∀ c : Dev Cert.SsdFirst.nD,
      r.2.mem ((c.tc : Thread Cert.SsdFirst.nD Cert.SsdFirst.τ).loc Cert.SsdFirst.main_arg0) = m ((c.tc : Thread Cert.SsdFirst.nD Cert.SsdFirst.τ).loc Cert.SsdFirst.main_arg0)
      ∧ r.2.mem ((c.tc : Thread Cert.SsdFirst.nD Cert.SsdFirst.τ).loc Cert.SsdFirst.main_arg1) = m ((c.tc : Thread Cert.SsdFirst.nD Cert.SsdFirst.τ).loc Cert.SsdFirst.main_arg1)
      ∧ r.2.mem ((c.tc : Thread Cert.SsdFirst.nD Cert.SsdFirst.τ).loc Cert.SsdFirst.main_arg2) = m ((c.tc : Thread Cert.SsdFirst.nD Cert.SsdFirst.τ).loc Cert.SsdFirst.main_arg2))
      ∧ r.2.sem = fun _ => 0)

def quiescent_SsdFirstIdeal [hSsdFirstIdeal : Cert.SsdFirstIdeal.Facts] : Prop :=
  ∀ (m : (ℓ : Loc Cert.SsdFirstIdeal.nD Cert.SsdFirstIdeal.τ Cert.SsdFirstIdeal.sig) → Buf (Elt Ideal) ℓ) (g : Dev Cert.SsdFirstIdeal.nD → PrngReg), Pre_SsdFirstIdeal m →
    θ_run (Cert.SsdFirstIdeal.defs (F := Ideal)) (onTc (τ := Cert.SsdFirstIdeal.τ) (Cert.SsdFirstIdeal.main (F := Ideal))) ⟨m, fun _ => 0, g⟩ (fun r => (∀ c : Dev Cert.SsdFirstIdeal.nD,
      r.2.mem ((c.tc : Thread Cert.SsdFirstIdeal.nD Cert.SsdFirstIdeal.τ).loc Cert.SsdFirstIdeal.main_arg0) = m ((c.tc : Thread Cert.SsdFirstIdeal.nD Cert.SsdFirstIdeal.τ).loc Cert.SsdFirstIdeal.main_arg0)
      ∧ r.2.mem ((c.tc : Thread Cert.SsdFirstIdeal.nD Cert.SsdFirstIdeal.τ).loc Cert.SsdFirstIdeal.main_arg1) = m ((c.tc : Thread Cert.SsdFirstIdeal.nD Cert.SsdFirstIdeal.τ).loc Cert.SsdFirstIdeal.main_arg1)
      ∧ r.2.mem ((c.tc : Thread Cert.SsdFirstIdeal.nD Cert.SsdFirstIdeal.τ).loc Cert.SsdFirstIdeal.main_arg2) = m ((c.tc : Thread Cert.SsdFirstIdeal.nD Cert.SsdFirstIdeal.τ).loc Cert.SsdFirstIdeal.main_arg2))
      ∧ r.2.sem = fun _ => 0)

def quiescent_SsdFirstRefIdeal [hSsdFirstRefIdeal : Cert.SsdFirstRefIdeal.Facts] : Prop :=
  ∀ (m : (ℓ : Loc Cert.SsdFirstRefIdeal.nD Cert.SsdFirstRefIdeal.τ Cert.SsdFirstRefIdeal.sig) → Buf (Elt Ideal) ℓ) (g : Dev Cert.SsdFirstRefIdeal.nD → PrngReg), Pre_SsdFirstRefIdeal m →
    θ_run (Cert.SsdFirstRefIdeal.defs (F := Ideal)) (onTc (τ := Cert.SsdFirstRefIdeal.τ) (Cert.SsdFirstRefIdeal.main (F := Ideal))) ⟨m, fun _ => 0, g⟩ (fun r => (∀ c : Dev Cert.SsdFirstRefIdeal.nD,
      r.2.mem ((c.tc : Thread Cert.SsdFirstRefIdeal.nD Cert.SsdFirstRefIdeal.τ).loc Cert.SsdFirstRefIdeal.main_arg0) = m ((c.tc : Thread Cert.SsdFirstRefIdeal.nD Cert.SsdFirstRefIdeal.τ).loc Cert.SsdFirstRefIdeal.main_arg0)
      ∧ r.2.mem ((c.tc : Thread Cert.SsdFirstRefIdeal.nD Cert.SsdFirstRefIdeal.τ).loc Cert.SsdFirstRefIdeal.main_arg1) = m ((c.tc : Thread Cert.SsdFirstRefIdeal.nD Cert.SsdFirstRefIdeal.τ).loc Cert.SsdFirstRefIdeal.main_arg1)
      ∧ r.2.mem ((c.tc : Thread Cert.SsdFirstRefIdeal.nD Cert.SsdFirstRefIdeal.τ).loc Cert.SsdFirstRefIdeal.main_arg2) = m ((c.tc : Thread Cert.SsdFirstRefIdeal.nD Cert.SsdFirstRefIdeal.τ).loc Cert.SsdFirstRefIdeal.main_arg2))
      ∧ r.2.sem = fun _ => 0)

def quiescent_ScFirst [hScFirst : Cert.ScFirst.Facts] : Prop :=
  ∀ (m : (ℓ : Loc Cert.ScFirst.nD Cert.ScFirst.τ Cert.ScFirst.sig) → Buf (Elt Bits) ℓ) (g : Dev Cert.ScFirst.nD → PrngReg), Pre_ScFirst m →
    θ_run (Cert.ScFirst.defs (F := Bits)) (onTc (τ := Cert.ScFirst.τ) (Cert.ScFirst.main (F := Bits))) ⟨m, fun _ => 0, g⟩ (fun r => (∀ c : Dev Cert.ScFirst.nD,
      r.2.mem ((c.tc : Thread Cert.ScFirst.nD Cert.ScFirst.τ).loc Cert.ScFirst.main_arg0) = m ((c.tc : Thread Cert.ScFirst.nD Cert.ScFirst.τ).loc Cert.ScFirst.main_arg0)
      ∧ r.2.mem ((c.tc : Thread Cert.ScFirst.nD Cert.ScFirst.τ).loc Cert.ScFirst.main_arg1) = m ((c.tc : Thread Cert.ScFirst.nD Cert.ScFirst.τ).loc Cert.ScFirst.main_arg1)
      ∧ r.2.mem ((c.tc : Thread Cert.ScFirst.nD Cert.ScFirst.τ).loc Cert.ScFirst.main_arg2) = m ((c.tc : Thread Cert.ScFirst.nD Cert.ScFirst.τ).loc Cert.ScFirst.main_arg2))
      ∧ r.2.sem = fun _ => 0)

def quiescent_ScFirstIdeal [hScFirstIdeal : Cert.ScFirstIdeal.Facts] : Prop :=
  ∀ (m : (ℓ : Loc Cert.ScFirstIdeal.nD Cert.ScFirstIdeal.τ Cert.ScFirstIdeal.sig) → Buf (Elt Ideal) ℓ) (g : Dev Cert.ScFirstIdeal.nD → PrngReg), Pre_ScFirstIdeal m →
    θ_run (Cert.ScFirstIdeal.defs (F := Ideal)) (onTc (τ := Cert.ScFirstIdeal.τ) (Cert.ScFirstIdeal.main (F := Ideal))) ⟨m, fun _ => 0, g⟩ (fun r => (∀ c : Dev Cert.ScFirstIdeal.nD,
      r.2.mem ((c.tc : Thread Cert.ScFirstIdeal.nD Cert.ScFirstIdeal.τ).loc Cert.ScFirstIdeal.main_arg0) = m ((c.tc : Thread Cert.ScFirstIdeal.nD Cert.ScFirstIdeal.τ).loc Cert.ScFirstIdeal.main_arg0)
      ∧ r.2.mem ((c.tc : Thread Cert.ScFirstIdeal.nD Cert.ScFirstIdeal.τ).loc Cert.ScFirstIdeal.main_arg1) = m ((c.tc : Thread Cert.ScFirstIdeal.nD Cert.ScFirstIdeal.τ).loc Cert.ScFirstIdeal.main_arg1)
      ∧ r.2.mem ((c.tc : Thread Cert.ScFirstIdeal.nD Cert.ScFirstIdeal.τ).loc Cert.ScFirstIdeal.main_arg2) = m ((c.tc : Thread Cert.ScFirstIdeal.nD Cert.ScFirstIdeal.τ).loc Cert.ScFirstIdeal.main_arg2))
      ∧ r.2.sem = fun _ => 0)

def quiescent_ScFirstRefIdeal [hScFirstRefIdeal : Cert.ScFirstRefIdeal.Facts] : Prop :=
  ∀ (m : (ℓ : Loc Cert.ScFirstRefIdeal.nD Cert.ScFirstRefIdeal.τ Cert.ScFirstRefIdeal.sig) → Buf (Elt Ideal) ℓ) (g : Dev Cert.ScFirstRefIdeal.nD → PrngReg), Pre_ScFirstRefIdeal m →
    θ_run (Cert.ScFirstRefIdeal.defs (F := Ideal)) (onTc (τ := Cert.ScFirstRefIdeal.τ) (Cert.ScFirstRefIdeal.main (F := Ideal))) ⟨m, fun _ => 0, g⟩ (fun r => (∀ c : Dev Cert.ScFirstRefIdeal.nD,
      r.2.mem ((c.tc : Thread Cert.ScFirstRefIdeal.nD Cert.ScFirstRefIdeal.τ).loc Cert.ScFirstRefIdeal.main_arg0) = m ((c.tc : Thread Cert.ScFirstRefIdeal.nD Cert.ScFirstRefIdeal.τ).loc Cert.ScFirstRefIdeal.main_arg0)
      ∧ r.2.mem ((c.tc : Thread Cert.ScFirstRefIdeal.nD Cert.ScFirstRefIdeal.τ).loc Cert.ScFirstRefIdeal.main_arg1) = m ((c.tc : Thread Cert.ScFirstRefIdeal.nD Cert.ScFirstRefIdeal.τ).loc Cert.ScFirstRefIdeal.main_arg1)
      ∧ r.2.mem ((c.tc : Thread Cert.ScFirstRefIdeal.nD Cert.ScFirstRefIdeal.τ).loc Cert.ScFirstRefIdeal.main_arg2) = m ((c.tc : Thread Cert.ScFirstRefIdeal.nD Cert.ScFirstRefIdeal.τ).loc Cert.ScFirstRefIdeal.main_arg2))
      ∧ r.2.sem = fun _ => 0)

def quiescent_SsdLast [hSsdLast : Cert.SsdLast.Facts] : Prop :=
  ∀ (m : (ℓ : Loc Cert.SsdLast.nD Cert.SsdLast.τ Cert.SsdLast.sig) → Buf (Elt Bits) ℓ) (g : Dev Cert.SsdLast.nD → PrngReg), Pre_SsdLast m →
    θ_run (Cert.SsdLast.defs (F := Bits)) (onTc (τ := Cert.SsdLast.τ) (Cert.SsdLast.main (F := Bits))) ⟨m, fun _ => 0, g⟩ (fun r => (∀ c : Dev Cert.SsdLast.nD,
      r.2.mem ((c.tc : Thread Cert.SsdLast.nD Cert.SsdLast.τ).loc Cert.SsdLast.main_arg0) = m ((c.tc : Thread Cert.SsdLast.nD Cert.SsdLast.τ).loc Cert.SsdLast.main_arg0)
      ∧ r.2.mem ((c.tc : Thread Cert.SsdLast.nD Cert.SsdLast.τ).loc Cert.SsdLast.main_arg1) = m ((c.tc : Thread Cert.SsdLast.nD Cert.SsdLast.τ).loc Cert.SsdLast.main_arg1)
      ∧ r.2.mem ((c.tc : Thread Cert.SsdLast.nD Cert.SsdLast.τ).loc Cert.SsdLast.main_arg2) = m ((c.tc : Thread Cert.SsdLast.nD Cert.SsdLast.τ).loc Cert.SsdLast.main_arg2))
      ∧ r.2.sem = fun _ => 0)

def quiescent_SsdLastIdeal [hSsdLastIdeal : Cert.SsdLastIdeal.Facts] : Prop :=
  ∀ (m : (ℓ : Loc Cert.SsdLastIdeal.nD Cert.SsdLastIdeal.τ Cert.SsdLastIdeal.sig) → Buf (Elt Ideal) ℓ) (g : Dev Cert.SsdLastIdeal.nD → PrngReg), Pre_SsdLastIdeal m →
    θ_run (Cert.SsdLastIdeal.defs (F := Ideal)) (onTc (τ := Cert.SsdLastIdeal.τ) (Cert.SsdLastIdeal.main (F := Ideal))) ⟨m, fun _ => 0, g⟩ (fun r => (∀ c : Dev Cert.SsdLastIdeal.nD,
      r.2.mem ((c.tc : Thread Cert.SsdLastIdeal.nD Cert.SsdLastIdeal.τ).loc Cert.SsdLastIdeal.main_arg0) = m ((c.tc : Thread Cert.SsdLastIdeal.nD Cert.SsdLastIdeal.τ).loc Cert.SsdLastIdeal.main_arg0)
      ∧ r.2.mem ((c.tc : Thread Cert.SsdLastIdeal.nD Cert.SsdLastIdeal.τ).loc Cert.SsdLastIdeal.main_arg1) = m ((c.tc : Thread Cert.SsdLastIdeal.nD Cert.SsdLastIdeal.τ).loc Cert.SsdLastIdeal.main_arg1)
      ∧ r.2.mem ((c.tc : Thread Cert.SsdLastIdeal.nD Cert.SsdLastIdeal.τ).loc Cert.SsdLastIdeal.main_arg2) = m ((c.tc : Thread Cert.SsdLastIdeal.nD Cert.SsdLastIdeal.τ).loc Cert.SsdLastIdeal.main_arg2))
      ∧ r.2.sem = fun _ => 0)

def quiescent_SsdLastRefIdeal [hSsdLastRefIdeal : Cert.SsdLastRefIdeal.Facts] : Prop :=
  ∀ (m : (ℓ : Loc Cert.SsdLastRefIdeal.nD Cert.SsdLastRefIdeal.τ Cert.SsdLastRefIdeal.sig) → Buf (Elt Ideal) ℓ) (g : Dev Cert.SsdLastRefIdeal.nD → PrngReg), Pre_SsdLastRefIdeal m →
    θ_run (Cert.SsdLastRefIdeal.defs (F := Ideal)) (onTc (τ := Cert.SsdLastRefIdeal.τ) (Cert.SsdLastRefIdeal.main (F := Ideal))) ⟨m, fun _ => 0, g⟩ (fun r => (∀ c : Dev Cert.SsdLastRefIdeal.nD,
      r.2.mem ((c.tc : Thread Cert.SsdLastRefIdeal.nD Cert.SsdLastRefIdeal.τ).loc Cert.SsdLastRefIdeal.main_arg0) = m ((c.tc : Thread Cert.SsdLastRefIdeal.nD Cert.SsdLastRefIdeal.τ).loc Cert.SsdLastRefIdeal.main_arg0)
      ∧ r.2.mem ((c.tc : Thread Cert.SsdLastRefIdeal.nD Cert.SsdLastRefIdeal.τ).loc Cert.SsdLastRefIdeal.main_arg1) = m ((c.tc : Thread Cert.SsdLastRefIdeal.nD Cert.SsdLastRefIdeal.τ).loc Cert.SsdLastRefIdeal.main_arg1)
      ∧ r.2.mem ((c.tc : Thread Cert.SsdLastRefIdeal.nD Cert.SsdLastRefIdeal.τ).loc Cert.SsdLastRefIdeal.main_arg2) = m ((c.tc : Thread Cert.SsdLastRefIdeal.nD Cert.SsdLastRefIdeal.τ).loc Cert.SsdLastRefIdeal.main_arg2))
      ∧ r.2.sem = fun _ => 0)

def quiescent_ScLast [hScLast : Cert.ScLast.Facts] : Prop :=
  ∀ (m : (ℓ : Loc Cert.ScLast.nD Cert.ScLast.τ Cert.ScLast.sig) → Buf (Elt Bits) ℓ) (g : Dev Cert.ScLast.nD → PrngReg), Pre_ScLast m →
    θ_run (Cert.ScLast.defs (F := Bits)) (onTc (τ := Cert.ScLast.τ) (Cert.ScLast.main (F := Bits))) ⟨m, fun _ => 0, g⟩ (fun r => (∀ c : Dev Cert.ScLast.nD,
      r.2.mem ((c.tc : Thread Cert.ScLast.nD Cert.ScLast.τ).loc Cert.ScLast.main_arg0) = m ((c.tc : Thread Cert.ScLast.nD Cert.ScLast.τ).loc Cert.ScLast.main_arg0)
      ∧ r.2.mem ((c.tc : Thread Cert.ScLast.nD Cert.ScLast.τ).loc Cert.ScLast.main_arg1) = m ((c.tc : Thread Cert.ScLast.nD Cert.ScLast.τ).loc Cert.ScLast.main_arg1)
      ∧ r.2.mem ((c.tc : Thread Cert.ScLast.nD Cert.ScLast.τ).loc Cert.ScLast.main_arg2) = m ((c.tc : Thread Cert.ScLast.nD Cert.ScLast.τ).loc Cert.ScLast.main_arg2))
      ∧ r.2.sem = fun _ => 0)

def quiescent_ScLastIdeal [hScLastIdeal : Cert.ScLastIdeal.Facts] : Prop :=
  ∀ (m : (ℓ : Loc Cert.ScLastIdeal.nD Cert.ScLastIdeal.τ Cert.ScLastIdeal.sig) → Buf (Elt Ideal) ℓ) (g : Dev Cert.ScLastIdeal.nD → PrngReg), Pre_ScLastIdeal m →
    θ_run (Cert.ScLastIdeal.defs (F := Ideal)) (onTc (τ := Cert.ScLastIdeal.τ) (Cert.ScLastIdeal.main (F := Ideal))) ⟨m, fun _ => 0, g⟩ (fun r => (∀ c : Dev Cert.ScLastIdeal.nD,
      r.2.mem ((c.tc : Thread Cert.ScLastIdeal.nD Cert.ScLastIdeal.τ).loc Cert.ScLastIdeal.main_arg0) = m ((c.tc : Thread Cert.ScLastIdeal.nD Cert.ScLastIdeal.τ).loc Cert.ScLastIdeal.main_arg0)
      ∧ r.2.mem ((c.tc : Thread Cert.ScLastIdeal.nD Cert.ScLastIdeal.τ).loc Cert.ScLastIdeal.main_arg1) = m ((c.tc : Thread Cert.ScLastIdeal.nD Cert.ScLastIdeal.τ).loc Cert.ScLastIdeal.main_arg1)
      ∧ r.2.mem ((c.tc : Thread Cert.ScLastIdeal.nD Cert.ScLastIdeal.τ).loc Cert.ScLastIdeal.main_arg2) = m ((c.tc : Thread Cert.ScLastIdeal.nD Cert.ScLastIdeal.τ).loc Cert.ScLastIdeal.main_arg2))
      ∧ r.2.sem = fun _ => 0)

def quiescent_ScLastRefIdeal [hScLastRefIdeal : Cert.ScLastRefIdeal.Facts] : Prop :=
  ∀ (m : (ℓ : Loc Cert.ScLastRefIdeal.nD Cert.ScLastRefIdeal.τ Cert.ScLastRefIdeal.sig) → Buf (Elt Ideal) ℓ) (g : Dev Cert.ScLastRefIdeal.nD → PrngReg), Pre_ScLastRefIdeal m →
    θ_run (Cert.ScLastRefIdeal.defs (F := Ideal)) (onTc (τ := Cert.ScLastRefIdeal.τ) (Cert.ScLastRefIdeal.main (F := Ideal))) ⟨m, fun _ => 0, g⟩ (fun r => (∀ c : Dev Cert.ScLastRefIdeal.nD,
      r.2.mem ((c.tc : Thread Cert.ScLastRefIdeal.nD Cert.ScLastRefIdeal.τ).loc Cert.ScLastRefIdeal.main_arg0) = m ((c.tc : Thread Cert.ScLastRefIdeal.nD Cert.ScLastRefIdeal.τ).loc Cert.ScLastRefIdeal.main_arg0)
      ∧ r.2.mem ((c.tc : Thread Cert.ScLastRefIdeal.nD Cert.ScLastRefIdeal.τ).loc Cert.ScLastRefIdeal.main_arg1) = m ((c.tc : Thread Cert.ScLastRefIdeal.nD Cert.ScLastRefIdeal.τ).loc Cert.ScLastRefIdeal.main_arg1)
      ∧ r.2.mem ((c.tc : Thread Cert.ScLastRefIdeal.nD Cert.ScLastRefIdeal.τ).loc Cert.ScLastRefIdeal.main_arg2) = m ((c.tc : Thread Cert.ScLastRefIdeal.nD Cert.ScLastRefIdeal.τ).loc Cert.ScLastRefIdeal.main_arg2))
      ∧ r.2.sem = fun _ => 0)

def quiescent_DtGrad [hDtGrad : Cert.DtGrad.Facts] : Prop :=
  ∀ (m : (ℓ : Loc Cert.DtGrad.nD Cert.DtGrad.τ Cert.DtGrad.sig) → Buf (Elt Bits) ℓ) (g : Dev Cert.DtGrad.nD → PrngReg), Pre_DtGrad m →
    θ_run (Cert.DtGrad.defs (F := Bits)) (onTc (τ := Cert.DtGrad.τ) (Cert.DtGrad.main (F := Bits))) ⟨m, fun _ => 0, g⟩ (fun r => (∀ c : Dev Cert.DtGrad.nD,
      r.2.mem ((c.tc : Thread Cert.DtGrad.nD Cert.DtGrad.τ).loc Cert.DtGrad.main_arg0) = m ((c.tc : Thread Cert.DtGrad.nD Cert.DtGrad.τ).loc Cert.DtGrad.main_arg0)
      ∧ r.2.mem ((c.tc : Thread Cert.DtGrad.nD Cert.DtGrad.τ).loc Cert.DtGrad.main_arg1) = m ((c.tc : Thread Cert.DtGrad.nD Cert.DtGrad.τ).loc Cert.DtGrad.main_arg1))
      ∧ r.2.sem = fun _ => 0)

def quiescent_DtGradIdeal [hDtGradIdeal : Cert.DtGradIdeal.Facts] : Prop :=
  ∀ (m : (ℓ : Loc Cert.DtGradIdeal.nD Cert.DtGradIdeal.τ Cert.DtGradIdeal.sig) → Buf (Elt Ideal) ℓ) (g : Dev Cert.DtGradIdeal.nD → PrngReg), Pre_DtGradIdeal m →
    θ_run (Cert.DtGradIdeal.defs (F := Ideal)) (onTc (τ := Cert.DtGradIdeal.τ) (Cert.DtGradIdeal.main (F := Ideal))) ⟨m, fun _ => 0, g⟩ (fun r => (∀ c : Dev Cert.DtGradIdeal.nD,
      r.2.mem ((c.tc : Thread Cert.DtGradIdeal.nD Cert.DtGradIdeal.τ).loc Cert.DtGradIdeal.main_arg0) = m ((c.tc : Thread Cert.DtGradIdeal.nD Cert.DtGradIdeal.τ).loc Cert.DtGradIdeal.main_arg0)
      ∧ r.2.mem ((c.tc : Thread Cert.DtGradIdeal.nD Cert.DtGradIdeal.τ).loc Cert.DtGradIdeal.main_arg1) = m ((c.tc : Thread Cert.DtGradIdeal.nD Cert.DtGradIdeal.τ).loc Cert.DtGradIdeal.main_arg1))
      ∧ r.2.sem = fun _ => 0)

def quiescent_DtGradRefIdeal [hDtGradRefIdeal : Cert.DtGradRefIdeal.Facts] : Prop :=
  ∀ (m : (ℓ : Loc Cert.DtGradRefIdeal.nD Cert.DtGradRefIdeal.τ Cert.DtGradRefIdeal.sig) → Buf (Elt Ideal) ℓ) (g : Dev Cert.DtGradRefIdeal.nD → PrngReg), Pre_DtGradRefIdeal m →
    θ_run (Cert.DtGradRefIdeal.defs (F := Ideal)) (onTc (τ := Cert.DtGradRefIdeal.τ) (Cert.DtGradRefIdeal.main (F := Ideal))) ⟨m, fun _ => 0, g⟩ (fun r => (∀ c : Dev Cert.DtGradRefIdeal.nD,
      r.2.mem ((c.tc : Thread Cert.DtGradRefIdeal.nD Cert.DtGradRefIdeal.τ).loc Cert.DtGradRefIdeal.main_arg0) = m ((c.tc : Thread Cert.DtGradRefIdeal.nD Cert.DtGradRefIdeal.τ).loc Cert.DtGradRefIdeal.main_arg0)
      ∧ r.2.mem ((c.tc : Thread Cert.DtGradRefIdeal.nD Cert.DtGradRefIdeal.τ).loc Cert.DtGradRefIdeal.main_arg1) = m ((c.tc : Thread Cert.DtGradRefIdeal.nD Cert.DtGradRefIdeal.τ).loc Cert.DtGradRefIdeal.main_arg1))
      ∧ r.2.sem = fun _ => 0)

def quiescent_ScWGrad [hScWGrad : Cert.ScWGrad.Facts] : Prop :=
  ∀ (m : (ℓ : Loc Cert.ScWGrad.nD Cert.ScWGrad.τ Cert.ScWGrad.sig) → Buf (Elt Bits) ℓ) (g : Dev Cert.ScWGrad.nD → PrngReg), Pre_ScWGrad m →
    θ_run (Cert.ScWGrad.defs (F := Bits)) (onTc (τ := Cert.ScWGrad.τ) (Cert.ScWGrad.main (F := Bits))) ⟨m, fun _ => 0, g⟩ (fun r => (∀ c : Dev Cert.ScWGrad.nD,
      r.2.mem ((c.tc : Thread Cert.ScWGrad.nD Cert.ScWGrad.τ).loc Cert.ScWGrad.main_arg0) = m ((c.tc : Thread Cert.ScWGrad.nD Cert.ScWGrad.τ).loc Cert.ScWGrad.main_arg0)
      ∧ r.2.mem ((c.tc : Thread Cert.ScWGrad.nD Cert.ScWGrad.τ).loc Cert.ScWGrad.main_arg1) = m ((c.tc : Thread Cert.ScWGrad.nD Cert.ScWGrad.τ).loc Cert.ScWGrad.main_arg1))
      ∧ r.2.sem = fun _ => 0)

def quiescent_ScWGradIdeal [hScWGradIdeal : Cert.ScWGradIdeal.Facts] : Prop :=
  ∀ (m : (ℓ : Loc Cert.ScWGradIdeal.nD Cert.ScWGradIdeal.τ Cert.ScWGradIdeal.sig) → Buf (Elt Ideal) ℓ) (g : Dev Cert.ScWGradIdeal.nD → PrngReg), Pre_ScWGradIdeal m →
    θ_run (Cert.ScWGradIdeal.defs (F := Ideal)) (onTc (τ := Cert.ScWGradIdeal.τ) (Cert.ScWGradIdeal.main (F := Ideal))) ⟨m, fun _ => 0, g⟩ (fun r => (∀ c : Dev Cert.ScWGradIdeal.nD,
      r.2.mem ((c.tc : Thread Cert.ScWGradIdeal.nD Cert.ScWGradIdeal.τ).loc Cert.ScWGradIdeal.main_arg0) = m ((c.tc : Thread Cert.ScWGradIdeal.nD Cert.ScWGradIdeal.τ).loc Cert.ScWGradIdeal.main_arg0)
      ∧ r.2.mem ((c.tc : Thread Cert.ScWGradIdeal.nD Cert.ScWGradIdeal.τ).loc Cert.ScWGradIdeal.main_arg1) = m ((c.tc : Thread Cert.ScWGradIdeal.nD Cert.ScWGradIdeal.τ).loc Cert.ScWGradIdeal.main_arg1))
      ∧ r.2.sem = fun _ => 0)

def quiescent_ScWGradRefIdeal [hScWGradRefIdeal : Cert.ScWGradRefIdeal.Facts] : Prop :=
  ∀ (m : (ℓ : Loc Cert.ScWGradRefIdeal.nD Cert.ScWGradRefIdeal.τ Cert.ScWGradRefIdeal.sig) → Buf (Elt Ideal) ℓ) (g : Dev Cert.ScWGradRefIdeal.nD → PrngReg), Pre_ScWGradRefIdeal m →
    θ_run (Cert.ScWGradRefIdeal.defs (F := Ideal)) (onTc (τ := Cert.ScWGradRefIdeal.τ) (Cert.ScWGradRefIdeal.main (F := Ideal))) ⟨m, fun _ => 0, g⟩ (fun r => (∀ c : Dev Cert.ScWGradRefIdeal.nD,
      r.2.mem ((c.tc : Thread Cert.ScWGradRefIdeal.nD Cert.ScWGradRefIdeal.τ).loc Cert.ScWGradRefIdeal.main_arg0) = m ((c.tc : Thread Cert.ScWGradRefIdeal.nD Cert.ScWGradRefIdeal.τ).loc Cert.ScWGradRefIdeal.main_arg0)
      ∧ r.2.mem ((c.tc : Thread Cert.ScWGradRefIdeal.nD Cert.ScWGradRefIdeal.τ).loc Cert.ScWGradRefIdeal.main_arg1) = m ((c.tc : Thread Cert.ScWGradRefIdeal.nD Cert.ScWGradRefIdeal.τ).loc Cert.ScWGradRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v23_0)) (v1 : (c : Dev Cert.FfnBwdIdeal.nD) → Buf (Elt Ideal) ((c.tc : Thread Cert.FfnBwdIdeal.nD Cert.FfnBwdIdeal.τ).loc Cert.FfnBwdIdeal.main_v23_1)) (v2 : (c : Dev Cert.FfnBwdIdeal.nD) → Buf (Elt Ideal) ((c.tc : Thread Cert.FfnBwdIdeal.nD Cert.FfnBwdIdeal.τ).loc Cert.FfnBwdIdeal.main_v23_2)) (v3 : (c : Dev Cert.FfnBwdIdeal.nD) → Buf (Elt Ideal) ((c.tc : Thread Cert.FfnBwdIdeal.nD Cert.FfnBwdIdeal.τ).loc Cert.FfnBwdIdeal.main_v23_3)) (v4 : (c : Dev Cert.FfnBwdIdeal.nD) → Buf (Elt Ideal) ((c.tc : Thread Cert.FfnBwdIdeal.nD Cert.FfnBwdIdeal.τ).loc Cert.FfnBwdIdeal.main_v23_4)) (v5 : (c : Dev Cert.FfnBwdIdeal.nD) → Buf (Elt Ideal) ((c.tc : Thread Cert.FfnBwdIdeal.nD Cert.FfnBwdIdeal.τ).loc Cert.FfnBwdIdeal.main_v23_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v23_0) = v0 c
          ∧ r.2.mem ((c.tc : Thread Cert.FfnBwdIdeal.nD Cert.FfnBwdIdeal.τ).loc Cert.FfnBwdIdeal.main_v23_1) = v1 c
          ∧ r.2.mem ((c.tc : Thread Cert.FfnBwdIdeal.nD Cert.FfnBwdIdeal.τ).loc Cert.FfnBwdIdeal.main_v23_2) = v2 c
          ∧ r.2.mem ((c.tc : Thread Cert.FfnBwdIdeal.nD Cert.FfnBwdIdeal.τ).loc Cert.FfnBwdIdeal.main_v23_3) = v3 c
          ∧ r.2.mem ((c.tc : Thread Cert.FfnBwdIdeal.nD Cert.FfnBwdIdeal.τ).loc Cert.FfnBwdIdeal.main_v23_4) = v4 c
          ∧ r.2.mem ((c.tc : Thread Cert.FfnBwdIdeal.nD Cert.FfnBwdIdeal.τ).loc Cert.FfnBwdIdeal.main_v23_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v57) = v0 c
          ∧ r.2.mem ((c.tc : Thread Cert.FfnRefIdeal.nD Cert.FfnRefIdeal.τ).loc Cert.FfnRefIdeal.main_v84) = v1 c
          ∧ r.2.mem ((c.tc : Thread Cert.FfnRefIdeal.nD Cert.FfnRefIdeal.τ).loc Cert.FfnRefIdeal.main_v87) = v2 c
          ∧ r.2.mem ((c.tc : Thread Cert.FfnRefIdeal.nD Cert.FfnRefIdeal.τ).loc Cert.FfnRefIdeal.main_v88) = v3 c
          ∧ r.2.mem ((c.tc : Thread Cert.FfnRefIdeal.nD Cert.FfnRefIdeal.τ).loc Cert.FfnRefIdeal.main_v89) = v4 c
          ∧ r.2.mem ((c.tc : Thread Cert.FfnRefIdeal.nD Cert.FfnRefIdeal.τ).loc Cert.FfnRefIdeal.main_v90) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)) (v3 : (c : Dev Cert.FfnFwdIdeal.nD) → Buf (Elt Ideal) ((c.tc : Thread Cert.FfnFwdIdeal.nD Cert.FfnFwdIdeal.τ).loc Cert.FfnFwdIdeal.main_v4_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_v4_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v23) = v0 c
          ∧ r.2.mem ((c.tc : Thread Cert.FfnFwdRefIdeal.nD Cert.FfnFwdRefIdeal.τ).loc Cert.FfnFwdRefIdeal.main_v24) = v1 c
          ∧ r.2.mem ((c.tc : Thread Cert.FfnFwdRefIdeal.nD Cert.FfnFwdRefIdeal.τ).loc Cert.FfnFwdRefIdeal.main_v25) = v2 c
          ∧ r.2.mem ((c.tc : Thread Cert.FfnFwdRefIdeal.nD Cert.FfnFwdRefIdeal.τ).loc Cert.FfnFwdRefIdeal.main_v26) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)) →
    ∃ (v0 : (c : Dev Cert.WGradIdeal.nD) → Buf (Elt Ideal) ((c.tc : Thread Cert.WGradIdeal.nD Cert.WGradIdeal.τ).loc Cert.WGradIdeal.main_v0)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v0) = v0 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v8) = v0 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1))

def preserves_Scan_ScanIdeal : Prop :=
  IdealRules.named_const.Statement Cert.ScanIdeal.κ "mask" .f32 0xF149F2CA#32 ⊥

def algebraic_ScanIdeal_ScanRefIdeal_pre_scan_finite [hScanIdeal : Cert.ScanIdeal.Facts] [hScanRefIdeal : Cert.ScanRefIdeal.Facts] [hPre_scan_finite : Cert.Pre_scan_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_scan_finite m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)) →
    ∃ (v0 : (c : Dev Cert.ScanIdeal.nD) → Buf (Elt Ideal) ((c.tc : Thread Cert.ScanIdeal.nD Cert.ScanIdeal.τ).loc Cert.ScanIdeal.main_v57_0)) (v1 : (c : Dev Cert.ScanIdeal.nD) → Buf (Elt Ideal) ((c.tc : Thread Cert.ScanIdeal.nD Cert.ScanIdeal.τ).loc Cert.ScanIdeal.main_v57_1)) (v2 : (c : Dev Cert.ScanIdeal.nD) → Buf (Elt Ideal) ((c.tc : Thread Cert.ScanIdeal.nD Cert.ScanIdeal.τ).loc Cert.ScanIdeal.main_v57_2)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v57_0) = v0 c
          ∧ r.2.mem ((c.tc : Thread Cert.ScanIdeal.nD Cert.ScanIdeal.τ).loc Cert.ScanIdeal.main_v57_1) = v1 c
          ∧ r.2.mem ((c.tc : Thread Cert.ScanIdeal.nD Cert.ScanIdeal.τ).loc Cert.ScanIdeal.main_v57_2) = v2 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v114) = v0 c
          ∧ r.2.mem ((c.tc : Thread Cert.ScanRefIdeal.nD Cert.ScanRefIdeal.τ).loc Cert.ScanRefIdeal.main_v115) = v1 c
          ∧ r.2.mem ((c.tc : Thread Cert.ScanRefIdeal.nD Cert.ScanRefIdeal.τ).loc Cert.ScanRefIdeal.main_v116) = v2 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3))

def preserves_SsdIn_SsdInIdeal : Prop :=
  True

def algebraic_SsdInIdeal_SsdInRefIdeal_pre_ssd_in_finite [hSsdInIdeal : Cert.SsdInIdeal.Facts] [hSsdInRefIdeal : Cert.SsdInRefIdeal.Facts] [hPre_ssd_in_finite : Cert.Pre_ssd_in_finite.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal_ssd_in_finite m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)
      ∧ m' ((c.tc : Thread Cert.SsdInRefIdeal.nD Cert.SsdInRefIdeal.τ).loc Cert.SsdInRefIdeal.main_arg2) = m ((c.tc : Thread Cert.SsdInIdeal.nD Cert.SsdInIdeal.τ).loc Cert.SsdInIdeal.main_arg2)
      ∧ m' ((c.tc : Thread Cert.SsdInRefIdeal.nD Cert.SsdInRefIdeal.τ).loc Cert.SsdInRefIdeal.main_arg3) = m ((c.tc : Thread Cert.SsdInIdeal.nD Cert.SsdInIdeal.τ).loc Cert.SsdInIdeal.main_arg3)
      ∧ m' ((c.tc : Thread Cert.SsdInRefIdeal.nD Cert.SsdInRefIdeal.τ).loc Cert.SsdInRefIdeal.main_arg4) = m ((c.tc : Thread Cert.SsdInIdeal.nD Cert.SsdInIdeal.τ).loc Cert.SsdInIdeal.main_arg4)
      ∧ m' ((c.tc : Thread Cert.SsdInRefIdeal.nD Cert.SsdInRefIdeal.τ).loc Cert.SsdInRefIdeal.main_arg5) = m ((c.tc : Thread Cert.SsdInIdeal.nD Cert.SsdInIdeal.τ).loc Cert.SsdInIdeal.main_arg5)
      ∧ m' ((c.tc : Thread Cert.SsdInRefIdeal.nD Cert.SsdInRefIdeal.τ).loc Cert.SsdInRefIdeal.main_arg6) = m ((c.tc : Thread Cert.SsdInIdeal.nD Cert.SsdInIdeal.τ).loc Cert.SsdInIdeal.main_arg6)) →
    ∃ (v0 : (c : Dev Cert.SsdInIdeal.nD) → Buf (Elt Ideal) ((c.tc : Thread Cert.SsdInIdeal.nD Cert.SsdInIdeal.τ).loc Cert.SsdInIdeal.main_v8_0)) (v1 : (c : Dev Cert.SsdInIdeal.nD) → Buf (Elt Ideal) ((c.tc : Thread Cert.SsdInIdeal.nD Cert.SsdInIdeal.τ).loc Cert.SsdInIdeal.main_v8_1)) (v2 : (c : Dev Cert.SsdInIdeal.nD) → Buf (Elt Ideal) ((c.tc : Thread Cert.SsdInIdeal.nD Cert.SsdInIdeal.τ).loc Cert.SsdInIdeal.main_v8_2)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v8_0) = v0 c
          ∧ r.2.mem ((c.tc : Thread Cert.SsdInIdeal.nD Cert.SsdInIdeal.τ).loc Cert.SsdInIdeal.main_v8_1) = v1 c
          ∧ r.2.mem ((c.tc : Thread Cert.SsdInIdeal.nD Cert.SsdInIdeal.τ).loc Cert.SsdInIdeal.main_v8_2) = v2 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
          ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
          ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
          ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5)
          ∧ r.2.mem ((c.tc : Thread Cert.SsdInIdeal.nD Cert.SsdInIdeal.τ).loc Cert.SsdInIdeal.main_arg6) = m ((c.tc : Thread Cert.SsdInIdeal.nD Cert.SsdInIdeal.τ).loc Cert.SsdInIdeal.main_arg6))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v51) = v0 c
          ∧ r.2.mem ((c.tc : Thread Cert.SsdInRefIdeal.nD Cert.SsdInRefIdeal.τ).loc Cert.SsdInRefIdeal.main_v65) = v1 c
          ∧ r.2.mem ((c.tc : Thread Cert.SsdInRefIdeal.nD Cert.SsdInRefIdeal.τ).loc Cert.SsdInRefIdeal.main_v66) = v2 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1)
          ∧ r.2.mem ((c.tc : Thread Cert.SsdInRefIdeal.nD Cert.SsdInRefIdeal.τ).loc Cert.SsdInRefIdeal.main_arg2) = m' ((c.tc : Thread Cert.SsdInRefIdeal.nD Cert.SsdInRefIdeal.τ).loc Cert.SsdInRefIdeal.main_arg2)
          ∧ r.2.mem ((c.tc : Thread Cert.SsdInRefIdeal.nD Cert.SsdInRefIdeal.τ).loc Cert.SsdInRefIdeal.main_arg3) = m' ((c.tc : Thread Cert.SsdInRefIdeal.nD Cert.SsdInRefIdeal.τ).loc Cert.SsdInRefIdeal.main_arg3)
          ∧ r.2.mem ((c.tc : Thread Cert.SsdInRefIdeal.nD Cert.SsdInRefIdeal.τ).loc Cert.SsdInRefIdeal.main_arg4) = m' ((c.tc : Thread Cert.SsdInRefIdeal.nD Cert.SsdInRefIdeal.τ).loc Cert.SsdInRefIdeal.main_arg4)
          ∧ r.2.mem ((c.tc : Thread Cert.SsdInRefIdeal.nD Cert.SsdInRefIdeal.τ).loc Cert.SsdInRefIdeal.main_arg5) = m' ((c.tc : Thread Cert.SsdInRefIdeal.nD Cert.SsdInRefIdeal.τ).loc Cert.SsdInRefIdeal.main_arg5)
          ∧ r.2.mem ((c.tc : Thread Cert.SsdInRefIdeal.nD Cert.SsdInRefIdeal.τ).loc Cert.SsdInRefIdeal.main_arg6) = m' ((c.tc : Thread Cert.SsdInRefIdeal.nD Cert.SsdInRefIdeal.τ).loc Cert.SsdInRefIdeal.main_arg6))

def preserves_ScIn_ScInIdeal : Prop :=
  True

def algebraic_ScInIdeal_ScInRefIdeal_pre_sc_in_finite [hScInIdeal : Cert.ScInIdeal.Facts] [hScInRefIdeal : Cert.ScInRefIdeal.Facts] [hPre_sc_in_finite : Cert.Pre_sc_in_finite.Facts] : Prop :=
  ∀ (m : (ℓ : Loc Cert.ScInIdeal.nD Cert.ScInIdeal.τ Cert.ScInIdeal.sig) → Buf (Elt Ideal) ℓ) (g : Dev Cert.ScInIdeal.nD → PrngReg)
    (m' : (ℓ : Loc Cert.ScInRefIdeal.nD Cert.ScInRefIdeal.τ Cert.ScInRefIdeal.sig) → Buf (Elt Ideal) ℓ) (g' : Dev Cert.ScInRefIdeal.nD → PrngReg), Pre_ScInIdeal_sc_in_finite m →
    (∀ c : Dev Cert.ScInIdeal.nD,
      m' ((c.tc : Thread Cert.ScInRefIdeal.nD Cert.ScInRefIdeal.τ).loc Cert.ScInRefIdeal.main_arg0) = m ((c.tc : Thread Cert.ScInIdeal.nD Cert.ScInIdeal.τ).loc Cert.ScInIdeal.main_arg0)
      ∧ m' ((c.tc : Thread Cert.ScInRefIdeal.nD Cert.ScInRefIdeal.τ).loc Cert.ScInRefIdeal.main_arg1) = m ((c.tc : Thread Cert.ScInIdeal.nD Cert.ScInIdeal.τ).loc Cert.ScInIdeal.main_arg1)
      ∧ m' ((c.tc : Thread Cert.ScInRefIdeal.nD Cert.ScInRefIdeal.τ).loc Cert.ScInRefIdeal.main_arg2) = m ((c.tc : Thread Cert.ScInIdeal.nD Cert.ScInIdeal.τ).loc Cert.ScInIdeal.main_arg2)
      ∧ m' ((c.tc : Thread Cert.ScInRefIdeal.nD Cert.ScInRefIdeal.τ).loc Cert.ScInRefIdeal.main_arg3) = m ((c.tc : Thread Cert.ScInIdeal.nD Cert.ScInIdeal.τ).loc Cert.ScInIdeal.main_arg3)
      ∧ m' ((c.tc : Thread Cert.ScInRefIdeal.nD Cert.ScInRefIdeal.τ).loc Cert.ScInRefIdeal.main_arg4) = m ((c.tc : Thread Cert.ScInIdeal.nD Cert.ScInIdeal.τ).loc Cert.ScInIdeal.main_arg4)) →
    ∃ (v0 : (c : Dev Cert.ScInIdeal.nD) → Buf (Elt Ideal) ((c.tc : Thread Cert.ScInIdeal.nD Cert.ScInIdeal.τ).loc Cert.ScInIdeal.main_v1_0)) (v1 : (c : Dev Cert.ScInIdeal.nD) → Buf (Elt Ideal) ((c.tc : Thread Cert.ScInIdeal.nD Cert.ScInIdeal.τ).loc Cert.ScInIdeal.main_v1_1)) (v2 : (c : Dev Cert.ScInIdeal.nD) → Buf (Elt Ideal) ((c.tc : Thread Cert.ScInIdeal.nD Cert.ScInIdeal.τ).loc Cert.ScInIdeal.main_v1_2)),
      θ_run (Cert.ScInIdeal.defs (F := Ideal)) (onTc (τ := Cert.ScInIdeal.τ) (Cert.ScInIdeal.main (F := Ideal))) ⟨m, fun _ => 0, g⟩ (fun r => ∀ c : Dev Cert.ScInIdeal.nD,
          r.2.mem ((c.tc : Thread Cert.ScInIdeal.nD Cert.ScInIdeal.τ).loc Cert.ScInIdeal.main_v1_0) = v0 c
          ∧ r.2.mem ((c.tc : Thread Cert.ScInIdeal.nD Cert.ScInIdeal.τ).loc Cert.ScInIdeal.main_v1_1) = v1 c
          ∧ r.2.mem ((c.tc : Thread Cert.ScInIdeal.nD Cert.ScInIdeal.τ).loc Cert.ScInIdeal.main_v1_2) = v2 c
          ∧ r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
          ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1)
          ∧ r.2.mem ((c.tc : Thread Cert.ScInIdeal.nD Cert.ScInIdeal.τ).loc Cert.ScInIdeal.main_arg2) = m ((c.tc : Thread Cert.ScInIdeal.nD Cert.ScInIdeal.τ).loc Cert.ScInIdeal.main_arg2)
          ∧ r.2.mem ((c.tc : Thread Cert.ScInIdeal.nD Cert.ScInIdeal.τ).loc Cert.ScInIdeal.main_arg3) = m ((c.tc : Thread Cert.ScInIdeal.nD Cert.ScInIdeal.τ).loc Cert.ScInIdeal.main_arg3)
          ∧ r.2.mem ((c.tc : Thread Cert.ScInIdeal.nD Cert.ScInIdeal.τ).loc Cert.ScInIdeal.main_arg4) = m ((c.tc : Thread Cert.ScInIdeal.nD Cert.ScInIdeal.τ).loc Cert.ScInIdeal.main_arg4))
      ∧ θ_run (Cert.ScInRefIdeal.defs (F := Ideal)) (onTc (τ := Cert.ScInRefIdeal.τ) (Cert.ScInRefIdeal.main (F := Ideal))) ⟨m', fun _ => 0, g'⟩ (fun r => ∀ c : Dev Cert.ScInRefIdeal.nD,
          r.2.mem ((c.tc : Thread Cert.ScInRefIdeal.nD Cert.ScInRefIdeal.τ).loc Cert.ScInRefIdeal.main_v40) = v0 c
          ∧ r.2.mem ((c.tc : Thread Cert.ScInRefIdeal.nD Cert.ScInRefIdeal.τ).loc Cert.ScInRefIdeal.main_v54) = v1 c
          ∧ r.2.mem ((c.tc : Thread Cert.ScInRefIdeal.nD Cert.ScInRefIdeal.τ).loc Cert.ScInRefIdeal.main_v55) = v2 c
          ∧ r.2.mem ((c.tc : Thread Cert.ScInRefIdeal.nD Cert.ScInRefIdeal.τ).loc Cert.ScInRefIdeal.main_arg0) = m' ((c.tc : Thread Cert.ScInRefIdeal.nD Cert.ScInRefIdeal.τ).loc Cert.ScInRefIdeal.main_arg0)
          ∧ r.2.mem ((c.tc : Thread Cert.ScInRefIdeal.nD Cert.ScInRefIdeal.τ).loc Cert.ScInRefIdeal.main_arg1) = m' ((c.tc : Thread Cert.ScInRefIdeal.nD Cert.ScInRefIdeal.τ).loc Cert.ScInRefIdeal.main_arg1)
          ∧ r.2.mem ((c.tc : Thread Cert.ScInRefIdeal.nD Cert.ScInRefIdeal.τ).loc Cert.ScInRefIdeal.main_arg2) = m' ((c.tc : Thread Cert.ScInRefIdeal.nD Cert.ScInRefIdeal.τ).loc Cert.ScInRefIdeal.main_arg2)
          ∧ r.2.mem ((c.tc : Thread Cert.ScInRefIdeal.nD Cert.ScInRefIdeal.τ).loc Cert.ScInRefIdeal.main_arg3) = m' ((c.tc : Thread Cert.ScInRefIdeal.nD Cert.ScInRefIdeal.τ).loc Cert.ScInRefIdeal.main_arg3)
          ∧ r.2.mem ((c.tc : Thread Cert.ScInRefIdeal.nD Cert.ScInRefIdeal.τ).loc Cert.ScInRefIdeal.main_arg4) = m' ((c.tc : Thread Cert.ScInRefIdeal.nD Cert.ScInRefIdeal.τ).loc Cert.ScInRefIdeal.main_arg4))

def preserves_ZGrad_ZGradIdeal : Prop :=
  True

def algebraic_ZGradIdeal_ZGradRefIdeal [hZGradIdeal : Cert.ZGradIdeal.Facts] [hZGradRefIdeal : Cert.ZGradRefIdeal.Facts] : Prop :=
  ∀ (m : (ℓ : Loc Cert.ZGradIdeal.nD Cert.ZGradIdeal.τ Cert.ZGradIdeal.sig) → Buf (Elt Ideal) ℓ) (g : Dev Cert.ZGradIdeal.nD → PrngReg)
    (m' : (ℓ : Loc Cert.ZGradRefIdeal.nD Cert.ZGradRefIdeal.τ Cert.ZGradRefIdeal.sig) → Buf (Elt Ideal) ℓ) (g' : Dev Cert.ZGradRefIdeal.nD → PrngReg), Pre_ZGradIdeal m →
    (∀ c : Dev Cert.ZGradIdeal.nD,
      m' ((c.tc : Thread Cert.ZGradRefIdeal.nD Cert.ZGradRefIdeal.τ).loc Cert.ZGradRefIdeal.main_arg0) = m ((c.tc : Thread Cert.ZGradIdeal.nD Cert.ZGradIdeal.τ).loc Cert.ZGradIdeal.main_arg0)
      ∧ m' ((c.tc : Thread Cert.ZGradRefIdeal.nD Cert.ZGradRefIdeal.τ).loc Cert.ZGradRefIdeal.main_arg1) = m ((c.tc : Thread Cert.ZGradIdeal.nD Cert.ZGradIdeal.τ).loc Cert.ZGradIdeal.main_arg1)) →
    ∃ (v0 : (c : Dev Cert.ZGradIdeal.nD) → Buf (Elt Ideal) ((c.tc : Thread Cert.ZGradIdeal.nD Cert.ZGradIdeal.τ).loc Cert.ZGradIdeal.main_v0)),
      θ_run (Cert.ZGradIdeal.defs (F := Ideal)) (onTc (τ := Cert.ZGradIdeal.τ) (Cert.ZGradIdeal.main (F := Ideal))) ⟨m, fun _ => 0, g⟩ (fun r => ∀ c : Dev Cert.ZGradIdeal.nD,
          r.2.mem ((c.tc : Thread Cert.ZGradIdeal.nD Cert.ZGradIdeal.τ).loc Cert.ZGradIdeal.main_v0) = v0 c
          ∧ r.2.mem ((c.tc : Thread Cert.ZGradIdeal.nD Cert.ZGradIdeal.τ).loc Cert.ZGradIdeal.main_arg0) = m ((c.tc : Thread Cert.ZGradIdeal.nD Cert.ZGradIdeal.τ).loc Cert.ZGradIdeal.main_arg0)
          ∧ r.2.mem ((c.tc : Thread Cert.ZGradIdeal.nD Cert.ZGradIdeal.τ).loc Cert.ZGradIdeal.main_arg1) = m ((c.tc : Thread Cert.ZGradIdeal.nD Cert.ZGradIdeal.τ).loc Cert.ZGradIdeal.main_arg1))
      ∧ θ_run (Cert.ZGradRefIdeal.defs (F := Ideal)) (onTc (τ := Cert.ZGradRefIdeal.τ) (Cert.ZGradRefIdeal.main (F := Ideal))) ⟨m', fun _ => 0, g'⟩ (fun r => ∀ c : Dev Cert.ZGradRefIdeal.nD,
          r.2.mem ((c.tc : Thread Cert.ZGradRefIdeal.nD Cert.ZGradRefIdeal.τ).loc Cert.ZGradRefIdeal.main_v5) = v0 c
          ∧ r.2.mem ((c.tc : Thread Cert.ZGradRefIdeal.nD Cert.ZGradRefIdeal.τ).loc Cert.ZGradRefIdeal.main_arg0) = m' ((c.tc : Thread Cert.ZGradRefIdeal.nD Cert.ZGradRefIdeal.τ).loc Cert.ZGradRefIdeal.main_arg0)
          ∧ r.2.mem ((c.tc : Thread Cert.ZGradRefIdeal.nD Cert.ZGradRefIdeal.τ).loc Cert.ZGradRefIdeal.main_arg1) = m' ((c.tc : Thread Cert.ZGradRefIdeal.nD Cert.ZGradRefIdeal.τ).loc Cert.ZGradRefIdeal.main_arg1))

def preserves_XbcGrad_XbcGradIdeal : Prop :=
  True

def algebraic_XbcGradIdeal_XbcGradRefIdeal [hXbcGradIdeal : Cert.XbcGradIdeal.Facts] [hXbcGradRefIdeal : Cert.XbcGradRefIdeal.Facts] : Prop :=
  ∀ (m : (ℓ : Loc Cert.XbcGradIdeal.nD Cert.XbcGradIdeal.τ Cert.XbcGradIdeal.sig) → Buf (Elt Ideal) ℓ) (g : Dev Cert.XbcGradIdeal.nD → PrngReg)
    (m' : (ℓ : Loc Cert.XbcGradRefIdeal.nD Cert.XbcGradRefIdeal.τ Cert.XbcGradRefIdeal.sig) → Buf (Elt Ideal) ℓ) (g' : Dev Cert.XbcGradRefIdeal.nD → PrngReg), Pre_XbcGradIdeal m →
    (∀ c : Dev Cert.XbcGradIdeal.nD,
      m' ((c.tc : Thread Cert.XbcGradRefIdeal.nD Cert.XbcGradRefIdeal.τ).loc Cert.XbcGradRefIdeal.main_arg0) = m ((c.tc : Thread Cert.XbcGradIdeal.nD Cert.XbcGradIdeal.τ).loc Cert.XbcGradIdeal.main_arg0)
      ∧ m' ((c.tc : Thread Cert.XbcGradRefIdeal.nD Cert.XbcGradRefIdeal.τ).loc Cert.XbcGradRefIdeal.main_arg1) = m ((c.tc : Thread Cert.XbcGradIdeal.nD Cert.XbcGradIdeal.τ).loc Cert.XbcGradIdeal.main_arg1)) →
    ∃ (v0 : (c : Dev Cert.XbcGradIdeal.nD) → Buf (Elt Ideal) ((c.tc : Thread Cert.XbcGradIdeal.nD Cert.XbcGradIdeal.τ).loc Cert.XbcGradIdeal.main_v0)),
      θ_run (Cert.XbcGradIdeal.defs (F := Ideal)) (onTc (τ := Cert.XbcGradIdeal.τ) (Cert.XbcGradIdeal.main (F := Ideal))) ⟨m, fun _ => 0, g⟩ (fun r => ∀ c : Dev Cert.XbcGradIdeal.nD,
          r.2.mem ((c.tc : Thread Cert.XbcGradIdeal.nD Cert.XbcGradIdeal.τ).loc Cert.XbcGradIdeal.main_v0) = v0 c
          ∧ r.2.mem ((c.tc : Thread Cert.XbcGradIdeal.nD Cert.XbcGradIdeal.τ).loc Cert.XbcGradIdeal.main_arg0) = m ((c.tc : Thread Cert.XbcGradIdeal.nD Cert.XbcGradIdeal.τ).loc Cert.XbcGradIdeal.main_arg0)
          ∧ r.2.mem ((c.tc : Thread Cert.XbcGradIdeal.nD Cert.XbcGradIdeal.τ).loc Cert.XbcGradIdeal.main_arg1) = m ((c.tc : Thread Cert.XbcGradIdeal.nD Cert.XbcGradIdeal.τ).loc Cert.XbcGradIdeal.main_arg1))
      ∧ θ_run (Cert.XbcGradRefIdeal.defs (F := Ideal)) (onTc (τ := Cert.XbcGradRefIdeal.τ) (Cert.XbcGradRefIdeal.main (F := Ideal))) ⟨m', fun _ => 0, g'⟩ (fun r => ∀ c : Dev Cert.XbcGradRefIdeal.nD,
          r.2.mem ((c.tc : Thread Cert.XbcGradRefIdeal.nD Cert.XbcGradRefIdeal.τ).loc Cert.XbcGradRefIdeal.main_v5) = v0 c
          ∧ r.2.mem ((c.tc : Thread Cert.XbcGradRefIdeal.nD Cert.XbcGradRefIdeal.τ).loc Cert.XbcGradRefIdeal.main_arg0) = m' ((c.tc : Thread Cert.XbcGradRefIdeal.nD Cert.XbcGradRefIdeal.τ).loc Cert.XbcGradRefIdeal.main_arg0)
          ∧ r.2.mem ((c.tc : Thread Cert.XbcGradRefIdeal.nD Cert.XbcGradRefIdeal.τ).loc Cert.XbcGradRefIdeal.main_arg1) = m' ((c.tc : Thread Cert.XbcGradRefIdeal.nD Cert.XbcGradRefIdeal.τ).loc Cert.XbcGradRefIdeal.main_arg1))

def preserves_SsdFirst_SsdFirstIdeal : Prop :=
  True

def algebraic_SsdFirstIdeal_SsdFirstRefIdeal [hSsdFirstIdeal : Cert.SsdFirstIdeal.Facts] [hSsdFirstRefIdeal : Cert.SsdFirstRefIdeal.Facts] : Prop :=
  ∀ (m : (ℓ : Loc Cert.SsdFirstIdeal.nD Cert.SsdFirstIdeal.τ Cert.SsdFirstIdeal.sig) → Buf (Elt Ideal) ℓ) (g : Dev Cert.SsdFirstIdeal.nD → PrngReg)
    (m' : (ℓ : Loc Cert.SsdFirstRefIdeal.nD Cert.SsdFirstRefIdeal.τ Cert.SsdFirstRefIdeal.sig) → Buf (Elt Ideal) ℓ) (g' : Dev Cert.SsdFirstRefIdeal.nD → PrngReg), Pre_SsdFirstIdeal m →
    (∀ c : Dev Cert.SsdFirstIdeal.nD,
      m' ((c.tc : Thread Cert.SsdFirstRefIdeal.nD Cert.SsdFirstRefIdeal.τ).loc Cert.SsdFirstRefIdeal.main_arg0) = m ((c.tc : Thread Cert.SsdFirstIdeal.nD Cert.SsdFirstIdeal.τ).loc Cert.SsdFirstIdeal.main_arg0)
      ∧ m' ((c.tc : Thread Cert.SsdFirstRefIdeal.nD Cert.SsdFirstRefIdeal.τ).loc Cert.SsdFirstRefIdeal.main_arg1) = m ((c.tc : Thread Cert.SsdFirstIdeal.nD Cert.SsdFirstIdeal.τ).loc Cert.SsdFirstIdeal.main_arg1)
      ∧ m' ((c.tc : Thread Cert.SsdFirstRefIdeal.nD Cert.SsdFirstRefIdeal.τ).loc Cert.SsdFirstRefIdeal.main_arg2) = m ((c.tc : Thread Cert.SsdFirstIdeal.nD Cert.SsdFirstIdeal.τ).loc Cert.SsdFirstIdeal.main_arg2)) →
    ∃ (v0 : (c : Dev Cert.SsdFirstIdeal.nD) → Buf (Elt Ideal) ((c.tc : Thread Cert.SsdFirstIdeal.nD Cert.SsdFirstIdeal.τ).loc Cert.SsdFirstIdeal.main_v6_0)) (v1 : (c : Dev Cert.SsdFirstIdeal.nD) → Buf (Elt Ideal) ((c.tc : Thread Cert.SsdFirstIdeal.nD Cert.SsdFirstIdeal.τ).loc Cert.SsdFirstIdeal.main_v6_1)) (v2 : (c : Dev Cert.SsdFirstIdeal.nD) → Buf (Elt Ideal) ((c.tc : Thread Cert.SsdFirstIdeal.nD Cert.SsdFirstIdeal.τ).loc Cert.SsdFirstIdeal.main_v6_2)),
      θ_run (Cert.SsdFirstIdeal.defs (F := Ideal)) (onTc (τ := Cert.SsdFirstIdeal.τ) (Cert.SsdFirstIdeal.main (F := Ideal))) ⟨m, fun _ => 0, g⟩ (fun r => ∀ c : Dev Cert.SsdFirstIdeal.nD,
          r.2.mem ((c.tc : Thread Cert.SsdFirstIdeal.nD Cert.SsdFirstIdeal.τ).loc Cert.SsdFirstIdeal.main_v6_0) = v0 c
          ∧ r.2.mem ((c.tc : Thread Cert.SsdFirstIdeal.nD Cert.SsdFirstIdeal.τ).loc Cert.SsdFirstIdeal.main_v6_1) = v1 c
          ∧ r.2.mem ((c.tc : Thread Cert.SsdFirstIdeal.nD Cert.SsdFirstIdeal.τ).loc Cert.SsdFirstIdeal.main_v6_2) = v2 c
          ∧ r.2.mem ((c.tc : Thread Cert.SsdFirstIdeal.nD Cert.SsdFirstIdeal.τ).loc Cert.SsdFirstIdeal.main_arg0) = m ((c.tc : Thread Cert.SsdFirstIdeal.nD Cert.SsdFirstIdeal.τ).loc Cert.SsdFirstIdeal.main_arg0)
          ∧ r.2.mem ((c.tc : Thread Cert.SsdFirstIdeal.nD Cert.SsdFirstIdeal.τ).loc Cert.SsdFirstIdeal.main_arg1) = m ((c.tc : Thread Cert.SsdFirstIdeal.nD Cert.SsdFirstIdeal.τ).loc Cert.SsdFirstIdeal.main_arg1)
          ∧ r.2.mem ((c.tc : Thread Cert.SsdFirstIdeal.nD Cert.SsdFirstIdeal.τ).loc Cert.SsdFirstIdeal.main_arg2) = m ((c.tc : Thread Cert.SsdFirstIdeal.nD Cert.SsdFirstIdeal.τ).loc Cert.SsdFirstIdeal.main_arg2))
      ∧ θ_run (Cert.SsdFirstRefIdeal.defs (F := Ideal)) (onTc (τ := Cert.SsdFirstRefIdeal.τ) (Cert.SsdFirstRefIdeal.main (F := Ideal))) ⟨m', fun _ => 0, g'⟩ (fun r => ∀ c : Dev Cert.SsdFirstRefIdeal.nD,
          r.2.mem ((c.tc : Thread Cert.SsdFirstRefIdeal.nD Cert.SsdFirstRefIdeal.τ).loc Cert.SsdFirstRefIdeal.main_v18) = v0 c
          ∧ r.2.mem ((c.tc : Thread Cert.SsdFirstRefIdeal.nD Cert.SsdFirstRefIdeal.τ).loc Cert.SsdFirstRefIdeal.main_v19) = v1 c
          ∧ r.2.mem ((c.tc : Thread Cert.SsdFirstRefIdeal.nD Cert.SsdFirstRefIdeal.τ).loc Cert.SsdFirstRefIdeal.main_v21) = v2 c
          ∧ r.2.mem ((c.tc : Thread Cert.SsdFirstRefIdeal.nD Cert.SsdFirstRefIdeal.τ).loc Cert.SsdFirstRefIdeal.main_arg0) = m' ((c.tc : Thread Cert.SsdFirstRefIdeal.nD Cert.SsdFirstRefIdeal.τ).loc Cert.SsdFirstRefIdeal.main_arg0)
          ∧ r.2.mem ((c.tc : Thread Cert.SsdFirstRefIdeal.nD Cert.SsdFirstRefIdeal.τ).loc Cert.SsdFirstRefIdeal.main_arg1) = m' ((c.tc : Thread Cert.SsdFirstRefIdeal.nD Cert.SsdFirstRefIdeal.τ).loc Cert.SsdFirstRefIdeal.main_arg1)
          ∧ r.2.mem ((c.tc : Thread Cert.SsdFirstRefIdeal.nD Cert.SsdFirstRefIdeal.τ).loc Cert.SsdFirstRefIdeal.main_arg2) = m' ((c.tc : Thread Cert.SsdFirstRefIdeal.nD Cert.SsdFirstRefIdeal.τ).loc Cert.SsdFirstRefIdeal.main_arg2))

def preserves_ScFirst_ScFirstIdeal : Prop :=
  True

def algebraic_ScFirstIdeal_ScFirstRefIdeal [hScFirstIdeal : Cert.ScFirstIdeal.Facts] [hScFirstRefIdeal : Cert.ScFirstRefIdeal.Facts] : Prop :=
  ∀ (m : (ℓ : Loc Cert.ScFirstIdeal.nD Cert.ScFirstIdeal.τ Cert.ScFirstIdeal.sig) → Buf (Elt Ideal) ℓ) (g : Dev Cert.ScFirstIdeal.nD → PrngReg)
    (m' : (ℓ : Loc Cert.ScFirstRefIdeal.nD Cert.ScFirstRefIdeal.τ Cert.ScFirstRefIdeal.sig) → Buf (Elt Ideal) ℓ) (g' : Dev Cert.ScFirstRefIdeal.nD → PrngReg), Pre_ScFirstIdeal m →
    (∀ c : Dev Cert.ScFirstIdeal.nD,
      m' ((c.tc : Thread Cert.ScFirstRefIdeal.nD Cert.ScFirstRefIdeal.τ).loc Cert.ScFirstRefIdeal.main_arg0) = m ((c.tc : Thread Cert.ScFirstIdeal.nD Cert.ScFirstIdeal.τ).loc Cert.ScFirstIdeal.main_arg0)
      ∧ m' ((c.tc : Thread Cert.ScFirstRefIdeal.nD Cert.ScFirstRefIdeal.τ).loc Cert.ScFirstRefIdeal.main_arg1) = m ((c.tc : Thread Cert.ScFirstIdeal.nD Cert.ScFirstIdeal.τ).loc Cert.ScFirstIdeal.main_arg1)
      ∧ m' ((c.tc : Thread Cert.ScFirstRefIdeal.nD Cert.ScFirstRefIdeal.τ).loc Cert.ScFirstRefIdeal.main_arg2) = m ((c.tc : Thread Cert.ScFirstIdeal.nD Cert.ScFirstIdeal.τ).loc Cert.ScFirstIdeal.main_arg2)) →
    ∃ (v0 : (c : Dev Cert.ScFirstIdeal.nD) → Buf (Elt Ideal) ((c.tc : Thread Cert.ScFirstIdeal.nD Cert.ScFirstIdeal.τ).loc Cert.ScFirstIdeal.main_v1)),
      θ_run (Cert.ScFirstIdeal.defs (F := Ideal)) (onTc (τ := Cert.ScFirstIdeal.τ) (Cert.ScFirstIdeal.main (F := Ideal))) ⟨m, fun _ => 0, g⟩ (fun r => ∀ c : Dev Cert.ScFirstIdeal.nD,
          r.2.mem ((c.tc : Thread Cert.ScFirstIdeal.nD Cert.ScFirstIdeal.τ).loc Cert.ScFirstIdeal.main_v1) = v0 c
          ∧ r.2.mem ((c.tc : Thread Cert.ScFirstIdeal.nD Cert.ScFirstIdeal.τ).loc Cert.ScFirstIdeal.main_arg0) = m ((c.tc : Thread Cert.ScFirstIdeal.nD Cert.ScFirstIdeal.τ).loc Cert.ScFirstIdeal.main_arg0)
          ∧ r.2.mem ((c.tc : Thread Cert.ScFirstIdeal.nD Cert.ScFirstIdeal.τ).loc Cert.ScFirstIdeal.main_arg1) = m ((c.tc : Thread Cert.ScFirstIdeal.nD Cert.ScFirstIdeal.τ).loc Cert.ScFirstIdeal.main_arg1)
          ∧ r.2.mem ((c.tc : Thread Cert.ScFirstIdeal.nD Cert.ScFirstIdeal.τ).loc Cert.ScFirstIdeal.main_arg2) = m ((c.tc : Thread Cert.ScFirstIdeal.nD Cert.ScFirstIdeal.τ).loc Cert.ScFirstIdeal.main_arg2))
      ∧ θ_run (Cert.ScFirstRefIdeal.defs (F := Ideal)) (onTc (τ := Cert.ScFirstRefIdeal.τ) (Cert.ScFirstRefIdeal.main (F := Ideal))) ⟨m', fun _ => 0, g'⟩ (fun r => ∀ c : Dev Cert.ScFirstRefIdeal.nD,
          r.2.mem ((c.tc : Thread Cert.ScFirstRefIdeal.nD Cert.ScFirstRefIdeal.τ).loc Cert.ScFirstRefIdeal.main_v15) = v0 c
          ∧ r.2.mem ((c.tc : Thread Cert.ScFirstRefIdeal.nD Cert.ScFirstRefIdeal.τ).loc Cert.ScFirstRefIdeal.main_arg0) = m' ((c.tc : Thread Cert.ScFirstRefIdeal.nD Cert.ScFirstRefIdeal.τ).loc Cert.ScFirstRefIdeal.main_arg0)
          ∧ r.2.mem ((c.tc : Thread Cert.ScFirstRefIdeal.nD Cert.ScFirstRefIdeal.τ).loc Cert.ScFirstRefIdeal.main_arg1) = m' ((c.tc : Thread Cert.ScFirstRefIdeal.nD Cert.ScFirstRefIdeal.τ).loc Cert.ScFirstRefIdeal.main_arg1)
          ∧ r.2.mem ((c.tc : Thread Cert.ScFirstRefIdeal.nD Cert.ScFirstRefIdeal.τ).loc Cert.ScFirstRefIdeal.main_arg2) = m' ((c.tc : Thread Cert.ScFirstRefIdeal.nD Cert.ScFirstRefIdeal.τ).loc Cert.ScFirstRefIdeal.main_arg2))

def preserves_SsdLast_SsdLastIdeal : Prop :=
  True

def algebraic_SsdLastIdeal_SsdLastRefIdeal [hSsdLastIdeal : Cert.SsdLastIdeal.Facts] [hSsdLastRefIdeal : Cert.SsdLastRefIdeal.Facts] : Prop :=
  ∀ (m : (ℓ : Loc Cert.SsdLastIdeal.nD Cert.SsdLastIdeal.τ Cert.SsdLastIdeal.sig) → Buf (Elt Ideal) ℓ) (g : Dev Cert.SsdLastIdeal.nD → PrngReg)
    (m' : (ℓ : Loc Cert.SsdLastRefIdeal.nD Cert.SsdLastRefIdeal.τ Cert.SsdLastRefIdeal.sig) → Buf (Elt Ideal) ℓ) (g' : Dev Cert.SsdLastRefIdeal.nD → PrngReg), Pre_SsdLastIdeal m →
    (∀ c : Dev Cert.SsdLastIdeal.nD,
      m' ((c.tc : Thread Cert.SsdLastRefIdeal.nD Cert.SsdLastRefIdeal.τ).loc Cert.SsdLastRefIdeal.main_arg0) = m ((c.tc : Thread Cert.SsdLastIdeal.nD Cert.SsdLastIdeal.τ).loc Cert.SsdLastIdeal.main_arg0)
      ∧ m' ((c.tc : Thread Cert.SsdLastRefIdeal.nD Cert.SsdLastRefIdeal.τ).loc Cert.SsdLastRefIdeal.main_arg1) = m ((c.tc : Thread Cert.SsdLastIdeal.nD Cert.SsdLastIdeal.τ).loc Cert.SsdLastIdeal.main_arg1)
      ∧ m' ((c.tc : Thread Cert.SsdLastRefIdeal.nD Cert.SsdLastRefIdeal.τ).loc Cert.SsdLastRefIdeal.main_arg2) = m ((c.tc : Thread Cert.SsdLastIdeal.nD Cert.SsdLastIdeal.τ).loc Cert.SsdLastIdeal.main_arg2)) →
    ∃ (v0 : (c : Dev Cert.SsdLastIdeal.nD) → Buf (Elt Ideal) ((c.tc : Thread Cert.SsdLastIdeal.nD Cert.SsdLastIdeal.τ).loc Cert.SsdLastIdeal.main_v0)),
      θ_run (Cert.SsdLastIdeal.defs (F := Ideal)) (onTc (τ := Cert.SsdLastIdeal.τ) (Cert.SsdLastIdeal.main (F := Ideal))) ⟨m, fun _ => 0, g⟩ (fun r => ∀ c : Dev Cert.SsdLastIdeal.nD,
          r.2.mem ((c.tc : Thread Cert.SsdLastIdeal.nD Cert.SsdLastIdeal.τ).loc Cert.SsdLastIdeal.main_v0) = v0 c
          ∧ r.2.mem ((c.tc : Thread Cert.SsdLastIdeal.nD Cert.SsdLastIdeal.τ).loc Cert.SsdLastIdeal.main_arg0) = m ((c.tc : Thread Cert.SsdLastIdeal.nD Cert.SsdLastIdeal.τ).loc Cert.SsdLastIdeal.main_arg0)
          ∧ r.2.mem ((c.tc : Thread Cert.SsdLastIdeal.nD Cert.SsdLastIdeal.τ).loc Cert.SsdLastIdeal.main_arg1) = m ((c.tc : Thread Cert.SsdLastIdeal.nD Cert.SsdLastIdeal.τ).loc Cert.SsdLastIdeal.main_arg1)
          ∧ r.2.mem ((c.tc : Thread Cert.SsdLastIdeal.nD Cert.SsdLastIdeal.τ).loc Cert.SsdLastIdeal.main_arg2) = m ((c.tc : Thread Cert.SsdLastIdeal.nD Cert.SsdLastIdeal.τ).loc Cert.SsdLastIdeal.main_arg2))
      ∧ θ_run (Cert.SsdLastRefIdeal.defs (F := Ideal)) (onTc (τ := Cert.SsdLastRefIdeal.τ) (Cert.SsdLastRefIdeal.main (F := Ideal))) ⟨m', fun _ => 0, g'⟩ (fun r => ∀ c : Dev Cert.SsdLastRefIdeal.nD,
          r.2.mem ((c.tc : Thread Cert.SsdLastRefIdeal.nD Cert.SsdLastRefIdeal.τ).loc Cert.SsdLastRefIdeal.main_v3) = v0 c
          ∧ r.2.mem ((c.tc : Thread Cert.SsdLastRefIdeal.nD Cert.SsdLastRefIdeal.τ).loc Cert.SsdLastRefIdeal.main_arg0) = m' ((c.tc : Thread Cert.SsdLastRefIdeal.nD Cert.SsdLastRefIdeal.τ).loc Cert.SsdLastRefIdeal.main_arg0)
          ∧ r.2.mem ((c.tc : Thread Cert.SsdLastRefIdeal.nD Cert.SsdLastRefIdeal.τ).loc Cert.SsdLastRefIdeal.main_arg1) = m' ((c.tc : Thread Cert.SsdLastRefIdeal.nD Cert.SsdLastRefIdeal.τ).loc Cert.SsdLastRefIdeal.main_arg1)
          ∧ r.2.mem ((c.tc : Thread Cert.SsdLastRefIdeal.nD Cert.SsdLastRefIdeal.τ).loc Cert.SsdLastRefIdeal.main_arg2) = m' ((c.tc : Thread Cert.SsdLastRefIdeal.nD Cert.SsdLastRefIdeal.τ).loc Cert.SsdLastRefIdeal.main_arg2))

def preserves_ScLast_ScLastIdeal : Prop :=
  True

def algebraic_ScLastIdeal_ScLastRefIdeal [hScLastIdeal : Cert.ScLastIdeal.Facts] [hScLastRefIdeal : Cert.ScLastRefIdeal.Facts] : Prop :=
  ∀ (m : (ℓ : Loc Cert.ScLastIdeal.nD Cert.ScLastIdeal.τ Cert.ScLastIdeal.sig) → Buf (Elt Ideal) ℓ) (g : Dev Cert.ScLastIdeal.nD → PrngReg)
    (m' : (ℓ : Loc Cert.ScLastRefIdeal.nD Cert.ScLastRefIdeal.τ Cert.ScLastRefIdeal.sig) → Buf (Elt Ideal) ℓ) (g' : Dev Cert.ScLastRefIdeal.nD → PrngReg), Pre_ScLastIdeal m →
    (∀ c : Dev Cert.ScLastIdeal.nD,
      m' ((c.tc : Thread Cert.ScLastRefIdeal.nD Cert.ScLastRefIdeal.τ).loc Cert.ScLastRefIdeal.main_arg0) = m ((c.tc : Thread Cert.ScLastIdeal.nD Cert.ScLastIdeal.τ).loc Cert.ScLastIdeal.main_arg0)
      ∧ m' ((c.tc : Thread Cert.ScLastRefIdeal.nD Cert.ScLastRefIdeal.τ).loc Cert.ScLastRefIdeal.main_arg1) = m ((c.tc : Thread Cert.ScLastIdeal.nD Cert.ScLastIdeal.τ).loc Cert.ScLastIdeal.main_arg1)
      ∧ m' ((c.tc : Thread Cert.ScLastRefIdeal.nD Cert.ScLastRefIdeal.τ).loc Cert.ScLastRefIdeal.main_arg2) = m ((c.tc : Thread Cert.ScLastIdeal.nD Cert.ScLastIdeal.τ).loc Cert.ScLastIdeal.main_arg2)) →
    ∃ (v0 : (c : Dev Cert.ScLastIdeal.nD) → Buf (Elt Ideal) ((c.tc : Thread Cert.ScLastIdeal.nD Cert.ScLastIdeal.τ).loc Cert.ScLastIdeal.main_v0)),
      θ_run (Cert.ScLastIdeal.defs (F := Ideal)) (onTc (τ := Cert.ScLastIdeal.τ) (Cert.ScLastIdeal.main (F := Ideal))) ⟨m, fun _ => 0, g⟩ (fun r => ∀ c : Dev Cert.ScLastIdeal.nD,
          r.2.mem ((c.tc : Thread Cert.ScLastIdeal.nD Cert.ScLastIdeal.τ).loc Cert.ScLastIdeal.main_v0) = v0 c
          ∧ r.2.mem ((c.tc : Thread Cert.ScLastIdeal.nD Cert.ScLastIdeal.τ).loc Cert.ScLastIdeal.main_arg0) = m ((c.tc : Thread Cert.ScLastIdeal.nD Cert.ScLastIdeal.τ).loc Cert.ScLastIdeal.main_arg0)
          ∧ r.2.mem ((c.tc : Thread Cert.ScLastIdeal.nD Cert.ScLastIdeal.τ).loc Cert.ScLastIdeal.main_arg1) = m ((c.tc : Thread Cert.ScLastIdeal.nD Cert.ScLastIdeal.τ).loc Cert.ScLastIdeal.main_arg1)
          ∧ r.2.mem ((c.tc : Thread Cert.ScLastIdeal.nD Cert.ScLastIdeal.τ).loc Cert.ScLastIdeal.main_arg2) = m ((c.tc : Thread Cert.ScLastIdeal.nD Cert.ScLastIdeal.τ).loc Cert.ScLastIdeal.main_arg2))
      ∧ θ_run (Cert.ScLastRefIdeal.defs (F := Ideal)) (onTc (τ := Cert.ScLastRefIdeal.τ) (Cert.ScLastRefIdeal.main (F := Ideal))) ⟨m', fun _ => 0, g'⟩ (fun r => ∀ c : Dev Cert.ScLastRefIdeal.nD,
          r.2.mem ((c.tc : Thread Cert.ScLastRefIdeal.nD Cert.ScLastRefIdeal.τ).loc Cert.ScLastRefIdeal.main_v3) = v0 c
          ∧ r.2.mem ((c.tc : Thread Cert.ScLastRefIdeal.nD Cert.ScLastRefIdeal.τ).loc Cert.ScLastRefIdeal.main_arg0) = m' ((c.tc : Thread Cert.ScLastRefIdeal.nD Cert.ScLastRefIdeal.τ).loc Cert.ScLastRefIdeal.main_arg0)
          ∧ r.2.mem ((c.tc : Thread Cert.ScLastRefIdeal.nD Cert.ScLastRefIdeal.τ).loc Cert.ScLastRefIdeal.main_arg1) = m' ((c.tc : Thread Cert.ScLastRefIdeal.nD Cert.ScLastRefIdeal.τ).loc Cert.ScLastRefIdeal.main_arg1)
          ∧ r.2.mem ((c.tc : Thread Cert.ScLastRefIdeal.nD Cert.ScLastRefIdeal.τ).loc Cert.ScLastRefIdeal.main_arg2) = m' ((c.tc : Thread Cert.ScLastRefIdeal.nD Cert.ScLastRefIdeal.τ).loc Cert.ScLastRefIdeal.main_arg2))

def preserves_DtGrad_DtGradIdeal : Prop :=
  True

def algebraic_DtGradIdeal_DtGradRefIdeal [hDtGradIdeal : Cert.DtGradIdeal.Facts] [hDtGradRefIdeal : Cert.DtGradRefIdeal.Facts] : Prop :=
  ∀ (m : (ℓ : Loc Cert.DtGradIdeal.nD Cert.DtGradIdeal.τ Cert.DtGradIdeal.sig) → Buf (Elt Ideal) ℓ) (g : Dev Cert.DtGradIdeal.nD → PrngReg)
    (m' : (ℓ : Loc Cert.DtGradRefIdeal.nD Cert.DtGradRefIdeal.τ Cert.DtGradRefIdeal.sig) → Buf (Elt Ideal) ℓ) (g' : Dev Cert.DtGradRefIdeal.nD → PrngReg), Pre_DtGradIdeal m →
    (∀ c : Dev Cert.DtGradIdeal.nD,
      m' ((c.tc : Thread Cert.DtGradRefIdeal.nD Cert.DtGradRefIdeal.τ).loc Cert.DtGradRefIdeal.main_arg0) = m ((c.tc : Thread Cert.DtGradIdeal.nD Cert.DtGradIdeal.τ).loc Cert.DtGradIdeal.main_arg0)
      ∧ m' ((c.tc : Thread Cert.DtGradRefIdeal.nD Cert.DtGradRefIdeal.τ).loc Cert.DtGradRefIdeal.main_arg1) = m ((c.tc : Thread Cert.DtGradIdeal.nD Cert.DtGradIdeal.τ).loc Cert.DtGradIdeal.main_arg1)) →
    ∃ (v0 : (c : Dev Cert.DtGradIdeal.nD) → Buf (Elt Ideal) ((c.tc : Thread Cert.DtGradIdeal.nD Cert.DtGradIdeal.τ).loc Cert.DtGradIdeal.main_v0)),
      θ_run (Cert.DtGradIdeal.defs (F := Ideal)) (onTc (τ := Cert.DtGradIdeal.τ) (Cert.DtGradIdeal.main (F := Ideal))) ⟨m, fun _ => 0, g⟩ (fun r => ∀ c : Dev Cert.DtGradIdeal.nD,
          r.2.mem ((c.tc : Thread Cert.DtGradIdeal.nD Cert.DtGradIdeal.τ).loc Cert.DtGradIdeal.main_v0) = v0 c
          ∧ r.2.mem ((c.tc : Thread Cert.DtGradIdeal.nD Cert.DtGradIdeal.τ).loc Cert.DtGradIdeal.main_arg0) = m ((c.tc : Thread Cert.DtGradIdeal.nD Cert.DtGradIdeal.τ).loc Cert.DtGradIdeal.main_arg0)
          ∧ r.2.mem ((c.tc : Thread Cert.DtGradIdeal.nD Cert.DtGradIdeal.τ).loc Cert.DtGradIdeal.main_arg1) = m ((c.tc : Thread Cert.DtGradIdeal.nD Cert.DtGradIdeal.τ).loc Cert.DtGradIdeal.main_arg1))
      ∧ θ_run (Cert.DtGradRefIdeal.defs (F := Ideal)) (onTc (τ := Cert.DtGradRefIdeal.τ) (Cert.DtGradRefIdeal.main (F := Ideal))) ⟨m', fun _ => 0, g'⟩ (fun r => ∀ c : Dev Cert.DtGradRefIdeal.nD,
          r.2.mem ((c.tc : Thread Cert.DtGradRefIdeal.nD Cert.DtGradRefIdeal.τ).loc Cert.DtGradRefIdeal.main_v5) = v0 c
          ∧ r.2.mem ((c.tc : Thread Cert.DtGradRefIdeal.nD Cert.DtGradRefIdeal.τ).loc Cert.DtGradRefIdeal.main_arg0) = m' ((c.tc : Thread Cert.DtGradRefIdeal.nD Cert.DtGradRefIdeal.τ).loc Cert.DtGradRefIdeal.main_arg0)
          ∧ r.2.mem ((c.tc : Thread Cert.DtGradRefIdeal.nD Cert.DtGradRefIdeal.τ).loc Cert.DtGradRefIdeal.main_arg1) = m' ((c.tc : Thread Cert.DtGradRefIdeal.nD Cert.DtGradRefIdeal.τ).loc Cert.DtGradRefIdeal.main_arg1))

def preserves_ScWGrad_ScWGradIdeal : Prop :=
  True

def algebraic_ScWGradIdeal_ScWGradRefIdeal [hScWGradIdeal : Cert.ScWGradIdeal.Facts] [hScWGradRefIdeal : Cert.ScWGradRefIdeal.Facts] : Prop :=
  ∀ (m : (ℓ : Loc Cert.ScWGradIdeal.nD Cert.ScWGradIdeal.τ Cert.ScWGradIdeal.sig) → Buf (Elt Ideal) ℓ) (g : Dev Cert.ScWGradIdeal.nD → PrngReg)
    (m' : (ℓ : Loc Cert.ScWGradRefIdeal.nD Cert.ScWGradRefIdeal.τ Cert.ScWGradRefIdeal.sig) → Buf (Elt Ideal) ℓ) (g' : Dev Cert.ScWGradRefIdeal.nD → PrngReg), Pre_ScWGradIdeal m →
    (∀ c : Dev Cert.ScWGradIdeal.nD,
      m' ((c.tc : Thread Cert.ScWGradRefIdeal.nD Cert.ScWGradRefIdeal.τ).loc Cert.ScWGradRefIdeal.main_arg0) = m ((c.tc : Thread Cert.ScWGradIdeal.nD Cert.ScWGradIdeal.τ).loc Cert.ScWGradIdeal.main_arg0)
      ∧ m' ((c.tc : Thread Cert.ScWGradRefIdeal.nD Cert.ScWGradRefIdeal.τ).loc Cert.ScWGradRefIdeal.main_arg1) = m ((c.tc : Thread Cert.ScWGradIdeal.nD Cert.ScWGradIdeal.τ).loc Cert.ScWGradIdeal.main_arg1)) →
    ∃ (v0 : (c : Dev Cert.ScWGradIdeal.nD) → Buf (Elt Ideal) ((c.tc : Thread Cert.ScWGradIdeal.nD Cert.ScWGradIdeal.τ).loc Cert.ScWGradIdeal.main_v0)),
      θ_run (Cert.ScWGradIdeal.defs (F := Ideal)) (onTc (τ := Cert.ScWGradIdeal.τ) (Cert.ScWGradIdeal.main (F := Ideal))) ⟨m, fun _ => 0, g⟩ (fun r => ∀ c : Dev Cert.ScWGradIdeal.nD,
          r.2.mem ((c.tc : Thread Cert.ScWGradIdeal.nD Cert.ScWGradIdeal.τ).loc Cert.ScWGradIdeal.main_v0) = v0 c
          ∧ r.2.mem ((c.tc : Thread Cert.ScWGradIdeal.nD Cert.ScWGradIdeal.τ).loc Cert.ScWGradIdeal.main_arg0) = m ((c.tc : Thread Cert.ScWGradIdeal.nD Cert.ScWGradIdeal.τ).loc Cert.ScWGradIdeal.main_arg0)
          ∧ r.2.mem ((c.tc : Thread Cert.ScWGradIdeal.nD Cert.ScWGradIdeal.τ).loc Cert.ScWGradIdeal.main_arg1) = m ((c.tc : Thread Cert.ScWGradIdeal.nD Cert.ScWGradIdeal.τ).loc Cert.ScWGradIdeal.main_arg1))
      ∧ θ_run (Cert.ScWGradRefIdeal.defs (F := Ideal)) (onTc (τ := Cert.ScWGradRefIdeal.τ) (Cert.ScWGradRefIdeal.main (F := Ideal))) ⟨m', fun _ => 0, g'⟩ (fun r => ∀ c : Dev Cert.ScWGradRefIdeal.nD,
          r.2.mem ((c.tc : Thread Cert.ScWGradRefIdeal.nD Cert.ScWGradRefIdeal.τ).loc Cert.ScWGradRefIdeal.main_v8) = v0 c
          ∧ r.2.mem ((c.tc : Thread Cert.ScWGradRefIdeal.nD Cert.ScWGradRefIdeal.τ).loc Cert.ScWGradRefIdeal.main_arg0) = m' ((c.tc : Thread Cert.ScWGradRefIdeal.nD Cert.ScWGradRefIdeal.τ).loc Cert.ScWGradRefIdeal.main_arg0)
          ∧ r.2.mem ((c.tc : Thread Cert.ScWGradRefIdeal.nD Cert.ScWGradRefIdeal.τ).loc Cert.ScWGradRefIdeal.main_arg1) = m' ((c.tc : Thread Cert.ScWGradRefIdeal.nD Cert.ScWGradRefIdeal.τ).loc Cert.ScWGradRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v2) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v25) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def Claim : Prop :=
  ∃ (hFfnBwd : Cert.FfnBwd.Facts) (hFfnBwdIdeal : Cert.FfnBwdIdeal.Facts) (hFfnRefIdeal : Cert.FfnRefIdeal.Facts) (hFfnFwd : Cert.FfnFwd.Facts) (hFfnFwdIdeal : Cert.FfnFwdIdeal.Facts) (hFfnFwdRefIdeal : Cert.FfnFwdRefIdeal.Facts) (hWGrad : Cert.WGrad.Facts) (hWGradIdeal : Cert.WGradIdeal.Facts) (hWGradRefIdeal : Cert.WGradRefIdeal.Facts) (hScan : Cert.Scan.Facts) (hScanIdeal : Cert.ScanIdeal.Facts) (hScanRefIdeal : Cert.ScanRefIdeal.Facts) (hSsdIn : Cert.SsdIn.Facts) (hSsdInIdeal : Cert.SsdInIdeal.Facts) (hSsdInRefIdeal : Cert.SsdInRefIdeal.Facts) (hScIn : Cert.ScIn.Facts) (hScInIdeal : Cert.ScInIdeal.Facts) (hScInRefIdeal : Cert.ScInRefIdeal.Facts) (hZGrad : Cert.ZGrad.Facts) (hZGradIdeal : Cert.ZGradIdeal.Facts) (hZGradRefIdeal : Cert.ZGradRefIdeal.Facts) (hXbcGrad : Cert.XbcGrad.Facts) (hXbcGradIdeal : Cert.XbcGradIdeal.Facts) (hXbcGradRefIdeal : Cert.XbcGradRefIdeal.Facts) (hSsdFirst : Cert.SsdFirst.Facts) (hSsdFirstIdeal : Cert.SsdFirstIdeal.Facts) (hSsdFirstRefIdeal : Cert.SsdFirstRefIdeal.Facts) (hScFirst : Cert.ScFirst.Facts) (hScFirstIdeal : Cert.ScFirstIdeal.Facts) (hScFirstRefIdeal : Cert.ScFirstRefIdeal.Facts) (hSsdLast : Cert.SsdLast.Facts) (hSsdLastIdeal : Cert.SsdLastIdeal.Facts) (hSsdLastRefIdeal : Cert.SsdLastRefIdeal.Facts) (hScLast : Cert.ScLast.Facts) (hScLastIdeal : Cert.ScLastIdeal.Facts) (hScLastRefIdeal : Cert.ScLastRefIdeal.Facts) (hDtGrad : Cert.DtGrad.Facts) (hDtGradIdeal : Cert.DtGradIdeal.Facts) (hDtGradRefIdeal : Cert.DtGradRefIdeal.Facts) (hScWGrad : Cert.ScWGrad.Facts) (hScWGradIdeal : Cert.ScWGradIdeal.Facts) (hScWGradRefIdeal : Cert.ScWGradRefIdeal.Facts) (hGateFwd : Cert.GateFwd.Facts) (hGateFwdIdeal : Cert.GateFwdIdeal.Facts) (hGateFwdRefIdeal : Cert.GateFwdRefIdeal.Facts) (hPre_ffn_finite : Cert.Pre_ffn_finite.Facts) (hPre_scan_finite : Cert.Pre_scan_finite.Facts) (hPre_ssd_in_finite : Cert.Pre_ssd_in_finite.Facts) (hPre_sc_in_finite : Cert.Pre_sc_in_finite.Facts),
    quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_WGrad (hWGrad := hWGrad)
    ∧ quiescent_WGradIdeal (hWGradIdeal := hWGradIdeal)
    ∧ quiescent_WGradRefIdeal (hWGradRefIdeal := hWGradRefIdeal)
    ∧ quiescent_Scan (hScan := hScan)
    ∧ quiescent_ScanIdeal (hScanIdeal := hScanIdeal)
    ∧ quiescent_ScanIdeal_pre_scan_finite (hScanIdeal := hScanIdeal) (hPre_scan_finite := hPre_scan_finite)
    ∧ quiescent_ScanRefIdeal (hScanRefIdeal := hScanRefIdeal)
    ∧ quiescent_ScanRefIdeal_pre_scan_finite (hScanRefIdeal := hScanRefIdeal) (hPre_scan_finite := hPre_scan_finite)
    ∧ quiescent_SsdIn (hSsdIn := hSsdIn)
    ∧ quiescent_SsdInIdeal (hSsdInIdeal := hSsdInIdeal)
    ∧ quiescent_SsdInIdeal_pre_ssd_in_finite (hSsdInIdeal := hSsdInIdeal) (hPre_ssd_in_finite := hPre_ssd_in_finite)
    ∧ quiescent_SsdInRefIdeal (hSsdInRefIdeal := hSsdInRefIdeal)
    ∧ quiescent_SsdInRefIdeal_pre_ssd_in_finite (hSsdInRefIdeal := hSsdInRefIdeal) (hPre_ssd_in_finite := hPre_ssd_in_finite)
    ∧ quiescent_ScIn (hScIn := hScIn)
    ∧ quiescent_ScInIdeal (hScInIdeal := hScInIdeal)
    ∧ quiescent_ScInIdeal_pre_sc_in_finite (hScInIdeal := hScInIdeal) (hPre_sc_in_finite := hPre_sc_in_finite)
    ∧ quiescent_ScInRefIdeal (hScInRefIdeal := hScInRefIdeal)
    ∧ quiescent_ScInRefIdeal_pre_sc_in_finite (hScInRefIdeal := hScInRefIdeal) (hPre_sc_in_finite := hPre_sc_in_finite)
    ∧ quiescent_ZGrad (hZGrad := hZGrad)
    ∧ quiescent_ZGradIdeal (hZGradIdeal := hZGradIdeal)
    ∧ quiescent_ZGradRefIdeal (hZGradRefIdeal := hZGradRefIdeal)
    ∧ quiescent_XbcGrad (hXbcGrad := hXbcGrad)
    ∧ quiescent_XbcGradIdeal (hXbcGradIdeal := hXbcGradIdeal)
    ∧ quiescent_XbcGradRefIdeal (hXbcGradRefIdeal := hXbcGradRefIdeal)
    ∧ quiescent_SsdFirst (hSsdFirst := hSsdFirst)
    ∧ quiescent_SsdFirstIdeal (hSsdFirstIdeal := hSsdFirstIdeal)
    ∧ quiescent_SsdFirstRefIdeal (hSsdFirstRefIdeal := hSsdFirstRefIdeal)
    ∧ quiescent_ScFirst (hScFirst := hScFirst)
    ∧ quiescent_ScFirstIdeal (hScFirstIdeal := hScFirstIdeal)
    ∧ quiescent_ScFirstRefIdeal (hScFirstRefIdeal := hScFirstRefIdeal)
    ∧ quiescent_SsdLast (hSsdLast := hSsdLast)
    ∧ quiescent_SsdLastIdeal (hSsdLastIdeal := hSsdLastIdeal)
    ∧ quiescent_SsdLastRefIdeal (hSsdLastRefIdeal := hSsdLastRefIdeal)
    ∧ quiescent_ScLast (hScLast := hScLast)
    ∧ quiescent_ScLastIdeal (hScLastIdeal := hScLastIdeal)
    ∧ quiescent_ScLastRefIdeal (hScLastRefIdeal := hScLastRefIdeal)
    ∧ quiescent_DtGrad (hDtGrad := hDtGrad)
    ∧ quiescent_DtGradIdeal (hDtGradIdeal := hDtGradIdeal)
    ∧ quiescent_DtGradRefIdeal (hDtGradRefIdeal := hDtGradRefIdeal)
    ∧ quiescent_ScWGrad (hScWGrad := hScWGrad)
    ∧ quiescent_ScWGradIdeal (hScWGradIdeal := hScWGradIdeal)
    ∧ quiescent_ScWGradRefIdeal (hScWGradRefIdeal := hScWGradRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_WGrad_WGradIdeal
    ∧ algebraic_WGradIdeal_WGradRefIdeal (hWGradIdeal := hWGradIdeal) (hWGradRefIdeal := hWGradRefIdeal)
    ∧ preserves_Scan_ScanIdeal
    ∧ algebraic_ScanIdeal_ScanRefIdeal_pre_scan_finite (hScanIdeal := hScanIdeal) (hScanRefIdeal := hScanRefIdeal) (hPre_scan_finite := hPre_scan_finite)
    ∧ preserves_SsdIn_SsdInIdeal
    ∧ algebraic_SsdInIdeal_SsdInRefIdeal_pre_ssd_in_finite (hSsdInIdeal := hSsdInIdeal) (hSsdInRefIdeal := hSsdInRefIdeal) (hPre_ssd_in_finite := hPre_ssd_in_finite)
    ∧ preserves_ScIn_ScInIdeal
    ∧ algebraic_ScInIdeal_ScInRefIdeal_pre_sc_in_finite (hScInIdeal := hScInIdeal) (hScInRefIdeal := hScInRefIdeal) (hPre_sc_in_finite := hPre_sc_in_finite)
    ∧ preserves_ZGrad_ZGradIdeal
    ∧ algebraic_ZGradIdeal_ZGradRefIdeal (hZGradIdeal := hZGradIdeal) (hZGradRefIdeal := hZGradRefIdeal)
    ∧ preserves_XbcGrad_XbcGradIdeal
    ∧ algebraic_XbcGradIdeal_XbcGradRefIdeal (hXbcGradIdeal := hXbcGradIdeal) (hXbcGradRefIdeal := hXbcGradRefIdeal)
    ∧ preserves_SsdFirst_SsdFirstIdeal
    ∧ algebraic_SsdFirstIdeal_SsdFirstRefIdeal (hSsdFirstIdeal := hSsdFirstIdeal) (hSsdFirstRefIdeal := hSsdFirstRefIdeal)
    ∧ preserves_ScFirst_ScFirstIdeal
    ∧ algebraic_ScFirstIdeal_ScFirstRefIdeal (hScFirstIdeal := hScFirstIdeal) (hScFirstRefIdeal := hScFirstRefIdeal)
    ∧ preserves_SsdLast_SsdLastIdeal
    ∧ algebraic_SsdLastIdeal_SsdLastRefIdeal (hSsdLastIdeal := hSsdLastIdeal) (hSsdLastRefIdeal := hSsdLastRefIdeal)
    ∧ preserves_ScLast_ScLastIdeal
    ∧ algebraic_ScLastIdeal_ScLastRefIdeal (hScLastIdeal := hScLastIdeal) (hScLastRefIdeal := hScLastRefIdeal)
    ∧ preserves_DtGrad_DtGradIdeal
    ∧ algebraic_DtGradIdeal_DtGradRefIdeal (hDtGradIdeal := hDtGradIdeal) (hDtGradRefIdeal := hDtGradRefIdeal)
    ∧ preserves_ScWGrad_ScWGradIdeal
    ∧ algebraic_ScWGradIdeal_ScWGradRefIdeal (hScWGradIdeal := hScWGradIdeal) (hScWGradRefIdeal := hScWGradRefIdeal)
    ∧ preserves_GateFwd_GateFwdIdeal
    ∧ algebraic_GateFwdIdeal_GateFwdRefIdeal (hGateFwdIdeal := hGateFwdIdeal) (hGateFwdRefIdeal := hGateFwdRefIdeal)
-- ==== Pre_ffn_finite.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .bf16) (main_arg5 : FVec F S2816x1024 .bf16) (main_v13 : IVec S_ 1) (main_v15 : FVec F S1024x2816 .f32) (main_v16 : FVec F S1024x2816 .f32) : IVec S_ 1 :=
  let main_v17 : IVec S1024x2816 1 := cmpf .olt main_v15 main_v16
  let main_c_5 : IVec S_ 1 := constantI S_ 1 1#1
  let main_v18 : IVec S_ 1 := (fun x v => Host.reduce IntOp.andi x v reducesTo_S1024x2816_S_d0_1 h_S_) main_v17 main_c_5
  let main_v19 : IVec S_ 1 := andi main_v13 main_v18
  let main_v20 : FVec F S1024x2816 .f32 := (extf .f32 · bitsLt_bf16_f32) main_arg4
  let main_v21 : FVec F S1024x2816 .f32 := Host.absf main_v20
  let main_cst_6 : FVec F S_ .f32 := constant S_ .f32 0x7F800000#32
  let main_v22 : FVec F S1024x2816 .f32 := broadcastInDim S1024x2816 ![] bcast_S_S1024x2816 main_cst_6
  let main_v23 : IVec S1024x2816 1 := cmpf .olt main_v21 main_v22
  let main_c_7 : IVec S_ 1 := constantI S_ 1 1#1
  let main_v24 : IVec S_ 1 := (fun x v => Host.reduce IntOp.andi x v reducesTo_S1024x2816_S_d0_1 h_S_) main_v23 main_c_7
  let main_v25 : IVec S_ 1 := andi main_v19 main_v24
  let main_v26 : FVec F S2816x1024 .f32 := (extf .f32 · bitsLt_bf16_f32) main_arg5
  let main_v27 : FVec F S2816x1024 .f32 := Host.absf main_v26
  let main_cst_8 : FVec F S_ .f32 := constant S_ .f32 0x7F800000#32
  let main_v28 : FVec F S2816x1024 .f32 := broadcastInDim S2816x1024 ![] bcast_S_S2816x1024 main_cst_8
  let main_v29 : IVec S2816x1024 1 := cmpf .olt main_v27 main_v28
  let main_c_9 : IVec S_ 1 := constantI S_ 1 1#1
  let main_v30 : IVec S_ 1 := (fun x v => Host.reduce IntOp.andi x v reducesTo_S2816x1024_S_d0_1 h_S_) main_v29 main_c_9
  let main_v31 : IVec S_ 1 := andi main_v25 main_v30
  main_v31

def fn {F : FTy → Type} [FloatOps F] (main_arg0 : FVec F S16384x1024 .f32) (main_arg1 : FVec F S16384x1024 .f32) (main_arg2 : FVec F S1024 .f32) (main_arg3 : FVec F S1024x2816 .bf16) (main_arg4 : FVec F S1024x2816 .bf16) (main_arg5 : FVec F S2816x1024 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := (extf .f32 · bitsLt_bf16_f32) main_arg3
  let main_v15 : FVec F S1024x2816 .f32 := Host.absf main_v14
  let main_cst_4 : FVec F S_ .f32 := constant S_ .f32 0x7F800000#32
  let main_v16 : FVec F S1024x2816 .f32 := broadcastInDim S1024x2816 ![] bcast_S_S1024x2816 main_cst_4
  fn_part1 (F := F) main_arg4 main_arg5 main_v13 main_v15 main_v16
-- ==== Pre_sc_in_finite.lean ====
abbrev S16384x1024 : Shape := ⟨2, ![16384, 1024]⟩
abbrev S1024 : Shape := ⟨1, ![1024]⟩
abbrev S16384x3072 : Shape := ⟨2, ![16384, 3072]⟩
abbrev S1024x3072 : Shape := ⟨2, ![1024, 3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_arg4 : FVec F S1024x3072 .bf16) (main_v13 : IVec S_ 1) (main_v15 : FVec F S16384x3072 .f32) (main_v16 : FVec F S16384x3072 .f32) : IVec S_ 1 :=
  let main_v17 : IVec S16384x3072 1 := cmpf .olt main_v15 main_v16
  let main_c_5 : IVec S_ 1 := constantI S_ 1 1#1
  let main_v18 : IVec S_ 1 := (fun x v => Host.reduce IntOp.andi x v reducesTo_S16384x3072_S_d0_1 h_S_) main_v17 main_c_5
  let main_v19 : IVec S_ 1 := andi main_v13 main_v18
  let main_v20 : FVec F S1024x3072 .f32 := (extf .f32 · bitsLt_bf16_f32) main_arg4
  let main_v21 : FVec F S1024x3072 .f32 := Host.absf main_v20
  let main_cst_6 : FVec F S_ .f32 := constant S_ .f32 0x7F800000#32
  let main_v22 : FVec F S1024x3072 .f32 := broadcastInDim S1024x3072 ![] bcast_S_S1024x3072 main_cst_6
  let main_v23 : IVec S1024x3072 1 := cmpf .olt main_v21 main_v22
  let main_c_7 : IVec S_ 1 := constantI S_ 1 1#1
  let main_v24 : IVec S_ 1 := (fun x v => Host.reduce IntOp.andi x v reducesTo_S1024x3072_S_d0_1 h_S_) main_v23 main_c_7
  let main_v25 : IVec S_ 1 := andi main_v19 main_v24
  main_v25

def fn {F : FTy → Type} [FloatOps F] (main_arg0 : FVec F S16384x1024 .f32) (main_arg1 : FVec F S1024 .f32) (main_arg2 : FVec F S16384x1024 .f32) (main_arg3 : FVec F S16384x3072 .bf16) (main_arg4 : FVec F S1024x3072 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x3072 .f32 := (extf .f32 · bitsLt_bf16_f32) main_arg3
  let main_v15 : FVec F S16384x3072 .f32 := Host.absf main_v14
  let main_cst_4 : FVec F S_ .f32 := constant S_ .f32 0x7F800000#32
  let main_v16 : FVec F S16384x3072 .f32 := broadcastInDim S16384x3072 ![] bcast_S_S16384x3072 main_cst_4
  fn_part1 (F := F) main_arg4 main_v13 main_v15 main_v16
-- ==== Pre_scan_finite.lean ====
abbrev S16384x3072 : Shape := ⟨2, ![16384, 3072]⟩
abbrev S16384x32 : Shape := ⟨2, ![16384, 32]⟩
abbrev S32 : Shape := ⟨1, ![32]⟩
abbrev S16384x2048 : Shape := ⟨2, ![16384, 2048]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S32 : S_.BroadcastsInDim S32 (![] : Fin 0 → Fin S32.rank)
  reducesTo_S32_S_d0 : S32.ReducesTo [0] S_
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_v14 : IVec S_ 1) (main_v16 : FVec F S16384x2048 .f32) (main_cst_4 : FVec F S_ .f32) : IVec S_ 1 :=
  let main_v17 : FVec F S16384x2048 .f32 := broadcastInDim S16384x2048 ![] bcast_S_S16384x2048 main_cst_4
  let main_v18 : IVec S16384x2048 1 := cmpf .olt main_v16 main_v17
  let main_c_5 : IVec S_ 1 := constantI S_ 1 1#1
  let main_v19 : IVec S_ 1 := (fun x v => Host.reduce IntOp.andi x v reducesTo_S16384x2048_S_d0_1 h_S_) main_v18 main_c_5
  let main_v20 : IVec S_ 1 := andi main_v14 main_v19
  main_v20

def fn {F : FTy → Type} [FloatOps F] (main_arg0 : FVec F S16384x3072 .bf16) (main_arg1 : FVec F S16384x32 .f32) (main_arg2 : FVec F S32 .f32) (main_arg3 : FVec F S16384x2048 .bf16) : IVec S_ 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  let main_v5 : FVec F S16384x32 .f32 := Host.absf main_arg1
  let main_cst_0 : FVec F S_ .f32 := constant S_ .f32 0x7F800000#32
  let main_v6 : FVec F S16384x32 .f32 := broadcastInDim S16384x32 ![] bcast_S_S16384x32 main_cst_0
  let main_v7 : IVec S16384x32 1 := cmpf .olt main_v5 main_v6
  let main_c_1 : IVec S_ 1 := constantI S_ 1 1#1
  let main_v8 : IVec S_ 1 := (fun x v => Host.reduce IntOp.andi x v reducesTo_S16384x32_S_d0_1 h_S_) main_v7 main_c_1
  let main_v9 : IVec S_ 1 := andi main_v4 main_v8
  let main_v10 : FVec F S32 .f32 := Host.absf main_arg2
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_c_3 : IVec S_ 1 := constantI S_ 1 1#1
  let main_v13 : IVec S_ 1 := (fun x v => Host.reduce IntOp.andi x v reducesTo_S32_S_d0 h_S_) main_v12 main_c_3
  let main_v14 : IVec S_ 1 := andi main_v9 main_v13
  let main_v15 : FVec F S16384x2048 .f32 := (extf .f32 · bitsLt_bf16_f32) main_arg3
  let main_v16 : FVec F S16384x2048 .f32 := Host.absf main_v15
  let main_cst_4 : FVec F S_ .f32 := constant S_ .f32 0x7F800000#32
  fn_part1 (F := F) main_v14 main_v16 main_cst_4
-- ==== Pre_ssd_in_finite.lean ====
abbrev S16384x1024 : Shape := ⟨2, ![16384, 1024]⟩
abbrev S1024 : Shape := ⟨1, ![1024]⟩
abbrev S16384x2048 : Shape := ⟨2, ![16384, 2048]⟩
abbrev S16384x3072 : Shape := ⟨2, ![16384, 3072]⟩
abbrev S16384x32 : Shape := ⟨2, ![16384, 32]⟩
abbrev S1024x5152 : Shape := ⟨2, ![1024, 5152]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  bcast_S_S16384x3072 : S_.BroadcastsInDim S16384x3072 (![] : Fin 0 → Fin S16384x3072.rank)
  reducesTo_S16384x3072_S_d0_1 : S16384x3072.ReducesTo [0, 1] S_
  bcast_S_S16384x32 : S_.BroadcastsInDim S16384x32 (![] : Fin 0 → Fin S16384x32.rank)
  reducesTo_S16384x32_S_d0_1 : S16384x32.ReducesTo [0, 1] S_
  bcast_S_S1024x5152 : S_.BroadcastsInDim S1024x5152 (![] : Fin 0 → Fin S1024x5152.rank)
  reducesTo_S1024x5152_S_d0_1 : S1024x5152.ReducesTo [0, 1] S_

variable [Facts]

def fn_part2 {F : FTy → Type} [FloatOps F] (main_v31 : IVec S_ 1) (main_v33 : FVec F S1024x5152 .f32) (main_v34 : FVec F S1024x5152 .f32) : IVec S_ 1 :=
  let main_v35 : IVec S1024x5152 1 := cmpf .olt main_v33 main_v34
  let main_c_11 : IVec S_ 1 := constantI S_ 1 1#1
  let main_v36 : IVec S_ 1 := (fun x v => Host.reduce IntOp.andi x v reducesTo_S1024x5152_S_d0_1 h_S_) main_v35 main_c_11
  let main_v37 : IVec S_ 1 := andi main_v31 main_v36
  main_v37

def fn_part1 {F : FTy → Type} [FloatOps F] (main_arg4 : FVec F S16384x3072 .bf16) (main_arg5 : FVec F S16384x32 .bf16) (main_arg6 : FVec F S1024x5152 .bf16) (main_v13 : IVec S_ 1) (main_v15 : FVec F S16384x2048 .f32) (main_v16 : FVec F S16384x2048 .f32) : IVec S_ 1 :=
  let main_v17 : IVec S16384x2048 1 := cmpf .olt main_v15 main_v16
  let main_c_5 : IVec S_ 1 := constantI S_ 1 1#1
  let main_v18 : IVec S_ 1 := (fun x v => Host.reduce IntOp.andi x v reducesTo_S16384x2048_S_d0_1 h_S_) main_v17 main_c_5
  let main_v19 : IVec S_ 1 := andi main_v13 main_v18
  let main_v20 : FVec F S16384x3072 .f32 := (extf .f32 · bitsLt_bf16_f32) main_arg4
  let main_v21 : FVec F S16384x3072 .f32 := Host.absf main_v20
  let main_cst_6 : FVec F S_ .f32 := constant S_ .f32 0x7F800000#32
  let main_v22 : FVec F S16384x3072 .f32 := broadcastInDim S16384x3072 ![] bcast_S_S16384x3072 main_cst_6
  let main_v23 : IVec S16384x3072 1 := cmpf .olt main_v21 main_v22
  let main_c_7 : IVec S_ 1 := constantI S_ 1 1#1
  let main_v24 : IVec S_ 1 := (fun x v => Host.reduce IntOp.andi x v reducesTo_S16384x3072_S_d0_1 h_S_) main_v23 main_c_7
  let main_v25 : IVec S_ 1 := andi main_v19 main_v24
  let main_v26 : FVec F S16384x32 .f32 := (extf .f32 · bitsLt_bf16_f32) main_arg5
  let main_v27 : FVec F S16384x32 .f32 := Host.absf main_v26
  let main_cst_8 : FVec F S_ .f32 := constant S_ .f32 0x7F800000#32
  let main_v28 : FVec F S16384x32 .f32 := broadcastInDim S16384x32 ![] bcast_S_S16384x32 main_cst_8
  let main_v29 : IVec S16384x32 1 := cmpf .olt main_v27 main_v28
  let main_c_9 : IVec S_ 1 := constantI S_ 1 1#1
  let main_v30 : IVec S_ 1 := (fun x v => Host.reduce IntOp.andi x v reducesTo_S16384x32_S_d0_1 h_S_) main_v29 main_c_9
  let main_v31 : IVec S_ 1 := andi main_v25 main_v30
  let main_v32 : FVec F S1024x5152 .f32 := (extf .f32 · bitsLt_bf16_f32) main_arg6
  let main_v33 : FVec F S1024x5152 .f32 := Host.absf main_v32
  let main_cst_10 : FVec F S_ .f32 := constant S_ .f32 0x7F800000#32
  let main_v34 : FVec F S1024x5152 .f32 := broadcastInDim S1024x5152 ![] bcast_S_S1024x5152 main_cst_10
  fn_part2 (F := F) main_v31 main_v33 main_v34

def fn {F : FTy → Type} [FloatOps F] (main_arg0 : FVec F S16384x1024 .f32) (main_arg1 : FVec F S1024 .f32) (main_arg2 : FVec F S16384x1024 .f32) (main_arg3 : FVec F S16384x2048 .bf16) (main_arg4 : FVec F S16384x3072 .bf16) (main_arg5 : FVec F S16384x32 .bf16) (main_arg6 : FVec F S1024x5152 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x2048 .f32 := (extf .f32 · bitsLt_bf16_f32) main_arg3
  let main_v15 : FVec F S16384x2048 .f32 := Host.absf main_v14
  let main_cst_4 : FVec F S_ .f32 := constant S_ .f32 0x7F800000#32
  let main_v16 : FVec F S16384x2048 .f32 := broadcastInDim S16384x2048 ![] bcast_S_S16384x2048 main_cst_4
  fn_part1 (F := F) main_arg4 main_arg5 main_arg6 main_v13 main_v15 main_v16
-- ==== FfnBwd.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1x1024x2816 : Shape := ⟨3, ![1, 1024, 2816]⟩
abbrev S1x2816x1024 : Shape := ⟨3, ![1, 2816, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 38
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x2816, .f32⟩
  | .hbm, ⟨23, _⟩ => ⟨S16384x2816, .f32⟩
  | .hbm, ⟨24, _⟩ => ⟨S16384x2816, .bf16⟩
  | .hbm, ⟨25, _⟩ => ⟨S1024x2816, .f32⟩
  | .hbm, ⟨26, _⟩ => ⟨S16384x2816, .f32⟩
  | .hbm, ⟨27, _⟩ => ⟨S16384x2816, .bf16⟩
  | .hbm, ⟨28, _⟩ => ⟨S1x1024, .f32⟩
  | .hbm, ⟨29, _⟩ => ⟨S1x1024x2816, .bf16⟩
  | .hbm, ⟨30, _⟩ => ⟨S1x1024x2816, .bf16⟩
  | .hbm, ⟨31, _⟩ => ⟨S1x2816x1024, .bf16⟩
  | .hbm, ⟨32, _⟩ => ⟨S16384x1024, .f32⟩
  | .hbm, ⟨33, _⟩ => ⟨S16384x1024, .bf16⟩
  | .hbm, ⟨34, _⟩ => ⟨S16384x1024, .bf16⟩
  | .hbm, ⟨35, _⟩ => ⟨S16384x2816, .bf16⟩
  | .hbm, ⟨36, _⟩ => ⟨S16384x2816, .bf16⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 144
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024x2816, .bf16⟩
  | 4 => ⟨S1024x2816, .bf16⟩
  | 5 => ⟨S2816x1024, .bf16⟩
  | 6 => ⟨S1024x2816, .f32⟩
  | 7 => ⟨S1024x2816, .f32⟩
  | 8 => ⟨S2816x1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1024, .f32⟩
  | 25 => ⟨S16384x1024, .f32⟩
  | 26 => ⟨S1x1024, .f32⟩
  | 27 => ⟨S16384x1024, .f32⟩
  | 28 => ⟨S16384x1024, .f32⟩
  | 29 => ⟨S16384x2816, .f32⟩
  | 30 => ⟨S16384x2816, .f32⟩
  | 31 => ⟨S16384x2816, .f32⟩
  | 32 => ⟨S_, .f32⟩
  | 33 => ⟨S16384x2816, .f32⟩
  | 34 => ⟨S16384x2816, .f32⟩
  | 35 => ⟨S_, .f32⟩
  | 36 => ⟨S16384x2816, .f32⟩
  | 37 => ⟨S16384x2816, .f32⟩
  | 38 => ⟨S_, .f32⟩
  | 39 => ⟨S16384x2816, .f32⟩
  | 40 => ⟨S16384x2816, .f32⟩
  | 41 => ⟨S16384x2816, .f32⟩
  | 42 => ⟨S16384x2816, .f32⟩
  | 43 => ⟨S16384x2816, .f32⟩
  | 44 => ⟨S16384x2816, .f32⟩
  | 45 => ⟨S16384x1024, .f32⟩
  | 46 => ⟨S_, .f32⟩
  | 47 => ⟨S16384x1024, .f32⟩
  | 48 => ⟨S16384x1024, .f32⟩
  | 49 => ⟨S16384x1024, .f32⟩
  | 50 => ⟨S16384x1024, .f32⟩
  | 51 => ⟨S_, .f32⟩
  | 52 => ⟨S16384x1024, .f32⟩
  | 53 => ⟨S16384x1024, .f32⟩
  | 54 => ⟨S16384x2816, .f32⟩
  | 55 => ⟨S16384x2816, .f32⟩
  | 56 => ⟨S16384x2816, .f32⟩
  | 57 => ⟨S16384x1024, .f32⟩
  | 58 => ⟨S16384x2816, .f32⟩
  | 59 => ⟨S16384x2816, .f32⟩
  | 60 => ⟨S16384x2816, .f32⟩
  | 61 => ⟨S16384x2816, .f32⟩
  | 62 => ⟨S16384x1024, .f32⟩
  | 63 => ⟨S16384x1024, .f32⟩
  | 64 => ⟨S16384x1024, .f32⟩
  | 65 => ⟨S_, .f32⟩
  | 66 => ⟨S1024, .f32⟩
  | 67 => ⟨S1x1024, .f32⟩
  | 68 => ⟨S16384x1024, .f32⟩
  | 69 => ⟨S16384x1024, .f32⟩
  | 70 => ⟨S_, .f32⟩
  | 71 => ⟨S1024, .f32⟩
  | 72 => ⟨S16384x1024, .f32⟩
  | 73 => ⟨S_, .f32⟩
  | 74 => ⟨S16384, .f32⟩
  | 75 => ⟨S16384x1, .f32⟩
  | 76 => ⟨S16384x1024, .f32⟩
  | 77 => ⟨S16384x1024, .f32⟩
  | 78 => ⟨S16384x1024, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S16384, .f32⟩
  | 85 => ⟨S16384x1024, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S_, .f32⟩
  | 92 => ⟨S16384, .f32⟩
  | 93 => ⟨S16384x1, .f32⟩
  | 94 => ⟨S_, .f32⟩
  | 95 => ⟨S16384x1, .f32⟩
  | 96 => ⟨S16384x1, .f32⟩
  | 97 => ⟨S_, .f32⟩
  | 98 => ⟨S16384x1, .f32⟩
  | 99 => ⟨S16384x1, .f32⟩
  | 100 => ⟨S16384x1, .f32⟩
  | 101 => ⟨S16384x1024, .f32⟩
  | 102 => ⟨S16384x1024, .f32⟩
  | 103 => ⟨S1x1024, .f32⟩
  | 104 => ⟨S16384x1024, .f32⟩
  | 105 => ⟨S16384x1024, .f32⟩
  | 106 => ⟨S16384x2816, .f32⟩
  | 107 => ⟨S16384x2816, .f32⟩
  | 108 => ⟨S16384x2816, .f32⟩
  | 109 => ⟨S16384x2816, .f32⟩
  | 110 => ⟨S_, .f32⟩
  | 111 => ⟨S16384x2816, .f32⟩
  | 112 => ⟨S16384x2816, .f32⟩
  | 113 => ⟨S_, .f32⟩
  | 114 => ⟨S16384x2816, .f32⟩
  | 115 => ⟨S16384x2816, .f32⟩
  | 116 => ⟨S_, .f32⟩
  | 117 => ⟨S16384x2816, .f32⟩
  | 118 => ⟨S16384x2816, .f32⟩
  | 119 => ⟨S16384x2816, .f32⟩
  | 120 => ⟨S16384x2816, .f32⟩
  | 121 => ⟨S16384x2816, .f32⟩
  | 122 => ⟨S16384x1024, .f32⟩
  | 123 => ⟨S_, .f32⟩
  | 124 => ⟨S16384x1024, .f32⟩
  | 125 => ⟨S16384x1024, .f32⟩
  | 126 => ⟨S_, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x2816, .f32⟩
  | 2 => ⟨S16384x2816, .f32⟩
  | 3 => ⟨S16384x2816, .f32⟩
  | 4 => ⟨S16384x2816, .f32⟩
  | 5 => ⟨S16384x2816, .f32⟩
  | 6 => ⟨S16384x2816, .f32⟩
  | 7 => ⟨S16384x2816, .f32⟩
  | 8 => ⟨S16384x1024, .bf16⟩
  | 9 => ⟨S_, .f32⟩
  | 10 => ⟨S16384x1024, .f32⟩
  | 11 => ⟨S16384x1024, .f32⟩
  | 12 => ⟨S16384x1024, .bf16⟩
  | 13 => ⟨S16384x2816, .bf16⟩
  | 14 => ⟨S16384x2816, .bf16⟩
  | 15 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_v73_2 : Ref sig .tc := ⟨.hbm, 115, rfl⟩
abbrev main_call2_cst_1 : Ref sig .tc := ⟨.hbm, 116, rfl⟩
abbrev main_call2_v6 : Ref sig .tc := ⟨.hbm, 117, rfl⟩
abbrev main_call2_v7 : Ref sig .tc := ⟨.hbm, 118, rfl⟩
abbrev main_v73_1 : Ref sig .tc := ⟨.hbm, 119, rfl⟩
abbrev main_v73_0 : Ref sig .tc := ⟨.hbm, 120, rfl⟩
abbrev main_v74 : Ref sig .tc := ⟨.hbm, 121, rfl⟩
abbrev main_v75 : Ref sig .tc := ⟨.hbm, 122, rfl⟩
abbrev main_cst_13 : Ref sig .tc := ⟨.hbm, 123, rfl⟩
abbrev main_v76 : Ref sig .tc := ⟨.hbm, 124, rfl⟩
abbrev main_v77 : Ref sig .tc := ⟨.hbm, 125, rfl⟩
abbrev main_cst_14 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v83 : Ref sig .tc := ⟨.hbm, 135, rfl⟩
abbrev main_v84 : Ref sig .tc := ⟨.hbm, 136, rfl⟩
abbrev main_cst_15 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩

abbrev nD : Nat := 1
abbrev τ : Topo := Topo.v7x

variable {F : FTy → Type} [FloatOps F]
-- ==== FfnFwd.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1x1024x2816, .bf16⟩
  | .hbm, ⟨7, _⟩ => ⟨S1x1024x2816, .bf16⟩
  | .hbm, ⟨8, _⟩ => ⟨S1x2816x1024, .bf16⟩
  | .hbm, ⟨9, _⟩ => ⟨S16384x1024, .f32⟩
  | .hbm, ⟨10, _⟩ => ⟨S16384x2816, .bf16⟩
  | .hbm, ⟨11, _⟩ => ⟨S16384x2816, .bf16⟩
  | .hbm, ⟨12, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x2816, .bf16⟩
  | .hbm, ⟨42, _⟩ => ⟨S16384x2816, .bf16⟩
  | .hbm, ⟨43, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== WGrad.lean ====
abbrev S16384x2816 : Shape := ⟨2, ![16384, 2816]⟩
abbrev S16384x1024 : Shape := ⟨2, ![16384, 1024]⟩
abbrev S2x4x1x352x1024 : Shape := ⟨5, ![2, 4, 1, 352, 1024]⟩
abbrev S1024x2816 : Shape := ⟨2, ![1024, 2816]⟩
abbrev S1024x1024 : Shape := ⟨2, ![1024, 1024]⟩
abbrev S2816x1024 : Shape := ⟨2, ![2816, 1024]⟩
abbrev S2x4x352x1024 : Shape := ⟨4, ![2, 4, 352, 1024]⟩
abbrev S_ : Shape := ⟨0, ![]⟩
abbrev S352x1024 : Shape := ⟨2, ![352, 1024]⟩
abbrev S1x1x352x1024 : Shape := ⟨4, ![1, 1, 352, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2x4x1x352x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | .local _ .vmem, ⟨5, _⟩ => ⟨S2x4x352x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WGradRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩
abbrev S4x2x352x1024 : Shape := ⟨4, ![4, 2, 352, 1024]⟩
abbrev S2x4x352x1024 : Shape := ⟨4, ![2, 4, 352, 1024]⟩
abbrev S2x4x1x352x1024 : Shape := ⟨5, ![2, 4, 1, 352, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S4x2x352x1024, .f32⟩
  | .hbm, ⟨10, _⟩ => ⟨S2x4x352x1024, .f32⟩
  | .hbm, ⟨11, _⟩ => ⟨S2x4x1x352x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Scan.lean ====
abbrev S16384x3072 : Shape := ⟨2, ![16384, 3072]⟩
abbrev S16384x32 : Shape := ⟨2, ![16384, 32]⟩
abbrev S32 : Shape := ⟨1, ![32]⟩
abbrev S16384x2048 : Shape := ⟨2, ![16384, 2048]⟩
abbrev S16384x512 : Shape := ⟨2, ![16384, 512]⟩
abbrev S16384x32x64 : Shape := ⟨3, ![16384, 32, 64]⟩
abbrev S16384x32x1 : Shape := ⟨3, ![16384, 32, 1]⟩
abbrev S128x128x4x8x64 : Shape := ⟨5, ![128, 128, 4, 8, 64]⟩
abbrev S1x32 : Shape := ⟨2, ![1, 32]⟩
abbrev S128x128x4x8 : Shape := ⟨4, ![128, 128, 4, 8]⟩
abbrev S4x8x128x128 : Shape := ⟨4, ![4, 8, 128, 128]⟩
abbrev S128x128x4x128 : Shape := ⟨4, ![128, 128, 4, 128]⟩
abbrev S_ : Shape := ⟨0, ![]⟩
abbrev S4x8x128x1 : Shape := ⟨4, ![4, 8, 128, 1]⟩
abbrev S128x128x4x8x1 : Shape := ⟨5, ![128, 128, 4, 8, 1]⟩
abbrev S128x4x8x64x128 : Shape := ⟨5, ![128, 4, 8, 64, 128]⟩
abbrev S1x4x8x64x128 : Shape := ⟨5, ![1, 4, 8, 64, 128]⟩
abbrev S129x4x8x64x128 : Shape := ⟨5, ![129, 4, 8, 64, 128]⟩
abbrev S4x8x1 : Shape := ⟨3, ![4, 8, 1]⟩
abbrev S4x8x128 : Shape := ⟨3, ![4, 8, 128]⟩
abbrev S4x8x129 : Shape := ⟨3, ![4, 8, 129]⟩
abbrev S4x8x129x1 : Shape := ⟨4, ![4, 8, 129, 1]⟩
abbrev S4x8x1x129 : Shape := ⟨4, ![4, 8, 1, 129]⟩
abbrev S4x8x129x129 : Shape := ⟨4, ![4, 8, 129, 129]⟩
abbrev S129x129 : Shape := ⟨2, ![129, 129]⟩
abbrev S4x8x128x129 : Shape := ⟨4, ![4, 8, 128, 129]⟩
abbrev S4x8x64x128x128 : Shape := ⟨5, ![4, 8, 64, 128, 128]⟩
abbrev S4x128x128x8x64 : Shape := ⟨5, ![4, 128, 128, 8, 64]⟩
abbrev S4x128x128x512 : Shape := ⟨4, ![4, 128, 128, 512]⟩
abbrev S16384x4x8 : Shape := ⟨3, ![16384, 4, 8]⟩
abbrev S4x16384x8 : Shape := ⟨3, ![4, 16384, 8]⟩
abbrev S4x16384x120 : Shape := ⟨3, ![4, 16384, 120]⟩
abbrev S4x16384x128 : Shape := ⟨3, ![4, 16384, 128]⟩
abbrev S4x1x8 : Shape := ⟨3, ![4, 1, 8]⟩
abbrev S4x1x120 : Shape := ⟨3, ![4, 1, 120]⟩
abbrev S4x1x128 : Shape := ⟨3, ![4, 1, 128]⟩
abbrev S128x512 : Shape := ⟨2, ![128, 512]⟩
abbrev S128x128 : Shape := ⟨2, ![128, 128]⟩
abbrev S1x128x128 : Shape := ⟨3, ![1, 128, 128]⟩
abbrev S1x1x128 : Shape := ⟨3, ![1, 1, 128]⟩
abbrev S1x1x128x512 : Shape := ⟨4, ![1, 1, 128, 512]⟩
abbrev S1x128x512 : Shape := ⟨3, ![1, 128, 512]⟩
abbrev S1x128 : Shape := ⟨2, ![1, 128]⟩
abbrev S128x1 : Shape := ⟨2, ![128, 1]⟩
abbrev S128 : Shape := ⟨1, ![128]⟩
abbrev S128x256 : Shape := ⟨2, ![128, 256]⟩
abbrev S256x128 : Shape := ⟨2, ![256, 128]⟩
abbrev S128x384 : Shape := ⟨2, ![128, 384]⟩
abbrev S512x128 : Shape := ⟨2, ![512, 128]⟩

abbrev nBuf : Space → Nat
  | .hbm => 87
  | .vmem => 25
  | .smem => 0
  | _ => 0

abbrev bufTy : (tb : Table) → Fin (tcTables nBuf tb) → BufTy
  | .hbm, ⟨0, _⟩ => ⟨S16384x3072, .bf16⟩
  | .hbm, ⟨1, _⟩ => ⟨S16384x32, .f32⟩
  | .hbm, ⟨2, _⟩ => ⟨S32, .f32⟩
  | .hbm, ⟨3, _⟩ => ⟨S16384x2048, .bf16⟩
  | .hbm, ⟨4, _⟩ => ⟨S16384x3072, .f32⟩
  | .hbm, ⟨5, _⟩ => ⟨S16384x2048, .f32⟩
  | .hbm, ⟨6, _⟩ => ⟨S16384x512, .f32⟩
  | .hbm, ⟨7, _⟩ => ⟨S16384x512, .f32⟩
  | .hbm, ⟨8, _⟩ => ⟨S32, .f32⟩
  | .hbm, ⟨9, _⟩ => ⟨S32, .f32⟩
  | .hbm, ⟨10, _⟩ => ⟨S16384x32x64, .f32⟩
  | .hbm, ⟨11, _⟩ => ⟨S16384x32x1, .f32⟩
  | .hbm, ⟨12, _⟩ => ⟨S16384x32x64, .f32⟩
  | .hbm, ⟨13, _⟩ => ⟨S16384x32x64, .f32⟩
  | .hbm, ⟨14, _⟩ => ⟨S128x128x4x8x64, .f32⟩
  | .hbm, ⟨15, _⟩ => ⟨S1x32, .f32⟩
  | .hbm, ⟨16, _⟩ => ⟨S16384x32, .f32⟩
  | .hbm, ⟨17, _⟩ => ⟨S16384x32, .f32⟩
  | .hbm, ⟨18, _⟩ => ⟨S128x128x4x8, .f32⟩
  | .hbm, ⟨19, _⟩ => ⟨S4x8x128x128, .f32⟩
  | .hbm, ⟨20, _⟩ => ⟨S128x128x4x128, .f32⟩
  | .hbm, ⟨21, _⟩ => ⟨S128x128x4x128, .f32⟩
  | .hbm, ⟨22, _⟩ => ⟨S_, .f32⟩
  | .hbm, ⟨23, _⟩ => ⟨S_, .f32⟩
  | .hbm, ⟨24, _⟩ => ⟨S4x8x128x128, .f32⟩
  | .hbm, ⟨25, _⟩ => ⟨S4x8x128x1, .f32⟩
  | .hbm, ⟨26, _⟩ => ⟨S4x8x128x128, .f32⟩
  | .hbm, ⟨27, _⟩ => ⟨S4x8x128x128, .f32⟩
  | .hbm, ⟨28, _⟩ => ⟨S4x8x128x128, .f32⟩
  | .hbm, ⟨29, _⟩ => ⟨S128x128x4x8, .f32⟩
  | .hbm, ⟨30, _⟩ => ⟨S128x128x4x8x1, .f32⟩
  | .hbm, ⟨31, _⟩ => ⟨S128x128x4x8x64, .f32⟩
  | .hbm, ⟨32, _⟩ => ⟨S128x128x4x8x64, .f32⟩
  | .hbm, ⟨33, _⟩ => ⟨S128x4x8x64x128, .f32⟩
  | .hbm, ⟨34, _⟩ => ⟨S1x4x8x64x128, .f32⟩
  | .hbm, ⟨35, _⟩ => ⟨S_, .f32⟩
  | .hbm, ⟨36, _⟩ => ⟨S1x4x8x64x128, .f32⟩
  | .hbm, ⟨37, _⟩ => ⟨S129x4x8x64x128, .f32⟩
  | .hbm, ⟨38, _⟩ => ⟨S_, .f32⟩
  | .hbm, ⟨39, _⟩ => ⟨S4x8x1, .f32⟩
  | .hbm, ⟨40, _⟩ => ⟨S4x8x128x1, .f32⟩
  | .hbm, ⟨41, _⟩ => ⟨S4x8x128, .f32⟩
  | .hbm, ⟨42, _⟩ => ⟨S4x8x129, .f32⟩
  | .hbm, ⟨43, _⟩ => ⟨S_, .f32⟩
  | .hbm, ⟨44, _⟩ => ⟨S_, .f32⟩
  | .hbm, ⟨45, _⟩ => ⟨S4x8x129, .f32⟩
  | .hbm, ⟨46, _⟩ => ⟨S4x8x129x1, .f32⟩
  | .hbm, ⟨47, _⟩ => ⟨S4x8x1x129, .f32⟩
  | .hbm, ⟨48, _⟩ => ⟨S4x8x129x129, .f32⟩
  | .hbm, ⟨49, _⟩ => ⟨S4x8x129x129, .f32⟩
  | .hbm, ⟨50, _⟩ => ⟨S4x8x129x129, .f32⟩
  | .hbm, ⟨51, _⟩ => ⟨S_, .i1⟩
  | .hbm, ⟨52, _⟩ => ⟨S129x129, .i1⟩
  | .hbm, ⟨53, _⟩ => ⟨S129x129, .i32⟩
  | .hbm, ⟨54, _⟩ => ⟨S_, .i32⟩
  | .hbm, ⟨55, _⟩ => ⟨S129x129, .i32⟩
  | .hbm, ⟨56, _⟩ => ⟨S129x129, .i32⟩
  | .hbm, ⟨57, _⟩ => ⟨S129x129, .i32⟩
  | .hbm, ⟨58, _⟩ => ⟨S129x129, .i1⟩
  | .hbm, ⟨59, _⟩ => ⟨S_, .i1⟩
  | .hbm, ⟨60, _⟩ => ⟨S129x129, .i1⟩
  | .hbm, ⟨61, _⟩ => ⟨S129x129, .i1⟩
  | .hbm, ⟨62, _⟩ => ⟨S_, .f32⟩
  | .hbm, ⟨63, _⟩ => ⟨S_, .f32⟩
  | .hbm, ⟨64, _⟩ => ⟨S4x8x129x129, .i1⟩
  | .hbm, ⟨65, _⟩ => ⟨S4x8x129x129, .f32⟩
  | .hbm, ⟨66, _⟩ => ⟨S4x8x129x129, .f32⟩
  | .hbm, ⟨67, _⟩ => ⟨S4x8x129x129, .f32⟩
  | .hbm, ⟨68, _⟩ => ⟨S4x8x128x129, .f32⟩
  | .hbm, ⟨69, _⟩ => ⟨S4x8x64x128x128, .f32⟩
  | .hbm, ⟨70, _⟩ => ⟨S128x4x8x64x128, .f32⟩
  | .hbm, ⟨71, _⟩ => ⟨S4x128x128x8x64, .f32⟩
  | .hbm, ⟨72, _⟩ => ⟨S4x128x128x512, .f32⟩
  | .hbm, ⟨73, _⟩ => ⟨S16384x4x8, .f32⟩
  | .hbm, ⟨74, _⟩ => ⟨S4x16384x8, .f32⟩
  | .hbm, ⟨75, _⟩ => ⟨S_, .f32⟩
  | .hbm, ⟨76, _⟩ => ⟨S4x16384x120, .f32⟩
  | .hbm, ⟨77, _⟩ => ⟨S4x16384x128, .f32⟩
  | .hbm, ⟨78, _⟩ => ⟨S4x1x8, .f32⟩
  | .hbm, ⟨79, _⟩ => ⟨S_, .f32⟩
  | .hbm, ⟨80, _⟩ => ⟨S4x1x120, .f32⟩
  | .hbm, ⟨81, _⟩ => ⟨S4x1x128, .f32⟩
  | .hbm, ⟨82, _⟩ => ⟨S16384x2048, .bf16⟩
  | .hbm, ⟨83, _⟩ => ⟨S16384x512, .bf16⟩
  | .hbm, ⟨84, _⟩ => ⟨S16384x512, .bf16⟩
  | .hbm, ⟨85, _⟩ => ⟨S4x16384x128, .f32⟩
  | .hbm, ⟨86, _⟩ => ⟨S4x1x128, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128x512, .f32⟩
  | .local _ .vmem, ⟨11, _⟩ => ⟨S1x1x128x512, .f32⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S1x128x128, .f32⟩
  | .local _ .vmem, ⟨21, _⟩ => ⟨S1x128x128, .f32⟩
  | .local _ .vmem, ⟨22, _⟩ => ⟨S1x1x128, .f32⟩
  | .local _ .vmem, ⟨23, _⟩ => ⟨S1x1x128, .f32⟩
  | .local _ .vmem, ⟨24, _⟩ => ⟨S1x128x512, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_call0_cst : Ref sig .tc := ⟨.hbm, 22, rfl⟩
abbrev main_call0_call0_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call1_call0_cst : Ref sig .tc := ⟨.hbm, 43, rfl⟩
abbrev main_call1_call0_v0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_v41 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_0 : Ref sig .tc := ⟨.hbm, 59, rfl⟩
abbrev main_call2_v5 : Ref sig .tc := ⟨.hbm, 60, rfl⟩
abbrev main_v42 : Ref sig .tc := ⟨.hbm, 61, rfl⟩
abbrev main_cst_1 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_2 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_3 : Ref sig .tc := ⟨.hbm, 79, rfl⟩
abbrev main_v55 : Ref sig .tc := ⟨.hbm, 80, rfl⟩
abbrev main_v56 : Ref sig .tc := ⟨.hbm, 81, rfl⟩
abbrev main_v57_0 : Ref sig .tc := ⟨.hbm, 82, rfl⟩
abbrev main_v57_1 : Ref sig .tc := ⟨.hbm, 83, rfl⟩
abbrev main_v57_2 : Ref sig .tc := ⟨.hbm, 84, rfl⟩
abbrev main_v57_3 : Ref sig .tc := ⟨.hbm, 85, rfl⟩
abbrev main_v57_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 128], ![false, false]⟩

def cc0_transform_0 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c16_i32 : BitVec 32 := 16#32
  let v1 : BitVec 32 := Scalar.addi c16_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c20_i32 : BitVec 32 := 20#32
  let v1 : BitVec 32 := Scalar.addi c20_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ScanIdeal.lean ====
variable {F : FTy → Type} [FloatOps F] [Named F]
def κ : String → Option EReal := fun
  | "mask" => some ⊥
  | _ => none
-- ==== ScanRefIdeal.lean ====
abbrev S16384x3072 : Shape := ⟨2, ![16384, 3072]⟩
abbrev S16384x32 : Shape := ⟨2, ![16384, 32]⟩
abbrev S32 : Shape := ⟨1, ![32]⟩
abbrev S16384x2048 : Shape := ⟨2, ![16384, 2048]⟩
abbrev S16384x512 : Shape := ⟨2, ![16384, 512]⟩
abbrev S16384x32x64 : Shape := ⟨3, ![16384, 32, 64]⟩
abbrev S16384x32x1 : Shape := ⟨3, ![16384, 32, 1]⟩
abbrev S128x128x4x8x64 : Shape := ⟨5, ![128, 128, 4, 8, 64]⟩
abbrev S1x32 : Shape := ⟨2, ![1, 32]⟩
abbrev S128x128x4x8 : Shape := ⟨4, ![128, 128, 4, 8]⟩
abbrev S4x8x128x128 : Shape := ⟨4, ![4, 8, 128, 128]⟩
abbrev S128x128x4x128 : Shape := ⟨4, ![128, 128, 4, 128]⟩
abbrev S_ : Shape := ⟨0, ![]⟩
abbrev S4x8x128x1 : Shape := ⟨4, ![4, 8, 128, 1]⟩
abbrev S128x128x4x8x1 : Shape := ⟨5, ![128, 128, 4, 8, 1]⟩
abbrev S128x4x8x64x128 : Shape := ⟨5, ![128, 4, 8, 64, 128]⟩
abbrev S1x4x8x64x128 : Shape := ⟨5, ![1, 4, 8, 64, 128]⟩
abbrev S129x4x8x64x128 : Shape := ⟨5, ![129, 4, 8, 64, 128]⟩
abbrev S4x8x1 : Shape := ⟨3, ![4, 8, 1]⟩
abbrev S4x8x128 : Shape := ⟨3, ![4, 8, 128]⟩
abbrev S4x8x129 : Shape := ⟨3, ![4, 8, 129]⟩
abbrev S4x8x129x1 : Shape := ⟨4, ![4, 8, 129, 1]⟩
abbrev S4x8x1x129 : Shape := ⟨4, ![4, 8, 1, 129]⟩
abbrev S4x8x129x129 : Shape := ⟨4, ![4, 8, 129, 129]⟩
abbrev S129x129 : Shape := ⟨2, ![129, 129]⟩
abbrev S4x8x128x129 : Shape := ⟨4, ![4, 8, 128, 129]⟩
abbrev S4x8x64x128x128 : Shape := ⟨5, ![4, 8, 64, 128, 128]⟩
abbrev S4x8x128x128x1 : Shape := ⟨5, ![4, 8, 128, 128, 1]⟩
abbrev S4x8x128x1x128 : Shape := ⟨5, ![4, 8, 128, 1, 128]⟩
abbrev S4x8x128x128x128 : Shape := ⟨5, ![4, 8, 128, 128, 128]⟩
abbrev S128x128 : Shape := ⟨2, ![128, 128]⟩
abbrev S4x128x128x128 : Shape := ⟨4, ![4, 128, 128, 128]⟩
abbrev S4x1x128x128x128 : Shape := ⟨5, ![4, 1, 128, 128, 128]⟩
abbrev S128x4x128x128 : Shape := ⟨4, ![128, 4, 128, 128]⟩
abbrev S128x4x8x128x128 : Shape := ⟨5, ![128, 4, 8, 128, 128]⟩
abbrev S4x8x64x128x129 : Shape := ⟨5, ![4, 8, 64, 128, 129]⟩

abbrev nBuf : Space → Nat
  | .hbm => 156
  | .vmem => 0
  | .smem => 0
  | _ => 0

abbrev hbmTy0_0 (i : Nat) : BufTy := match i % 128 with
  | 0 => ⟨S16384x3072, .bf16⟩
  | 1 => ⟨S16384x32, .f32⟩
  | 2 => ⟨S32, .f32⟩
  | 3 => ⟨S16384x2048, .bf16⟩
  | 4 => ⟨S16384x3072, .f32⟩
  | 5 => ⟨S16384x2048, .f32⟩
  | 6 => ⟨S16384x512, .f32⟩
  | 7 => ⟨S16384x512, .f32⟩
  | 8 => ⟨S32, .f32⟩
  | 9 => ⟨S32, .f32⟩
  | 10 => ⟨S16384x32x64, .f32⟩
  | 11 => ⟨S16384x32x1, .f32⟩
  | 12 => ⟨S16384x32x64, .f32⟩
  | 13 => ⟨S16384x32x64, .f32⟩
  | 14 => ⟨S128x128x4x8x64, .f32⟩
  | 15 => ⟨S1x32, .f32⟩
  | 16 => ⟨S16384x32, .f32⟩
  | 17 => ⟨S16384x32, .f32⟩
  | 18 => ⟨S128x128x4x8, .f32⟩
  | 19 => ⟨S4x8x128x128, .f32⟩
  | 20 => ⟨S128x128x4x128, .f32⟩
  | 21 => ⟨S128x128x4x128, .f32⟩
  | 22 => ⟨S_, .f32⟩
  | 23 => ⟨S_, .f32⟩
  | 24 => ⟨S4x8x128x128, .f32⟩
  | 25 => ⟨S4x8x128x1, .f32⟩
  | 26 => ⟨S4x8x128x128, .f32⟩
  | 27 => ⟨S4x8x128x128, .f32⟩
  | 28 => ⟨S4x8x128x128, .f32⟩
  | 29 => ⟨S128x128x4x8, .f32⟩
  | 30 => ⟨S128x128x4x8x1, .f32⟩
  | 31 => ⟨S128x128x4x8x64, .f32⟩
  | 32 => ⟨S128x128x4x8x64, .f32⟩
  | 33 => ⟨S128x4x8x64x128, .f32⟩
  | 34 => ⟨S1x4x8x64x128, .f32⟩
  | 35 => ⟨S_, .f32⟩
  | 36 => ⟨S1x4x8x64x128, .f32⟩
  | 37 => ⟨S129x4x8x64x128, .f32⟩
  | 38 => ⟨S_, .f32⟩
  | 39 => ⟨S1x4x8x64x128, .f32⟩
  | 40 => ⟨S_, .f32⟩
  | 41 => ⟨S4x8x1, .f32⟩
  | 42 => ⟨S4x8x128x1, .f32⟩
  | 43 => ⟨S4x8x128, .f32⟩
  | 44 => ⟨S4x8x129, .f32⟩
  | 45 => ⟨S_, .f32⟩
  | 46 => ⟨S_, .f32⟩
  | 47 => ⟨S4x8x129, .f32⟩
  | 48 => ⟨S4x8x129x1, .f32⟩
  | 49 => ⟨S4x8x1x129, .f32⟩
  | 50 => ⟨S4x8x129x129, .f32⟩
  | 51 => ⟨S4x8x129x129, .f32⟩
  | 52 => ⟨S4x8x129x129, .f32⟩
  | 53 => ⟨S_, .i1⟩
  | 54 => ⟨S129x129, .i1⟩
  | 55 => ⟨S129x129, .i32⟩
  | 56 => ⟨S_, .i32⟩
  | 57 => ⟨S129x129, .i32⟩
  | 58 => ⟨S129x129, .i32⟩
  | 59 => ⟨S129x129, .i32⟩
  | 60 => ⟨S129x129, .i1⟩
  | 61 => ⟨S_, .i1⟩
  | 62 => ⟨S129x129, .i1⟩
  | 63 => ⟨S129x129, .i1⟩
  | 64 => ⟨S_, .f32⟩
  | 65 => ⟨S_, .f32⟩
  | 66 => ⟨S4x8x129x129, .i1⟩
  | 67 => ⟨S4x8x129x129, .f32⟩
  | 68 => ⟨S4x8x129x129, .f32⟩
  | 69 => ⟨S4x8x129x129, .f32⟩
  | 70 => ⟨S4x8x128x129, .f32⟩
  | 71 => ⟨S4x8x64x128x128, .f32⟩
  | 72 => ⟨S128x4x8x64x128, .f32⟩
  | 73 => ⟨S4x8x128x128x1, .f32⟩
  | 74 => ⟨S4x8x128x1x128, .f32⟩
  | 75 => ⟨S4x8x128x128x128, .f32⟩
  | 76 => ⟨S4x8x128x128x128, .f32⟩
  | 77 => ⟨S4x8x128x128x128, .f32⟩
  | 78 => ⟨S_, .i1⟩
  | 79 => ⟨S128x128, .i1⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .i1⟩
  | 87 => ⟨S128x128, .i1⟩
  | 88 => ⟨S128x128, .i1⟩
  | 89 => ⟨S_, .f32⟩
  | 90 => ⟨S_, .f32⟩
  | 91 => ⟨S4x8x128x128x128, .i1⟩
  | 92 => ⟨S4x8x128x128x128, .f32⟩
  | 93 => ⟨S4x8x128x128x128, .f32⟩
  | 94 => ⟨S4x8x128x128x128, .f32⟩
  | 95 => ⟨S4x128x128x128, .f32⟩
  | 96 => ⟨S4x1x128x128x128, .f32⟩
  | 97 => ⟨S4x8x128x128x128, .f32⟩
  | 98 => ⟨S4x8x128x128x128, .f32⟩
  | 99 => ⟨S128x4x8x64x128, .f32⟩
  | 100 => ⟨S128x128x4x8x64, .f32⟩
  | 101 => ⟨S128x4x8x64x128, .f32⟩
  | 102 => ⟨S128x128x4x8x64, .f32⟩
  | 103 => ⟨S4x8x128x128, .f32⟩
  | 104 => ⟨S128x128x4x8, .f32⟩
  | 105 => ⟨S128x128x4x8x1, .f32⟩
  | 106 => ⟨S128x128x4x8x64, .f32⟩
  | 107 => ⟨S128x128x4x8x64, .f32⟩
  | 108 => ⟨S128x128x4x8x64, .f32⟩
  | 109 => ⟨S16384x2048, .f32⟩
  | 110 => ⟨S16384x2048, .f32⟩
  | 111 => ⟨S128x128x4x8x64, .f32⟩
  | 112 => ⟨S128x128x4x8x64, .f32⟩
  | 113 => ⟨S128x128x4x8x64, .f32⟩
  | 114 => ⟨S128x4x8x64x128, .f32⟩
  | 115 => ⟨S128x4x128x128, .f32⟩
  | 116 => ⟨S128x128x4x128, .f32⟩
  | 117 => ⟨S128x4x8x64x128, .f32⟩
  | 118 => ⟨S128x4x8x64x128, .f32⟩
  | 119 => ⟨S128x4x8x128x128, .f32⟩
  | 120 => ⟨S4x8x128x128x128, .f32⟩
  | 121 => ⟨S128x4x8x64x128, .f32⟩
  | 122 => ⟨S128x128x4x8x64, .f32⟩
  | 123 => ⟨S4x8x128x128x128, .f32⟩
  | 124 => ⟨S_, .f32⟩
  | 125 => ⟨S4x128x128x128, .f32⟩
  | 126 => ⟨S4x1x128x128x128, .f32⟩
  | 127 => ⟨S_, .f32⟩
  | _ => ⟨S16384x3072, .bf16⟩

abbrev hbmTy0_1 (i : Nat) : BufTy := match i % 128 with
  | 0 => ⟨S4x128x128x128, .f32⟩
  | 1 => ⟨S4x128x128x128, .f32⟩
  | 2 => ⟨S128x128x4x128, .f32⟩
  | 3 => ⟨S4x128x128x128, .f32⟩
  | 4 => ⟨S128x128x4x128, .f32⟩
  | 5 => ⟨S128x128x4x128, .f32⟩
  | 6 => ⟨S4x8x64x128x128, .f32⟩
  | 7 => ⟨S4x8x64x128x129, .f32⟩
  | 8 => ⟨S129x4x8x64x128, .f32⟩
  | 9 => ⟨S1x4x8x64x128, .f32⟩
  | 10 => ⟨S128x4x8x64x128, .f32⟩
  | 11 => ⟨S128x4x128x128, .f32⟩
  | 12 => ⟨S128x128x4x128, .f32⟩
  | 13 => ⟨S128x128x4x128, .f32⟩
  | 14 => ⟨S128x4x8x64x128, .f32⟩
  | 15 => ⟨S128x128x4x8x64, .f32⟩
  | 16 => ⟨S128x128x4x8x64, .f32⟩
  | 17 => ⟨S128x128x4x8x64, .f32⟩
  | 18 => ⟨S128x128x4x8x64, .f32⟩
  | 19 => ⟨S16384x512, .f32⟩
  | 20 => ⟨S16384x512, .f32⟩
  | 21 => ⟨S16384x32x64, .f32⟩
  | 22 => ⟨S16384x32x64, .f32⟩
  | 23 => ⟨S16384x32x64, .f32⟩
  | 24 => ⟨S16384x2048, .f32⟩
  | 25 => ⟨S16384x2048, .bf16⟩
  | 26 => ⟨S16384x512, .bf16⟩
  | 27 => ⟨S16384x512, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_call0_cst : Ref sig .tc := ⟨.hbm, 22, rfl⟩
abbrev main_call0_call0_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call1_call0_cst : Ref sig .tc := ⟨.hbm, 45, rfl⟩
abbrev main_call1_call0_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_v42 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_0 : Ref sig .tc := ⟨.hbm, 61, rfl⟩
abbrev main_call2_v5 : Ref sig .tc := ⟨.hbm, 62, rfl⟩
abbrev main_v43 : Ref sig .tc := ⟨.hbm, 63, rfl⟩
abbrev main_cst_2 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_3 : Ref sig .tc := ⟨.hbm, 78, rfl⟩
abbrev main_v54 : Ref sig .tc := ⟨.hbm, 79, rfl⟩
abbrev main_call4_v0 : Ref sig .tc := ⟨.hbm, 80, rfl⟩
abbrev main_call4_c : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_c_0 : Ref sig .tc := ⟨.hbm, 86, rfl⟩
abbrev main_call4_v5 : Ref sig .tc := ⟨.hbm, 87, rfl⟩
abbrev main_v55 : Ref sig .tc := ⟨.hbm, 88, rfl⟩
abbrev main_cst_4 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_5 : Ref sig .tc := ⟨.hbm, 124, rfl⟩
abbrev main_v87 : Ref sig .tc := ⟨.hbm, 125, rfl⟩
abbrev main_v88 : Ref sig .tc := ⟨.hbm, 126, rfl⟩
abbrev main_cst_6 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩

abbrev nD : Nat := 1
abbrev τ : Topo := Topo.v7x

variable {F : FTy → Type} [FloatOps F]
-- ==== SsdIn.lean ====
abbrev S16384x1024 : Shape := ⟨2, ![16384, 1024]⟩
abbrev S1024 : Shape := ⟨1, ![1024]⟩
abbrev S16384x2048 : Shape := ⟨2, ![16384, 2048]⟩
abbrev S16384x3072 : Shape := ⟨2, ![16384, 3072]⟩
abbrev S16384x32 : Shape := ⟨2, ![16384, 32]⟩
abbrev S1024x5152 : Shape := ⟨2, ![1024, 5152]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x96 : Shape := ⟨2, ![1024, 96]⟩
abbrev S1024x128 : Shape := ⟨2, ![1024, 128]⟩
abbrev S16384x96 : Shape := ⟨2, ![16384, 96]⟩
abbrev S16384x128 : Shape := ⟨2, ![16384, 128]⟩
abbrev S1x1024 : Shape := ⟨2, ![1, 1024]⟩
abbrev S512x1024 : Shape := ⟨2, ![512, 1024]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 20
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x2048, .bf16⟩
  | .hbm, ⟨4, _⟩ => ⟨S16384x3072, .bf16⟩
  | .hbm, ⟨5, _⟩ => ⟨S16384x32, .bf16⟩
  | .hbm, ⟨6, _⟩ => ⟨S1024x5152, .bf16⟩
  | .hbm, ⟨7, _⟩ => ⟨S1024x2048, .bf16⟩
  | .hbm, ⟨8, _⟩ => ⟨S1024x3072, .bf16⟩
  | .hbm, ⟨9, _⟩ => ⟨S1024x32, .bf16⟩
  | .hbm, ⟨10, _⟩ => ⟨S_, .bf16⟩
  | .hbm, ⟨11, _⟩ => ⟨S1024x96, .bf16⟩
  | .hbm, ⟨12, _⟩ => ⟨S1024x128, .bf16⟩
  | .hbm, ⟨13, _⟩ => ⟨S_, .bf16⟩
  | .hbm, ⟨14, _⟩ => ⟨S16384x96, .bf16⟩
  | .hbm, ⟨15, _⟩ => ⟨S16384x128, .bf16⟩
  | .hbm, ⟨16, _⟩ => ⟨S1x1024, .f32⟩
  | .hbm, ⟨17, _⟩ => ⟨S16384x1024, .f32⟩
  | .hbm, ⟨18, _⟩ => ⟨S16384x1024, .bf16⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2048, .bf16⟩
  | .local _ .vmem, ⟨6, _⟩ => ⟨S512x2048, .bf16⟩
  | .local _ .vmem, ⟨7, _⟩ => ⟨S512x3072, .bf16⟩
  | .local _ .vmem, ⟨8, _⟩ => ⟨S512x3072, .bf16⟩
  | .local _ .vmem, ⟨9, _⟩ => ⟨S512x128, .bf16⟩
  | .local _ .vmem, ⟨10, _⟩ => ⟨S512x128, .bf16⟩
  | .local _ .vmem, ⟨11, _⟩ => ⟨S1024x2048, .bf16⟩
  | .local _ .vmem, ⟨12, _⟩ => ⟨S1024x3072, .bf16⟩
  | .local _ .vmem, ⟨13, _⟩ => ⟨S1024x128, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SsdInRefIdeal.lean ====
abbrev S16384x1024 : Shape := ⟨2, ![16384, 1024]⟩
abbrev S1024 : Shape := ⟨1, ![1024]⟩
abbrev S16384x2048 : Shape := ⟨2, ![16384, 2048]⟩
abbrev S16384x3072 : Shape := ⟨2, ![16384, 3072]⟩
abbrev S16384x32 : Shape := ⟨2, ![16384, 32]⟩
abbrev S1024x5152 : Shape := ⟨2, ![1024, 5152]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x2048, .bf16⟩
  | .hbm, ⟨4, _⟩ => ⟨S16384x3072, .bf16⟩
  | .hbm, ⟨5, _⟩ => ⟨S16384x32, .bf16⟩
  | .hbm, ⟨6, _⟩ => ⟨S1024x5152, .bf16⟩
  | .hbm, ⟨7, _⟩ => ⟨S1024x5152, .f32⟩
  | .hbm, ⟨8, _⟩ => ⟨S1024x2048, .f32⟩
  | .hbm, ⟨9, _⟩ => ⟨S1024x3072, .f32⟩
  | .hbm, ⟨10, _⟩ => ⟨S1024x32, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x2048, .f32⟩
  | .hbm, ⟨32, _⟩ => ⟨S16384x3072, .f32⟩
  | .hbm, ⟨33, _⟩ => ⟨S16384x32, .f32⟩
  | .hbm, ⟨34, _⟩ => ⟨S16384x2048, .f32⟩
  | .hbm, ⟨35, _⟩ => ⟨S16384x3072, .f32⟩
  | .hbm, ⟨36, _⟩ => ⟨S16384x32, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x1024, .bf16⟩
  | .hbm, ⟨85, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== ScIn.lean ====
abbrev S16384x1024 : Shape := ⟨2, ![16384, 1024]⟩
abbrev S1024 : Shape := ⟨1, ![1024]⟩
abbrev S16384x3072 : Shape := ⟨2, ![16384, 3072]⟩
abbrev S1024x3072 : Shape := ⟨2, ![1024, 3072]⟩
abbrev S1x1024 : Shape := ⟨2, ![1, 1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x3072, .bf16⟩
  | .hbm, ⟨4, _⟩ => ⟨S1024x3072, .bf16⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x3072, .bf16⟩
  | .local _ .vmem, ⟨6, _⟩ => ⟨S512x3072, .bf16⟩
  | .local _ .vmem, ⟨7, _⟩ => ⟨S1024x3072, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ScInRefIdeal.lean ====
abbrev S16384x1024 : Shape := ⟨2, ![16384, 1024]⟩
abbrev S1024 : Shape := ⟨1, ![1024]⟩
abbrev S16384x3072 : Shape := ⟨2, ![16384, 3072]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x3072, .bf16⟩
  | .hbm, ⟨4, _⟩ => ⟨S1024x3072, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x3072, .f32⟩
  | .hbm, ⟨26, _⟩ => ⟨S16384x3072, .f32⟩
  | .hbm, ⟨27, _⟩ => ⟨S16384x3072, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S16384x1024, .bf16⟩
  | .hbm, ⟨72, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== ZGrad.lean ====
abbrev S16384x1024 : Shape := ⟨2, ![16384, 1024]⟩
abbrev S16384x2048 : Shape := ⟨2, ![16384, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ZGradIdeal.lean ====
abbrev S16384x1024 : Shape := ⟨2, ![16384, 1024]⟩
abbrev S16384x2048 : Shape := ⟨2, ![16384, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ZGradRefIdeal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S_, .f32⟩
  | .hbm, ⟨3, _⟩ => ⟨S1024x2048, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S2048x1024, .f32⟩
  | .hbm, ⟨8, _⟩ => ⟨S1024x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XbcGrad.lean ====
abbrev S16384x1024 : Shape := ⟨2, ![16384, 1024]⟩
abbrev S16384x3072 : Shape := ⟨2, ![16384, 3072]⟩
abbrev S1024x3072 : Shape := ⟨2, ![1024, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== XbcGradIdeal.lean ====
abbrev S16384x1024 : Shape := ⟨2, ![16384, 1024]⟩
abbrev S16384x3072 : Shape := ⟨2, ![16384, 3072]⟩
abbrev S1024x3072 : Shape := ⟨2, ![1024, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== XbcGradRefIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S_, .f32⟩
  | .hbm, ⟨3, _⟩ => ⟨S1024x3072, .f32⟩
  | .hbm, ⟨4, _⟩ => ⟨S16384x1024, .f32⟩
  | .hbm, ⟨5, _⟩ => ⟨S16384x3072, .f32⟩
  | .hbm, ⟨6, _⟩ => ⟨S16384x3072, .f32⟩
  | .hbm, ⟨7, _⟩ => ⟨S3072x1024, .f32⟩
  | .hbm, ⟨8, _⟩ => ⟨S1024x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsdFirst.lean ====
abbrev S16384x1024 : Shape := ⟨2, ![16384, 1024]⟩
abbrev S1024 : Shape := ⟨1, ![1024]⟩
abbrev S1024x5152 : Shape := ⟨2, ![1024, 5152]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x96 : Shape := ⟨2, ![1024, 96]⟩
abbrev S1024x128 : Shape := ⟨2, ![1024, 128]⟩
abbrev S1x1024 : Shape := ⟨2, ![1, 1024]⟩
abbrev S16384x2048 : Shape := ⟨2, ![16384, 2048]⟩
abbrev S16384x3072 : Shape := ⟨2, ![16384, 3072]⟩
abbrev S16384x128 : Shape := ⟨2, ![16384, 128]⟩
abbrev S512x1024 : Shape := ⟨2, ![512, 1024]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5152, .bf16⟩
  | .hbm, ⟨3, _⟩ => ⟨S1024x2048, .bf16⟩
  | .hbm, ⟨4, _⟩ => ⟨S1024x3072, .bf16⟩
  | .hbm, ⟨5, _⟩ => ⟨S1024x32, .bf16⟩
  | .hbm, ⟨6, _⟩ => ⟨S_, .bf16⟩
  | .hbm, ⟨7, _⟩ => ⟨S1024x96, .bf16⟩
  | .hbm, ⟨8, _⟩ => ⟨S1024x128, .bf16⟩
  | .hbm, ⟨9, _⟩ => ⟨S1x1024, .f32⟩
  | .hbm, ⟨10, _⟩ => ⟨S16384x2048, .bf16⟩
  | .hbm, ⟨11, _⟩ => ⟨S16384x3072, .bf16⟩
  | .hbm, ⟨12, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x3072, .bf16⟩
  | .local _ .vmem, ⟨5, _⟩ => ⟨S1024x128, .bf16⟩
  | .local _ .vmem, ⟨6, _⟩ => ⟨S512x2048, .bf16⟩
  | .local _ .vmem, ⟨7, _⟩ => ⟨S512x2048, .bf16⟩
  | .local _ .vmem, ⟨8, _⟩ => ⟨S512x3072, .bf16⟩
  | .local _ .vmem, ⟨9, _⟩ => ⟨S512x3072, .bf16⟩
  | .local _ .vmem, ⟨10, _⟩ => ⟨S512x128, .f32⟩
  | .local _ .vmem, ⟨11, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SsdFirstRefIdeal.lean ====
abbrev S16384x1024 : Shape := ⟨2, ![16384, 1024]⟩
abbrev S1024 : Shape := ⟨1, ![1024]⟩
abbrev S1024x5152 : Shape := ⟨2, ![1024, 5152]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5152 : Shape := ⟨2, ![16384, 5152]⟩
abbrev S16384x2048 : Shape := ⟨2, ![16384, 2048]⟩
abbrev S16384x3072 : Shape := ⟨2, ![16384, 3072]⟩
abbrev S16384x32 : Shape := ⟨2, ![16384, 32]⟩
abbrev S16384x96 : Shape := ⟨2, ![16384, 96]⟩
abbrev S16384x128 : Shape := ⟨2, ![16384, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5152, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x5152, .f32⟩
  | .hbm, ⟨20, _⟩ => ⟨S16384x5152, .f32⟩
  | .hbm, ⟨21, _⟩ => ⟨S16384x2048, .f32⟩
  | .hbm, ⟨22, _⟩ => ⟨S16384x3072, .f32⟩
  | .hbm, ⟨23, _⟩ => ⟨S16384x32, .f32⟩
  | .hbm, ⟨24, _⟩ => ⟨S16384x2048, .bf16⟩
  | .hbm, ⟨25, _⟩ => ⟨S16384x3072, .bf16⟩
  | .hbm, ⟨26, _⟩ => ⟨S_, .f32⟩
  | .hbm, ⟨27, _⟩ => ⟨S16384x96, .f32⟩
  | .hbm, ⟨28, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== ScFirst.lean ====
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .bf16⟩
  | .hbm, ⟨3, _⟩ => ⟨S1x1024, .f32⟩
  | .hbm, ⟨4, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ScFirstRefIdeal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x3072, .f32⟩
  | .hbm, ⟨20, _⟩ => ⟨S16384x3072, .f32⟩
  | .hbm, ⟨21, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SsdLast.lean ====
abbrev S16384x1024 : Shape := ⟨2, ![16384, 1024]⟩
abbrev S16384x2048 : Shape := ⟨2, ![16384, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S2048x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsdLastIdeal.lean ====
abbrev S16384x1024 : Shape := ⟨2, ![16384, 1024]⟩
abbrev S16384x2048 : Shape := ⟨2, ![16384, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S2048x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsdLastRefIdeal.lean ====
abbrev S16384x1024 : Shape := ⟨2, ![16384, 1024]⟩
abbrev S16384x2048 : Shape := ⟨2, ![16384, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S2048x1024, .bf16⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ScLast.lean ====
abbrev S16384x1024 : Shape := ⟨2, ![16384, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ScLastRefIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DtGrad.lean ====
abbrev S16384x1024 : Shape := ⟨2, ![16384, 1024]⟩
abbrev S16384x128 : Shape := ⟨2, ![16384, 128]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DtGradRefIdeal.lean ====
abbrev S16384x1024 : Shape := ⟨2, ![16384, 1024]⟩
abbrev S16384x128 : Shape := ⟨2, ![16384, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S_, .f32⟩
  | .hbm, ⟨3, _⟩ => ⟨S1024x128, .f32⟩
  | .hbm, ⟨4, _⟩ => ⟨S16384x1024, .f32⟩
  | .hbm, ⟨5, _⟩ => ⟨S16384x128, .f32⟩
  | .hbm, ⟨6, _⟩ => ⟨S16384x128, .f32⟩
  | .hbm, ⟨7, _⟩ => ⟨S128x1024, .f32⟩
  | .hbm, ⟨8, _⟩ => ⟨S1024x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ScWGrad.lean ====
abbrev S16384x1024 : Shape := ⟨2, ![16384, 1024]⟩
abbrev S16384x3072 : Shape := ⟨2, ![16384, 3072]⟩
abbrev S2x4x1x1024x384 : Shape := ⟨5, ![2, 4, 1, 1024, 384]⟩
abbrev S1024x1024 : Shape := ⟨2, ![1024, 1024]⟩
abbrev S1024x3072 : Shape := ⟨2, ![1024, 3072]⟩
abbrev S2x4x1024x384 : Shape := ⟨4, ![2, 4, 1024, 384]⟩
abbrev S_ : Shape := ⟨0, ![]⟩
abbrev S1024x384 : Shape := ⟨2, ![1024, 384]⟩
abbrev S1x1x1024x384 : Shape := ⟨4, ![1, 1, 1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S2x4x1x1024x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .f32⟩
  | .local _ .vmem, ⟨5, _⟩ => ⟨S2x4x1024x384, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ScWGradRefIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩
abbrev S1024x4x2x384 : Shape := ⟨4, ![1024, 4, 2, 384]⟩
abbrev S2x4x1024x384 : Shape := ⟨4, ![2, 4, 1024, 384]⟩
abbrev S2x4x1x1024x384 : Shape := ⟨5, ![2, 4, 1, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S_, .f32⟩
  | .hbm, ⟨3, _⟩ => ⟨S1024x3072, .f32⟩
  | .hbm, ⟨4, _⟩ => ⟨S16384x1024, .f32⟩
  | .hbm, ⟨5, _⟩ => ⟨S16384x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S1024x4x2x384, .f32⟩
  | .hbm, ⟨10, _⟩ => ⟨S2x4x1024x384, .f32⟩
  | .hbm, ⟨11, _⟩ => ⟨S2x4x1x1024x384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateFwd.lean ====
abbrev S16384x2048 : Shape := ⟨2, ![16384, 2048]⟩
abbrev S16384x3072 : Shape := ⟨2, ![16384, 3072]⟩
abbrev S2048 : Shape := ⟨1, ![2048]⟩
abbrev S1x2048 : Shape := ⟨2, ![1, 2048]⟩
abbrev S512x2048 : Shape := ⟨2, ![512, 2048]⟩
abbrev S256x512 : Shape := ⟨2, ![256, 512]⟩
abbrev S1x512 : Shape := ⟨2, ![1, 512]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x3072, .bf16⟩
  | .hbm, ⟨2, _⟩ => ⟨S16384x2048, .bf16⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  v1
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v43 : Index := Scalar.indexCast v2
  let c512 : Index := 512#32
  ![v43.toNat, 512]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v83 : Index := Scalar.indexCast v2
  let c1024 : Index := 1024#32
  ![v83.toNat, 1024]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v123 : Index := Scalar.indexCast v2
  let c1536 : Index := 1536#32
  ![v123.toNat, 1536]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdRefIdeal.lean ====
abbrev S16384x2048 : Shape := ⟨2, ![16384, 2048]⟩
abbrev S16384x3072 : Shape := ⟨2, ![16384, 3072]⟩
abbrev S2048 : Shape := ⟨1, ![2048]⟩
abbrev S1x2048 : Shape := ⟨2, ![1, 2048]⟩
abbrev S_ : Shape := ⟨0, ![]⟩
abbrev S16384x4x512 : Shape := ⟨3, ![16384, 4, 512]⟩
abbrev S16384x4 : Shape := ⟨2, ![16384, 4]⟩
abbrev S16384x4x1 : Shape := ⟨3, ![16384, 4, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x3072, .bf16⟩
  | .hbm, ⟨2, _⟩ => ⟨S16384x2048, .bf16⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .bf16⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x4x512, .f32⟩
  | .hbm, ⟨24, _⟩ => ⟨S16384x4x512, .f32⟩
  | .hbm, ⟨25, _⟩ => ⟨S_, .f32⟩
  | .hbm, ⟨26, _⟩ => ⟨S16384x4, .f32⟩
  | .hbm, ⟨27, _⟩ => ⟨S16384x4x1, .f32⟩
  | .hbm, ⟨28, _⟩ => ⟨S_, .f32⟩
  | .hbm, ⟨29, _⟩ => ⟨S16384x4x1, .f32⟩
  | .hbm, ⟨30, _⟩ => ⟨S16384x4x1, .f32⟩
  | .hbm, ⟨31, _⟩ => ⟨S_, .f32⟩
  | .hbm, ⟨32, _⟩ => ⟨S16384x4x1, .f32⟩
  | .hbm, ⟨33, _⟩ => ⟨S16384x4x1, .f32⟩
  | .hbm, ⟨34, _⟩ => ⟨S16384x4x1, .f32⟩
  | .hbm, ⟨35, _⟩ => ⟨S16384x4x512, .f32⟩
  | .hbm, ⟨36, _⟩ => ⟨S16384x4x512, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proof.Scalars.lean ====
/- The scalar facts the value proofs share: how the operations of the ideal instance act on extended reals that are
   real, the literals the programs carry, and the rule that the logistic function is the shifted hyperbolic tangent. -/
module

public import Idealize.ShloMosaic.Lib.Pointwise
public import Idealize.ShloMosaic.PureOps.Ideal.Laws

@[expose] public section

noncomputable section

namespace Cert.Scalars

open Idealize.ShloMosaic

/-- A sum of reals, taken among the extended reals. -/
theorem sum_coe {ι : Type} [Fintype ι] (f : ι → ℝ) : ∑ i, ((f i : ℝ) : EReal) = ((∑ i, f i : ℝ) : EReal) := by
  classical
  refine Finset.induction_on (Finset.univ : Finset ι) (by simp) fun a s ha ih => ?_
  rw [Finset.sum_insert ha, Finset.sum_insert ha, ih, EReal.coe_add]

/-- A quotient of reals with a divisor that is not zero. -/
theorem div_coe_coe (x : ℝ) {y : ℝ} (h : y ≠ 0) : Ideal.div (x : EReal) (y : EReal) = ((x / y : ℝ) : EReal) := by
  rw [Ideal.div_coe h, ← EReal.coe_mul]; congr 1; ring

/-- The reciprocal square root of a positive real. -/
theorem rsqrt_pos {x : ℝ} (h : 0 < x) : Ideal.rsqrt (x : EReal) = (((Real.sqrt x)⁻¹ : ℝ) : EReal) := by
  rw [Ideal.rsqrt_coe, if_neg (not_lt.2 h.le), if_neg h.ne']

/-- An extended real whose absolute value is below infinity is real. -/
theorem eq_coe_of_abs_lt {x : EReal} (h : max x (-x) < ⊤) : x = ((x.toReal : ℝ) : EReal) := by
  refine (EReal.coe_toReal ?_ ?_).symm
  · rintro rfl; simp at h
  · rintro rfl; simp at h

theorem half_lit : Ideal.ofBits .f32 0x3F000000#32 = ((1 / 2 : ℝ) : EReal) := by
  simp [Ideal.ofBits, Ideal.ieee, -EReal.coe_mul]; norm_num

theorem neg_half_lit : Ideal.ofBits .f32 0xBF000000#32 = ((-(1 / 2) : ℝ) : EReal) := by
  simp [Ideal.ofBits, Ideal.ieee, -EReal.coe_mul]; norm_num

theorem k1024_lit : Ideal.ofBits .f32 0x44800000#32 = ((1024 : ℝ) : EReal) := by
  simp [Ideal.ofBits, Ideal.ieee, -EReal.coe_mul]; norm_num

theorem inf_lit : Ideal.ofBits .f32 0x7F800000#32 = (⊤ : EReal) := by
  simp [Ideal.ofBits, Ideal.ieee]

/-- The small number under the root of the norms: the binary value the literal 1e-5 is rounded to. -/
def eps : ℝ := 10995116 / 2 ^ 40

theorem eps_pos : 0 < eps := by unfold eps; positivity

theorem eps_lit : Ideal.ofBits .f32 0x3727C5AC#32 = ((eps : ℝ) : EReal) := by
  unfold eps
  simp [Ideal.ofBits, Ideal.ieee, -EReal.coe_mul]; norm_num

/-- The logistic function. -/
def sg (t : ℝ) : ℝ := (1 + Real.exp (-t))⁻¹

theorem one_add_exp_pos (t : ℝ) : 0 < 1 + Real.exp (-t) := by positivity

/-- The logistic function written with a hyperbolic tangent, as the kernels write it. -/
theorem tanh_sg (t : ℝ) : 1 / 2 * Real.tanh (1 / 2 * t) + 1 / 2 = sg t := by
  unfold sg
  rw [Real.tanh_eq_sinh_div_cosh, Real.sinh_eq, Real.cosh_eq]
  have e : Real.exp (-t) = Real.exp (-(1 / 2 * t)) * Real.exp (-(1 / 2 * t)) := by rw [← Real.exp_add]; ring_nf
  have f : Real.exp (1 / 2 * t) * Real.exp (-(1 / 2 * t)) = 1 := by rw [← Real.exp_add]; simp
  rw [e]
  have ha := Real.exp_pos (1 / 2 * t)
  have hb := Real.exp_pos (-(1 / 2 * t))
  generalize Real.exp (1 / 2 * t) = a at *
  generalize Real.exp (-(1 / 2 * t)) = b at *
  have h1 : a + b ≠ 0 := by positivity
  have h2 : 1 + b * b ≠ 0 := by positivity
  field_simp
  linear_combination (2 * b) * f

end Cert.Scalars

end
-- ==== Proof.Finite.lean ====
/- What a finiteness precondition says: an array whose absolute values are all below infinity holds reals. -/
module

public import proofs.«01_k».proof.Proof.Scalars
public import Idealize.ShloMosaic.Lib.ReduceAll
import Idealize.ShloMosaic.Lib.Pointwise

@[expose] public section

noncomputable section

namespace Cert.Finite

open Idealize.ShloMosaic Cert.Scalars

variable {s t u : Shape} {axes : List (Fin s.rank)}

/-- An array of which "every absolute value is below infinity" holds is an array of reals. -/
theorem real_of_all [Subsingleton t.Idx] (x : FVec Ideal s .f32) (b : s.Idx → EReal) (init : u.Idx → BitVec 1)
    (hb : ∀ i, b i = ⊤) (h : s.ReducesTo axes t) (hu : 0 < u.numel) (j : t.Idx)
    (e : Host.reduce IntOp.andi (cmpf (F := Ideal) (φ := .f32) .olt (Host.absf x) b) init h hu j = 1#1) :
    ∃ y : s.Idx → ℝ, ∀ i, x i = ((y i : ℝ) : EReal) := by
  refine ⟨fun i => (x i).toReal, fun i => ?_⟩
  have h1 := Host.reduce_andi_all _ _ h hu j e i
  have h2 : max (x i) (-(x i)) < ⊤ := by
    have h3 : (FloatOps.cmpf (F := Ideal) (φ := .f32) .olt (max (x i) (-(x i)) : EReal) (b i)) = 1#1 := h1
    rw [hb i] at h3
    exact (Ideal.cmp_olt_eq_one _ _).1 h3
  exact eq_coe_of_abs_lt h2

end Cert.Finite

end
-- ==== Proof.Rows.lean ====
/- The mathematics of one row, over the reals: the scaled root-mean-square norm and its derivative, and the derivative
   of the gated feed-forward layer. Every value proof says its program's results in these terms. -/
module

public import proofs.«01_k».proof.Proof.Scalars

@[expose] public section

noncomputable section

namespace Cert.Rows

open Idealize.ShloMosaic Cert.Scalars

/-- The mean square of a row of 1024, with the small number added. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg (x k)) (by norm_num)) eps_pos

/-- The reciprocal root mean square. -/
def inv (x : Fin 1024 → ℝ) : ℝ := (Real.sqrt (ms x))⁻¹

/-- The normalized row. -/
def xh (x : Fin 1024 → ℝ) (k : Fin 1024) : ℝ := x k * inv x

/-- The normalized row times the weights of the norm. -/
def hn (x w : Fin 1024 → ℝ) (k : Fin 1024) : ℝ := xh x k * w k

/-- A row times a matrix. -/
def proj {K N : ℕ} (h : Fin K → ℝ) (W : Fin K → Fin N → ℝ) (f : Fin N) : ℝ := ∑ k, h k * W k f

/-- A row times the transpose of a matrix. -/
def projT {K N : ℕ} (h : Fin K → ℝ) (W : Fin N → Fin K → ℝ) (f : Fin N) : ℝ := ∑ k, h k * W f k

/-- The derivative of the norm along a row, applied to the cotangent `dh` of its result. -/
def dnorm (x w dh : Fin 1024 → ℝ) (k : Fin 1024) : ℝ :=
  inv x * (dh k * w k - xh x k * ((∑ j, dh j * w j * xh x j) / 1024))

theorem inv_sq (x : Fin 1024 → ℝ) : inv x * inv x = (ms x)⁻¹ := by
  unfold inv
  rw [← mul_inv, Real.mul_self_sqrt (ms_pos x).le]

/-- The same derivative as the chain rule writes it: through the row's own factor, and twice through the mean square. -/
theorem dnorm_eq (x w dh : Fin 1024 → ℝ) (k : Fin 1024) :
    dnorm x w dh k = dh k * w k * inv x
      + 2 * (x k * ((∑ j, x j * (dh j * w j)) * (-(1 / 2) * (inv x / ms x)) / 1024)) := by
  have e : ∑ j, dh j * w j * xh x j = (∑ j, x j * (dh j * w j)) * inv x := by
    rw [Finset.sum_mul]
    exact Finset.sum_congr rfl fun j _ => by unfold xh; ring
  unfold dnorm
  rw [e, xh, div_eq_mul_inv (inv x) (ms x), ← inv_sq]
  ring

/-- The cotangent of the gate of the gated layer, from that of the product `a = silu g * u`. -/
def dgate (a g u : ℝ) : ℝ := a * u * (sg g * (1 + g * (1 - sg g)))

/-- The cotangent of the layer's other factor. -/
def dup (a g : ℝ) : ℝ := a * (g * sg g)

/-- The arguments of the feed-forward layer that every row shares. -/
structure Ffn where
  w : Fin 1024 → ℝ
  wg : Fin 1024 → Fin 2816 → ℝ
  wu : Fin 1024 → Fin 2816 → ℝ
  wd : Fin 2816 → Fin 1024 → ℝ

namespace Ffn

variable (P : Ffn)

/-- The cotangent of the layer's inner product, from the cotangent `d` of the result, which the step halves. -/
def da (d : Fin 1024 → ℝ) : Fin 2816 → ℝ := projT (fun k => 1 / 2 * d k) P.wd
def dg (d : Fin 1024 → ℝ) (g u : Fin 2816 → ℝ) (f : Fin 2816) : ℝ := dgate (P.da d f) (g f) (u f)
def du (d : Fin 1024 → ℝ) (g : Fin 2816 → ℝ) (f : Fin 2816) : ℝ := dup (P.da d f) (g f)
def dh (d : Fin 1024 → ℝ) (g u : Fin 2816 → ℝ) (k : Fin 1024) : ℝ :=
  projT (P.dg d g u) P.wg k + projT (P.du d g) P.wu k

/-- The gate and the other factor of a row. -/
def g (x : Fin 1024 → ℝ) : Fin 2816 → ℝ := proj (hn x P.w) P.wg
def u (x : Fin 1024 → ℝ) : Fin 2816 → ℝ := proj (hn x P.w) P.wu

/-- The cotangent of the row: through the residual path, and through the norm and the layer. -/
def dx (x d : Fin 1024 → ℝ) (g u : Fin 2816 → ℝ) (k : Fin 1024) : ℝ := d k + dnorm x P.w (P.dh d g u) k

/-- One row's part of the cotangent of the norm's weights. -/
def dw (x d : Fin 1024 → ℝ) (g u : Fin 2816 → ℝ) (k : Fin 1024) : ℝ := P.dh d g u k * xh x k

end Ffn

end Cert.Rows

end
-- ==== Proof.FfnPay.lean ====
/- What one grid point of the feed-forward layer's backward pass computes from its blocks, when the blocks hold reals:
   every value the body stores, said in the terms of Rows.lean. -/
module

public import proofs.«01_k».proof.Proof.Rows
public import proofs.«01_k».proof.Proof.Gen.FfnBwdIdeal.Skeleton

@[expose] public section

set_option maxRecDepth 16384

noncomputable section

namespace Cert.FfnPay

open Cert.FfnBwdIdeal Cert.FfnBwdIdeal.Gen Idealize.ShloMosaic Cert.Scalars Cert.Rows

/-- The blocks of a grid point hold these reals: rows of the layer's input and of the result's cotangent, the saved
    gate and factor, and the arguments every row shares. -/
structure Blocks (x0 x1 : Vec Ideal S256x1024 .f32) (x2 x3 : Vec Ideal S256x2816 .bf16) (x4 : Vec Ideal S1x1024 .f32)
    (x5 x6 : Vec Ideal S1x1024x2816 .bf16) (x7 : Vec Ideal S1x2816x1024 .bf16)
    (P : Ffn) (x d : Fin 256 → Fin 1024 → ℝ) (g u : Fin 256 → Fin 2816 → ℝ) : Prop where
  h0 : ∀ r k, x0 (ix2 r k) = ((x r k : ℝ) : EReal)
  h1 : ∀ r k, x1 (ix2 r k) = ((d r k : ℝ) : EReal)
  h2 : ∀ r f, x2 (ix2 r f) = ((g r f : ℝ) : EReal)
  h3 : ∀ r f, x3 (ix2 r f) = ((u r f : ℝ) : EReal)
  h4 : ∀ k, x4 (ix2 0 k) = ((P.w k : ℝ) : EReal)
  h5 : ∀ k f, x5 (ix3 0 k f) = ((P.wg k f : ℝ) : EReal)
  h6 : ∀ k f, x6 (ix3 0 k f) = ((P.wu k f : ℝ) : EReal)
  h7 : ∀ f k, x7 (ix3 0 f k) = ((P.wd f k : ℝ) : EReal)

variable {x0 x1 : Vec Ideal S256x1024 .f32} {x2 x3 : Vec Ideal S256x2816 .bf16} {x4 : Vec Ideal S1x1024 .f32}
  {x5 x6 : Vec Ideal S1x1024x2816 .bf16} {x7 : Vec Ideal S1x2816x1024 .bf16}
  {P : Ffn} {x d : Fin 256 → Fin 1024 → ℝ} {g u : Fin 256 → Fin 2816 → ℝ}
  (B : Blocks x0 x1 x2 x3 x4 x5 x6 x7 P x d g u)
include B

theorem inv_apply (r : Fin 256) : k0_pay4 (F := Ideal) x0 (ix2 r 0) = ((inv (x r) : ℝ) : EReal) := by
  pointwise [k0_pay4]
  simp only [B.h0, ← EReal.coe_mul, sum_coe, k1024_lit, eps_lit]
  rw [div_coe_coe _ (by norm_num), ← EReal.coe_add]
  exact rsqrt_pos (ms_pos (x r))

theorem xh_apply (r : Fin 256) (k : Fin 1024) : k0_pay5 (F := Ideal) x0 (ix2 r k) = ((xh (x r) k : ℝ) : EReal) := by
  pointwise [k0_pay5]
  rw [inv_apply B, B.h0, ← EReal.coe_mul]
  rfl

theorem w_apply (k : Fin 1024) : k0_pay3 (F := Ideal) x4 (ix2 0 k) = ((P.w k : ℝ) : EReal) := by
  pointwise [k0_pay3]
  exact B.h4 k

theorem hn_apply (r : Fin 256) (k : Fin 1024) :
    k0_pay6 (F := Ideal) x4 x0 (ix2 r k) = ((hn (x r) P.w k : ℝ) : EReal) := by
  pointwise [k0_pay6]
  rw [xh_apply B, w_apply B, ← EReal.coe_mul]
  rfl

/-- The rows of the layer's normalized input, as stored. -/
theorem h_apply (r : Fin 256) (k : Fin 1024) :
    k0_pay18 (F := Ideal) (k0_pay6 x4 x0) (ix2 r k) = ((hn (x r) P.w k : ℝ) : EReal) := by
  pointwise [k0_pay18]
  exact hn_apply B r k

/-- Half the cotangent of the result, as stored. -/
theorem dy_apply (r : Fin 256) (k : Fin 1024) : k0_pay7 (F := Ideal) x1 (ix2 r k) = ((1 / 2 * d r k : ℝ) : EReal) := by
  pointwise [k0_pay7]
  rw [half_lit, B.h1, ← EReal.coe_mul]

theorem da_apply (r : Fin 256) (f : Fin 2816) : k0_pay8 (F := Ideal) x1 x7 (ix2 r f) = ((P.da (d r) f : ℝ) : EReal) := by
  pointwise [k0_pay8]
  simp only [dy_apply B, B.h7, ← EReal.coe_mul, sum_coe]
  rfl

theorem g_apply (r : Fin 256) (f : Fin 2816) : k0_pay9 (F := Ideal) x2 (ix2 r f) = ((g r f : ℝ) : EReal) := by
  pointwise [k0_pay9]
  exact B.h2 r f

theorem s_apply (r : Fin 256) (f : Fin 2816) : k0_pay10 (F := Ideal) x2 (ix2 r f) = ((sg (g r f) : ℝ) : EReal) := by
  pointwise [k0_pay10]
  rw [half_lit, g_apply B, ← EReal.coe_mul, Ideal.tanh_coe, ← EReal.coe_mul, ← EReal.coe_add, tanh_sg]

theorem dau_apply (r : Fin 256) (f : Fin 2816) :
    k0_pay11 (F := Ideal) x1 x7 x3 (ix2 r f) = ((P.da (d r) f * u r f : ℝ) : EReal) := by
  pointwise [k0_pay11]
  rw [da_apply B, B.h3, ← EReal.coe_mul]

omit B in
theorem one_apply (r : Fin 256) (f : Fin 2816) : k0_pay12 (F := Ideal) (ix2 r f) = ((1 : ℝ) : EReal) := by
  pointwise [k0_pay12]
  simp

/-- The cotangent of the gate, as stored. -/
theorem dg_apply (r : Fin 256) (f : Fin 2816) :
    k0_pay13 (F := Ideal) (k0_pay9 x2) (k0_pay10 x2) (k0_pay11 x1 x7 x3) k0_pay12 (ix2 r f)
      = ((P.dg (d r) (g r) (u r) f : ℝ) : EReal) := by
  pointwise [k0_pay13]
  rw [g_apply B, s_apply B, dau_apply B, one_apply, ← EReal.coe_one]
  simp only [← EReal.coe_mul, ← EReal.coe_add, ← EReal.coe_sub]
  rfl

/-- The cotangent of the other factor, as stored. -/
theorem du_apply (r : Fin 256) (f : Fin 2816) :
    k0_pay14 (F := Ideal) (k0_pay8 x1 x7) (k0_pay9 x2) (k0_pay10 x2) (ix2 r f) = ((P.du (d r) (g r) f : ℝ) : EReal) := by
  pointwise [k0_pay14]
  rw [da_apply B, g_apply B, s_apply B]
  simp only [← EReal.coe_mul]
  rfl

theorem dh_apply (r : Fin 256) (k : Fin 1024) :
    k0_pay15 (F := Ideal) (k0_pay8 x1 x7) (k0_pay9 x2) (k0_pay10 x2) (k0_pay11 x1 x7 x3) k0_pay12 x5 x6 (ix2 r k)
      = ((P.dh (d r) (g r) (u r) k : ℝ) : EReal) := by
  pointwise [k0_pay15]
  simp only [dg_apply B, du_apply B, B.h5, B.h6, ← EReal.coe_mul, sum_coe, ← EReal.coe_add]
  rfl

/-- One block's part of the cotangent of the norm's weights. -/
theorem dw_apply (k : Fin 1024) :
    k0_pay16 (F := Ideal) (k0_pay5 x0) (k0_pay8 x1 x7) (k0_pay9 x2) (k0_pay10 x2) (k0_pay11 x1 x7 x3) k0_pay12 x5 x6 (ix2 0 k)
      = ((∑ r, P.dw (x r) (d r) (g r) (u r) k : ℝ) : EReal) := by
  pointwise [k0_pay16]
  simp only [dh_apply B, xh_apply B, ← EReal.coe_mul, sum_coe]
  rfl

/-- The cotangent of the layer's input, as stored. -/
theorem dx_apply (r : Fin 256) (k : Fin 1024) :
    k0_pay17 (F := Ideal) (k0_pay3 x4) (k0_pay4 x0) (k0_pay5 x0) x1 (k0_pay8 x1 x7) (k0_pay9 x2) (k0_pay10 x2)
        (k0_pay11 x1 x7 x3) k0_pay12 x5 x6 (ix2 r k)
      = ((P.dx (x r) (d r) (g r) (u r) k : ℝ) : EReal) := by
  pointwise [k0_pay17]
  simp only [dh_apply B, xh_apply B, w_apply B, inv_apply B, B.h1, ← EReal.coe_mul, sum_coe, k1024_lit]
  rw [div_coe_coe _ (by norm_num)]
  simp only [← EReal.coe_mul, ← EReal.coe_sub, ← EReal.coe_add]
  rfl

end Cert.FfnPay

end
-- ==== Proof.FfnBlocks.lean ====
/- The arrays the feed-forward layer's backward pass leaves, as functions of its arguments: what the region finds in
   each window, and each output array put together from the blocks of the points. -/
module

public import proofs.«01_k».proof.Proof.FfnPay
public import proofs.«01_k».proof.Proof.Gen.FfnBwdIdeal.Value
import Idealize.ShloMosaic.Lib.Pipeline.ValueKit

@[expose] public section

set_option maxRecDepth 16384

noncomputable section

namespace Cert.FfnBlocks

open Cert.FfnBwdIdeal Cert.FfnBwdIdeal.Gen Idealize.ShloMosaic Idealize.ShloMosaic.TcCoe Idealize.SL.Sem Cert.Scalars Cert.Rows

/-- The arguments of the program hold these reals. -/
structure Args (m : (ℓ : Loc nD τ sig) → Buf (Elt Ideal) ℓ) (c : Dev nD) (P : Ffn) (x d : Fin 16384 → Fin 1024 → ℝ) : Prop where
  h0 : ∀ r k, m ((c : Thread nD τ).loc main_arg0) (ix2 r k) = ((x r k : ℝ) : EReal)
  h1 : ∀ r k, m ((c : Thread nD τ).loc main_arg1) (ix2 r k) = ((d r k : ℝ) : EReal)
  h2 : ∀ k, m ((c : Thread nD τ).loc main_arg2) (ix1 k) = ((P.w k : ℝ) : EReal)
  h3 : ∀ k f, m ((c : Thread nD τ).loc main_arg3) (ix2 k f) = ((P.wg k f : ℝ) : EReal)
  h4 : ∀ k f, m ((c : Thread nD τ).loc main_arg4) (ix2 k f) = ((P.wu k f : ℝ) : EReal)
  h5 : ∀ f k, m ((c : Thread nD τ).loc main_arg5) (ix2 f k) = ((P.wd f k : ℝ) : EReal)

variable {m : (ℓ : Loc nD τ sig) → Buf (Elt Ideal) ℓ} {c : Dev nD} {P : Ffn} {x d : Fin 16384 → Fin 1024 → ℝ}
  (A : Args m c P x d)

/-- The rows of a point's block. -/
def row (t : Fin cfg0.N) (r : Fin 256) : Fin 16384 :=
  ⟨t.val * 256 + r.val, by have h : t.val < 64 := t.isLt; omega⟩

include A

omit A in
theorem inv_host (r : Fin 16384) :
    Ideal.rsqrt (Ideal.div ((∑ k, x r k * x r k : ℝ) : EReal) ((1024 : ℝ) : EReal) + ((eps : ℝ) : EReal))
      = ((inv (x r) : ℝ) : EReal) := by
  rw [div_coe_coe _ (by norm_num), ← EReal.coe_add]
  exact rsqrt_pos (ms_pos (x r))

/-- The gate and the other factor, on the host. -/
theorem g_entry (r : Fin 16384) (f : Fin 2816) : V m c main_v15 (ix2 r f) = ((P.g (x r) f : ℝ) : EReal) := by
  entry_read
  pointwise
  simp only [A.h0, A.h2, A.h3, ← EReal.coe_mul, sum_coe, k1024_lit, eps_lit, inv_host]
  rfl

theorem u_entry (r : Fin 16384) (f : Fin 2816) : V m c main_v18 (ix2 r f) = ((P.u (x r) f : ℝ) : EReal) := by
  entry_read
  pointwise
  simp only [A.h0, A.h2, A.h4, ← EReal.coe_mul, sum_coe, k1024_lit, eps_lit, inv_host]
  rfl

theorem w_entry (k : Fin 1024) : V m c main_v19 (ix2 0 k) = ((P.w k : ℝ) : EReal) := by
  entry_read
  pointwise
  exact A.h2 k

theorem wg_entry (k : Fin 1024) (f : Fin 2816) : V m c main_v20 (ix3 0 k f) = ((P.wg k f : ℝ) : EReal) := by
  entry_read
  pointwise
  exact A.h3 k f

theorem wu_entry (k : Fin 1024) (f : Fin 2816) : V m c main_v21 (ix3 0 k f) = ((P.wu k f : ℝ) : EReal) := by
  entry_read
  pointwise
  exact A.h4 k f

theorem wd_entry (f : Fin 2816) (k : Fin 1024) : V m c main_v22 (ix3 0 f k) = ((P.wd f k : ℝ) : EReal) := by
  entry_read
  pointwise
  exact A.h5 f k

omit A in
/-- Which block of its array each window of a point is. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0, 0]
    ∧ win0_7.index t = ![0, 0, 0] ∧ win0_8.index t = ![t.val, 0] ∧ win0_9.index t = ![t.val, 0]
    ∧ win0_10.index t = ![t.val, 0] ∧ win0_11.index t = ![t.val, 0] ∧ win0_12.index t = ![t.val, 0]
    ∧ win0_13.index t = ![0, 0] :=
  (by decide +kernel : ∀ t : Fin grid0.N, _)

theorem block0 (t : Fin cfg0.N) (r : Fin 256) (k : Fin 1024) :
    iblk m c 0 t (ix2 r k) = ((x (row t r) k : ℝ) : EReal) := by
  refine Eq.trans ?_ (A.h0 (row t r) k)
  blk_simp [iblk, idx t, row, V]
  blk_ext [idx t, row]

theorem block1 (t : Fin cfg0.N) (r : Fin 256) (k : Fin 1024) :
    iblk m c 1 t (ix2 r k) = ((d (row t r) k : ℝ) : EReal) := by
  refine Eq.trans ?_ (A.h1 (row t r) k)
  blk_simp [iblk, idx t, row, V]
  blk_ext [idx t, row]

theorem block2 (t : Fin cfg0.N) (r : Fin 256) (f : Fin 2816) :
    iblk m c 2 t (ix2 r f) = ((P.g (x (row t r)) f : ℝ) : EReal) := by
  refine Eq.trans ?_ (g_entry A (row t r) f)
  blk_simp [iblk, idx t, row]
  blk_ext [idx t, row]

theorem block3 (t : Fin cfg0.N) (r : Fin 256) (f : Fin 2816) :
    iblk m c 3 t (ix2 r f) = ((P.u (x (row t r)) f : ℝ) : EReal) := by
  refine Eq.trans ?_ (u_entry A (row t r) f)
  blk_simp [iblk, idx t, row]
  blk_ext [idx t, row]

theorem block4 (t : Fin cfg0.N) (k : Fin 1024) :
    iblk m c 4 t (ix2 0 k) = ((P.w k : ℝ) : EReal) := by
  refine Eq.trans ?_ (w_entry A k)
  blk_simp [iblk, idx t, row]
  blk_ext [idx t, row]

theorem block5 (t : Fin cfg0.N) (k : Fin 1024) (f : Fin 2816) :
    iblk m c 5 t (ix3 0 k f) = ((P.wg k f : ℝ) : EReal) := by
  refine Eq.trans ?_ (wg_entry A k f)
  blk_simp [iblk, idx t, row]
  blk_ext [idx t, row]

theorem block6 (t : Fin cfg0.N) (k : Fin 1024) (f : Fin 2816) :
    iblk m c 6 t (ix3 0 k f) = ((P.wu k f : ℝ) : EReal) := by
  refine Eq.trans ?_ (wu_entry A k f)
  blk_simp [iblk, idx t, row]
  blk_ext [idx t, row]

theorem block7 (t : Fin cfg0.N) (f : Fin 2816) (k : Fin 1024) :
    iblk m c 7 t (ix3 0 f k) = ((P.wd f k : ℝ) : EReal) := by
  refine Eq.trans ?_ (wd_entry A f k)
  blk_simp [iblk, idx t, row]
  blk_ext [idx t, row]

/-- A point's blocks hold the rows of the arguments. -/
theorem blocks (t : Fin cfg0.N) : FfnPay.Blocks (iblk m c 0 t) (iblk m c 1 t) (iblk m c 2 t) (iblk m c 3 t)
    (iblk m c 4 t) (iblk m c 5 t) (iblk m c 6 t) (iblk m c 7 t) P (fun r => x (row t r)) (fun r => d (row t r))
    (fun r => P.g (x (row t r))) (fun r => P.u (x (row t r))) :=
  ⟨block0 A t, block1 A t, block2 A t, block3 A t, block4 A t, block5 A t, block6 A t, block7 A t⟩

theorem out8 : (dats m 0 c).arrAt 8 cfg0.N = fun i => ((P.dx (x (i 0)) (d (i 0)) (P.g (x (i 0))) (P.u (x (i 0))) (i 1) : ℝ) : EReal) := by
  refine (dats m 0 c).arrAt_eq_of_covers 8 _ (by decide +kernel) fun t hf y => ?_
  have e : (win0_8.blk t).view.emb y = ix2 (row t (y 0)) (y 1) := by
    blk_ext [idx t, row]
  blk_simp
  rw [after0_8, e]
  by_cases h : t.val % 64 = 0
  · rw [outsAt0_A m c t h]
    frame_out
    rw [eq_ix2 y]
    exact FfnPay.dx_apply (blocks A t) (y 0) (y 1)
  · rw [outsAt0_B m c t h]
    frame_out
    rw [eq_ix2 y]
    exact FfnPay.dx_apply (blocks A t) (y 0) (y 1)

theorem out9 : (dats m 0 c).arrAt 9 cfg0.N = fun i => ((hn (x (i 0)) P.w (i 1) : ℝ) : EReal) := by
  refine (dats m 0 c).arrAt_eq_of_covers 9 _ (by decide +kernel) fun t hf y => ?_
  have e : (win0_9.blk t).view.emb y = ix2 (row t (y 0)) (y 1) := by
    blk_ext [idx t, row]
  blk_simp
  rw [after0_9, e]
  by_cases h : t.val % 64 = 0
  · rw [outsAt0_A m c t h]
    frame_out
    rw [eq_ix2 y]
    exact FfnPay.h_apply (blocks A t) (y 0) (y 1)
  · rw [outsAt0_B m c t h]
    frame_out
    rw [eq_ix2 y]
    exact FfnPay.h_apply (blocks A t) (y 0) (y 1)

theorem out10 : (dats m 0 c).arrAt 10 cfg0.N = fun i => ((1 / 2 * d (i 0) (i 1) : ℝ) : EReal) := by
  refine (dats m 0 c).arrAt_eq_of_covers 10 _ (by decide +kernel) fun t hf y => ?_
  have e : (win0_10.blk t).view.emb y = ix2 (row t (y 0)) (y 1) := by
    blk_ext [idx t, row]
  blk_simp
  rw [after0_10, e]
  by_cases h : t.val % 64 = 0
  · rw [outsAt0_A m c t h]
    frame_out
    rw [eq_ix2 y]
    exact FfnPay.dy_apply (blocks A t) (y 0) (y 1)
  · rw [outsAt0_B m c t h]
    frame_out
    rw [eq_ix2 y]
    exact FfnPay.dy_apply (blocks A t) (y 0) (y 1)

theorem out11 : (dats m 0 c).arrAt 11 cfg0.N = fun i => ((P.dg (d (i 0)) (P.g (x (i 0))) (P.u (x (i 0))) (i 1) : ℝ) : EReal) := by
  refine (dats m 0 c).arrAt_eq_of_covers 11 _ (by decide +kernel) fun t hf y => ?_
  have e : (win0_11.blk t).view.emb y = ix2 (row t (y 0)) (y 1) := by
    blk_ext [idx t, row]
  blk_simp
  rw [after0_11, e]
  by_cases h : t.val % 64 = 0
  · rw [outsAt0_A m c t h]
    frame_out
    rw [eq_ix2 y]
    exact FfnPay.dg_apply (blocks A t) (y 0) (y 1)
  · rw [outsAt0_B m c t h]
    frame_out
    rw [eq_ix2 y]
    exact FfnPay.dg_apply (blocks A t) (y 0) (y 1)

theorem out12 : (dats m 0 c).arrAt 12 cfg0.N = fun i => ((P.du (d (i 0)) (P.g (x (i 0))) (i 1) : ℝ) : EReal) := by
  refine (dats m 0 c).arrAt_eq_of_covers 12 _ (by decide +kernel) fun t hf y => ?_
  have e : (win0_12.blk t).view.emb y = ix2 (row t (y 0)) (y 1) := by
    blk_ext [idx t, row]
  blk_simp
  rw [after0_12, e]
  by_cases h : t.val % 64 = 0
  · rw [outsAt0_A m c t h]
    frame_out
    rw [eq_ix2 y]
    exact FfnPay.du_apply (blocks A t) (y 0) (y 1)
  · rw [outsAt0_B m c t h]
    frame_out
    rw [eq_ix2 y]
    exact FfnPay.du_apply (blocks A t) (y 0) (y 1)

end Cert.FfnBlocks

end
-- ==== Proof.FfnAcc.lean ====
/- The cotangent of the norm's weights, which the feed-forward layer's backward pass adds up over its points. -/
module

public import proofs.«01_k».proof.Proof.FfnBlocks
import Idealize.ShloMosaic.Lib.Pipeline.ValueKit

@[expose] public section

set_option maxRecDepth 16384

noncomputable section

namespace Cert.FfnBlocks

open Cert.FfnBwdIdeal Cert.FfnBwdIdeal.Gen Idealize.ShloMosaic Idealize.ShloMosaic.TcCoe Idealize.SL.Sem Cert.Scalars Cert.Rows

variable {m : (ℓ : Loc nD τ sig) → Buf (Elt Ideal) ℓ} {c : Dev nD} {P : Ffn} {x d : Fin 16384 → Fin 1024 → ℝ}
  (A : Args m c P x d)

/-- The last point. -/
def last : Fin cfg0.N := ⟨63, by decide⟩

theorem zero_apply (k : Fin 1024) : k0_pay1 (F := Ideal) (ix2 0 k) = 0 := by
  pointwise [k0_pay1]

theorem add_apply (v w : Vec Ideal S1x1024 .f32) (k : Fin 1024) : k0_pay2 (F := Ideal) v w (ix2 0 k) = w (ix2 0 k) + v (ix2 0 k) := by
  pointwise [k0_pay2]

include A

theorem acc (k : Fin 1024) : (outsAt0 m c last.val last.isLt).2.2.2.2.2 (ix2 0 k)
    = 0 + ∑ t : Fin cfg0.N, ((∑ r, P.dw (x (row t r)) (d (row t r)) (P.g (x (row t r))) (P.u (x (row t r))) k : ℝ) : EReal) := by
  refine Pipeline.eq_sum_fin_of_reset_step_apply_last (fun n h k => (outsAt0 m c n h).2.2.2.2.2 (ix2 0 k)) 64 (fun _ : Fin 1024 => (0 : EReal))
    (fun t k => ((∑ r, P.dw (x (row t r)) (d (row t r)) (P.g (x (row t r))) (P.u (x (row t r))) k : ℝ) : EReal))
    (fun t h k => ?_) (fun t h k => ?_) (by decide) last rfl k
  · rw [outsAt0_A m c t h]
    frame_out
    rw [add_apply, zero_apply]
    exact congrArg _ (FfnPay.dw_apply (blocks A t) k)
  · rw [outsAt0_B m c t h]
    frame_out
    rw [add_apply]
    exact congrArg _ (FfnPay.dw_apply (blocks A t) k)

theorem out13 : (dats m 0 c).arrAt 13 cfg0.N
    = fun i => ((∑ r, P.dw (x r) (d r) (P.g (x r)) (P.u (x r)) (i 1) : ℝ) : EReal) := by
  refine (dats m 0 c).arrAt_eq_of_after_last 13 last (by decide +kernel) _ fun j => ?_
  blk_simp
  rw [after0_13]
  have e : j = ix2 0 (j 1) := (eq_ix2 j).trans (congrArg (ix2 · (j 1)) (Fin.eq_zero (j 0)))
  rw [e]
  refine (acc A (j 1)).trans ?_
  rw [zero_add, sum_coe]
  refine congrArg _ ?_
  refine (Fin.sum_points_lanes_congr (A := 1) 64
    (g := fun _ r => P.dw (x r) (d r) (P.g (x r)) (P.u (x r)) (j 1)) (N := 64) (n := 256) (L := 16384) fun t r ha hl => ?_).trans
    (Fin.sum_univ_one _)
  have : row t r = ⟨t.val % 64 * 256 + r.val, hl⟩ := Fin.ext (by
    show t.val * 256 + r.val = t.val % 64 * 256 + r.val
    rw [Nat.mod_eq_of_lt t.isLt])
  rw [← this]

end Cert.FfnBlocks

end
-- ==== Proof.FfnRef.lean ====
/- The reference of the feed-forward layer's backward pass, entry by entry, when its arguments hold reals: each
   result said in the terms of Rows.lean. -/
module

public import proofs.«01_k».proof.Proof.Rows
public import proofs.«01_k».proof.Proof.Gen.FfnRefIdeal.Read
import Idealize.ShloMosaic.Lib.Pointwise

@[expose] public section

set_option maxRecDepth 16384

noncomputable section

namespace Cert.FfnRef

open Cert.FfnRefIdeal Cert.FfnRefIdeal.Read Cert.FfnRefIdeal.Gen Idealize.ShloMosaic Cert.Scalars Cert.Rows

/-- The arguments hold these reals: the layer's input and the cotangent of its result row by row, the norm's weights
    and the three matrices. -/
structure Args (a0 a1 : Vec Ideal S16384x1024 .f32) (a2 : Vec Ideal S1024 .f32) (a3 a4 : Vec Ideal S1024x2816 .bf16)
    (a5 : Vec Ideal S2816x1024 .bf16) (P : Ffn) (x d : Fin 16384 → Fin 1024 → ℝ) : Prop where
  h0 : ∀ r k, a0 (ix2 r k) = ((x r k : ℝ) : EReal)
  h1 : ∀ r k, a1 (ix2 r k) = ((d r k : ℝ) : EReal)
  h2 : ∀ k, a2 (ix1 k) = ((P.w k : ℝ) : EReal)
  h3 : ∀ k f, a3 (ix2 k f) = ((P.wg k f : ℝ) : EReal)
  h4 : ∀ k f, a4 (ix2 k f) = ((P.wu k f : ℝ) : EReal)
  h5 : ∀ f k, a5 (ix2 f k) = ((P.wd f k : ℝ) : EReal)

variable {a0 a1 : Vec Ideal S16384x1024 .f32} {a2 : Vec Ideal S1024 .f32} {a3 a4 : Vec Ideal S1024x2816 .bf16}
  {a5 : Vec Ideal S2816x1024 .bf16} {P : Ffn} {x d : Fin 16384 → Fin 1024 → ℝ} (A : Args a0 a1 a2 a3 a4 a5 P x d)
include A

theorem ms_apply (r : Fin 16384) : val_main_v64 (F := Ideal) a0 (ix2 r 0) = ((ms (x r) : ℝ) : EReal) := by
  pointwise [val_main_v64, val_main_v63, val_main_cst_12, val_main_v62, val_main_v61, val_main_cst_11, val_main_v60,
    val_main_v59, val_main_v58, val_main_cst_10]
  simp only [A.h0, ← EReal.coe_mul, sum_coe, k1024_lit, eps_lit]
  rw [div_coe_coe _ (by norm_num), ← EReal.coe_add]
  rfl

theorem hn_apply (r : Fin 16384) (k : Fin 1024) :
    val_main_v70 (F := Ideal) a0 a2 (ix2 r k) = ((hn (x r) P.w k : ℝ) : EReal) := by
  pointwise [val_main_v70, val_main_v69, val_main_v68, val_main_v67, val_main_v66, val_main_v65]
  rw [ms_apply A, rsqrt_pos (ms_pos _), A.h0, A.h2, ← EReal.coe_mul, ← EReal.coe_mul]
  rfl

theorem g_apply (r : Fin 16384) (f : Fin 2816) :
    val_main_v71 (F := Ideal) a0 a2 a3 (ix2 r f) = ((P.g (x r) f : ℝ) : EReal) := by
  pointwise [val_main_v71, val_main_v0]
  simp only [hn_apply A, A.h3, ← EReal.coe_mul, sum_coe]
  rfl

theorem u_apply (r : Fin 16384) (f : Fin 2816) :
    val_main_v72 (F := Ideal) a0 a2 a4 (ix2 r f) = ((P.u (x r) f : ℝ) : EReal) := by
  pointwise [val_main_v72, val_main_v1]
  simp only [hn_apply A, A.h4, ← EReal.coe_mul, sum_coe]
  rfl

theorem s_apply (r : Fin 16384) (f : Fin 2816) :
    val_main_v73_2 (F := Ideal) a0 a2 a3 (ix2 r f) = ((sg (P.g (x r) f) : ℝ) : EReal) := by
  pointwise [val_main_v73_2, val_main_call2_v4, val_main_call2_cst_0, val_main_call2_v3, val_main_call2_v2,
    val_main_call2_cst, val_main_call2_v1, val_main_call2_v0]
  rw [g_apply A, ← EReal.coe_neg, Ideal.exp_coe, ← EReal.coe_one, ← EReal.coe_add, div_coe_coe _ (one_add_exp_pos _).ne', one_div]
  rfl

theorem da_apply (r : Fin 16384) (f : Fin 2816) :
    val_main_v80 (F := Ideal) a1 a5 (ix2 r f) = ((P.da (d r) f : ℝ) : EReal) := by
  pointwise [val_main_v80, val_main_v79, val_main_v78, val_main_cst_14, val_main_v2]
  simp only [half_lit, A.h1, A.h5, ← EReal.coe_mul, sum_coe]
  rfl

/-- The cotangent of the gate. -/
theorem dg_apply (r : Fin 16384) (f : Fin 2816) :
    val_main_v83 (F := Ideal) a0 a1 a2 a3 a4 a5 (ix2 r f) = ((P.dg (d r) (P.g (x r)) (P.u (x r)) f : ℝ) : EReal) := by
  pointwise [val_main_v83, val_main_call3_v0, val_main_call3_v1, val_main_call3_v2, val_main_v82, val_main_v73_1,
    val_main_call2_v7, val_main_call2_v6, val_main_call2_cst_1]
  rw [s_apply A, g_apply A, u_apply A, da_apply A, ← EReal.coe_one]
  simp only [← EReal.coe_mul, ← EReal.coe_sub, ← EReal.coe_add]
  refine congrArg _ ?_
  unfold Ffn.dg dgate
  ring

/-- The cotangent of the other factor. -/
theorem du_apply (r : Fin 16384) (f : Fin 2816) :
    val_main_v81 (F := Ideal) a0 a1 a2 a3 a5 (ix2 r f) = ((P.du (d r) (P.g (x r)) f : ℝ) : EReal) := by
  pointwise [val_main_v81, val_main_v73_0]
  rw [s_apply A, g_apply A, da_apply A]
  simp only [← EReal.coe_mul]
  refine congrArg _ ?_
  unfold Ffn.du dup
  ring

theorem dh_apply (r : Fin 16384) (k : Fin 1024) :
    val_main_v36 (F := Ideal) a0 a1 a2 a3 a4 a5 (ix2 r k)
      = ((P.dh (d r) (P.g (x r)) (P.u (x r)) k : ℝ) : EReal) := by
  have e30 : val_main_v30 (F := Ideal) a1 a5 = val_main_v80 (F := Ideal) a1 a5 := by
    refine funext fun j => ?_
    idx_vars j
    pointwise [val_main_v30, val_main_v29, val_main_v28, val_main_cst_4, val_main_v27, val_main_v80, val_main_v79,
      val_main_v78, val_main_cst_14]
  have e31 : val_main_v31 (F := Ideal) a0 a1 a2 a3 a5 = val_main_v81 (F := Ideal) a0 a1 a2 a3 a5 := by
    unfold val_main_v31
    rw [e30]
    rfl
  have e32 : val_main_v32 (F := Ideal) a0 a1 a2 a4 a5 = val_main_v82 (F := Ideal) a0 a1 a2 a4 a5 := by
    unfold val_main_v32
    rw [e30]
    rfl
  have e34 : val_main_v34 (F := Ideal) a0 a1 a2 a3 a4 a5 = val_main_v83 (F := Ideal) a0 a1 a2 a3 a4 a5 := by
    unfold val_main_v34 val_main_call1_v1 val_main_call1_v2 val_main_call1_v0
    rw [e32]
    rfl
  pointwise [val_main_v36, val_main_v35, val_main_v33, val_main_v0, val_main_v1]
  simp only [e31, e34, dg_apply A, du_apply A, A.h3, A.h4, ← EReal.coe_mul, sum_coe, ← EReal.coe_add]
  exact congrArg _ (add_comm _ _)

theorem inv_apply (r : Fin 16384) : val_main_v10 (F := Ideal) a0 (ix2 r 0) = ((inv (x r) : ℝ) : EReal) := by
  have e : val_main_v9 (F := Ideal) a0 = val_main_v64 (F := Ideal) a0 := rfl
  pointwise [val_main_v10]
  rw [e, ms_apply A, rsqrt_pos (ms_pos _)]
  rfl

theorem s13_apply (r : Fin 16384) :
    val_main_v13 (F := Ideal) a0 (ix2 r 0) = ((-(1 / 2) * (inv (x r) / ms (x r)) : ℝ) : EReal) := by
  have e : val_main_v9 (F := Ideal) a0 = val_main_v64 (F := Ideal) a0 := rfl
  pointwise [val_main_v13, val_main_v12, val_main_cst_2, val_main_v11]
  rw [e, ms_apply A, inv_apply A, div_coe_coe _ (ms_pos _).ne', neg_half_lit, ← EReal.coe_mul]

theorem dhw_apply (r : Fin 16384) (k : Fin 1024) :
    val_main_v41 (F := Ideal) a0 a1 a2 a3 a4 a5 (ix2 r k)
      = ((P.dh (d r) (P.g (x r)) (P.u (x r)) k * P.w k : ℝ) : EReal) := by
  pointwise [val_main_v41, val_main_v40, val_main_v16]
  rw [dh_apply A, A.h2, ← EReal.coe_mul]

/-- The factor of the row in the derivative of the reciprocal root mean square. -/
theorem s_row (r : Fin 16384) :
    val_main_v52 (F := Ideal) a0 a1 a2 a3 a4 a5 (ix1 r)
      = (((∑ k, x r k * (P.dh (d r) (P.g (x r)) (P.u (x r)) k * P.w k)) * (-(1 / 2) * (inv (x r) / ms (x r))) / 1024 : ℝ) : EReal) := by
  pointwise [val_main_v52, val_main_cst_9, val_main_v51, val_main_v50, val_main_cst_8, val_main_v49, val_main_v45,
    val_main_v44, val_main_cst_7, val_main_v43]
  rw [Fin.sum_univ_one]
  simp only [s13_apply A, dhw_apply A, A.h0, ← EReal.coe_mul, sum_coe, k1024_lit]
  rw [div_coe_coe _ (by norm_num)]

/-- The cotangent of the layer's input. -/
theorem dx_apply (r : Fin 16384) (k : Fin 1024) :
    val_main_v57 (F := Ideal) a0 a1 a2 a3 a4 a5 (ix2 r k)
      = ((P.dx (x r) (d r) (P.g (x r)) (P.u (x r)) k : ℝ) : EReal) := by
  pointwise [val_main_v57, val_main_v56, val_main_v55, val_main_v54, val_main_v53, val_main_v48, val_main_v47, val_main_v46]
  rw [s_row A, dhw_apply A, inv_apply A, A.h0, A.h1]
  simp only [← EReal.coe_mul, ← EReal.coe_add]
  exact congrArg _ (by rw [Ffn.dx, dnorm_eq]; ring)

/-- The cotangent of the norm's weights. -/
theorem dw_apply (k : Fin 1024) :
    val_main_v90 (F := Ideal) a0 a1 a2 a3 a4 a5 (ix2 0 k)
      = ((∑ r, P.dw (x r) (d r) (P.g (x r)) (P.u (x r)) k : ℝ) : EReal) := by
  pointwise [val_main_v90, val_main_v42, val_main_cst_6, val_main_v39, val_main_v38, val_main_cst_5, val_main_v37,
    val_main_v15, val_main_v14]
  rw [Fin.sum_univ_one]
  simp only [dh_apply A, inv_apply A, A.h0, ← EReal.coe_mul, sum_coe]
  exact congrArg _ (Finset.sum_congr rfl fun r _ => mul_comm _ _)

/-- The rows of the layer's normalized input. -/
theorem h_apply (r : Fin 16384) (k : Fin 1024) :
    val_main_v84 (F := Ideal) a0 a2 (ix2 r k) = ((hn (x r) P.w k : ℝ) : EReal) := by
  pointwise [val_main_v84]
  exact hn_apply A r k

/-- Half the cotangent of the result. -/
theorem dy_apply (r : Fin 16384) (k : Fin 1024) :
    val_main_v87 (F := Ideal) a1 (ix2 r k) = ((1 / 2 * d r k : ℝ) : EReal) := by
  pointwise [val_main_v87, val_main_v86, val_main_v85, val_main_cst_15]
  rw [half_lit, A.h1, ← EReal.coe_mul]

theorem dg_out (r : Fin 16384) (f : Fin 2816) :
    val_main_v88 (F := Ideal) a0 a1 a2 a3 a4 a5 (ix2 r f) = ((P.dg (d r) (P.g (x r)) (P.u (x r)) f : ℝ) : EReal) := by
  pointwise [val_main_v88]
  exact dg_apply A r f

theorem du_out (r : Fin 16384) (f : Fin 2816) :
    val_main_v89 (F := Ideal) a0 a1 a2 a3 a5 (ix2 r f) = ((P.du (d r) (P.g (x r)) f : ℝ) : EReal) := by
  pointwise [val_main_v89]
  exact du_apply A r f

end Cert.FfnRef

end
-- ==== Proof.FfnValue.lean ====
/- The feed-forward layer's backward pass: the program's results and the reference's are the same functions of the
   arguments, when the arguments hold reals. -/
module

public import proofs.«01_k».proof.Defs
public import proofs.«01_k».proof.Proof.Gen.Pre_ffn_finite
public import proofs.«01_k».proof.Proof.Finite
public import proofs.«01_k».proof.Proof.FfnAcc
public import proofs.«01_k».proof.Proof.FfnRef
import Idealize.ShloMosaic.Lib.Pointwise

@[expose] public section

set_option maxRecDepth 16384

noncomputable section

namespace Cert.FfnValue

open Idealize.ShloMosaic Idealize.SL.Sem Cert.Rows Cert.Finite

/-- The precondition says that the arguments hold reals. -/
theorem args_of_pre (m : (ℓ : Loc Cert.FfnBwdIdeal.nD Cert.FfnBwdIdeal.τ Cert.FfnBwdIdeal.sig) → Buf (Elt Ideal) ℓ)
    (h : Cert.Pre_FfnBwdIdeal_ffn_finite m) (c : Dev Cert.FfnBwdIdeal.nD) :
    ∃ (P : Ffn) (x d : Fin 16384 → Fin 1024 → ℝ), FfnBlocks.Args m c P x d := by
  have e := congrFun (h c) ix0
  simp only [Cert.Pre_ffn_finite.fn, Cert.Pre_ffn_finite.fn_part1, andi, IntOp.andi_eq_one] at e
  obtain ⟨⟨⟨⟨⟨e0, e1⟩, e2⟩, e3⟩, e4⟩, e5⟩ := e
  have inf : ∀ (s : Shape) (h : Shape.BroadcastsInDim ⟨0, ![]⟩ s (![] : Fin 0 → Fin s.rank)) (i : s.Idx),
      broadcastInDim s ![] h (constant (F := Ideal) ⟨0, ![]⟩ .f32 0x7F800000#32) i = ⊤ := fun s h i => Scalars.inf_lit
  obtain ⟨y0, h0⟩ := real_of_all _ _ _ (inf _ _) _ _ _ e0
  obtain ⟨y1, h1⟩ := real_of_all _ _ _ (inf _ _) _ _ _ e1
  obtain ⟨y2, h2⟩ := real_of_all _ _ _ (inf _ _) _ _ _ e2
  obtain ⟨y3, h3⟩ := real_of_all _ _ _ (inf _ _) _ _ _ e3
  obtain ⟨y4, h4⟩ := real_of_all _ _ _ (inf _ _) _ _ _ e4
  obtain ⟨y5, h5⟩ := real_of_all _ _ _ (inf _ _) _ _ _ e5
  exact ⟨⟨fun k => y2 (ix1 k), fun k f => y3 (ix2 k f), fun k f => y4 (ix2 k f), fun f k => y5 (ix2 f k)⟩,
    fun r k => y0 (ix2 r k), fun r k => y1 (ix2 r k),
    ⟨fun r k => h0 _, fun r k => h1 _, fun k => h2 _, fun k f => h3 _, fun k f => h4 _, fun f k => h5 _⟩⟩

section Reference

open Cert.FfnRefIdeal

/-- The reference's results, stage by stage. -/
theorem ref_run (m : (ℓ : Loc nD τ sig) → Buf (Elt Ideal) ℓ) (ρ : Dev nD → PrngReg)
    (P : Dev nD → Ffn) (x d : Dev nD → Fin 16384 → Fin 1024 → ℝ)
    (A : ∀ c : Dev nD, FfnRef.Args (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (P c) (x c) (d c)) :
    θ_run (defs (F := Ideal)) (onTc (τ := τ) (main (F := Ideal))) ⟨m, fun _ => 0, ρ⟩ fun r => ∀ c : Dev nD,
      r.2.mem ((c.tc : Thread nD τ).loc main_v57)
          = (fun i => (((P c).dx (x c (i 0)) (d c (i 0)) ((P c).g (x c (i 0))) ((P c).u (x c (i 0))) (i 1) : ℝ) : EReal))
      ∧ r.2.mem ((c.tc : Thread nD τ).loc main_v84) = (fun i => ((hn (x c (i 0)) (P c).w (i 1) : ℝ) : EReal))
      ∧ r.2.mem ((c.tc : Thread nD τ).loc main_v87) = (fun i => ((1 / 2 * d c (i 0) (i 1) : ℝ) : EReal))
      ∧ r.2.mem ((c.tc : Thread nD τ).loc main_v88)
          = (fun i => (((P c).dg (d c (i 0)) ((P c).g (x c (i 0))) ((P c).u (x c (i 0))) (i 1) : ℝ) : EReal))
      ∧ r.2.mem ((c.tc : Thread nD τ).loc main_v89)
          = (fun i => (((P c).du (d c (i 0)) ((P c).g (x c (i 0))) (i 1) : ℝ) : EReal))
      ∧ r.2.mem ((c.tc : Thread nD τ).loc main_v90)
          = (fun i => ((∑ r, (P c).dw (x c r) (d c r) ((P c).g (x c r)) ((P c).u (x c r)) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨e0, e1, e2, e3, e4, e5, rest⟩ := h c
  replace e0 := e0.trans (Read.val_main_v57_eq m c)
  replace e1 := e1.trans (Read.val_main_v84_eq _ _)
  replace e2 := e2.trans (Read.val_main_v87_eq _)
  replace e3 := e3.trans (Read.val_main_v88_eq m c)
  replace e4 := e4.trans (Read.val_main_v89_eq _ _ _ _ _)
  replace e5 := e5.trans (Read.val_main_v90_eq m c)
  refine ⟨e0.trans (funext fun i => ?_), e1.trans (funext fun i => ?_), e2.trans (funext fun i => ?_),
    e3.trans (funext fun i => ?_), e4.trans (funext fun i => ?_), e5.trans (funext fun i => ?_), rest⟩
  · exact (congrArg _ (eq_ix2 i)).trans (FfnRef.dx_apply (A c) _ _)
  · exact (congrArg _ (eq_ix2 i)).trans (FfnRef.h_apply (A c) _ _)
  · exact (congrArg _ (eq_ix2 i)).trans (FfnRef.dy_apply (A c) _ _)
  · exact (congrArg _ (eq_ix2 i)).trans (FfnRef.dg_out (A c) _ _)
  · exact (congrArg _ (eq_ix2 i)).trans (FfnRef.du_out (A c) _ _)
  · exact (congrArg _ ((eq_ix2 i).trans (congrArg (ix2 · (i 1)) (Fin.eq_zero (i 0))))).trans (FfnRef.dw_apply (A c) _)

end Reference

theorem algebraic : Cert.algebraic_FfnBwdIdeal_FfnRefIdeal_pre_ffn_finite := by
  intro m g m' g' hpre hagree
  choose P x d A using args_of_pre m hpre
  have A' : ∀ c : Dev Cert.FfnBwdIdeal.nD, FfnRef.Args (m' ((c.tc : Thread Cert.FfnRefIdeal.nD Cert.FfnRefIdeal.τ).loc Cert.FfnRefIdeal.main_arg0))
      (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2))
      (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4))
      (m' ((c.tc : Thread Cert.FfnRefIdeal.nD Cert.FfnRefIdeal.τ).loc Cert.FfnRefIdeal.main_arg5)) (P c) (x c) (d c) := fun c => by
    obtain ⟨e0, e1, e2, e3, e4, e5⟩ := hagree c
    rw [e0, e1, e2, e3, e4, e5]
    exact ⟨(A c).h0, (A c).h1, (A c).h2, (A c).h3, (A c).h4, (A c).h5⟩
  refine ⟨fun c i => (((P c).dx (x c (i 0)) (d c (i 0)) ((P c).g (x c (i 0))) ((P c).u (x c (i 0))) (i 1) : ℝ) : EReal),
    fun c i => ((hn (x c (i 0)) (P c).w (i 1) : ℝ) : EReal),
    fun c i => ((1 / 2 * d c (i 0) (i 1) : ℝ) : EReal),
    fun c i => (((P c).dg (d c (i 0)) ((P c).g (x c (i 0))) ((P c).u (x c (i 0))) (i 1) : ℝ) : EReal),
    fun c i => (((P c).du (d c (i 0)) ((P c).g (x c (i 0))) (i 1) : ℝ) : EReal),
    fun c i => ((∑ r, (P c).dw (x c r) (d c r) ((P c).g (x c r)) ((P c).u (x c r)) (i 1) : ℝ) : EReal), ?_, ?_⟩
  · refine (θ_run Cert.FfnBwdIdeal.defs _ _).mono (fun r h c => ?_) (Cert.FfnBwdIdeal.Value.run_blocks m g)
    obtain ⟨e0, e1, e2, e3, e4, e5, rest⟩ := h c
    exact ⟨e0.trans (FfnBlocks.out8 (A c)), e1.trans (FfnBlocks.out9 (A c)), e2.trans (FfnBlocks.out10 (A c)),
      e3.trans (FfnBlocks.out11 (A c)), e4.trans (FfnBlocks.out12 (A c)), e5.trans (FfnBlocks.out13 (A c)), rest⟩
  · exact ref_run m' g' P x d A'

end Cert.FfnValue

end
-- ==== Proof.ScanReal.lean ====
/- The scan's backward pass over one chunk of one group of heads, over the reals. -/
module

public import proofs.«01_k».proof.Proof.Scalars

@[expose] public section

noncomputable section

namespace Cert.ScanReal

/-- A table of reals with a row for each position of a chunk. -/
abbrev Tab (n : ℕ) : Type := Fin 128 → Fin n → ℝ

/-- The head of a lane. -/
def he (q : Fin 512) : Fin 128 := ⟨q.val / 64, by omega⟩

/-- A lane of a block of two heads, among all the lanes. -/
def lane (j : Fin 4) (q : Fin 128) : Fin 512 := ⟨128 * j.val + q.val, by omega⟩

theorem sum_lane {M : Type} [AddCommMonoid M] (f : Fin 512 → M) : ∑ q : Fin 512, f q = ∑ j : Fin 4, ∑ q : Fin 128, f (lane j q) := by
  rw [← Fintype.sum_prod_type' (f := fun j q => f (lane j q))]
  refine (Fintype.sum_equiv (finProdFinEquiv (m := 4) (n := 128)) _ _ fun x => ?_).symm
  congr 1
  exact Fin.ext (by simp [lane, finProdFinEquiv]; omega)

section

variable (X D S Z : Tab 512) (B C : Tab 128) (T : Tab 128) (al : Fin 128 → ℝ) (A : Tab 128)

/-- The running sum of the step sizes times the rates. -/
def acs (r e : Fin 128) : ℝ := ∑ s : Fin 128, (if s ≤ r then 1 else 0) * (T s e * (0 - Real.exp (al e)))
/-- The decay from one position to a later one. -/
def dec (e l s : Fin 128) : ℝ := if s ≤ l then Real.exp (A l e - A s e) else 0
/-- The inputs scaled by the step sizes. -/
def xdt (s : Fin 128) (q : Fin 512) : ℝ := X s q * T s (he q)
/-- The decay to the end of the chunk. -/
def toEnd (s : Fin 128) (q : Fin 512) : ℝ := Real.exp (A 127 (he q) - A s (he q))
/-- The result's cotangent, decayed from the chunk's start. -/
def dyc (l : Fin 128) (q : Fin 512) : ℝ := D l q * Real.exp (A l (he q))
def cb (l s : Fin 128) : ℝ := ∑ n, C l n * B s n
/-- The cotangent of the products of `C` and `B`. -/
def dcb (l s : Fin 128) : ℝ := ∑ q : Fin 512, D l q * xdt X T s q * dec A (he q) l s
/-- The cotangent of the inputs, `Z` the cotangent of the state after the chunk. -/
def dx (s : Fin 128) (q : Fin 512) : ℝ :=
  ((∑ n, Z n q * B s n) * toEnd A s q + ∑ l, D l q * (cb B C l s * dec A (he q) l s)) * T s (he q)
/-- What the chunk adds to the cotangent of the state before it. -/
def pbar (n : Fin 128) (q : Fin 512) : ℝ := ∑ l, dyc D A l q * C l n
/-- The cotangent of the state before the chunk. -/
def prev (n : Fin 128) (q : Fin 512) : ℝ := Real.exp (A 127 (he q)) * Z n q + pbar D C A n q
/-- The cotangent of `B`. -/
def db (s n : Fin 128) : ℝ := (∑ q : Fin 512, Z n q * (xdt X T s q * toEnd A s q)) + ∑ l, dcb X D T A l s * C l n
/-- The cotangent of `C`, `S` the state before the chunk. -/
def dc (l n : Fin 128) : ℝ := (∑ q : Fin 512, dyc D A l q * S n q) + ∑ s, dcb X D T A l s * B s n

end

/-! ### All chunks of all groups -/

/-- The arguments' entries, as reals. -/
structure Data where
  a : Fin 16384 → Fin 3072 → ℝ
  dt : Fin 16384 → Fin 32 → ℝ
  al : Fin 32 → ℝ
  dy : Fin 16384 → Fin 2048 → ℝ

/-- A position of a chunk, among all positions. -/
def tok (c r : Fin 128) : Fin 16384 := ⟨c.val * 128 + r.val, by omega⟩
/-- One of the eight heads of a group. -/
def em (e : Fin 8) : Fin 128 := ⟨e.val, by omega⟩
/-- A lane of a head, among the group's lanes. -/
def ln (e : Fin 8) (p : Fin 64) : Fin 512 := ⟨e.val * 64 + p.val, by omega⟩

theorem he_ln (e : Fin 8) (p : Fin 64) : he (ln e p) = em e := Fin.ext (by simp [he, ln, em]; omega)

theorem sum_ln {M : Type} [AddCommMonoid M] (f : Fin 512 → M) : ∑ q : Fin 512, f q = ∑ e : Fin 8, ∑ p : Fin 64, f (ln e p) := by
  rw [← Fintype.sum_prod_type' (f := fun e p => f (ln e p))]
  refine (Fintype.sum_equiv (finProdFinEquiv (m := 8) (n := 64)) _ _ fun x => ?_).symm
  congr 1
  exact Fin.ext (by simp [ln, finProdFinEquiv]; omega)

/-- A group's lane, head by head. -/
theorem exists_ln (q : Fin 512) : ∃ e p, q = ln e p :=
  ⟨⟨q.val / 64, by omega⟩, ⟨q.val % 64, by omega⟩, Fin.ext (by simp [ln]; omega)⟩

namespace Data

variable (I : Data) (g : Fin 4)

def X (c : Fin 128) : Tab 512 := fun r q => I.a (tok c r) ⟨g.val * 512 + q.val, by omega⟩
def B (c : Fin 128) : Tab 128 := fun r n => I.a (tok c r) ⟨2048 + (g.val * 128 + n.val), by omega⟩
def C (c : Fin 128) : Tab 128 := fun r n => I.a (tok c r) ⟨2560 + (g.val * 128 + n.val), by omega⟩
def D (c : Fin 128) : Tab 512 := fun r q => I.dy (tok c r) ⟨g.val * 512 + q.val, by omega⟩
/-- The step sizes of a group's heads, past the eight heads zero. -/
def T (c : Fin 128) : Tab 128 := fun r e => if h : e.val < 8 then I.dt (tok c r) ⟨g.val * 8 + e.val, by omega⟩ else 0
def rate (e : Fin 128) : ℝ := if h : e.val < 8 then I.al ⟨g.val * 8 + e.val, by omega⟩ else 0
def A (c : Fin 128) : Tab 128 := acs (I.T g c) (I.rate g)

theorem T_em (c r : Fin 128) (e : Fin 8) : I.T g c r (em e) = I.dt (tok c r) ⟨g.val * 8 + e.val, by omega⟩ := dif_pos e.isLt
theorem rate_em (e : Fin 8) : I.rate g (em e) = I.al ⟨g.val * 8 + e.val, by omega⟩ := dif_pos e.isLt

/-- The running sum over the chunks. -/
def cum (z : ℕ) (e : Fin 128) : ℝ := ∑ c : Fin 128, if c.val < z then I.A g c 127 e else 0
/-- The decay from one chunk's start to a later one's. -/
def dch (z c : ℕ) (e : Fin 128) : ℝ := if c ≤ z then Real.exp (I.cum g z e - I.cum g c e) else 0
/-- What a chunk adds to the state. -/
def own (c n : Fin 128) (q : Fin 512) : ℝ := ∑ l, toEnd (I.A g c) l q * xdt (I.X g c) (I.T g c) l q * I.B g c l n
/-- The state before a chunk. -/
def state (z : Fin 128) : Tab 512 := fun n q => ∑ c : Fin 128, I.own g c n q * I.dch g z (c.val + 1) (he q)
def bar (z n : Fin 128) (q : Fin 512) : ℝ := pbar (I.D g z) (I.C g z) (I.A g z) n q
/-- The cotangent of the state before a chunk. -/
def sbar (c : ℕ) : Tab 512 := fun n q => ∑ z : Fin 128, I.bar g z n q * I.dch g z c (he q)

def outX (c : Fin 128) : Tab 512 := dx (I.D g c) (I.sbar g (c.val + 1)) (I.B g c) (I.C g c) (I.T g c) (I.A g c)
def outB (c : Fin 128) : Tab 128 := db (I.X g c) (I.D g c) (I.sbar g (c.val + 1)) (I.C g c) (I.T g c) (I.A g c)
def outC (c : Fin 128) : Tab 128 := dc (I.X g c) (I.D g c) (I.state g c) (I.B g c) (I.T g c) (I.A g c)

theorem cum_succ (c e : Fin 128) : I.cum g (c.val + 1) e = I.cum g c.val e + I.A g c 127 e := by
  have h : ∀ i : Fin 128, (if i.val < c.val + 1 then I.A g i 127 e else 0)
      = (if i.val < c.val then I.A g i 127 e else 0) + if i = c then I.A g c 127 e else 0 := fun i => by
    by_cases hi : i = c
    · subst hi; simp
    · have : i.val ≠ c.val := fun h => hi (Fin.ext h)
      rw [if_neg hi, add_zero]
      exact if_congr (by omega) rfl rfl
  rw [cum, Finset.sum_congr rfl fun i _ => h i, Finset.sum_add_distrib, Finset.sum_ite_eq' Finset.univ c, if_pos (Finset.mem_univ c), cum]

theorem sbar_last (n : Fin 128) (q : Fin 512) : I.sbar g 128 n q = 0 := by
  refine Finset.sum_eq_zero fun z _ => ?_
  rw [dch, if_neg (by omega), mul_zero]

/-- The cotangent of the state, one chunk further back. -/
theorem prev_sbar (c n : Fin 128) (q : Fin 512) :
    prev (I.D g c) (I.sbar g (c.val + 1)) (I.C g c) (I.A g c) n q = I.sbar g c.val n q := by
  have h : ∀ z : Fin 128, I.bar g z n q * I.dch g z c.val (he q)
      = Real.exp (I.A g c 127 (he q)) * (I.bar g z n q * I.dch g z (c.val + 1) (he q)) + if z = c then I.bar g c n q else 0 := fun z => by
    by_cases hz : z = c
    · subst hz
      rw [if_pos rfl, dch, dch, if_pos le_rfl, if_neg (by omega)]
      simp
    · have : z.val ≠ c.val := fun h => hz (Fin.ext h)
      rw [if_neg hz, add_zero, dch, dch, cum_succ]
      by_cases hc : c.val ≤ z.val
      · rw [if_pos hc, if_pos (by omega), mul_left_comm, ← Real.exp_add]
        ring_nf
      · rw [if_neg hc, if_neg (by omega)]
        simp
  rw [prev, sbar, sbar, Finset.mul_sum, Finset.sum_congr rfl fun z _ => h z, Finset.sum_add_distrib,
    Finset.sum_ite_eq' Finset.univ c, if_pos (Finset.mem_univ c)]
  rfl

end Data

end Cert.ScanReal

end
-- ==== Proof.ScanPay.lean ====
/- What one block of two heads contributes at a grid point of the scan's backward pass, as functions of the values
   the point reads: the body does the same four times, once for each block, and these are the one text of it. -/
module

public import proofs.«01_k».proof.Proof.ScanReal
public import proofs.«01_k».proof.Proof.Gen.ScanIdeal.Skeleton

@[expose] public section

set_option maxRecDepth 16384

noncomputable section

namespace Cert.ScanPay

open Cert.ScanIdeal Cert.ScanIdeal.Gen Idealize.ShloMosaic Cert.Scalars
open Cert.ScanReal (lane)

theorem ofBool_iff (b : Bool) : BitVec.ofBool b = (1 : BitVec 1) ↔ b = true := by cases b <;> decide

theorem slt_iff (q : Fin 128) : IntOp.cmpi CmpIPredicate.slt (BitVec.ofNat 32 q.val) 64#32 = (1 : BitVec 1) ↔ q.val < 64 := by
  revert q
  decide +kernel

theorem eq_iff (r q : Fin 128) : IntOp.cmpi CmpIPredicate.eq (BitVec.ofNat 32 r.val) (BitVec.ofNat 32 q.val) = (1 : BitVec 1) ↔ r = q := by
  have h : (BitVec.ofNat 32 r.val = BitVec.ofNat 32 q.val) ↔ r = q := by
    constructor
    · intro h
      have := congrArg BitVec.toNat h
      simp only [BitVec.toNat_ofNat] at this
      exact Fin.ext (by omega)
    · rintro rfl; rfl
  rw [← h, IntOp.cmpi, ofBool_iff, beq_iff_eq]

theorem sge_iff (r q : Fin 128) : IntOp.cmpi CmpIPredicate.sge (BitVec.ofNat 32 r.val) (BitVec.ofNat 32 q.val) = (1 : BitVec 1) ↔ q ≤ r := by
  have h : (BitVec.ofNat 32 q.val).sle (BitVec.ofNat 32 r.val) ↔ q ≤ r := by
    rw [BitVec.sle_iff_toInt_le, BitVec.toInt_eq_toNat_of_lt (by simp; omega), BitVec.toInt_eq_toNat_of_lt (by simp; omega)]
    simp
    omega
  rw [← h, IntOp.cmpi, ofBool_iff]

theorem mask_bot : (Named.named κ "mask" 0xF149F2CA#32 : Ideal .f32) = (⊥ : EReal) := by
  rfl

/-- Zeros. -/
def zero2 : FVec Ideal S128x128 .f32 := broadcast S128x128 (Scalar.ofBits .f32 0x00000000#32)

/-- The column of a head. -/
def col (k : BitVec 32) (v : FVec Ideal S128x128 .f32) : FVec Ideal S128x1 .f32 :=
  shapeCast S128x1 (multiReduction .add [1] S128
    (select (broadcastTo S128x128 (shapeCast S1x128 (cmpi .eq (iota .tc S1x128 32 [1] iota_S1x128_d1_w32) (broadcast S1x128 k))
      shapeCasts_S1x128_S1x128) broadcasts_S1x128_S128x128) v zero2) 0x00000000#32 reduces_S128x128_S128 (.inl rfl) rfl) shapeCasts_S128_S128x1

theorem col_apply (e : Fin 128) (v : FVec Ideal S128x128 .f32) (r : Fin 128) :
    col (BitVec.ofNat 32 e.val) v (ix2 r 0) = v (ix2 r e) := by
  pointwise [col, zero2]
  simp only [Scalar.select, eq_iff, Finset.sum_ite_eq', Finset.mem_univ, if_true]

/-- The row of a head. -/
def row (k : BitVec 32) (v : FVec Ideal S128x128 .f32) : FVec Ideal S1x128 .f32 :=
  shapeCast S1x128 (multiReduction .add [0] S128
    (select (broadcastTo S128x128 (shapeCast S128x1 (cmpi .eq (iota .tc S128x1 32 [0] iota_S128x1_d0_w32) (broadcast S128x1 k))
      shapeCasts_S128x1_S128x1) broadcasts_S128x1_S128x128) v zero2) 0x00000000#32 reduces_S128x128_S128_2 (.inl rfl) rfl) shapeCasts_S128_S1x128

theorem row_apply (e : Fin 128) (v : FVec Ideal S128x128 .f32) (q : Fin 128) :
    row (BitVec.ofNat 32 e.val) v (ix2 0 q) = v (ix2 e q) := by
  pointwise [row, zero2]
  simp only [Scalar.select, eq_iff, Finset.sum_ite_eq', Finset.mem_univ, if_true]

/-- Which lanes belong to a block's first head. -/
def lo : IVec S128x128 1 := broadcastTo S128x128 (shapeCast S1x128 k0_pay11 shapeCasts_S1x128_S1x128) broadcasts_S1x128_S128x128

theorem lo_apply (r q : Fin 128) : lo (ix2 r q) = (1 : BitVec 1) ↔ q.val < 64 := by
  pointwise [lo, k0_pay11]
  exact slt_iff q

theorem causal_apply (r q : Fin 128) : k0_pay9 (ix2 r q) = (1 : BitVec 1) ↔ q ≤ r := by
  pointwise [k0_pay9]
  exact sge_iff r q

theorem tril_apply (r q : Fin 128) : k0_pay10 (F := Ideal) (ix2 r q) = if q ≤ r then 1 else 0 := by
  pointwise [k0_pay10]
  simp only [Scalar.select, causal_apply]

/-- The value at the last row, along the lanes. -/
def lastr (v : FVec Ideal S128x128 .f32) : FVec Ideal S1x128 .f32 :=
  shapeCast S1x128 (multiReduction .add [0] S128
    (select (broadcastTo S128x128 (shapeCast S128x1 k0_pay12 shapeCasts_S128x1_S128x1) broadcasts_S128x1_S128x128) v zero2)
      0x00000000#32 reduces_S128x128_S128_2 (.inl rfl) rfl) shapeCasts_S128_S1x128

theorem lastr_apply (v : FVec Ideal S128x128 .f32) (q : Fin 128) : lastr v (ix2 0 q) = v (ix2 127 q) := by
  pointwise [lastr, zero2, k0_pay12]
  have h : (127#32 : BitVec 32) = BitVec.ofNat 32 (127 : Fin 128).val := rfl
  simp only [Scalar.select, h, eq_iff, Finset.sum_ite_eq', Finset.mem_univ, if_true]

/-- The decay from one position to a later one, of a head. -/
def decay (k : BitVec 32) (v : FVec Ideal S128x128 .f32) : FVec Ideal S128x128 .f32 :=
  exp (select k0_pay9 (subf (broadcastTo S128x128 (col k v) broadcasts_S128x1_S128x128)
    (broadcastTo S128x128 (row k (k0_pay16 v)) broadcasts_S1x128_S128x128)) (broadcast S128x128 (Named.named κ "mask" 0xF149F2CA#32)))

theorem decay_apply (e : Fin 128) (v : FVec Ideal S128x128 .f32) (a : Fin 128 → Fin 128 → ℝ)
    (h : ∀ r e, v (ix2 r e) = ((a r e : ℝ) : EReal)) (r q : Fin 128) :
    decay (BitVec.ofNat 32 e.val) v (ix2 r q) = (((if q ≤ r then Real.exp (a r e - a q e) else 0 : ℝ)) : EReal) := by
  pointwise [decay]
  rw [col_apply, row_apply, mask_bot]
  pointwise [k0_pay16]
  rw [h, h, ← EReal.coe_sub]
  simp only [Scalar.select, causal_apply]
  split_ifs
  · rw [Ideal.exp_coe]
  · exact Ideal.exp_bot

/-- Two columns, each along the lanes of its head. -/
def pick (k0 k1 : BitVec 32) (v : FVec Ideal S128x128 .f32) : FVec Ideal S128x128 .f32 :=
  select lo (broadcastTo S128x128 (shapeCast S128x1 (col k0 v) shapeCasts_S128x1_S128x1) broadcasts_S128x1_S128x128)
    (broadcastTo S128x128 (shapeCast S128x1 (col k1 v) shapeCasts_S128x1_S128x1) broadcasts_S128x1_S128x128)

/-- The head of a lane. -/
def hd (e0 e1 q : Fin 128) : Fin 128 := if q.val < 64 then e0 else e1

theorem pick_apply (e0 e1 : Fin 128) (v : FVec Ideal S128x128 .f32) (r q : Fin 128) :
    pick (BitVec.ofNat 32 e0.val) (BitVec.ofNat 32 e1.val) v (ix2 r q) = v (ix2 r (hd e0 e1 q)) := by
  pointwise [pick]
  rw [col_apply, col_apply]
  simp only [Scalar.select, lo_apply, hd]
  split_ifs <;> rfl

/-- The block's rows of the inputs, scaled by the step sizes. -/
def xd (k0 k1 : BitVec 32) (dt xs : FVec Ideal S128x128 .f32) : FVec Ideal S128x128 .f32 := mulf xs (pick k0 k1 dt)

/-- The decay from each position to the end of the chunk. -/
def toEnd (k0 k1 : BitVec 32) (v : FVec Ideal S128x128 .f32) : FVec Ideal S128x128 .f32 :=
  exp (subf (broadcastTo S128x128 (lastr (pick k0 k1 v)) broadcasts_S1x128_S128x128) (pick k0 k1 v))

/-- The two heads' mixing matrices side by side. -/
def mcat (cb e0 e1 : FVec Ideal S128x128 .f32) : FVec Ideal S128x256 .bf16 :=
  truncf .bf16 (concatenate S128x256 1 [⟨S128x128, mulf cb e0⟩, ⟨S128x128, mulf cb e1⟩] concatenates_S128x128_S128x128_S128x256_d1) bitsLt_bf16_f32

/-- The two heads' scaled inputs one above the other. -/
def xcat (x : FVec Ideal S128x128 .f32) : FVec Ideal S256x128 .bf16 :=
  truncf .bf16 (concatenate S256x128 0 [⟨S128x128, select lo x zero2⟩, ⟨S128x128, select lo zero2 x⟩] concatenates_S128x128_S128x128_S256x128_d0) bitsLt_bf16_f32

/-- The cotangent of the scaled inputs through the mixing matrices, the two heads one above the other. -/
def dmix (d : FVec Ideal S128x128 .f32) (w : FVec Ideal S128x256 .bf16) : FVec Ideal S256x128 .f32 :=
  extf .f32 (truncf .bf16 (transpose S256x128 [1, 0] (matmul dot_S128x128_S128x256_S128x256_0_0_1_1_n_n none d w
    (constant S128x256 .f32 0x00000000#32)) transposes_S128x256_p1_0_S256x128) bitsLt_bf16_f32) bitsLt_bf16_f32

/-- The cotangent of the scaled inputs through the chunk's state. -/
def dstate (s : FVec Ideal S128x128 .f32) (b : FVec Ideal S128x128 .bf16) : FVec Ideal S128x128 .f32 :=
  extf .f32 (truncf .bf16 (transpose S128x128 [1, 0] (matmul dot_S128x128_S128x128_S128x128_0_1_1_0_n_n none s b
    (constant S128x128 .f32 0x00000000#32)) transposes_S128x128_p1_0_S128x128) bitsLt_bf16_f32) bitsLt_bf16_f32

/-- The cotangent of the scaled inputs. -/
def dxd (s : FVec Ideal S128x128 .f32) (b : FVec Ideal S128x128 .bf16) (e d : FVec Ideal S128x128 .f32) (w : FVec Ideal S128x256 .bf16) :
    FVec Ideal S128x128 .f32 :=
  addf (addf (mulf (dstate s b) e)
      (select lo zero2 (extractStridedSlice S128x128 ![128, 0] (dmix d w) slices_S256x128_o128_0_S128x128)))
    (select lo (extractStridedSlice S128x128 ![0, 0] (dmix d w) slices_S256x128_o0_0_S128x128) zero2)

/-- The cotangents of the two heads' mixing matrices side by side. -/
def dm (d : FVec Ideal S128x128 .f32) (x : FVec Ideal S256x128 .bf16) : FVec Ideal S128x256 .f32 :=
  extf .f32 (truncf .bf16 (matmul dot_S128x128_S256x128_S128x256_1_1_0_0_n_n none d x (constant S128x256 .f32 0x00000000#32)) bitsLt_bf16_f32) bitsLt_bf16_f32

/-- The first and the second head's. -/
def dm0 (d : FVec Ideal S128x128 .f32) (x : FVec Ideal S256x128 .bf16) : FVec Ideal S128x128 .f32 :=
  extractStridedSlice S128x128 ![0, 0] (dm d x) slices_S128x256_o0_0_S128x128
def dm1 (d : FVec Ideal S128x128 .f32) (x : FVec Ideal S256x128 .bf16) : FVec Ideal S128x128 .f32 :=
  extractStridedSlice S128x128 ![0, 128] (dm d x) slices_S128x256_o0_128_S128x128

/-- The part of the cotangent of `B` that comes through the chunk's state. -/
def dbst (s : FVec Ideal S128x128 .f32) (x e : FVec Ideal S128x128 .f32) : FVec Ideal S128x128 .bf16 :=
  truncf .bf16 (transpose S128x128 [1, 0] (matmul dot_S128x128_S128x128_S128x128_1_1_0_0_n_n none s (truncf .bf16 (mulf x e) bitsLt_bf16_f32)
    (constant S128x128 .f32 0x00000000#32)) transposes_S128x128_p1_0_S128x128) bitsLt_bf16_f32

/-- Four blocks of lanes added up, each among zeros. -/
def place (v0 v1 v2 v3 : FVec Ideal S128x128 .f32) : FVec Ideal S128x512 .f32 :=
  addf (addf (addf
    (concatenate S128x512 1 [⟨S128x384, broadcast S128x384 (Scalar.ofBits .f32 0x00000000#32)⟩, ⟨S128x128, v3⟩] concatenates_S128x384_S128x128_S128x512_d1)
    (concatenate S128x512 1 [⟨S128x384, concatenate S128x384 1 [⟨S128x256, broadcast S128x256 (Scalar.ofBits .f32 0x00000000#32)⟩, ⟨S128x128, v2⟩]
      concatenates_S128x256_S128x128_S128x384_d1⟩, ⟨S128x128, broadcast S128x128 (Scalar.ofBits .f32 0x00000000#32)⟩] concatenates_S128x384_S128x128_S128x512_d1))
    (concatenate S128x512 1 [⟨S128x256, concatenate S128x256 1 [⟨S128x128, broadcast S128x128 (Scalar.ofBits .f32 0x00000000#32)⟩, ⟨S128x128, v1⟩]
      concatenates_S128x128_S128x128_S128x256_d1⟩, ⟨S128x256, broadcast S128x256 (Scalar.ofBits .f32 0x00000000#32)⟩] concatenates_S128x256_S128x256_S128x512_d1))
    (concatenate S128x512 1 [⟨S128x128, v0⟩, ⟨S128x384, broadcast S128x384 (Scalar.ofBits .f32 0x00000000#32)⟩] concatenates_S128x128_S128x384_S128x512_d1)

theorem place_apply (v : Fin 4 → FVec Ideal S128x128 .f32) (r : Fin 128) (j : Fin 4) (q : Fin 128) :
    place (v 0) (v 1) (v 2) (v 3) (ix2 r (lane j q)) = v j (ix2 r q) := by
  pointwise [place]
  have := q.isLt
  fin_cases j
  · simp [lane, show q.val < 384 by omega, show q.val < 256 by omega]
  · simp [lane, show 128 + q.val < 384 by omega, show 128 + q.val < 256 by omega]
  · simp [lane, show 256 + q.val < 384 by omega, show ¬ 256 + q.val < 128 by omega]
  · simp [lane, show ¬ 384 + q.val < 256 by omega, show ¬ 384 + q.val < 128 by omega]

variable {e0 e1 : Fin 128} {dt v xs d s : FVec Ideal S128x128 .f32} {T A X : Fin 128 → Fin 128 → ℝ}

theorem xd_apply (hx : ∀ r q, xs (ix2 r q) = ((X r q : ℝ) : EReal)) (ht : ∀ r e, dt (ix2 r e) = ((T r e : ℝ) : EReal)) (r q : Fin 128) :
    xd (BitVec.ofNat 32 e0.val) (BitVec.ofNat 32 e1.val) dt xs (ix2 r q) = ((X r q * T r (hd e0 e1 q) : ℝ) : EReal) := by
  pointwise [xd]
  rw [pick_apply, hx, ht, ← EReal.coe_mul]

theorem toEnd_apply (ha : ∀ r e, v (ix2 r e) = ((A r e : ℝ) : EReal)) (r q : Fin 128) :
    toEnd (BitVec.ofNat 32 e0.val) (BitVec.ofNat 32 e1.val) v (ix2 r q)
      = ((Real.exp (A 127 (hd e0 e1 q) - A r (hd e0 e1 q)) : ℝ) : EReal) := by
  pointwise [toEnd]
  rw [lastr_apply, pick_apply, pick_apply, ha, ha, ← EReal.coe_sub, Ideal.exp_coe]

theorem mcat_lo (cb e f : FVec Ideal S128x128 .f32) (r q : Fin 128) (h : q.val < 256) :
    mcat cb e f (ix2 r ⟨q.val, h⟩) = cb (ix2 r q) * e (ix2 r q) := by
  pointwise [mcat]

theorem mcat_hi (cb e f : FVec Ideal S128x128 .f32) (r q : Fin 128) (h : 128 + q.val < 256) :
    mcat cb e f (ix2 r ⟨128 + q.val, h⟩) = cb (ix2 r q) * f (ix2 r q) := by
  pointwise [mcat]

theorem xcat_lo (x : FVec Ideal S128x128 .f32) (r q : Fin 128) (h : r.val < 256) :
    xcat x (ix2 ⟨r.val, h⟩ q) = if q.val < 64 then x (ix2 r q) else 0 := by
  pointwise [xcat, zero2]
  simp only [Scalar.select, lo_apply]

theorem xcat_hi (x : FVec Ideal S128x128 .f32) (r q : Fin 128) (h : 128 + r.val < 256) :
    xcat x (ix2 ⟨128 + r.val, h⟩ q) = if q.val < 64 then 0 else x (ix2 r q) := by
  pointwise [xcat, zero2]
  simp only [Scalar.select, lo_apply]

theorem dmix_apply (w : FVec Ideal S128x256 .bf16) (r : Fin 256) (q : Fin 128) :
    dmix d w (ix2 r q) = ∑ l : Fin 128, d (ix2 l q) * w (ix2 l r) := by
  pointwise [dmix]

/-- The cotangent of the first head's mixing matrix at one entry, and the second's. -/
theorem dm0_apply (x : FVec Ideal S128x128 .f32) (l r : Fin 128) :
    dm0 d (xcat x) (ix2 l r) = ∑ q : Fin 128, d (ix2 l q) * (if q.val < 64 then x (ix2 r q) else 0) := by
  refine Eq.trans (b := ∑ q : Fin 128, d (ix2 l q) * xcat x (ix2 ⟨r.val, by omega⟩ q)) ?_ ?_
  · pointwise [dm0, dm]
  · simp only [xcat_lo]

theorem dm1_apply (x : FVec Ideal S128x128 .f32) (l r : Fin 128) :
    dm1 d (xcat x) (ix2 l r) = ∑ q : Fin 128, d (ix2 l q) * (if q.val < 64 then 0 else x (ix2 r q)) := by
  refine Eq.trans (b := ∑ q : Fin 128, d (ix2 l q) * xcat x (ix2 ⟨128 + r.val, by omega⟩ q)) ?_ ?_
  · pointwise [dm1, dm]
  · simp only [xcat_hi]

theorem dxd_apply (bb : FVec Ideal S128x128 .bf16) (e cb f g : FVec Ideal S128x128 .f32) (r q : Fin 128) :
    dxd s bb e d (mcat cb f g) (ix2 r q) = (∑ n : Fin 128, s (ix2 n q) * bb (ix2 r n)) * e (ix2 r q)
      + ∑ l : Fin 128, d (ix2 l q) * (cb (ix2 l r) * if q.val < 64 then f (ix2 l r) else g (ix2 l r)) := by
  pointwise [dxd, dstate, zero2]
  rw [dmix_apply, dmix_apply]
  simp only [Scalar.select, lo_apply, mcat_lo, mcat_hi]
  split_ifs <;> simp

theorem dbst_apply (x e : FVec Ideal S128x128 .f32) (r n : Fin 128) :
    dbst s x e (ix2 r n) = ∑ q : Fin 128, s (ix2 n q) * (x (ix2 r q) * e (ix2 r q)) := by
  pointwise [dbst]

end Cert.ScanPay

end
-- ==== Proof.ScanPoint.lean ====
/- What one grid point of the scan's backward pass stores, block of heads by block of heads. -/
module

public import proofs.«01_k».proof.Proof.ScanPay

@[expose] public section

set_option maxRecDepth 16384

noncomputable section

namespace Cert.ScanPay

open Cert.ScanIdeal Cert.ScanIdeal.Gen Idealize.ShloMosaic Cert.Scalars

/-- The two heads of a block. -/
def h0 (j : Fin 4) : Fin 128 := ⟨2 * j.val, by omega⟩
def h1 (j : Fin 4) : Fin 128 := ⟨2 * j.val + 1, by omega⟩
def w0 (j : Fin 4) : BitVec 32 := BitVec.ofNat 32 (h0 j).val
def w1 (j : Fin 4) : BitVec 32 := BitVec.ofNat 32 (h1 j).val

variable (x0 : Vec Ideal S128x512 .bf16) (x1 x2 : Vec Ideal S128x128 .bf16) (x3 : Vec Ideal S1x128x128 .f32)
  (x4 : Vec Ideal S1x1x128 .f32) (x5 : Vec Ideal S1x1x128x512 .f32) (x6 : Vec Ideal S128x512 .bf16) (s : Vec Ideal S1x128x512 .f32)

/-- A block's lanes of the inputs, of the result's cotangent and of the state's cotangent. -/
def xj (j : Fin 4) : FVec Ideal S128x128 .f32 :=
  ![k0_pay35 (k0_pay4 x0), k0_pay65 (k0_pay4 x0), k0_pay94 (k0_pay4 x0), k0_pay125 (k0_pay4 x0)] j
def dj (j : Fin 4) : FVec Ideal S128x128 .f32 :=
  ![k0_pay150 x6, k0_pay151 x6, k0_pay152 x6, k0_pay153 (k0_pay144 x6)] j
def sj (j : Fin 4) : FVec Ideal S128x128 .f32 :=
  ![k0_pay146 s, k0_pay147 s, k0_pay148 s, k0_pay149 s] j

def xdj (j : Fin 4) : FVec Ideal S128x128 .f32 := xd (w0 j) (w1 j) (k0_pay7 x3) (xj x0 j)
def enj (j : Fin 4) : FVec Ideal S128x128 .f32 := toEnd (w0 j) (w1 j) (k0_pay15 x3 x4)
def dyj (j : Fin 4) : FVec Ideal S128x128 .f32 := mulf (dj x6 j) (exp (pick (w0 j) (w1 j) (k0_pay15 x3 x4)))

def dxj (j : Fin 4) : FVec Ideal S128x128 .f32 :=
  mulf (dxd (sj s j) (k0_pay17 (k0_pay5 x1)) (enj x3 x4 j) (dj x6 j)
    (mcat (k0_pay19 (k0_pay5 x1) (k0_pay6 x2)) (decay (w0 j) (k0_pay15 x3 x4)) (decay (w1 j) (k0_pay15 x3 x4))))
    (pick (w0 j) (w1 j) (k0_pay7 x3))

/-- The cotangent of the inputs. -/
def dx : FVec Ideal S128x512 .bf16 :=
  k0_pay252 (place (dxj x1 x2 x3 x4 x6 s 0) (dxj x1 x2 x3 x4 x6 s 1) (dxj x1 x2 x3 x4 x6 s 2) (dxj x1 x2 x3 x4 x6 s 3))

def snj (j : Fin 4) : FVec Ideal S128x128 .f32 :=
  mulf (broadcastTo S128x128 (exp (lastr (pick (w0 j) (w1 j) (k0_pay15 x3 x4)))) broadcasts_S1x128_S128x128) (sj s j)

def dyc : FVec Ideal S128x512 .f32 := place (dyj x3 x4 x6 0) (dyj x3 x4 x6 1) (dyj x3 x4 x6 2) (dyj x3 x4 x6 3)

/-- The cotangent of the state before the chunk. -/
def sn : FVec Ideal S1x128x512 .f32 :=
  k0_pay1 (k0_pay249 (k0_pay18 (k0_pay6 x2)) (place (snj x3 x4 s 0) (snj x3 x4 s 1) (snj x3 x4 s 2) (snj x3 x4 s 3)) (dyc x3 x4 x6))

def dcj0 (j : Fin 4) : FVec Ideal S128x128 .f32 := mulf (dm0 (dj x6 j) (xcat (xdj x0 x3 j))) (decay (w0 j) (k0_pay15 x3 x4))
def dcj1 (j : Fin 4) : FVec Ideal S128x128 .f32 := mulf (dm1 (dj x6 j) (xcat (xdj x0 x3 j))) (decay (w1 j) (k0_pay15 x3 x4))

/-- The cotangent of the products of `C` and `B`. -/
def dcb : FVec Ideal S128x128 .f32 :=
  addf (addf (addf (addf (addf (addf (addf (dcj1 x0 x3 x4 x6 3) (dcj0 x0 x3 x4 x6 3)) (dcj1 x0 x3 x4 x6 2)) (dcj0 x0 x3 x4 x6 2))
    (dcj1 x0 x3 x4 x6 1)) (dcj0 x0 x3 x4 x6 1)) (dcj1 x0 x3 x4 x6 0)) (dcj0 x0 x3 x4 x6 0)

def dbj (j : Fin 4) : FVec Ideal S128x128 .bf16 := dbst (sj s j) (xdj x0 x3 j) (enj x3 x4 j)

/-- The cotangent of `B`. -/
def db : FVec Ideal S128x128 .bf16 :=
  k0_pay253 (addf (addf (addf (dbj x0 x3 x4 s 3) (dbj x0 x3 x4 s 2)) (dbj x0 x3 x4 s 1)) (dbj x0 x3 x4 s 0))
    (k0_pay250 (k0_pay18 (k0_pay6 x2)) (dcb x0 x3 x4 x6))

/-- The cotangent of `C`. -/
def dc : FVec Ideal S128x128 .bf16 :=
  k0_pay254 (k0_pay17 (k0_pay5 x1)) (dcb x0 x3 x4 x6) (k0_pay248 (k0_pay20 (k0_pay8 x5)) (dyc x3 x4 x6))

end Cert.ScanPay

end
-- ==== Proof.ScanBlocks.lean ====
module

public import proofs.«01_k».proof.Proof.ScanPoint
public import proofs.«01_k».proof.Proof.Gen.ScanIdeal.Value
import Idealize.ShloMosaic.Lib.Pipeline.ValueKit
import Idealize.ShloMosaic.Lib.Pipeline.ReadBack

@[expose] public section

set_option maxRecDepth 16384

noncomputable section

namespace Cert.ScanBlocks

open Cert.ScanIdeal Cert.ScanIdeal.Gen Idealize.ShloMosaic Idealize.ShloMosaic.Pipeline Idealize.ShloMosaic.TcCoe Idealize.SL.Sem Cert.Scalars Cert.ScanPay
variable {m : (ℓ : Loc nD τ sig) → Buf (Elt Ideal) ℓ} {c : Dev nD}

/-- Which block of its array each window of a point is. -/
theorem idx : ∀ t : Fin cfg0.N, win0_0.index t = ![127 - t.val % 128, t.val / 128] ∧ win0_1.index t = ![127 - t.val % 128, 16 + t.val / 128]
    ∧ win0_2.index t = ![127 - t.val % 128, 20 + t.val / 128] ∧ win0_3.index t = ![t.val / 128, 127 - t.val % 128, 0]
    ∧ win0_4.index t = ![t.val / 128, 0, 0] ∧ win0_5.index t = ![t.val / 128, 127 - t.val % 128, 0, 0]
    ∧ win0_6.index t = ![127 - t.val % 128, t.val / 128]
    ∧ win0_7.index t = ![127 - t.val % 128, t.val / 128] ∧ win0_8.index t = ![127 - t.val % 128, t.val / 128]
    ∧ win0_9.index t = ![127 - t.val % 128, t.val / 128] :=
  (by decide +kernel : ∀ t : Fin grid0.N, _)

theorem o7_A (t : Fin cfg0.N) (h : t.val % 128 = 0) : (outsAt0 m c t.val t.isLt).1 = dx (iblk m c 1 t) (iblk m c 2 t) (iblk m c 3 t) (iblk m c 4 t) (iblk m c 6 t) (k0_pay2 (F := Ideal)) := by
  rw [outsAt0_A m c t h]
  frame_out
  rfl

theorem o7_B (t : Fin cfg0.N) (h : ¬t.val % 128 = 0) : (outsAt0 m c t.val t.isLt).1 = dx (iblk m c 1 t) (iblk m c 2 t) (iblk m c 3 t) (iblk m c 4 t) (iblk m c 6 t) ((outsAt0 m c (t.val - 1) (Nat.lt_of_le_of_lt (Nat.sub_le _ _) t.isLt)).2.2.2.2.2) := by
  rw [outsAt0_B m c t h]
  frame_out
  rw [read_unread_whole cc0_scratch0]
  rfl

theorem o8_A (t : Fin cfg0.N) (h : t.val % 128 = 0) : (outsAt0 m c t.val t.isLt).2.1 = db (iblk m c 0 t) (iblk m c 2 t) (iblk m c 3 t) (iblk m c 4 t) (iblk m c 6 t) (k0_pay2 (F := Ideal)) := by
  rw [outsAt0_A m c t h]
  frame_out
  rfl

theorem o8_B (t : Fin cfg0.N) (h : ¬t.val % 128 = 0) : (outsAt0 m c t.val t.isLt).2.1 = db (iblk m c 0 t) (iblk m c 2 t) (iblk m c 3 t) (iblk m c 4 t) (iblk m c 6 t) ((outsAt0 m c (t.val - 1) (Nat.lt_of_le_of_lt (Nat.sub_le _ _) t.isLt)).2.2.2.2.2) := by
  rw [outsAt0_B m c t h]
  frame_out
  rw [read_unread_whole cc0_scratch0]
  rfl

theorem o9_A (t : Fin cfg0.N) (h : t.val % 128 = 0) : (outsAt0 m c t.val t.isLt).2.2.1 = dc (iblk m c 0 t) (iblk m c 1 t) (iblk m c 3 t) (iblk m c 4 t) (iblk m c 5 t) (iblk m c 6 t) := by
  rw [outsAt0_A m c t h]
  frame_out
  rfl

theorem o9_B (t : Fin cfg0.N) (h : ¬t.val % 128 = 0) : (outsAt0 m c t.val t.isLt).2.2.1 = dc (iblk m c 0 t) (iblk m c 1 t) (iblk m c 3 t) (iblk m c 4 t) (iblk m c 5 t) (iblk m c 6 t) := by
  rw [outsAt0_B m c t h]
  frame_out
  rfl

theorem os_A (t : Fin cfg0.N) (h : t.val % 128 = 0) : (outsAt0 m c t.val t.isLt).2.2.2.2.2 = sn (iblk m c 2 t) (iblk m c 3 t) (iblk m c 4 t) (iblk m c 6 t) (k0_pay2 (F := Ideal)) := by
  rw [outsAt0_A m c t h]
  frame_out
  rfl

theorem os_B (t : Fin cfg0.N) (h : ¬t.val % 128 = 0) : (outsAt0 m c t.val t.isLt).2.2.2.2.2 = sn (iblk m c 2 t) (iblk m c 3 t) (iblk m c 4 t) (iblk m c 6 t) ((outsAt0 m c (t.val - 1) (Nat.lt_of_le_of_lt (Nat.sub_le _ _) t.isLt)).2.2.2.2.2) := by
  rw [outsAt0_B m c t h]
  frame_out
  rw [read_unread_whole cc0_scratch0]
  rfl

end Cert.ScanBlocks

end
-- ==== Proof.ScanEntry.lean ====
/- What one grid point of the scan's backward pass stores, entry by entry over the reals. -/
module

public import proofs.«01_k».proof.Proof.ScanPoint
public import proofs.«01_k».proof.Proof.ScanReal

@[expose] public section

set_option maxRecDepth 16384

noncomputable section

namespace Cert.ScanPay

open Cert.ScanIdeal Cert.ScanIdeal.Gen Idealize.ShloMosaic Cert.Scalars
open Cert.ScanReal (lane he Tab acs dec xdt)

theorem he_lane (j : Fin 4) (q : Fin 128) : he (lane j q) = hd (h0 j) (h1 j) q := by
  simp only [he, lane, hd, h0, h1]
  split_ifs <;> exact Fin.ext (by simp; omega)

variable {x0 x6 : Vec Ideal S128x512 .bf16} {x1 x2 : Vec Ideal S128x128 .bf16} {x3 : Vec Ideal S1x128x128 .f32}
  {x4 : Vec Ideal S1x1x128 .f32} {x5 : Vec Ideal S1x1x128x512 .f32} {s : Vec Ideal S1x128x512 .f32}

theorem xj_apply (j : Fin 4) (r q : Fin 128) : xj x0 j (ix2 r q) = x0 (ix2 r (lane j q)) := by
  fin_cases j
  · pointwise [xj, k0_pay35, k0_pay4]
    exact congrArg (fun t => x0 (ix2 r t)) (Fin.ext (by simp [lane]))
  · pointwise [xj, k0_pay65, k0_pay4]
    exact congrArg (fun t => x0 (ix2 r t)) (Fin.ext (by simp [lane]))
  · pointwise [xj, k0_pay94, k0_pay4]
    exact congrArg (fun t => x0 (ix2 r t)) (Fin.ext (by simp [lane]))
  · pointwise [xj, k0_pay125, k0_pay4]
    exact congrArg (fun t => x0 (ix2 r t)) (Fin.ext (by simp [lane]))

theorem dj_apply (j : Fin 4) (r q : Fin 128) : dj x6 j (ix2 r q) = x6 (ix2 r (lane j q)) := by
  fin_cases j
  · pointwise [dj, k0_pay150, k0_pay144]
    exact congrArg (fun t => x6 (ix2 r t)) (Fin.ext (by simp [lane]))
  · pointwise [dj, k0_pay151, k0_pay144]
    exact congrArg (fun t => x6 (ix2 r t)) (Fin.ext (by simp [lane]))
  · pointwise [dj, k0_pay152, k0_pay144]
    exact congrArg (fun t => x6 (ix2 r t)) (Fin.ext (by simp [lane]))
  · pointwise [dj, k0_pay153, k0_pay144]
    exact congrArg (fun t => x6 (ix2 r t)) (Fin.ext (by simp [lane]))

theorem sj_apply (j : Fin 4) (r q : Fin 128) : sj s j (ix2 r q) = s (ix3 0 r (lane j q)) := by
  fin_cases j
  · pointwise [sj, k0_pay146, k0_pay145]
    exact congrArg (fun t => s (ix3 0 r t)) (Fin.ext (by simp [lane]))
  · pointwise [sj, k0_pay147, k0_pay145]
    exact congrArg (fun t => s (ix3 0 r t)) (Fin.ext (by simp [lane]))
  · pointwise [sj, k0_pay148, k0_pay145]
    exact congrArg (fun t => s (ix3 0 r t)) (Fin.ext (by simp [lane]))
  · pointwise [sj, k0_pay149, k0_pay145]
    exact congrArg (fun t => s (ix3 0 r t)) (Fin.ext (by simp [lane]))

/-- The values a point reads are real. -/
structure Reads (x0 : Vec Ideal S128x512 .bf16) (x1 x2 : Vec Ideal S128x128 .bf16) (x3 : Vec Ideal S1x128x128 .f32)
    (x4 : Vec Ideal S1x1x128 .f32) (x6 : Vec Ideal S128x512 .bf16)
    (X D : Tab 512) (B C T : Tab 128) (al : Fin 128 → ℝ) : Prop where
  hx : ∀ r q, x0 (ix2 r q) = ((X r q : ℝ) : EReal)
  hb : ∀ r q, x1 (ix2 r q) = ((B r q : ℝ) : EReal)
  hc : ∀ r q, x2 (ix2 r q) = ((C r q : ℝ) : EReal)
  ht : ∀ r e, x3 (ix3 0 r e) = ((T r e : ℝ) : EReal)
  ha : ∀ e, x4 (ix3 0 0 e) = ((al e : ℝ) : EReal)
  hd : ∀ r q, x6 (ix2 r q) = ((D r q : ℝ) : EReal)

variable {X D S : Tab 512} {B C T : Tab 128} {al : Fin 128 → ℝ}

theorem acs_apply (H : Reads x0 x1 x2 x3 x4 x6 X D B C T al) (r e : Fin 128) : k0_pay15 x3 x4 (ix2 r e) = ((acs T al r e : ℝ) : EReal) := by
  pointwise [k0_pay15, k0_pay14, k0_pay13, k0_pay7]
  simp only [tril_apply, H.ht, H.ha, Ideal.exp_coe]
  rw [acs, ← sum_coe]
  refine Finset.sum_congr rfl fun s _ => ?_
  rw [EReal.coe_mul, EReal.coe_mul, EReal.coe_sub]
  split_ifs <;> simp

theorem xdj_apply (H : Reads x0 x1 x2 x3 x4 x6 X D B C T al) (j : Fin 4) (r q : Fin 128) :
    xdj x0 x3 j (ix2 r q) = ((xdt X T r (lane j q) : ℝ) : EReal) := by
  refine (xd_apply (X := fun r q => X r (lane j q)) (T := T) (fun r q => ?_) (fun r e => ?_) r q).trans ?_
  · rw [xj_apply, H.hx]
  · pointwise [k0_pay7]
    exact H.ht r e
  · rw [xdt, he_lane]

theorem enj_apply (H : Reads x0 x1 x2 x3 x4 x6 X D B C T al) (j : Fin 4) (r q : Fin 128) :
    enj x3 x4 j (ix2 r q) = ((ScanReal.toEnd (acs T al) r (lane j q) : ℝ) : EReal) := by
  refine (toEnd_apply (acs_apply H) r q).trans ?_
  rw [ScanReal.toEnd, he_lane]

theorem decay0_apply (H : Reads x0 x1 x2 x3 x4 x6 X D B C T al) (j : Fin 4) (l r : Fin 128) :
    decay (w0 j) (k0_pay15 x3 x4) (ix2 l r) = ((dec (acs T al) (h0 j) l r : ℝ) : EReal) :=
  decay_apply (h0 j) _ (acs T al) (acs_apply H) l r

theorem decay1_apply (H : Reads x0 x1 x2 x3 x4 x6 X D B C T al) (j : Fin 4) (l r : Fin 128) :
    decay (w1 j) (k0_pay15 x3 x4) (ix2 l r) = ((dec (acs T al) (h1 j) l r : ℝ) : EReal) :=
  decay_apply (h1 j) _ (acs T al) (acs_apply H) l r

theorem pickj_apply (j : Fin 4) (v : FVec Ideal S128x128 .f32) (r q : Fin 128) :
    pick (w0 j) (w1 j) v (ix2 r q) = v (ix2 r (hd (h0 j) (h1 j) q)) := pick_apply _ _ v r q

theorem dyj_apply (H : Reads x0 x1 x2 x3 x4 x6 X D B C T al) (j : Fin 4) (r q : Fin 128) :
    dyj x3 x4 x6 j (ix2 r q) = ((ScanReal.dyc D (acs T al) r (lane j q) : ℝ) : EReal) := by
  pointwise [dyj]
  rw [dj_apply, H.hd, pickj_apply, acs_apply H, Ideal.exp_coe, ← EReal.coe_mul, ScanReal.dyc, he_lane]

theorem cb_apply (H : Reads x0 x1 x2 x3 x4 x6 X D B C T al) (l r : Fin 128) :
    k0_pay19 (k0_pay5 x1) (k0_pay6 x2) (ix2 l r) = ((ScanReal.cb B C l r : ℝ) : EReal) := by
  pointwise [k0_pay19, k0_pay18, k0_pay17, k0_pay5, k0_pay6]
  simp only [H.hb, H.hc, ← EReal.coe_mul, sum_coe]
  rfl

/-- A lane's block and its place there. -/
theorem exists_lane (q : Fin 512) : ∃ j q', q = lane j q' :=
  ⟨⟨q.val / 128, by omega⟩, ⟨q.val % 128, by omega⟩, Fin.ext (by simp [lane]; omega)⟩

theorem dyc_apply (H : Reads x0 x1 x2 x3 x4 x6 X D B C T al) (r : Fin 128) (q : Fin 512) :
    dyc x3 x4 x6 (ix2 r q) = ((ScanReal.dyc D (acs T al) r q : ℝ) : EReal) := by
  obtain ⟨j, q, rfl⟩ := exists_lane q
  rw [dyc, place_apply (dyj x3 x4 x6), dyj_apply H]

variable {Z : Tab 512}

theorem dxj_apply (H : Reads x0 x1 x2 x3 x4 x6 X D B C T al) (hs : ∀ n q, s (ix3 0 n q) = ((Z n q : ℝ) : EReal)) (j : Fin 4) (r q : Fin 128) :
    dxj x1 x2 x3 x4 x6 s j (ix2 r q) = ((ScanReal.dx D Z B C T (acs T al) r (lane j q) : ℝ) : EReal) := by
  have ht : ∀ r e, k0_pay7 x3 (ix2 r e) = ((T r e : ℝ) : EReal) := fun r e => by
    pointwise [k0_pay7]
    exact H.ht r e
  have hb : ∀ r e, k0_pay17 (k0_pay5 x1) (ix2 r e) = ((B r e : ℝ) : EReal) := fun r e => by
    pointwise [k0_pay17, k0_pay5]
    exact H.hb r e
  pointwise [dxj]
  rw [dxd_apply, enj_apply H, pickj_apply, ht]
  simp only [cb_apply H, hb, sj_apply, hs, dj_apply, H.hd, decay0_apply H, decay1_apply H, ← EReal.coe_mul, sum_coe, ScanReal.dx, he_lane]
  simp only [hd]
  split_ifs <;> simp only [← EReal.coe_mul, sum_coe, ← EReal.coe_add]

theorem dx_apply (H : Reads x0 x1 x2 x3 x4 x6 X D B C T al) (hs : ∀ n q, s (ix3 0 n q) = ((Z n q : ℝ) : EReal)) (r : Fin 128) (q : Fin 512) :
    dx x1 x2 x3 x4 x6 s (ix2 r q) = ((ScanReal.dx D Z B C T (acs T al) r q : ℝ) : EReal) := by
  obtain ⟨j, q, rfl⟩ := exists_lane q
  pointwise [dx, k0_pay252]
  rw [place_apply (dxj x1 x2 x3 x4 x6 s), dxj_apply H hs]

theorem sn_apply (H : Reads x0 x1 x2 x3 x4 x6 X D B C T al) (hs : ∀ n q, s (ix3 0 n q) = ((Z n q : ℝ) : EReal)) (n : Fin 128) (q : Fin 512) :
    sn x2 x3 x4 x6 s (ix3 0 n q) = ((ScanReal.prev D Z C (acs T al) n q : ℝ) : EReal) := by
  have h : place (snj x3 x4 s 0) (snj x3 x4 s 1) (snj x3 x4 s 2) (snj x3 x4 s 3) (ix2 n q)
      = ((Real.exp (acs T al 127 (he q)) * Z n q : ℝ) : EReal) := by
    obtain ⟨j, q, rfl⟩ := exists_lane q
    rw [place_apply (snj x3 x4 s)]
    pointwise [snj]
    rw [lastr_apply, sj_apply, hs, pickj_apply, acs_apply H, Ideal.exp_coe, he_lane, EReal.coe_mul]
  pointwise [sn, k0_pay1, k0_pay249, k0_pay18, k0_pay6]
  simp only [h, dyc_apply H, H.hc, ← EReal.coe_mul, sum_coe, ← EReal.coe_add, ScanReal.prev, ScanReal.pbar]

theorem dcj0_apply (H : Reads x0 x1 x2 x3 x4 x6 X D B C T al) (j : Fin 4) (l r : Fin 128) :
    dcj0 x0 x3 x4 x6 j (ix2 l r) = (((∑ q : Fin 128, D l (lane j q) * (if q.val < 64 then xdt X T r (lane j q) else 0)) * dec (acs T al) (h0 j) l r : ℝ) : EReal) := by
  refine Eq.trans (b := dm0 (dj x6 j) (xcat (xdj x0 x3 j)) (ix2 l r) * decay (w0 j) (k0_pay15 x3 x4) (ix2 l r)) (by pointwise [dcj0]) ?_
  rw [dm0_apply, decay0_apply H, EReal.coe_mul, ← sum_coe]
  congr 1
  refine Finset.sum_congr rfl fun q _ => ?_
  rw [dj_apply, H.hd, xdj_apply H]
  split_ifs <;> simp

theorem dcj1_apply (H : Reads x0 x1 x2 x3 x4 x6 X D B C T al) (j : Fin 4) (l r : Fin 128) :
    dcj1 x0 x3 x4 x6 j (ix2 l r) = (((∑ q : Fin 128, D l (lane j q) * (if q.val < 64 then 0 else xdt X T r (lane j q))) * dec (acs T al) (h1 j) l r : ℝ) : EReal) := by
  refine Eq.trans (b := dm1 (dj x6 j) (xcat (xdj x0 x3 j)) (ix2 l r) * decay (w1 j) (k0_pay15 x3 x4) (ix2 l r)) (by pointwise [dcj1]) ?_
  rw [dm1_apply, decay1_apply H, EReal.coe_mul, ← sum_coe]
  congr 1
  refine Finset.sum_congr rfl fun q _ => ?_
  rw [dj_apply, H.hd, xdj_apply H]
  split_ifs <;> simp

theorem dcb_apply (H : Reads x0 x1 x2 x3 x4 x6 X D B C T al) (l r : Fin 128) :
    dcb x0 x3 x4 x6 (ix2 l r) = ((ScanReal.dcb X D T (acs T al) l r : ℝ) : EReal) := by
  have e : ∀ j : Fin 4, (∑ q : Fin 128, D l (lane j q) * (if q.val < 64 then xdt X T r (lane j q) else 0)) * dec (acs T al) (h0 j) l r
      + (∑ q : Fin 128, D l (lane j q) * (if q.val < 64 then 0 else xdt X T r (lane j q))) * dec (acs T al) (h1 j) l r
      = ∑ q : Fin 128, D l (lane j q) * xdt X T r (lane j q) * dec (acs T al) (he (lane j q)) l r := fun j => by
    rw [Finset.sum_mul, Finset.sum_mul, ← Finset.sum_add_distrib]
    refine Finset.sum_congr rfl fun q _ => ?_
    rw [he_lane, hd]
    split_ifs <;> ring
  pointwise [dcb]
  simp only [dcj0_apply H, dcj1_apply H, ← EReal.coe_add]
  rw [ScanReal.dcb, ScanReal.sum_lane, Fin.sum_univ_four, ← e, ← e, ← e, ← e]
  congr 1
  ring

theorem dbj_apply (H : Reads x0 x1 x2 x3 x4 x6 X D B C T al) (hs : ∀ n q, s (ix3 0 n q) = ((Z n q : ℝ) : EReal)) (j : Fin 4) (r n : Fin 128) :
    dbj x0 x3 x4 s j (ix2 r n)
      = ((∑ q : Fin 128, Z n (lane j q) * (xdt X T r (lane j q) * ScanReal.toEnd (acs T al) r (lane j q)) : ℝ) : EReal) := by
  rw [dbj, dbst_apply]
  simp only [sj_apply, hs, xdj_apply H, enj_apply H, ← EReal.coe_mul, sum_coe]

theorem db_apply (H : Reads x0 x1 x2 x3 x4 x6 X D B C T al) (hs : ∀ n q, s (ix3 0 n q) = ((Z n q : ℝ) : EReal)) (r n : Fin 128) :
    db x0 x2 x3 x4 x6 s (ix2 r n) = ((ScanReal.db X D Z C T (acs T al) r n : ℝ) : EReal) := by
  pointwise [db, k0_pay253, k0_pay250, k0_pay18, k0_pay6]
  simp only [dbj_apply H hs, dcb_apply H, H.hc, ← EReal.coe_mul, sum_coe, ← EReal.coe_add]
  rw [ScanReal.db, ScanReal.sum_lane, Fin.sum_univ_four]
  congr 1
  ring

theorem dc_apply (H : Reads x0 x1 x2 x3 x4 x6 X D B C T al) (hS : ∀ n q, x5 (ix4 0 0 n q) = ((S n q : ℝ) : EReal)) (l n : Fin 128) :
    dc x0 x1 x3 x4 x5 x6 (ix2 l n) = ((ScanReal.dc X D S B T (acs T al) l n : ℝ) : EReal) := by
  pointwise [dc, k0_pay254, k0_pay248, k0_pay20, k0_pay8, k0_pay17, k0_pay5]
  simp only [dcb_apply H, dyc_apply H, H.hb, hS, ← EReal.coe_mul, sum_coe, ← EReal.coe_add, ScanReal.dc]

end Cert.ScanPay

end
-- ==== Proof.ScanSum.lean ====
/- The running sum along the last axis, as the host computes it: a window as long as the axis, padded below by one less. -/
module

public import Idealize.ShloMosaic.Lib.Pointwise
public import Idealize.ShloMosaic.PureOps.Ideal.Laws

@[expose] public section

noncomputable section

namespace Cert.ScanSum

open Idealize.ShloMosaic

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window sum from zero, over any window. -/
theorem window {s t u : Shape} (w st lo hi : Fin s.rank → Nat) (x : s.Idx → EReal) (init : u.Idx → EReal)
    (h : s.ReduceWindows w st lo hi t) (hu : 0 < u.numel) (h0 : ∀ i, init i = 0) (j : t.Idx) :
    Host.reduceWindowAdd (F := Ideal) (φ := .f32) w st lo hi x init h hu j
      = ∑ k : Shape.Idx ⟨s.rank, w⟩,
          if hin : ∀ a, lo a ≤ (j (a.cast h.1.symm)).val * st a + (k a).val ∧ (j (a.cast h.1.symm)).val * st a + (k a).val - lo a < s.size a
          then x (fun a => ⟨(j (a.cast h.1.symm)).val * st a + (k a).val - lo a, (hin a).2⟩) else 0 := by
  refine (foldl_add _ _ _).trans ?_
  rw [h0, zero_add, ← Fin.sum_univ_def]
  convert Equiv.sum_comp (Shape.rowMajor ⟨s.rank, w⟩).symm (fun k =>
    if hin : ∀ a, lo a ≤ (j (a.cast h.1.symm)).val * st a + (k a).val ∧ (j (a.cast h.1.symm)).val * st a + (k a).val - lo a < s.size a
    then x (fun a => ⟨(j (a.cast h.1.symm)).val * st a + (k a).val - lo a, (hin a).2⟩) else 0)

/-- The window's positions inside the axis are those up to the entry's own. -/
theorem shift {M : ℕ} (f : Fin (M + 1) → EReal) (j : Fin (M + 1)) :
    ∑ k : Fin (M + 1), (if M ≤ j.val + k.val then f ⟨j.val + k.val - M, by omega⟩ else 0) = ∑ i : Fin (M + 1), if i ≤ j then f i else 0 := by
  rw [← Finset.sum_filter, ← Finset.sum_filter]
  refine Finset.sum_bij' (fun k _ => ⟨j.val + k.val - M, by omega⟩)
    (fun i hi => ⟨i.val + M - j.val, by have := Fin.le_def.1 (Finset.mem_filter.1 hi).2; omega⟩) ?_ ?_ ?_ ?_ ?_
  · intro k hk
    have := (Finset.mem_filter.1 hk).2
    exact Finset.mem_filter.2 ⟨Finset.mem_univ _, Fin.le_def.2 (by simp; omega)⟩
  · intro i hi
    have := Fin.le_def.1 (Finset.mem_filter.1 hi).2
    exact Finset.mem_filter.2 ⟨Finset.mem_univ _, by simp; omega⟩
  · intro k hk
    have := (Finset.mem_filter.1 hk).2
    exact Fin.ext (by simp; omega)
  · intro i hi
    have := Fin.le_def.1 (Finset.mem_filter.1 hi).2
    exact Fin.ext (by simp; omega)
  · intro k hk
    rfl

variable {A B C M : ℕ}

/-- The window's positions. -/
def pos3 (N : ℕ) : Fin N ≃ Shape.Idx ⟨3, ![1, 1, N]⟩ where
  toFun k := ix3 0 0 k
  invFun i := i 2
  left_inv k := Eq.refl k
  right_inv i := by
    funext a
    fin_cases a
    · exact Subsingleton.elim (α := Fin 1) _ _
    · exact Subsingleton.elim (α := Fin 1) _ _
    · rfl

def pos4 (N : ℕ) : Fin N ≃ Shape.Idx ⟨4, ![1, 1, 1, N]⟩ where
  toFun k := ix4 0 0 0 k
  invFun i := i 3
  left_inv k := Eq.refl k
  right_inv i := by
    funext a
    fin_cases a
    · exact Subsingleton.elim (α := Fin 1) _ _
    · exact Subsingleton.elim (α := Fin 1) _ _
    · exact Subsingleton.elim (α := Fin 1) _ _
    · rfl

theorem cumsum3 {u : Shape} (x : (⟨3, ![A, B, M + 1]⟩ : Shape).Idx → EReal) (init : u.Idx → EReal)
    (h : (⟨3, ![A, B, M + 1]⟩ : Shape).ReduceWindows (![1, 1, M + 1] : Fin 3 → Nat) ![1, 1, 1] ![0, 0, M] ![0, 0, 0] ⟨3, ![A, B, M + 1]⟩)
    (hu : 0 < u.numel) (h0 : ∀ i, init i = 0) (a : Fin A) (b : Fin B) (j : Fin (M + 1)) :
    Host.reduceWindowAdd (F := Ideal) (φ := .f32) ![1, 1, M + 1] ![1, 1, 1] ![0, 0, M] ![0, 0, 0] x init h hu (ix3 a b j)
      = ∑ i : Fin (M + 1), if i ≤ j then x (ix3 a b i) else 0 := by
  rw [window _ _ _ _ _ _ _ _ h0, ← shift (fun i => x (ix3 a b i)) j]
  refine (Fintype.sum_equiv (pos3 (M + 1)) _ _ fun k => ?_).symm
  · rw [show pos3 (M + 1) k = ix3 0 0 k from rfl]
    by_cases hk : M ≤ j.val + k.val
    · rw [if_pos hk, dif_pos ?_]
      · refine congrArg x (funext fun e => Fin.ext ?_)
        fin_cases e <;> simp [ix3]
      · intro e
        fin_cases e <;> simp [ix3] <;> omega
    · rw [if_neg hk, dif_neg fun hin => hk ?_]
      have : M ≤ j.val * 1 + k.val := (hin 2).1
      omega

theorem cumsum4 {u : Shape} (x : (⟨4, ![A, B, C, M + 1]⟩ : Shape).Idx → EReal) (init : u.Idx → EReal)
    (h : (⟨4, ![A, B, C, M + 1]⟩ : Shape).ReduceWindows (![1, 1, 1, M + 1] : Fin 4 → Nat) ![1, 1, 1, 1] ![0, 0, 0, M] ![0, 0, 0, 0] ⟨4, ![A, B, C, M + 1]⟩)
    (hu : 0 < u.numel) (h0 : ∀ i, init i = 0) (a : Fin A) (b : Fin B) (c : Fin C) (j : Fin (M + 1)) :
    Host.reduceWindowAdd (F := Ideal) (φ := .f32) ![1, 1, 1, M + 1] ![1, 1, 1, 1] ![0, 0, 0, M] ![0, 0, 0, 0] x init h hu (ix4 a b c j)
      = ∑ i : Fin (M + 1), if i ≤ j then x (ix4 a b c i) else 0 := by
  rw [window _ _ _ _ _ _ _ _ h0, ← shift (fun i => x (ix4 a b c i)) j]
  refine (Fintype.sum_equiv (pos4 (M + 1)) _ _ fun k => ?_).symm
  · rw [show pos4 (M + 1) k = ix4 0 0 0 k from rfl]
    by_cases hk : M ≤ j.val + k.val
    · rw [if_pos hk, dif_pos ?_]
      · refine congrArg x (funext fun e => Fin.ext ?_)
        fin_cases e <;> simp [ix4]
      · intro e
        fin_cases e <;> simp [ix4] <;> omega
    · rw [if_neg hk, dif_neg fun hin => hk ?_]
      have : M ≤ j.val * 1 + k.val := (hin 3).1
      omega

end Cert.ScanSum

end
-- ==== Proof.ScanRef.lean ====
/- What the reference of the scan's backward pass computes, stage by stage over the reals. -/
module

public import proofs.«01_k».proof.Proof.ScanReal
public import proofs.«01_k».proof.Proof.ScanSum
public import proofs.«01_k».proof.Proof.Gen.ScanRefIdeal.Read

@[expose] public section

set_option maxRecDepth 16384

noncomputable section

namespace Cert.ScanRef

open Idealize.ShloMosaic Cert.Scalars Cert.ScanReal Cert.ScanRefIdeal Cert.ScanRefIdeal.Read Cert.ScanRefIdeal.Gen

variable {x0 : (⟨S16384x3072, .bf16⟩ : BufTy).Contents (Elt Ideal)} {x1 : (⟨S16384x32, .f32⟩ : BufTy).Contents (Elt Ideal)}
  {x2 : (⟨S32, .f32⟩ : BufTy).Contents (Elt Ideal)} {x3 : (⟨S16384x2048, .bf16⟩ : BufTy).Contents (Elt Ideal)}

/-- The arguments' entries are real. -/
structure Args (x0 : (⟨S16384x3072, .bf16⟩ : BufTy).Contents (Elt Ideal)) (x1 : (⟨S16384x32, .f32⟩ : BufTy).Contents (Elt Ideal))
    (x2 : (⟨S32, .f32⟩ : BufTy).Contents (Elt Ideal)) (x3 : (⟨S16384x2048, .bf16⟩ : BufTy).Contents (Elt Ideal)) (I : Data) : Prop where
  ha : ∀ t k, x0 (ix2 t k) = ((I.a t k : ℝ) : EReal)
  ht : ∀ t h, x1 (ix2 t h) = ((I.dt t h : ℝ) : EReal)
  hr : ∀ h, x2 (ix1 h) = ((I.al h : ℝ) : EReal)
  hy : ∀ t k, x3 (ix2 t k) = ((I.dy t k : ℝ) : EReal)

variable {I : Data}

theorem coe_ite (p : Prop) [Decidable p] (x : ℝ) : (if p then ((x : ℝ) : EReal) else 0) = ((if p then x else 0 : ℝ) : EReal) := by
  split_ifs <;> simp

theorem v10 (H : Args x0 x1 x2 x3 I) (c l : Fin 128) (g : Fin 4) (e : Fin 8) (p : Fin 64) :
    val_main_v10 (F := Ideal) x0 x1 (ix5 c l g e p) = ((xdt (I.X g c) (I.T g c) l (ln e p) : ℝ) : EReal) := by
  pointwise [val_main_v10, val_main_v9, val_main_v8, val_main_v7, val_main_v6, val_main_v1, val_main_v0]
  rw [H.ha, H.ht, ← EReal.coe_mul, xdt, he_ln, Data.T_em]
  congr 3
  exact Fin.ext (by simp [ln]; omega)

theorem v16 (H : Args x0 x1 x2 x3 I) (c l : Fin 128) (g : Fin 4) (n : Fin 128) :
    val_main_v16 (F := Ideal) x0 (ix4 c l g n) = ((I.B g c l n : ℝ) : EReal) := by
  pointwise [val_main_v16, val_main_v2, val_main_v0]
  exact H.ha _ _

theorem v17 (H : Args x0 x1 x2 x3 I) (c l : Fin 128) (g : Fin 4) (n : Fin 128) :
    val_main_v17 (F := Ideal) x0 (ix4 c l g n) = ((I.C g c l n : ℝ) : EReal) := by
  pointwise [val_main_v17, val_main_v3, val_main_v0]
  exact H.ha _ _

theorem v74 (H : Args x0 x1 x2 x3 I) (c l : Fin 128) (g : Fin 4) (e : Fin 8) (p : Fin 64) :
    val_main_v74 (F := Ideal) x3 (ix5 c l g e p) = ((I.D g c l (ln e p) : ℝ) : EReal) := by
  pointwise [val_main_v74, val_main_v73]
  rw [H.hy]
  congr 2
  exact Fin.ext (by simp [ln]; omega)

/-- The running sum inside a chunk. -/
theorem v18 (H : Args x0 x1 x2 x3 I) (c l : Fin 128) (g : Fin 4) (e : Fin 8) :
    val_main_v18 (F := Ideal) x1 x2 (ix4 g e c l) = ((I.A g c l (em e) : ℝ) : EReal) := by
  refine (ScanSum.cumsum4 _ _ _ _ (fun i => ?_) g e c l).trans ?_
  · pointwise [val_main_call0_call0_v0, val_main_call0_call0_cst]
  · rw [Data.A, acs, ← sum_coe]
    refine Finset.sum_congr rfl fun s _ => ?_
    pointwise [val_main_v15, val_main_v14, val_main_v13, val_main_v12, val_main_v11, val_main_v5, val_main_v4]
    rw [H.ht, H.hr, Ideal.exp_coe, ← EReal.coe_neg, ← EReal.coe_mul, coe_ite, Data.T_em, Data.rate_em]
    congr 1
    rw [zero_sub, ite_mul, one_mul, zero_mul]
    rfl

/-- Below the diagonal the value, above it minus infinity. -/
theorem mask_lit : Ideal.ofBits .f32 0xFF800000#32 = (⊥ : EReal) := by
  simp [Ideal.ofBits, Ideal.ieee]

theorem sge_iff {N : ℕ} (h : N ≤ 129) (r q : Fin N) :
    Scalar.select (IntOp.cmpi CmpIPredicate.sge (IntOp.addi (BitVec.ofNat 32 r.val) 0#32) (BitVec.ofNat 32 q.val)) 1#1 0#1 = (1 : BitVec 1) ↔ q ≤ r := by
  have e : (BitVec.ofNat 32 q.val).sle (IntOp.addi (BitVec.ofNat 32 r.val) 0#32) ↔ q ≤ r := by
    rw [IntOp.addi, BitVec.add_zero, BitVec.sle_iff_toInt_le, BitVec.toInt_eq_toNat_of_lt (by simp; omega), BitVec.toInt_eq_toNat_of_lt (by simp; omega)]
    simp
    omega
  rw [← e, Scalar.select, IntOp.cmpi]
  cases (BitVec.ofNat 32 q.val).sle (IntOp.addi (BitVec.ofNat 32 r.val) 0#32) <;> decide

theorem v57 (H : Args x0 x1 x2 x3 I) (c j k : Fin 128) (g : Fin 4) (e : Fin 8) :
    val_main_v57 (F := Ideal) x1 x2 (ix5 g e c j k) = ((dec (I.A g c) (em e) j k : ℝ) : EReal) := by
  pointwise [val_main_v57, val_main_v56, val_main_call5_v1, val_main_v55, val_main_call4_v4, val_main_call4_v3, val_main_call4_v2,
    val_main_call4_v1, val_main_call4_v0, val_main_call4_c, val_main_call4_c_0, val_main_v54, val_main_c_3, val_main_call4_v5,
    val_main_call5_v2, val_main_call5_v0, val_main_v53, val_main_v52, val_main_v51, val_main_v50, val_main_v49]
  rw [Scalar.select, if_congr (sge_iff (by omega) j k) rfl rfl, v18 H, v18 H, ← EReal.coe_sub, dec]
  split_ifs
  · exact Ideal.exp_coe _
  · rw [show id (val_main_cst_4 (F := Ideal)) ix0 = (⊥ : EReal) from mask_lit]
    exact Ideal.exp_bot

theorem v26 (H : Args x0 x1 x2 x3 I) (c l : Fin 128) (g : Fin 4) (e : Fin 8) (p : Fin 64) :
    val_main_v26 (F := Ideal) x0 x1 x2 (ix5 c l g e p)
      = ((toEnd (I.A g c) l (ln e p) * xdt (I.X g c) (I.T g c) l (ln e p) : ℝ) : EReal) := by
  pointwise [val_main_v26, val_main_v25, val_main_v24, val_main_v23, val_main_v22, val_main_v21, val_main_v20, val_main_v19]
  rw [v18 H, v18 H, v10 H, ← EReal.coe_sub, Ideal.exp_coe, ← EReal.coe_mul, toEnd, he_ln]

theorem v27 (H : Args x0 x1 x2 x3 I) (c n : Fin 128) (g : Fin 4) (e : Fin 8) (p : Fin 64) :
    val_main_v27 (F := Ideal) x0 x1 x2 (ix5 c g e p n) = ((I.own g c n (ln e p) : ℝ) : EReal) := by
  pointwise [val_main_v27]
  simp only [v26 H, v16 H, ← EReal.coe_mul, sum_coe]
  rfl

/-- The running sum over the chunks. -/
theorem v36 (H : Args x0 x1 x2 x3 I) (z : Fin 129) (g : Fin 4) (e : Fin 8) :
    val_main_v36 (F := Ideal) x1 x2 (ix3 g e z) = ((I.cum g z.val (em e) : ℝ) : EReal) := by
  refine (ScanSum.cumsum3 _ _ _ _ (fun i => ?_) g e z).trans ?_
  · pointwise [val_main_call1_call0_v0, val_main_call1_call0_cst]
  · rw [Fin.sum_univ_succ, Data.cum, ← sum_coe]
    have h : ∀ i : Fin 128, (if i.succ ≤ z then val_main_v35 (F := Ideal) x1 x2 (ix3 g e i.succ) else 0)
        = ((if i.val < z.val then I.A g i 127 (em e) else 0 : ℝ) : EReal) := fun i => by
      have : val_main_v35 (F := Ideal) x1 x2 (ix3 g e i.succ) = ((I.A g i 127 (em e) : ℝ) : EReal) := by
        pointwise [val_main_v35, val_main_v34, val_main_v33]
        rw [dif_neg (by simp)]
        exact v18 H _ _ _ _
      rw [this, coe_ite]
      exact congrArg _ (if_congr (by rw [Fin.le_def]; simp <;> omega) rfl rfl)
    have h0 : val_main_v35 (F := Ideal) x1 x2 (ix3 g e 0) = 0 := by
      pointwise [val_main_v35, val_main_v32, val_main_cst_1]
    rw [h0, ite_self, zero_add]
    exact Finset.sum_congr rfl fun i _ => h i

theorem v45 (H : Args x0 x1 x2 x3 I) (j k : Fin 129) (g : Fin 4) (e : Fin 8) :
    val_main_v45 (F := Ideal) x1 x2 (ix4 g e j k) = ((I.dch g j.val k.val (em e) : ℝ) : EReal) := by
  pointwise [val_main_v45, val_main_v44, val_main_call3_v1, val_main_v43, val_main_call2_v4, val_main_call2_v3, val_main_call2_v2,
    val_main_call2_v1, val_main_call2_v0, val_main_call2_c, val_main_call2_c_0, val_main_v42, val_main_c, val_main_call2_v5,
    val_main_call3_v2, val_main_call3_v0, val_main_v41, val_main_v40, val_main_v39, val_main_v38, val_main_v37]
  rw [Scalar.select, if_congr (sge_iff le_rfl j k) rfl rfl, v36 H, v36 H, ← EReal.coe_sub, Data.dch, if_congr Fin.le_def rfl rfl]
  split_ifs
  · exact Ideal.exp_coe _
  · rw [show id (val_main_cst_2 (F := Ideal)) ix0 = (⊥ : EReal) from mask_lit]
    exact Ideal.exp_bot

/-- The state before a chunk. -/
theorem v48 (H : Args x0 x1 x2 x3 I) (z n : Fin 128) (g : Fin 4) (e : Fin 8) (p : Fin 64) :
    val_main_v48 (F := Ideal) x0 x1 x2 (ix5 z g e p n) = ((I.state g z n (ln e p) : ℝ) : EReal) := by
  pointwise [val_main_v48, val_main_v47, val_main_v46]
  rw [Fin.sum_univ_succ, Data.state, ← sum_coe]
  have h0 : val_main_v30 (F := Ideal) x0 x1 x2 (ix5 0 g e p n) = 0 := by
    pointwise [val_main_v30, val_main_v29, val_main_cst]
  rw [h0, zero_mul, zero_add]
  refine Finset.sum_congr rfl fun i _ => ?_
  have h : val_main_v30 (F := Ideal) x0 x1 x2 (ix5 i.succ g e p n) = ((I.own g i n (ln e p) : ℝ) : EReal) := by
    pointwise [val_main_v30]
    rw [dif_neg (by simp)]
    exact v27 H _ _ _ _ _
  rw [h, v45 H, ← EReal.coe_mul, he_ln]
  rfl

theorem v76 (H : Args x0 x1 x2 x3 I) (c l : Fin 128) (g : Fin 4) (e : Fin 8) (p : Fin 64) :
    val_main_v76 (F := Ideal) x1 x2 x3 (ix5 c l g e p) = ((dyc (I.D g c) (I.A g c) l (ln e p) : ℝ) : EReal) := by
  pointwise [val_main_v76, val_main_v75, val_main_v68, val_main_v67, val_main_v66]
  rw [v74 H, v18 H, Ideal.exp_coe, ← EReal.coe_mul, dyc, he_ln]

theorem v85 (H : Args x0 x1 x2 x3 I) (c l : Fin 128) (g : Fin 4) (e : Fin 8) (p : Fin 64) :
    val_main_v85 (F := Ideal) x0 x1 x2 x3 (ix5 c l g e p)
      = ((∑ k, I.D g c k (ln e p) * (cb (I.B g c) (I.C g c) k l * dec (I.A g c) (em e) k l) : ℝ) : EReal) := by
  pointwise [val_main_v85, val_main_v84, val_main_v81, val_main_v61, val_main_v60, val_main_v59, val_main_v58]
  simp only [v74 H, v17 H, v16 H, v57 H, ← EReal.coe_mul, sum_coe]
  rfl

theorem v89 (H : Args x0 x1 x2 x3 I) (c l s : Fin 128) (g : Fin 4) :
    val_main_v89 (F := Ideal) x0 x1 x2 x3 (ix4 g c l s) = ((dcb (I.X g c) (I.D g c) (I.T g c) (I.A g c) l s : ℝ) : EReal) := by
  pointwise [val_main_v89, val_main_v88, val_main_v87, val_main_v86, val_main_v83, val_main_v82, val_main_v81, val_main_cst_5, val_main_cst_6]
  simp only [v74 H, v10 H, v57 H, ← EReal.coe_mul, sum_coe]
  rw [dcb, sum_ln]
  simp only [he_ln, Finset.sum_mul, Fin.sum_univ_one]

theorem v94 (H : Args x0 x1 x2 x3 I) (c l n : Fin 128) (g : Fin 4) :
    val_main_v94 (F := Ideal) x0 x1 x2 x3 (ix4 c l g n) = ((I.outC g c l n : ℝ) : EReal) := by
  pointwise [val_main_v94, val_main_v93, val_main_v92, val_main_v79, val_main_v78, val_main_v77]
  simp only [v76 H, v48 H, v89 H, v16 H, ← EReal.coe_mul, sum_coe, ← EReal.coe_add, Data.outC, dc, sum_ln]

/-- The cotangent of the state after a chunk. -/
theorem v99 (H : Args x0 x1 x2 x3 I) (c n : Fin 128) (g : Fin 4) (e : Fin 8) (p : Fin 64) :
    val_main_v99 (F := Ideal) x0 x1 x2 x3 (ix5 c g e p n) = ((I.sbar g (c.val + 1) n (ln e p) : ℝ) : EReal) := by
  pointwise [val_main_v99, val_main_v97, val_main_v96, val_main_v95, val_main_v80, val_main_v77, val_main_v46]
  simp only [v76 H, v17 H, v45 H, ← EReal.coe_mul, sum_coe, Data.sbar, Data.bar, pbar, he_ln]
  rw [Nat.add_comm 1]

theorem v102 (H : Args x0 x1 x2 x3 I) (c l n : Fin 128) (g : Fin 4) :
    val_main_v102 (F := Ideal) x0 x1 x2 x3 (ix4 c l g n) = ((I.outB g c l n : ℝ) : EReal) := by
  pointwise [val_main_v102, val_main_v101, val_main_v100, val_main_v91, val_main_v90]
  simp only [v89 H, v17 H, v99 H, v26 H, ← EReal.coe_mul, sum_coe, ← EReal.coe_add]
  rw [Data.outB, db, sum_ln, add_comm]
  simp only [mul_comm (toEnd _ _ _)]

theorem v107 (H : Args x0 x1 x2 x3 I) (c l : Fin 128) (g : Fin 4) (e : Fin 8) (p : Fin 64) :
    val_main_v107 (F := Ideal) x0 x1 x2 x3 (ix5 c l g e p) * ((I.T g c l (em e) : ℝ) : EReal) = ((I.outX g c l (ln e p) : ℝ) : EReal) := by
  pointwise [val_main_v107, val_main_v106, val_main_v105, val_main_v104, val_main_v103, val_main_v24, val_main_v23, val_main_v22,
    val_main_v21, val_main_v20, val_main_v19]
  simp only [v85 H, v18 H, v99 H, v16 H, ← EReal.coe_sub, Ideal.exp_coe, ← EReal.coe_mul, sum_coe, ← EReal.coe_add]
  rw [Data.outX, dx, he_ln, toEnd, he_ln, add_comm, mul_comm (Real.exp _)]

/-- The three results, at a position of a chunk and a lane of a group. -/
theorem v114 (H : Args x0 x1 x2 x3 I) (c l : Fin 128) (g : Fin 4) (q : Fin 512) :
    val_main_v114 (F := Ideal) x0 x1 x2 x3 (ix2 (tok c l) ⟨g.val * 512 + q.val, by omega⟩) = ((I.outX g c l q : ℝ) : EReal) := by
  obtain ⟨e, p, rfl⟩ := exists_ln q
  pointwise [val_main_v114, val_main_v113, val_main_v112, val_main_v111, val_main_v110, val_main_v7]
  rw [← v107 H, Data.T_em, ← H.ht]
  congr 3 <;> exact Fin.ext (by simp [ln, tok] <;> omega)

theorem v115 (H : Args x0 x1 x2 x3 I) (c l n : Fin 128) (g : Fin 4) :
    val_main_v115 (F := Ideal) x0 x1 x2 x3 (ix2 (tok c l) ⟨g.val * 128 + n.val, by omega⟩) = ((I.outB g c l n : ℝ) : EReal) := by
  pointwise [val_main_v115, val_main_v109]
  rw [← v102 H]
  congr 2 <;> exact Fin.ext (by simp [tok] <;> omega)

theorem v116 (H : Args x0 x1 x2 x3 I) (c l n : Fin 128) (g : Fin 4) :
    val_main_v116 (F := Ideal) x0 x1 x2 x3 (ix2 (tok c l) ⟨g.val * 128 + n.val, by omega⟩) = ((I.outC g c l n : ℝ) : EReal) := by
  pointwise [val_main_v116, val_main_v108]
  rw [← v94 H]
  congr 2 <;> exact Fin.ext (by simp [tok] <;> omega)

end Cert.ScanRef

end
-- ==== Proof.ScanHost.lean ====
/- What the scan's program computes on the host before its region, segment by segment: the states before the chunks are
   the reference's, the step sizes and the rates are padded to 128 heads. -/
module

public import proofs.«01_k».proof.Proof.Gen.ScanIdeal.Frame
public import proofs.«01_k».proof.Proof.Gen.ScanRefIdeal.Read

@[expose] public section

set_option maxRecDepth 16384

noncomputable section

namespace Cert.ScanHost

open Cert.ScanIdeal Cert.ScanIdeal.Gen Cert.ScanRefIdeal.Read Idealize.ShloMosaic Idealize.ShloMosaic.TcCoe Idealize.SL.Sem

variable (σ : Valuation τ sig (Elt Ideal))
  {x0 : (⟨S16384x3072, .bf16⟩ : BufTy).Contents (Elt Ideal)} {x1 : (⟨S16384x32, .f32⟩ : BufTy).Contents (Elt Ideal)}
  {x2 : (⟨S32, .f32⟩ : BufTy).Contents (Elt Ideal)}

theorem s0_v15 (h1 : σ (Proc.devRef .tc main_arg1) = x1) (h2 : σ (Proc.devRef .tc main_arg2) = x2) :
    StableHlo.after hostOps0 σ (Proc.devRef .tc main_v15) = val_main_v15 (F := Ideal) x1 x2 := by
  entry_read
  rw [h1, h2]
  rfl

theorem s0_v10 (h0 : σ (Proc.devRef .tc main_arg0) = x0) (h1 : σ (Proc.devRef .tc main_arg1) = x1) :
    StableHlo.after hostOps0 σ (Proc.devRef .tc main_v10) = val_main_v10 (F := Ideal) x0 x1 := by
  entry_read
  rw [h0, h1]
  rfl

theorem s0_v16 (h0 : σ (Proc.devRef .tc main_arg0) = x0) :
    StableHlo.after hostOps0 σ (Proc.devRef .tc main_v16) = val_main_v16 (F := Ideal) x0 := by
  entry_read
  rw [h0]
  rfl

theorem s1_v18 (h15 : σ (Proc.devRef .tc main_v15) = val_main_v15 (F := Ideal) x1 x2) :
    StableHlo.after hostOps0_1 σ (Proc.devRef .tc main_v18) = val_main_v18 (F := Ideal) x1 x2 := by
  entry_read
  rw [h15]
  rfl

theorem s2_v30 (h0 : σ (Proc.devRef .tc main_v10) = val_main_v10 (F := Ideal) x0 x1) (h1 : σ (Proc.devRef .tc main_v16) = val_main_v16 (F := Ideal) x0) (h2 : σ (Proc.devRef .tc main_v18) = val_main_v18 (F := Ideal) x1 x2) :
    StableHlo.after hostOps0_2 σ (Proc.devRef .tc main_v30) = val_main_v30 (F := Ideal) x0 x1 x2 := by
  entry_read
  rw [h0, h1, h2]
  rfl

theorem s2_v34 (h0 : σ (Proc.devRef .tc main_v18) = val_main_v18 (F := Ideal) x1 x2) :
    StableHlo.after hostOps0_2 σ (Proc.devRef .tc main_v34) = val_main_v35 (F := Ideal) x1 x2 := by
  entry_read
  rw [h0]
  rfl

theorem s3_v35 (h0 : σ (Proc.devRef .tc main_v34) = val_main_v35 (F := Ideal) x1 x2) :
    StableHlo.after hostOps0_3 σ (Proc.devRef .tc main_v35) = val_main_v36 (F := Ideal) x1 x2 := by
  entry_read
  rw [h0]
  rfl

theorem s4_v40 (h0 : σ (Proc.devRef .tc main_v35) = val_main_v36 (F := Ideal) x1 x2) :
    StableHlo.after hostOps0_4 σ (Proc.devRef .tc main_v40) = val_main_v41 (F := Ideal) x1 x2 := by
  entry_read
  rw [h0]
  rfl

theorem s4_v41 : StableHlo.after hostOps0_4 σ (Proc.devRef .tc main_v41) = val_main_v42 (F := Ideal) := by
  entry_read
  rfl

theorem s5_v42 (h0 : σ (Proc.devRef .tc main_v41) = val_main_v42 (F := Ideal)) :
    StableHlo.after hostOps0_5 σ (Proc.devRef .tc main_v42) = val_main_v43 (F := Ideal) := by
  entry_read
  rw [h0]
  rfl

theorem s6_cst : StableHlo.after hostOps0_6 σ (Proc.devRef .tc main_cst_1) = val_main_cst_2 (F := Ideal) := by
  entry_read
  rfl

theorem s7_v43 (h0 : σ (Proc.devRef .tc main_v42) = val_main_v43 (F := Ideal)) (h1 : σ (Proc.devRef .tc main_v40) = val_main_v41 (F := Ideal) x1 x2) (h2 : σ (Proc.devRef .tc main_cst_1) = val_main_cst_2 (F := Ideal)) :
    StableHlo.after hostOps0_7 σ (Proc.devRef .tc main_v43) = val_main_v44 (F := Ideal) x1 x2 := by
  entry_read
  rw [h0, h1, h2]
  rfl

theorem s8_v47 (h0 : σ (Proc.devRef .tc main_v43) = val_main_v44 (F := Ideal) x1 x2) (h1 : σ (Proc.devRef .tc main_v30) = val_main_v30 (F := Ideal) x0 x1 x2) :
    StableHlo.after hostOps0_8 σ (Proc.devRef .tc main_v47) = val_main_v48 (F := Ideal) x0 x1 x2 := by
  entry_read
  rw [h0, h1]
  rfl

theorem s8_v49 : StableHlo.after hostOps0_8 σ (Proc.devRef .tc main_v49)
    = shapeCast S4x128x128x512 (transpose S4x128x128x8x64 [1, 0, 4, 2, 3] (StableHlo.after hostOps0_8 σ (Proc.devRef .tc main_v47))
        transposes_S128x4x8x64x128_S4x128x128x8x64_1_0_4_2_3) shapeCasts_S4x128x128x8x64_S4x128x128x512 := by
  entry_read
  rfl

/-- What the later segments leave as it was. -/
theorem keep_v30 : StableHlo.after hostOps0_7 (StableHlo.after hostOps0_6 (StableHlo.after hostOps0_5 (StableHlo.after hostOps0_4
    (StableHlo.after hostOps0_3 σ)))) (Proc.devRef .tc main_v30) = σ (Proc.devRef .tc main_v30) := by
  entry_read
  rfl

theorem keep_v40 : StableHlo.after hostOps0_6 (StableHlo.after hostOps0_5 σ) (Proc.devRef .tc main_v40) = σ (Proc.devRef .tc main_v40) := by
  entry_read
  rfl

theorem keep_v42 : StableHlo.after hostOps0_6 σ (Proc.devRef .tc main_v42) = σ (Proc.devRef .tc main_v42) := by
  entry_read
  rfl

theorem keep_v10 : StableHlo.after hostOps0_1 σ (Proc.devRef .tc main_v10) = σ (Proc.devRef .tc main_v10) := by
  entry_read
  rfl

theorem keep_v16 : StableHlo.after hostOps0_1 σ (Proc.devRef .tc main_v16) = σ (Proc.devRef .tc main_v16) := by
  entry_read
  rfl

theorem after_append (a b : List (HloOp τ sig (Elt Ideal))) : StableHlo.after (a ++ b) σ = StableHlo.after b (StableHlo.after a σ) := by
  induction a generalizing σ with
  | nil => rfl
  | cons op a ih => exact ih _

/-- The states before the chunks are the reference's. -/
theorem states (m : (ℓ : Loc nD τ sig) → Buf (Elt Ideal) ℓ) (c : Dev nD) : V m c main_v47
    = val_main_v48 (F := Ideal) (m ((c : Thread nD τ).loc main_arg0)) (m ((c : Thread nD τ).loc main_arg1)) (m ((c : Thread nD τ).loc main_arg2)) := by
  simp only [V, List.flatten_cons, List.flatten_nil, after_append, StableHlo.after_nil]
  have h18 := s1_v18 _ (s0_v15 (fun b => m (c, b)) rfl rfl)
  have h30 := s2_v30 _ ((keep_v10 _).trans (s0_v10 (fun b => m (c, b)) rfl rfl)) ((keep_v16 _).trans (s0_v16 (fun b => m (c, b)) rfl)) h18
  have h40 := s4_v40 _ (s3_v35 _ (s2_v34 _ h18))
  refine s8_v47 _ (s7_v43 _ ?_ ?_ (s6_cst _)) ?_
  · exact (keep_v42 _).trans (s5_v42 _ (s4_v41 _))
  · exact (keep_v40 _).trans h40
  · exact (keep_v30 _).trans h30

theorem v49_eq (m : (ℓ : Loc nD τ sig) → Buf (Elt Ideal) ℓ) (c : Dev nD) : V m c main_v49
    = shapeCast S4x128x128x512 (transpose S4x128x128x8x64 [1, 0, 4, 2, 3] (V m c main_v47)
        transposes_S128x4x8x64x128_S4x128x128x8x64_1_0_4_2_3) shapeCasts_S4x128x128x8x64_S4x128x128x512 := by
  simp only [V, List.flatten_cons, List.flatten_nil, after_append, StableHlo.after_nil]
  exact s8_v49 _

theorem s8_v53 : StableHlo.after hostOps0_8 σ (Proc.devRef .tc main_v53)
    = concatenate S4x16384x128 2 [⟨S4x16384x8, transpose S4x16384x8 [1, 0, 2] (shapeCast S16384x4x8 (StableHlo.after hostOps0_8 σ (Proc.devRef .tc main_arg1))
        shapeCasts_S16384x32_S16384x4x8) transposes_S16384x4x8_S4x16384x8_1_0_2⟩,
      ⟨S4x16384x120, broadcastInDim S4x16384x120 ![] bcast_S_S4x16384x120 (constant (F := Ideal) S_ .f32 0x00000000#32)⟩]
      concatenates_S4x16384x8_S4x16384x120_S4x16384x128_d2 := by
  entry_read
  rfl

theorem s8_v56 : StableHlo.after hostOps0_8 σ (Proc.devRef .tc main_v56)
    = concatenate S4x1x128 2 [⟨S4x1x8, shapeCast S4x1x8 (StableHlo.after hostOps0_8 σ (Proc.devRef .tc main_arg2)) shapeCasts_S32_S4x1x8⟩,
      ⟨S4x1x120, broadcastInDim S4x1x120 ![] bcast_S_S4x1x120 (constant (F := Ideal) S_ .f32 0x00000000#32)⟩]
      concatenates_S4x1x8_S4x1x120_S4x1x128_d2 := by
  entry_read
  rfl

theorem v53_eq (m : (ℓ : Loc nD τ sig) → Buf (Elt Ideal) ℓ) (c : Dev nD) : V m c main_v53
    = concatenate S4x16384x128 2 [⟨S4x16384x8, transpose S4x16384x8 [1, 0, 2] (shapeCast S16384x4x8 (m ((c : Thread nD τ).loc main_arg1))
        shapeCasts_S16384x32_S16384x4x8) transposes_S16384x4x8_S4x16384x8_1_0_2⟩,
      ⟨S4x16384x120, broadcastInDim S4x16384x120 ![] bcast_S_S4x16384x120 (constant (F := Ideal) S_ .f32 0x00000000#32)⟩]
      concatenates_S4x16384x8_S4x16384x120_S4x16384x128_d2 := by
  rw [← V_main_arg1 m c]
  simp only [V, List.flatten_cons, List.flatten_nil, after_append, StableHlo.after_nil]
  exact s8_v53 _

theorem v56_eq (m : (ℓ : Loc nD τ sig) → Buf (Elt Ideal) ℓ) (c : Dev nD) : V m c main_v56
    = concatenate S4x1x128 2 [⟨S4x1x8, shapeCast S4x1x8 (m ((c : Thread nD τ).loc main_arg2)) shapeCasts_S32_S4x1x8⟩,
      ⟨S4x1x120, broadcastInDim S4x1x120 ![] bcast_S_S4x1x120 (constant (F := Ideal) S_ .f32 0x00000000#32)⟩]
      concatenates_S4x1x8_S4x1x120_S4x1x128_d2 := by
  rw [← V_main_arg2 m c]
  simp only [V, List.flatten_cons, List.flatten_nil, after_append, StableHlo.after_nil]
  exact s8_v56 _

end Cert.ScanHost

end
-- ==== Proof.ScanOut.lean ====
/- The arrays the scan's backward pass leaves, as functions of its arguments: what each point reads, the cotangent of the
   state it carries from point to point, and the results put together from the points' blocks. -/
module

public import proofs.«01_k».proof.Proof.ScanBlocks
public import proofs.«01_k».proof.Proof.ScanEntry
public import proofs.«01_k».proof.Proof.ScanRef
public import proofs.«01_k».proof.Proof.ScanHost
import Idealize.ShloMosaic.Lib.Pipeline.ValueKit

@[expose] public section

set_option maxRecDepth 16384

noncomputable section

namespace Cert.ScanOut

open Cert.ScanIdeal Cert.ScanIdeal.Gen Idealize.ShloMosaic Idealize.ShloMosaic.TcCoe Idealize.SL.Sem Cert.Scalars Cert.ScanReal
open Cert.ScanBlocks (idx)

variable {m : (ℓ : Loc nD τ sig) → Buf (Elt Ideal) ℓ} {c : Dev nD} {I : Data}

/-- The arguments of the program hold these reals. -/
abbrev Holds (m : (ℓ : Loc nD τ sig) → Buf (Elt Ideal) ℓ) (c : Dev nD) (I : Data) : Prop :=
  ScanRef.Args (m ((c : Thread nD τ).loc main_arg0)) (m ((c : Thread nD τ).loc main_arg1)) (m ((c : Thread nD τ).loc main_arg2))
    (m ((c : Thread nD τ).loc main_arg3)) I

variable (H : Holds m c I)

include H

theorem dt_entry (g : Fin 4) (k r e : Fin 128) : V m c main_v53 (ix3 g (tok k r) e) = ((I.T g k r e : ℝ) : EReal) := by
  rw [ScanHost.v53_eq]
  pointwise
  rw [Data.T]
  split_ifs
  · rw [H.ht]
  · rfl

theorem rate_entry (g : Fin 4) (e : Fin 128) : V m c main_v56 (ix3 g 0 e) = ((I.rate g e : ℝ) : EReal) := by
  rw [ScanHost.v56_eq]
  pointwise
  rw [Data.rate]
  split_ifs
  · rw [H.hr]
  · rfl

theorem state_entry (g : Fin 4) (k n : Fin 128) (q : Fin 512) :
    V m c main_v49 (ix4 g k n q) = ((I.state g k n q : ℝ) : EReal) := by
  obtain ⟨e, p, rfl⟩ := exists_ln q
  refine Eq.trans ?_ (ScanRef.v48 H k n g e p)
  rw [ScanHost.v49_eq, ScanHost.states]
  pointwise
  congr 2 <;> exact Fin.ext (by simp [ln] <;> omega)

omit H in
/-- The group of heads and the chunk of a point: the chunks run backwards. -/
def grp (t : Fin cfg0.N) : Fin 4 := ⟨t.val / 128, by have h : t.val < 512 := t.isLt; omega⟩
omit H in
def chk (t : Fin cfg0.N) : Fin 128 := ⟨127 - t.val % 128, by omega⟩

omit H

theorem at0 (t : Fin cfg0.N) (r : Fin 128) (q : Fin 512) : (win0_0.blk t).view.emb (ix2 r q) = ix2 (tok (chk t) r) ⟨(grp t).val * 512 + q.val, by omega⟩ := by
  blk_ext [idx t, tok, chk, grp]

theorem at1 (t : Fin cfg0.N) (r n : Fin 128) : (win0_1.blk t).view.emb (ix2 r n) = ix2 (tok (chk t) r) ⟨2048 + ((grp t).val * 128 + n.val), by omega⟩ := by
  blk_ext [idx t, tok, chk, grp]

theorem at2 (t : Fin cfg0.N) (r n : Fin 128) : (win0_2.blk t).view.emb (ix2 r n) = ix2 (tok (chk t) r) ⟨2560 + ((grp t).val * 128 + n.val), by omega⟩ := by
  blk_ext [idx t, tok, chk, grp]

theorem at3 (t : Fin cfg0.N) (r e : Fin 128) : (win0_3.blk t).view.emb (ix3 0 r e) = ix3 (grp t) (tok (chk t) r) e := by
  blk_ext [idx t, tok, chk, grp]

theorem at4 (t : Fin cfg0.N) (e : Fin 128) : (win0_4.blk t).view.emb (ix3 0 0 e) = ix3 (grp t) 0 e := by
  blk_ext [idx t, tok, chk, grp]

theorem at5 (t : Fin cfg0.N) (n : Fin 128) (q : Fin 512) : (win0_5.blk t).view.emb (ix4 0 0 n q) = ix4 (grp t) (chk t) n q := by
  blk_ext [idx t, tok, chk, grp]

theorem at6 (t : Fin cfg0.N) (r : Fin 128) (q : Fin 512) : (win0_6.blk t).view.emb (ix2 r q) = ix2 (tok (chk t) r) ⟨(grp t).val * 512 + q.val, by omega⟩ := by
  blk_ext [idx t, tok, chk, grp]

/-- A block is its array read through the window. -/
theorem read_arg0 (t : Fin cfg0.N) (y : S128x512.Idx) : iblk m c 0 t y = V m c main_arg0 ((win0_0.blk t).view.emb y) := by
  blk_simp [iblk]

theorem read_b (t : Fin cfg0.N) (y : S128x128.Idx) : iblk m c 1 t y = V m c main_arg0 ((win0_1.blk t).view.emb y) := by
  blk_simp [iblk]

theorem read_c (t : Fin cfg0.N) (y : S128x128.Idx) : iblk m c 2 t y = V m c main_arg0 ((win0_2.blk t).view.emb y) := by
  blk_simp [iblk]

theorem read_dt (t : Fin cfg0.N) (y : S1x128x128.Idx) : iblk m c 3 t y = V m c main_v53 ((win0_3.blk t).view.emb y) := by
  blk_simp [iblk]

theorem read_rate (t : Fin cfg0.N) (y : S1x1x128.Idx) : iblk m c 4 t y = V m c main_v56 ((win0_4.blk t).view.emb y) := by
  blk_simp [iblk]

theorem read_dy (t : Fin cfg0.N) (y : S128x512.Idx) : iblk m c 6 t y = V m c main_arg3 ((win0_6.blk t).view.emb y) := by
  blk_simp [iblk]

/-- The states' block, for any contents of the arrays. -/
theorem read_any (t : Fin cfg0.N) (y : S1x1x128x512.Idx) (v : (b : Ref sig .tc) → Buf (Elt Ideal) ((c : Thread nD τ).loc b)) :
    ((cfg0.win 5).blk t).view.read (Elt Ideal) (v (Pipeline.arrRef spec0 5)) y = v main_v49 ((win0_5.blk t).view.emb y) := rfl

theorem read_state (t : Fin cfg0.N) (y : S1x1x128x512.Idx) : iblk m c 5 t y = V m c main_v49 ((win0_5.blk t).view.emb y) :=
  read_any t y (V m c)

include H

/-- A point's blocks hold its chunk of its group. -/
theorem reads (t : Fin cfg0.N) : ScanPay.Reads (iblk m c 0 t) (iblk m c 1 t) (iblk m c 2 t) (iblk m c 3 t) (iblk m c 4 t) (iblk m c 6 t)
    (I.X (grp t) (chk t)) (I.D (grp t) (chk t)) (I.B (grp t) (chk t)) (I.C (grp t) (chk t)) (I.T (grp t) (chk t)) (I.rate (grp t)) where
  hx r q := by
    rw [read_arg0, at0, V_main_arg0]
    exact H.ha _ _
  hb r n := by
    rw [read_b, at1, V_main_arg0]
    exact H.ha _ _
  hc r n := by
    rw [read_c, at2, V_main_arg0]
    exact H.ha _ _
  ht r e := by
    rw [read_dt, at3]
    exact dt_entry H _ _ _ _
  ha e := by
    rw [read_rate, at4]
    exact rate_entry H _ _
  hd r q := by
    rw [read_dy, at6, V_main_arg3]
    exact H.hy _ _

theorem block5 (t : Fin cfg0.N) (n : Fin 128) (q : Fin 512) :
    iblk m c 5 t (ix4 0 0 n q) = ((I.state (grp t) (chk t) n q : ℝ) : EReal) := by
  rw [read_state, at5]
  exact state_entry H _ _ _ _

omit H in
theorem zero_apply (n : Fin 128) (q : Fin 512) : k0_pay2 (F := Ideal) (ix3 0 n q) = ((0 : ℝ) : EReal) := by
  pointwise [k0_pay2]
  rfl

/-- What a point leaves in the scratch: the cotangent of the state before its chunk. -/
theorem scratch (t : ℕ) (ht : t < cfg0.N) (n : Fin 128) (q : Fin 512) :
    (outsAt0 m c t ht).2.2.2.2.2 (ix3 0 n q) = ((I.sbar (grp ⟨t, ht⟩) (chk ⟨t, ht⟩).val n q : ℝ) : EReal) := by
  induction t using Nat.strong_induction_on generalizing n q with
  | _ t ih =>
    rw [← Data.prev_sbar]
    by_cases h : t % 128 = 0
    · rw [ScanBlocks.os_A ⟨t, ht⟩ h]
      refine ScanPay.sn_apply (reads H ⟨t, ht⟩) (fun n q => ?_) n q
      rw [zero_apply, show (chk ⟨t, ht⟩).val + 1 = 128 by simp [chk]; omega, Data.sbar_last]
    · rw [ScanBlocks.os_B ⟨t, ht⟩ h]
      refine ScanPay.sn_apply (reads H ⟨t, ht⟩) (fun n q => ?_) n q
      rw [ih (t - 1) (by omega) _ n q, show grp ⟨t - 1, Nat.lt_of_le_of_lt (Nat.sub_le _ _) ht⟩ = grp ⟨t, ht⟩ from Fin.ext (by simp [grp]; omega),
        show (chk ⟨t - 1, Nat.lt_of_le_of_lt (Nat.sub_le _ _) ht⟩).val = (chk ⟨t, ht⟩).val + 1 by simp [chk]; omega]

theorem before (t : Fin cfg0.N) (h : ¬t.val % 128 = 0) (n : Fin 128) (q : Fin 512) :
    (outsAt0 m c (t.val - 1) (Nat.lt_of_le_of_lt (Nat.sub_le _ _) t.isLt)).2.2.2.2.2 (ix3 0 n q)
      = ((I.sbar (grp t) ((chk t).val + 1) n q : ℝ) : EReal) := by
  rw [scratch H, show grp ⟨t.val - 1, Nat.lt_of_le_of_lt (Nat.sub_le _ _) t.isLt⟩ = grp t from Fin.ext (by simp [grp]; omega),
    show (chk ⟨t.val - 1, Nat.lt_of_le_of_lt (Nat.sub_le _ _) t.isLt⟩).val = (chk t).val + 1 by simp [chk]; omega]

theorem first (t : Fin cfg0.N) (h : t.val % 128 = 0) (n : Fin 128) (q : Fin 512) :
    k0_pay2 (F := Ideal) (ix3 0 n q) = ((I.sbar (grp t) ((chk t).val + 1) n q : ℝ) : EReal) := by
  rw [zero_apply, show (chk t).val + 1 = 128 by simp [chk]; omega, Data.sbar_last]

/-- What a point stores. -/
theorem stored7 (t : Fin cfg0.N) (r : Fin 128) (q : Fin 512) :
    (outsAt0 m c t.val t.isLt).1 (ix2 r q) = ((I.outX (grp t) (chk t) r q : ℝ) : EReal) := by
  by_cases h : t.val % 128 = 0
  · rw [ScanBlocks.o7_A t h]
    exact ScanPay.dx_apply (reads H t) (first H t h) r q
  · rw [ScanBlocks.o7_B t h]
    exact ScanPay.dx_apply (reads H t) (before H t h) r q

theorem stored8 (t : Fin cfg0.N) (r n : Fin 128) :
    (outsAt0 m c t.val t.isLt).2.1 (ix2 r n) = ((I.outB (grp t) (chk t) r n : ℝ) : EReal) := by
  by_cases h : t.val % 128 = 0
  · rw [ScanBlocks.o8_A t h]
    exact ScanPay.db_apply (reads H t) (first H t h) r n
  · rw [ScanBlocks.o8_B t h]
    exact ScanPay.db_apply (reads H t) (before H t h) r n

theorem stored9 (t : Fin cfg0.N) (r n : Fin 128) :
    (outsAt0 m c t.val t.isLt).2.2.1 (ix2 r n) = ((I.outC (grp t) (chk t) r n : ℝ) : EReal) := by
  by_cases h : t.val % 128 = 0
  · rw [ScanBlocks.o9_A t h]
    exact ScanPay.dc_apply (reads H t) (block5 H t) r n
  · rw [ScanBlocks.o9_B t h]
    exact ScanPay.dc_apply (reads H t) (block5 H t) r n

omit H in
theorem at7 (t : Fin cfg0.N) (r : Fin 128) (q : Fin 512) : (win0_7.blk t).view.emb (ix2 r q) = ix2 (tok (chk t) r) ⟨(grp t).val * 512 + q.val, by omega⟩ := by
  blk_ext [idx t, tok, chk, grp]

omit H in
theorem at8 (t : Fin cfg0.N) (r n : Fin 128) : (win0_8.blk t).view.emb (ix2 r n) = ix2 (tok (chk t) r) ⟨(grp t).val * 128 + n.val, by omega⟩ := by
  blk_ext [idx t, tok, chk, grp]

omit H in
theorem at9 (t : Fin cfg0.N) (r n : Fin 128) : (win0_9.blk t).view.emb (ix2 r n) = ix2 (tok (chk t) r) ⟨(grp t).val * 128 + n.val, by omega⟩ := by
  blk_ext [idx t, tok, chk, grp]

/-- The three results are the reference's. -/
theorem out7 : (dats m 0 c).arrAt 7 cfg0.N = ScanRefIdeal.Read.val_main_v114 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 7 _ (by decide +kernel) fun t hf y => ?_
  have e : (win0_7.blk t).view.emb y = ix2 (tok (chk t) (y 0)) ⟨(grp t).val * 512 + (y 1).val, _⟩ :=
    (congrArg _ (eq_ix2 y)).trans (at7 t (y 0) (y 1))
  blk_simp
  rw [after0_7, e]
  refine Eq.trans ?_ (ScanRef.v114 H (chk t) (y 0) (grp t) (y 1)).symm
  rw [eq_ix2 y]
  exact stored7 H t (y 0) (y 1)

theorem out8 : (dats m 0 c).arrAt 8 cfg0.N = ScanRefIdeal.Read.val_main_v115 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 8 _ (by decide +kernel) fun t hf y => ?_
  have e : (win0_8.blk t).view.emb y = ix2 (tok (chk t) (y 0)) ⟨(grp t).val * 128 + (y 1).val, _⟩ :=
    (congrArg _ (eq_ix2 y)).trans (at8 t (y 0) (y 1))
  blk_simp
  rw [after0_8, e]
  refine Eq.trans ?_ (ScanRef.v115 H (chk t) (y 0) (y 1) (grp t)).symm
  rw [eq_ix2 y]
  exact stored8 H t (y 0) (y 1)

theorem out9 : (dats m 0 c).arrAt 9 cfg0.N = ScanRefIdeal.Read.val_main_v116 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 9 _ (by decide +kernel) fun t hf y => ?_
  have e : (win0_9.blk t).view.emb y = ix2 (tok (chk t) (y 0)) ⟨(grp t).val * 128 + (y 1).val, _⟩ :=
    (congrArg _ (eq_ix2 y)).trans (at9 t (y 0) (y 1))
  blk_simp
  rw [after0_9, e]
  refine Eq.trans ?_ (ScanRef.v116 H (chk t) (y 0) (y 1) (grp t)).symm
  rw [eq_ix2 y]
  exact stored9 H t (y 0) (y 1)

end Cert.ScanOut

end
-- ==== Proof.ScanValue.lean ====
/- The scan's backward pass: the program's results and the reference's are the same functions of the arguments, when the
   arguments hold reals. -/
module

public import proofs.«01_k».proof.Defs
public import proofs.«01_k».proof.Proof.Gen.Pre_scan_finite
public import proofs.«01_k».proof.Proof.Gen.ScanRefIdeal.Run
public import proofs.«01_k».proof.Proof.Finite
public import proofs.«01_k».proof.Proof.ScanOut
import Idealize.ShloMosaic.Lib.Pointwise

@[expose] public section

set_option maxRecDepth 16384

noncomputable section

namespace Cert.ScanValue

open Idealize.ShloMosaic Idealize.SL.Sem Cert.Finite

/-- The precondition says that the arguments hold reals. -/
theorem args_of_pre (m : (ℓ : Loc Cert.ScanIdeal.nD Cert.ScanIdeal.τ Cert.ScanIdeal.sig) → Buf (Elt Ideal) ℓ)
    (h : Cert.Pre_ScanIdeal_scan_finite m) (c : Dev Cert.ScanIdeal.nD) : ∃ I : ScanReal.Data, ScanOut.Holds m c I := by
  have e := congrFun (h c) ix0
  simp only [Cert.Pre_scan_finite.fn, Cert.Pre_scan_finite.fn_part1, andi, IntOp.andi_eq_one] at e
  obtain ⟨⟨⟨e0, e1⟩, e2⟩, e3⟩ := e
  have inf : ∀ (s : Shape) (h : Shape.BroadcastsInDim ⟨0, ![]⟩ s (![] : Fin 0 → Fin s.rank)) (i : s.Idx),
      broadcastInDim s ![] h (constant (F := Ideal) ⟨0, ![]⟩ .f32 0x7F800000#32) i = ⊤ := fun s h i => Scalars.inf_lit
  obtain ⟨y0, h0⟩ := real_of_all _ _ _ (inf _ _) _ _ _ e0
  obtain ⟨y1, h1⟩ := real_of_all _ _ _ (inf _ _) _ _ _ e1
  obtain ⟨y2, h2⟩ := real_of_all _ _ _ (inf _ _) _ _ _ e2
  obtain ⟨y3, h3⟩ := real_of_all _ _ _ (inf _ _) _ _ _ e3
  exact ⟨⟨fun t k => y0 (ix2 t k), fun t k => y1 (ix2 t k), fun k => y2 (ix1 k), fun t k => y3 (ix2 t k)⟩,
    fun t k => h0 _, fun t k => h1 _, fun k => h2 _, fun t k => h3 _⟩

theorem algebraic : Cert.algebraic_ScanIdeal_ScanRefIdeal_pre_scan_finite := by
  intro m g m' g' hpre hagree
  choose I H using args_of_pre m hpre
  refine ⟨fun c => ScanRefIdeal.Read.val_main_v114 (F := Ideal) (m (c.tc.loc ScanIdeal.main_arg0)) (m (c.tc.loc ScanIdeal.main_arg1))
      (m (c.tc.loc ScanIdeal.main_arg2)) (m (c.tc.loc ScanIdeal.main_arg3)),
    fun c => ScanRefIdeal.Read.val_main_v115 (F := Ideal) (m (c.tc.loc ScanIdeal.main_arg0)) (m (c.tc.loc ScanIdeal.main_arg1))
      (m (c.tc.loc ScanIdeal.main_arg2)) (m (c.tc.loc ScanIdeal.main_arg3)),
    fun c => ScanRefIdeal.Read.val_main_v116 (F := Ideal) (m (c.tc.loc ScanIdeal.main_arg0)) (m (c.tc.loc ScanIdeal.main_arg1))
      (m (c.tc.loc ScanIdeal.main_arg2)) (m (c.tc.loc ScanIdeal.main_arg3)), ?_, ?_⟩
  · refine (θ_run Cert.ScanIdeal.defs _ _).mono (fun r h c => ?_) (Cert.ScanIdeal.Value.run_blocks m g)
    have hc := h c
    exact ⟨hc.1.trans (ScanOut.out7 (H c)), hc.2.1.trans (ScanOut.out8 (H c)), hc.2.2.1.trans (ScanOut.out9 (H c)), hc.2.2.2.2.2⟩
  · refine (θ_run Cert.ScanRefIdeal.defs _ _).mono (fun r h c => ?_) (Cert.ScanRefIdeal.Value.run m' g')
    obtain ⟨a0, a1, a2, a3⟩ := hagree c
    obtain ⟨e0, e1, e2, rest⟩ := h c
    exact ⟨e0.trans ((ScanRefIdeal.Read.val_main_v114_eq m' c).trans (by rw [a0, a1, a2, a3])), e1.trans ((ScanRefIdeal.Read.val_main_v115_eq m' c).trans (by rw [a0, a1, a2, a3])),
      e2.trans ((ScanRefIdeal.Read.val_main_v116_eq m' c).trans (by rw [a0, a1, a2, a3])), rest⟩

end Cert.ScanValue

end
-- ==== Proof.WGradRun.lean ====
/- The weight gradient's last grid point, run with the result it copies out named: what the generated frame says of that
   point, and the contents of the result. -/
module

public import proofs.«01_k».proof.Proof.Gen.WGradIdeal.Frame
public import Idealize.ShloMosaic.Lib.Pipeline.FrameValue
public import Idealize.ShloMosaic.Lib.Pipeline.ValueKit
public import Idealize.ShloMosaic.Lib.Pipeline.ReadBack

@[expose] public section

set_option maxRecDepth 16384

noncomputable section

namespace Cert.WGradRun

open Cert.WGradIdeal Cert.WGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The last point's run: the pieces it leaves in the sum, and what its copy leaves in the result over whatever the
    result and the staging buffer held. -/
noncomputable def lastRun (c : Dev nD) (i : grid0.Coords) (arg1 : Memref sig .tc .vmem S1024x2816 .bf16) (harg1 : arg1.IsWhole)
    (arg2 : Memref sig .tc .vmem S1024x1024 .bf16) (harg2 : arg2.IsWhole)
    (arg4 : Memref sig .tc .vmem S2816x1024 .f32) (harg4 : arg4.IsWhole)
    (arg5 : Memref sig .tc .vmem S2x4x352x1024 .f32) (harg5 : arg5.IsWhole) (hc0 : ¬cond0_0 i) (hc1 : cond0_1 i)
    (x0 : Vec F S1024x2816 .bf16) (x1 : Vec F S1024x1024 .bf16) (xs0 : Vec F S2816x1024 .f32) :
    Σ' (LS0 : List (View.Piece (Elt F) S2816x1024 .f32))
      (out : HbBuf0 (F := F) c hbM0_0 → Buf (Elt F) (arg5.view.loc (c : Thread nD τ)) → HbBuf0 (F := F) c hbM0_0),
      ∀ (W : Waits sig Unit) (K : PUnit → sProp 𝕄),
        iprop(owns (c : Thread nD τ) arg1 fullShare x0 ∗ owns (c : Thread nD τ) arg2 fullShare x1
            ∗ owns (c : Thread nD τ) arg4 fullShare xs0 ∗ (∃ d, owns (c : Thread nD τ) arg5 fullShare d)
            ∗ semVal ((c : Thread nD τ), SemLoc.dma 4) 0 ∗ (∃ f, hbPt0 c hbM0_0 f) ∗ owes (c : Thread nD τ) 0 W
            ∗ (iprop(owns (c : Thread nD τ) arg1 fullShare x0 ∗ owns (c : Thread nD τ) arg2 fullShare x1
                ∗ (∃ f, arg4.view.loc (c : Thread nD τ) ↦[arg4.view.set]{fullShare} arg4.view.writes (Elt F) f LS0)
                ∗ (∃ d, owns (c : Thread nD τ) arg5 fullShare d) ∗ semVal ((c : Thread nD τ), SemLoc.dma 4) 0
                ∗ (∃ f g, hbPt0 c hbM0_0 (out f g)) ∗ (∃ W', owes (c : Thread nD τ) 0 W')) -∗ K ⟨⟩))
          ⊢ wp frame (wpE (defs₀ (F := F)) Variants.none c none) Set.univ
              (cc0_tn_matmul_to_shards_2816x1024_0 i arg1 harg1 arg2 harg2 (Memref.whole main_v0) (Memref.isWhole_whole _)
                arg4 harg4 arg5 harg5 cc0_scratch2) K := by
  refine ⟨?_, ?_, fun W K => ?run⟩
  case run =>
    simp only [cc0_tn_matmul_to_shards_2816x1024_0_eq_skeleton]; unfold cc0_tn_matmul_to_shards_2816x1024_0_skel
    simp only [k0_part1_eq_skeleton]
    unfold owns
    iintro ⟨⟨%f0, %hf0, H0⟩, ⟨%f1, %hf1, H1⟩, ⟨%fs0, %hfs0, HS0⟩, ⟨%ds1, %fs1, -, HS1⟩, Hq0, ⟨%fw0, Hh0⟩, HW, Hk⟩
    obtain rfl := harg1.eq_unread hf0; obtain rfl := harg2.eq_unread hf1; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    isplitl [HS1]
    · iexists _, _; isplitr; swap; · iexact HS1
      ipureintro; rfl
    isplitl [Hq0]; · iexact Hq0
    isplitl [Hh0]
    · iexists fw0, fs1; iexact Hh0
    iexists _; iexact HW

/-- A staged slab is the rows it was cast from. -/
theorem slab (v : Vec F S352x1024 .f32) (x : S1x1x352x1024.Idx) : k0_pay3 v x = v (ix2 (x 2) (x 3)) := by
  rw [eq_ix4 x]
  pointwise [k0_pay3]

/-- What the staging buffer holds: shard d of the sum's rows at [d % 2, d / 2]. -/
def staged (acc : Vec F S2816x1024 .f32) (y : S2x4x352x1024.Idx) : Elt F .f32 :=
  acc (ix2 ⟨(2 * (y 1).val + (y 0).val) * 352 + (y 2).val, by
    have h0 : (y 0).val < 2 := (y 0).isLt
    have h1 : (y 1).val < 4 := (y 1).isLt
    have h2 : (y 2).val < 352 := (y 2).isLt
    omega⟩ (y 3))

/-- One staged slab of the sum. -/
theorem piece (acc : Vec F S2816x1024 .f32) {o q r : ℕ} (ho : o = (2 * r + q) * 352)
    (inb : ∀ a, (![o, 0] : Fin 2 → ℕ) a + S352x1024.size a ≤ S2816x1024.size a)
    (inb' : ∀ a, (![q, r, 0, 0] : Fin 4 → ℕ) a + S1x1x352x1024.size a ≤ S2x4x352x1024.size a) (x : S1x1x352x1024.Idx) :
    k0_pay3 (View.ld acc (Rect.unit (s := S2816x1024) ![o, 0] S352x1024.size inb)) x
      = staged acc ((Rect.unit (s := S2x4x352x1024) ![q, r, 0, 0] S1x1x352x1024.size inb').emb x) := by
  have h0 : (x 0).val = 0 := Nat.lt_one_iff.mp (x 0).isLt
  have h1 : (x 1).val = 0 := Nat.lt_one_iff.mp (x 1).isLt
  rw [slab]
  unfold staged View.ld
  refine congrArg acc (funext fun a => Fin.ext ?_)
  match a with
  | ⟨0, _⟩ => simp [ValueKit.rect_emb_unit_val, ix2, h0, h1, ho]
  | ⟨1, _⟩ => simp [ValueKit.rect_emb_unit_val, ix2]

/-- The result's indices as the copy's target names them: without the axis of length one. -/
theorem squeeze_idx (h : S2x4x352x1024.numel = S2x4x1x352x1024.numel) (a : Fin 2) (b : Fin 4) (p : Fin 352) (q : Fin 1024) :
    Shape.reshapeEquiv (s := S2x4x1x352x1024) (s' := S2x4x352x1024) h (ix4 a b p q) = ix5 a b (0 : Fin 1) p q :=
  Shape.reshapeEquiv_eq_of_rowMajor h (by
    rw [Shape.rowMajor_val_five, Shape.rowMajor_val_four]
    show ((((a.val * 4 + b.val) * 1 + 0) * 352 + p.val) * 1024 + q.val) = ((a.val * 4 + b.val) * 352 + p.val) * 1024 + q.val
    simp only [Nat.mul_one, Nat.add_zero])

section Last

variable (c : Dev nD) (i : grid0.Coords) (arg1 : Memref sig .tc .vmem S1024x2816 .bf16) (harg1 : arg1.IsWhole)
  (arg2 : Memref sig .tc .vmem S1024x1024 .bf16) (harg2 : arg2.IsWhole) (hc0 : ¬cond0_0 i) (hc1 : cond0_1 i)
  (x0 : Vec F S1024x2816 .bf16) (x1 : Vec F S1024x1024 .bf16) (xs0 : Vec F S2816x1024 .f32)

/-- A load of the sum at the last point reads the sum with that point's product added. -/
theorem sum_read (r : Rect S2816x1024) :
    (View.whole cc0_scratch0).readCov (lastRun.sl.HS0_1 c arg1 harg1 arg2 harg2 scM0_0 (Memref.isWhole_whole _) x0 x1 xs0) r.toLoadRect
      = View.ld (k0_pay2 xs0 x0 x1) r := by
  unfold lastRun.sl.HS0_1
  refine (View.readCov_fill (s := S2816x1024) (View.whole cc0_scratch0) inb_S2816x1024_S2816x1024_0_0 _ [] r (by decide)).trans ?_
  simp (disch := decide) only [View.readAt_eq_ld, View.ld_unit_lit', Memref.IsWhole.read_unread]
  rw [read_unread_whole cc0_scratch0]

/-- The eight stores into the staging buffer. -/
theorem staged_pieces : View.PiecesOf (staged (k0_pay2 xs0 x0 x1))
    (lastRun.sl.HS1_8 c arg1 harg1 arg2 harg2 scM0_0 (Memref.isWhole_whole _) x0 x1 xs0) := by
  unfold lastRun.sl.HS1_8 lastRun.sl.v42 lastRun.sl.v38 lastRun.sl.v34 lastRun.sl.v30 lastRun.sl.v26 lastRun.sl.v22 lastRun.sl.v18 lastRun.sl.v14
  simp only [sum_read]
  rw [show k0_pay4 (F := F) = k0_pay3 from rfl, show k0_pay5 (F := F) = k0_pay3 from rfl, show k0_pay6 (F := F) = k0_pay3 from rfl,
    show k0_pay7 (F := F) = k0_pay3 from rfl, show k0_pay8 (F := F) = k0_pay3 from rfl, show k0_pay9 (F := F) = k0_pay3 from rfl,
    show k0_pay10 (F := F) = k0_pay3 from rfl]
  generalize k0_pay2 xs0 x0 x1 = acc
  exact ⟨piece acc (o := 2464) rfl _ inb_S2x4x352x1024_S1x1x352x1024_1_3_0_0, piece acc (o := 2112) rfl _ inb_S2x4x352x1024_S1x1x352x1024_0_3_0_0,
    piece acc (o := 1760) rfl _ inb_S2x4x352x1024_S1x1x352x1024_1_2_0_0, piece acc (o := 1408) rfl _ inb_S2x4x352x1024_S1x1x352x1024_0_2_0_0,
    piece acc (o := 1056) rfl _ inb_S2x4x352x1024_S1x1x352x1024_1_1_0_0, piece acc (o := 704) rfl _ inb_S2x4x352x1024_S1x1x352x1024_0_1_0_0,
    piece acc (o := 352) rfl _ inb_S2x4x352x1024_S1x1x352x1024_1_0_0_0, piece acc (o := 0) rfl _ inb_S2x4x352x1024_S1x1x352x1024_0_0_0_0, trivial⟩

/-- What the copy leaves in the result: the shards of the sum, whatever the result and the staging buffer held. -/
theorem lastRun_out (f : HbBuf0 (F := F) c hbM0_0) (g : Buf (Elt F) (scM0_1.view.loc (c : Thread nD τ))) :
    (lastRun c i arg1 harg1 arg2 harg2 scM0_0 (Memref.isWhole_whole _) scM0_1 (Memref.isWhole_whole _) hc0 hc1 x0 x1 xs0).2.1 f g
      = fun y : S2x4x1x352x1024.Idx => staged (k0_pay2 xs0 x0 x1) (ix4 (y 0) (y 1) (y 3) (y 4)) := by
  unfold lastRun
  dsimp only
  unfold lastRun.sl.dma29
  have h : View.read (Elt F) scM0_1.view (scM0_1.view.writes (Elt F) g
        (lastRun.sl.HS1_8 c arg1 harg1 arg2 harg2 scM0_0 (Memref.isWhole_whole _) x0 x1 xs0)) = staged (k0_pay2 xs0 x0 x1) := by
    funext y
    exact View.read_writes_apply_of_pieces _ _ (staged (k0_pay2 xs0 x0 x1)) _ (staged_pieces _ _ _ _ _ _ _ _).mem y
      (View.cover_of_tiledL _ ![1, 1, 352, 1024] (by sl_kernel_rfl) y)
  rw [h]
  generalize staged (k0_pay2 xs0 x0 x1) = w
  funext y
  have e : (((View.whole main_v0).slice (Rect.unit (s := S2x4x1x352x1024) ![0, 0, 0, 0, 0] S2x4x1x352x1024.size
      inb_S2x4x1x352x1024_S2x4x1x352x1024_0_0_0_0_0)).reshape S2x4x352x1024 squeezes_S2x4x1x352x1024_S2x4x352x1024.numel_eq).emb
        (ix4 (y 0) (y 1) (y 3) (y 4)) = y := by
    refine (congrArg ((View.whole main_v0).slice (Rect.unit (s := S2x4x1x352x1024) ![0, 0, 0, 0, 0] S2x4x1x352x1024.size
      inb_S2x4x1x352x1024_S2x4x1x352x1024_0_0_0_0_0)).emb (squeeze_idx _ (y 0) (y 1) (y 3) (y 4))).trans (funext fun a => Fin.ext ?_)
    rw [ValueKit.view_emb_slice_whole_unit_val]
    have h2 : (y 2).val = 0 := Nat.lt_one_iff.mp (y 2).isLt
    match a with
    | ⟨0, _⟩ => exact Nat.zero_add _
    | ⟨1, _⟩ => exact Nat.zero_add _
    | ⟨2, _⟩ => exact h2.symm
    | ⟨3, _⟩ => exact Nat.zero_add _
    | ⟨4, _⟩ => exact Nat.zero_add _
  exact (congrArg _ e.symm).trans (View.write_emb_of_mem _ _ (Finset.mem_univ _))

end Last

section Launch

variable (m : (ℓ : Loc nD τ sig) → Buf (Elt F) ℓ) (ρ : Dev nD → PrngReg)

/-- The grid's last point. -/
def lastPt : Fin cfg0.N := ⟨15, lt_of_lt_of_eq (by decide) (show 16 = cfg0.N from N_0.symm)⟩

/-- The result: the shards of the sum as the last point leaves it. -/
def result (c : Dev nD) : HbBuf0 (F := F) c hbM0_0 := fun y : S2x4x1x352x1024.Idx =>
  staged (k0_pay2 (outsAt0 m c (lastPt.val - 1) (Nat.lt_of_le_of_lt (Nat.sub_le _ _) lastPt.isLt)) (iblk m c 0 lastPt) (iblk m c 1 lastPt))
    (ix4 (y 0) (y 1) (y 3) (y 4))

/-- The invariant after the last point: the result named. -/
def PhiEnd (c : Dev nD) : sProp 𝕄 :=
  iprop(iprop((∃ d, owns (c : Thread nD τ) scM0_0 fullShare d) ∗ (∃ d, owns (c : Thread nD τ) scM0_1 fullShare d)) ∗ (∃ r, prngReg c r)
    ∗ iprop(semVal ((c : Thread nD τ), SemLoc.dma 4) 0) ∗ iprop(emp) ∗ iprop(hbPt0 c hbM0_0 (result m c)))

/-- The generated proof data with that last invariant. -/
def vdats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 16 then PhiEnd m c else PhiS m c t.val (Nat.le_of_lt_succ t.isLt)
  q _ := fullShare
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d

/-- The invariant before a point is the generated one. -/
theorem vPhi_castSucc (c : Dev nD) (t : Fin cfg0.N) :
    (vdats m 0 c).Φ t.castSucc = PhiS m c t.val (Nat.le_of_lt t.isLt) := by
  have h : t.val < 16 := lt_of_lt_of_eq t.isLt (show cfg0.N = 16 from N_0)
  show (if t.castSucc.val = 16 then PhiEnd m c else PhiS m c t.castSucc.val (Nat.le_of_lt_succ t.castSucc.isLt)) = _
  exact if_neg (by rw [Fin.val_castSucc]; omega)

/-- So it is after any point but the last. -/
theorem vPhi_succ (c : Dev nD) (t : Fin cfg0.N) (ht : t.val ≠ 15) : (vdats m 0 c).Φ t.succ = PhiS m c (t.val + 1) t.isLt := by
  show (if t.succ.val = 16 then PhiEnd m c else PhiS m c t.succ.val (Nat.le_of_lt_succ t.succ.isLt)) = _
  exact if_neg (by rw [Fin.val_succ]; omega)

theorem vPhi_last (c : Dev nD) : (vdats m 0 c).Φ lastPt.succ = PhiEnd m c := rfl

/-- The body at the last point. -/
theorem sound_last (c : Dev nD) :
    iprop((vdats m 0 c).Φ lastPt.castSucc ∗ (vdats m 0 c).owesAt () lastPt.castSucc
      ∗ (∃ d, owns (c : Thread nD τ) (ms0_0 lastPt) fullShare ((vdats m 0 c).before 0 lastPt d))
      ∗ (∃ d, owns (c : Thread nD τ) (ms0_1 lastPt) fullShare ((vdats m 0 c).before 1 lastPt d)))
    ⊢ wp frame (wpE (defs₀ (F := F)) Variants.none c none) Set.univ (bodyAt0 lastPt) (fun _ =>
      iprop((vdats m 0 c).Φ lastPt.succ ∗ (vdats m 0 c).owesAt () lastPt.succ
        ∗ owns (c : Thread nD τ) (ms0_0 lastPt) fullShare ((vdats m 0 c).after 0 lastPt)
        ∗ owns (c : Thread nD τ) (ms0_1 lastPt) fullShare ((vdats m 0 c).after 1 lastPt))) := by
  unfold bodyAt0
  simp only [vbefore_0, vbefore_1]
  rw [vPhi_last, vafter_0, vafter_1, vPhi_castSucc, PhiS_pos m c _ _ (by decide)]
  unfold Dat.owesAt Pipeline.owesWithin PhiEnd
  rw [show (vdats m 0 c).owed lastPt.castSucc = 0 from rfl, show (vdats m 0 c).owed lastPt.succ = 0 from rfl]
  iintro ⟨⟨⟨HS0, HS1⟩, Hg, Hq0, -, Hh0⟩, ⟨%W, -, HW⟩, ⟨%d0, H0⟩, ⟨%d1, H1⟩⟩
  iapply ((lastRun c (grid0.coords lastPt) _ _ _ _ _ _ _ _ (fun h => absurd ((hcond0_0 lastPt).mp h) (by decide))
    ((hcond0_1 lastPt).mpr (by decide)) (iblk m c 0 lastPt) (iblk m c 1 lastPt) _).2.2 W _)
  isplitl [H0]; · iexact H0
  isplitl [H1]; · iexact H1
  isplitl [HS0]; · iexact HS0
  isplitl [HS1]; · iexact HS1
  isplitl [Hq0]; · iexact Hq0
  isplitl [Hh0]; · iexact Hh0
  isplitl [HW]; · iexact HW
  iintro ⟨H0, H1, ⟨%es0, HS0⟩, HS1, Hq0, ⟨%f, %g, Hh0⟩, ⟨%W', HW'⟩⟩
  isplitl [HS0 HS1 Hg Hq0 Hh0]
  · isplitl [HS0 HS1]
    · isplitl [HS0]
      · unfold owns; iexists _, _; isplitr
        swap; · iexact HS0
        ipureintro; rfl
      iexact HS1
    isplitl [Hg]
    · iexact Hg
    isplitl [Hq0]
    · iexact Hq0
    isplitr; · iempintro
    rw [lastRun_out]
    iexact Hh0
  isplitl [HW']
  · iexists W'; isplitr; · ipureintro; exact fun _ _ => Or.inl trivial
    iexact HW'
  isplitl [H0]; · iexact H0
  iexact H1

/-- The body at any point: the generated triple at all but the last. -/
theorem sound (c : Dev nD) (t : Fin cfg0.N) :
    iprop((vdats m 0 c).Φ t.castSucc ∗ (vdats m 0 c).owesAt () t.castSucc
      ∗ (∃ d, owns (c : Thread nD τ) (ms0_0 t) fullShare ((vdats m 0 c).before 0 t d))
      ∗ (∃ d, owns (c : Thread nD τ) (ms0_1 t) fullShare ((vdats m 0 c).before 1 t d)))
    ⊢ wp frame (wpE (defs₀ (F := F)) Variants.none c none) Set.univ (bodyAt0 t) (fun _ =>
      iprop((vdats m 0 c).Φ t.succ ∗ (vdats m 0 c).owesAt () t.succ
        ∗ owns (c : Thread nD τ) (ms0_0 t) fullShare ((vdats m 0 c).after 0 t)
        ∗ owns (c : Thread nD τ) (ms0_1 t) fullShare ((vdats m 0 c).after 1 t))) := by
  by_cases ht : t.val = 15
  · obtain rfl : t = lastPt := Fin.ext ht
    exact sound_last m c
  · have h := sound_body m c t
    unfold bodyPre bodyPost at h
    simp only [before0_0, before0_1, after0_0, after0_1, PhiS_castSucc] at h
    rw [show (dats m 0 c).Φ t.succ = PhiS m c (t.val + 1) t.isLt from rfl] at h
    simp only [vbefore_0, vbefore_1, vafter_0, vafter_1, vPhi_castSucc, vPhi_succ m c t ht]
    exact h

theorem obligation (c : Dev nD) : BodyObligation (vdats (F := F) m 0 c) (defs₀ (F := F)) Variants.none () Set.univ := fun t => by
  rw [bigSep_W0, bigSep_W0, defs₀_row]
  exact triple_restated (sound m c t) rfl .rfl fun _ => .rfl

/-- What every buffer the body writes holds at the end. -/
def G (c : Dev nD) : (b : Ref sig .tc) → Buf (Elt F) ((c.tc : Thread nD τ).loc b) :=
  Function.update (V m c) main_v0 (result m c)

theorem vhin (c : Dev nD) : Pipeline.ΦDRG osem0 spec0 H0 R0 (V m) (V m) c ⊢ (vdats m 0 c).Φ 0 :=
  (Pipeline.ΦDRG_ΦDR osem0 spec0 H0 R0 (V m) (V m) c).trans (by
    rw [show (vdats m 0 c).Φ 0 = PhiS m c 0 (Nat.zero_le _) from rfl, PhiS_zero m c 0 _ rfl])

theorem vhout (c : Dev nD) : (vdats m 0 c).Φ (Fin.last cfg0.N) ⊢ Pipeline.ΦDRG osem0 spec0 H0 R0 (V m) (G m) c := by
  have hr : (Pipeline.routed R0 c (G m c) : sProp 𝕄) = hbPt0 c hbM0_0 (result m c) := by
    unfold Pipeline.routed G
    rw [BI.bigSep_eq_bigSepL_of_eq [main_v0] (by decide) (by decide)]
    simp only [BI.bigSepL_singleton, Function.update_self]
  rw [show (vdats m 0 c).Φ (Fin.last cfg0.N) = PhiEnd m c from rfl, Pipeline.ΦDRG_eq, hr, scopedRest0_eq, ownSems00_eq, hbmPts0_eq]
  unfold PhiEnd
  simp only [scM0_0, scM0_1, owns_whole]
  iintro H; iexact H

set_option backward.isDefEq.respectTransparency.types false in
theorem run : θ_run defs (onTc (τ := τ) (main (F := F))) (s₀ m ρ) (Pipeline.FramePostRG cfgs (vdats m) 0 R0 (V m) (G m)) :=
  Pipeline.θ_run_frame_dmaRG (Q' := _) cfgs (vdats m) (0 : Fin 1) launch0 osem0 defs₀ Variants.none ownSemFacts0 H0 R0 H0_sub R0_sub m ρ main
    (hbody := fun c => (obligation m c).loose) (hshare := fun c => (vdats m 0 c).share_full fun _ => rfl)
    (howed := fun _ _ => rfl) (V := V m) (hmain := hmain m Variants.none) (hA := vA_eq m) (G := G m)
    (hin := vhin m) (hout := vhout m)

/-- The launch: the result is `result`, and the arguments are unchanged. -/
theorem value : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  have h₁ : θ_run defs (onTc (τ := τ) (main (F := F))) ⟨m, fun _ => 0, ρ⟩
      (fun r => ∀ c : Dev nD, r.2.mem ((c.tc : Thread nD τ).loc main_v0) = result m c) :=
    (θ_run defs _ _).mono (fun _ h c => (h.written c (b := main_v0) (by decide)).trans (Function.update_self _ _ _)) (run m ρ)
  have h₂ := frame_of m ρ (vdats m) (vA_eq m) ((θ_run defs _ _).mono (fun _ h => h.toR) (run m ρ))
  (θ_run defs _ _).mono (fun _ h c => ⟨h.1 c, h.2 c⟩) (θ_run_and h₁ h₂)

end Launch

end Cert.WGradRun

end
-- ==== Proof.WGradValue.lean ====
/- The weight gradient's value: the shards the kernel copies out are those of the reference's product. -/
module

public import proofs.«01_k».proof.Proof.WGradRun
public import proofs.«01_k».proof.Proof.Scalars
public import proofs.«01_k».proof.Proof.Gen.WGradRefIdeal.Run
public import proofs.«01_k».proof.Proof.Gen.WGradRefIdeal.Read
public import proofs.«01_k».proof.Defs
import Idealize.ShloMosaic.Lib.Pointwise
import Idealize.ShloMosaic.Lib.Pipeline.ValueKit

@[expose] public section

set_option maxRecDepth 16384

noncomputable section

namespace Cert.WGradValue

open Idealize.ShloMosaic Idealize.ShloMosaic.TcCoe Idealize.SL.Sem Cert.Scalars

/-- One entry of the gradient: the product's left factor by its cotangent, over all the rows. -/
def wsum (a : Fin 16384 → Fin 2816 → EReal) (d : Fin 16384 → Fin 1024 → EReal) (p : Fin 2816) (q : Fin 1024) : EReal :=
  ∑ r, a r p * d r q

/-- The row of the gradient that entry `y` of the shards holds. -/
def shardRow (i j : ℕ) (hi : i < 2) (hj : j < 4) (k : Fin 352) : Fin 2816 :=
  ⟨(2 * j + i) * 352 + k.val, by omega⟩

section Kernel

open Cert.WGradIdeal Cert.WGradIdeal.Gen Cert.WGradRun

variable (m : (ℓ : Loc nD τ sig) → Buf (Elt Ideal) ℓ) (c : Dev nD)

/-- The left factor and the cotangent, entry by entry. -/
def left (r : Fin 16384) (p : Fin 2816) : EReal := m ((c : Thread nD τ).loc main_arg0) (ix2 r p)
def cot (r : Fin 16384) (q : Fin 1024) : EReal := m ((c : Thread nD τ).loc main_arg1) (ix2 r q)

/-- The rows of a point's block. -/
def row (t : Fin cfg0.N) (r : Fin 1024) : Fin 16384 :=
  ⟨t.val * 1024 + r.val, by have h : t.val < 16 := t.isLt; omega⟩

theorem idx : ∀ t : Fin cfg0.N, win0_0.index t = ![t.val, 0] ∧ win0_1.index t = ![t.val, 0] :=
  (by decide +kernel : ∀ t : Fin grid0.N, _)

theorem block0 (t : Fin cfg0.N) (r : Fin 1024) (p : Fin 2816) : iblk m c 0 t (ix2 r p) = left m c (row t r) p := by
  unfold left
  blk_simp [iblk, idx t, row, V]
  blk_ext [idx t, row]

theorem block1 (t : Fin cfg0.N) (r : Fin 1024) (q : Fin 1024) : iblk m c 1 t (ix2 r q) = cot m c (row t r) q := by
  unfold cot
  blk_simp [iblk, idx t, row, V]
  blk_ext [idx t, row]

theorem zero_apply (p : Fin 2816) (q : Fin 1024) : k0_pay1 (F := Ideal) (ix2 p q) = 0 := by
  pointwise [k0_pay1]

theorem add_apply (v : Vec Ideal S2816x1024 .f32) (a : Vec Ideal S1024x2816 .bf16) (d : Vec Ideal S1024x1024 .bf16)
    (p : Fin 2816) (q : Fin 1024) :
    k0_pay2 (F := Ideal) v a d (ix2 p q) = v (ix2 p q) + ∑ r, (a (ix2 r p) : EReal) * d (ix2 r q) := by
  pointwise [k0_pay2]

/-- A point's share of an entry. -/
def share (t : Fin cfg0.N) (y : Fin 2816 × Fin 1024) : EReal :=
  ∑ r, left m c (row t r) y.1 * cot m c (row t r) y.2

theorem step (t : Fin cfg0.N) (v : Vec Ideal S2816x1024 .f32) (y : Fin 2816 × Fin 1024) :
    k0_pay2 (F := Ideal) v (iblk m c 0 t) (iblk m c 1 t) (ix2 y.1 y.2) = v (ix2 y.1 y.2) + share m c t y := by
  rw [add_apply]
  simp only [block0, block1]
  rfl

theorem acc (y : Fin 2816 × Fin 1024) :
    outsAt0 m c lastPt.val lastPt.isLt (ix2 y.1 y.2) = 0 + ∑ t : Fin cfg0.N, share m c t y := by
  refine Pipeline.eq_sum_fin_of_reset_step_apply_last (fun n h (y : Fin 2816 × Fin 1024) => outsAt0 m c n h (ix2 y.1 y.2)) 16
    (fun _ => (0 : EReal)) (fun t y => share m c t y) (fun t h y => ?_) (fun t h y => ?_) (by decide) lastPt rfl y
  · rw [outsAt0_A m c t h (by omega)]
    frame_out
    rw [step, zero_apply]
  · by_cases h' : t.val % 16 = 15
    · rw [outsAt0_C m c t h h']
      frame_out
      rw [read_unread_whole cc0_scratch0, step]
    · rw [outsAt0_B m c t h h']
      frame_out
      rw [read_unread_whole cc0_scratch0, step]

/-- The sum as the last point leaves it. -/
theorem total (p : Fin 2816) (q : Fin 1024) :
    k0_pay2 (outsAt0 m c (lastPt.val - 1) (Nat.lt_of_le_of_lt (Nat.sub_le _ _) lastPt.isLt)) (iblk m c 0 lastPt)
      (iblk m c 1 lastPt) (ix2 p q) = wsum (left m c) (cot m c) p q := by
  refine Eq.trans ?_ ((acc m c (p, q)).trans ?_)
  · rw [outsAt0_C m c lastPt (by decide) (by decide)]
    frame_out
    rw [read_unread_whole cc0_scratch0]
  · rw [zero_add]
    refine (Fin.sum_points_lanes_congr (A := 1) 16 (g := fun _ r => left m c r p * cot m c r q)
      (N := 16) (n := 1024) (L := 16384) fun t r ha hl => ?_).trans (Fin.sum_univ_one _)
    have : row t r = ⟨t.val % 16 * 1024 + r.val, hl⟩ := Fin.ext (by
      show t.val * 1024 + r.val = t.val % 16 * 1024 + r.val
      rw [Nat.mod_eq_of_lt t.isLt])
    rw [← this]

/-- The kernel's result, entry by entry. -/
def shards (y : S2x4x1x352x1024.Idx) : EReal :=
  wsum (left m c) (cot m c) (shardRow (y 0).val (y 1).val (y 0).isLt (y 1).isLt (y 3)) (y 4)

theorem result_eq : result m c = shards m c := funext fun y => by
  have e := total m c (shardRow (y 0).val (y 1).val (y 0).isLt (y 1).isLt (y 3)) (y 4)
  unfold result
  generalize k0_pay2 (F := Ideal) _ _ _ = w at e ⊢
  exact e

end Kernel

section Reference

open Cert.WGradRefIdeal Cert.WGradRefIdeal.Read Cert.WGradRefIdeal.Gen

theorem ref_apply (x0 : Vec Ideal S16384x2816 .bf16) (x1 : Vec Ideal S16384x1024 .bf16) (y : S2x4x1x352x1024.Idx) :
    val_main_v8 (F := Ideal) x0 x1 y = wsum (fun r p => x0 (ix2 r p)) (fun r q => x1 (ix2 r q))
      (shardRow (y 0).val (y 1).val (y 0).isLt (y 1).isLt (y 3)) (y 4) := by
  have e : idx_main_v6 (idx_main_v7 (idx_main_v8 y)) = ix2 (shardRow (y 0).val (y 1).val (y 0).isLt (y 1).isLt (y 3)) (y 4) := by
    have h4 : (y 4).val < 1024 := (y 4).isLt
    refine (eq_ix2 _).trans (congrArg₂ ix2 (Fin.ext ?_) (Fin.ext ?_))
    · show ((((y 1).val * 2 + (y 0).val) * 352 + (y 3).val) * 1024 + (y 4).val) / 1024 = (2 * (y 1).val + (y 0).val) * 352 + (y 3).val
      omega
    · show ((((y 1).val * 2 + (y 0).val) * 352 + (y 3).val) * 1024 + (y 4).val) % 1024 = (y 4).val
      omega
  rw [val_main_v8_apply, val_main_v7_apply, val_main_v6_apply, e]
  pointwise [val_main_v5, val_main_v4, val_main_v3, val_main_v1]
  exact Finset.sum_congr rfl fun r _ => mul_comm _ _

end Reference

theorem algebraic : Cert.algebraic_WGradIdeal_WGradRefIdeal := by
  intro m g m' g' _ hagree
  refine ⟨fun c => shards m c, ?_, ?_⟩
  · refine (θ_run Cert.WGradIdeal.defs _ _).mono (fun r h c => ?_) (Cert.WGradRun.value m g)
    exact ⟨(h c).1.trans (result_eq m c), (h c).2⟩
  · refine (θ_run Cert.WGradRefIdeal.defs _ _).mono (fun r h c => ?_) (Cert.WGradRefIdeal.Value.run m' g')
    obtain ⟨e, rest⟩ := h c
    refine ⟨(e.trans (Cert.WGradRefIdeal.Read.val_main_v8_eq _ _)).trans (funext fun y => ?_), rest⟩
    obtain ⟨e0, e1⟩ := hagree c
    rw [ref_apply, e0, e1]
    rfl

end Cert.WGradValue

end
-- ==== Proof.FfnFwdValue.lean ====
/- The feed-forward layer's forward pass: the program's results and the reference's are the same functions of the
   arguments, whatever extended reals these are. -/
module

public import proofs.«01_k».proof.Defs
public import proofs.«01_k».proof.Proof.Scalars
public import proofs.«01_k».proof.Proof.Gen.FfnFwdIdeal.Value
public import proofs.«01_k».proof.Proof.Gen.FfnFwdRefIdeal.Run
public import proofs.«01_k».proof.Proof.Gen.FfnFwdRefIdeal.Read
import Idealize.ShloMosaic.Lib.Pointwise
import Idealize.ShloMosaic.Lib.Pipeline.ValueKit

@[expose] public section

set_option maxRecDepth 16384

noncomputable section

namespace Cert.FfnFwdValue

open Idealize.ShloMosaic Idealize.ShloMosaic.TcCoe Idealize.SL.Sem Cert.Scalars

/-! ## The layer, row by row -/

/-- The normalized row times the weights of the norm. -/
def hn (x w : Fin 1024 → EReal) (k : Fin 1024) : EReal :=
  x k * Ideal.rsqrt (Ideal.div (∑ j, x j * x j) (Ideal.ofBits .f32 0x44800000#32) + Ideal.ofBits .f32 0x3727C5AC#32) * w k

/-- A row times a matrix. -/
def proj {K N : ℕ} (h : Fin K → EReal) (W : Fin K → Fin N → EReal) (f : Fin N) : EReal := ∑ k, h k * W k f

/-- The gated product. -/
def gated (g u : EReal) : EReal := g * Ideal.logistic g * u

/-- The arguments that every row shares. -/
structure Ffn where
  w : Fin 1024 → EReal
  wg : Fin 1024 → Fin 2816 → EReal
  wu : Fin 1024 → Fin 2816 → EReal
  wd : Fin 2816 → Fin 1024 → EReal

def Ffn.g (P : Ffn) (x : Fin 1024 → EReal) : Fin 2816 → EReal := proj (hn x P.w) P.wg
def Ffn.u (P : Ffn) (x : Fin 1024 → EReal) : Fin 2816 → EReal := proj (hn x P.w) P.wu
def Ffn.a (P : Ffn) (x : Fin 1024 → EReal) (f : Fin 2816) : EReal := gated (P.g x f) (P.u x f)
def Ffn.y (P : Ffn) (x : Fin 1024 → EReal) (k : Fin 1024) : EReal :=
  x k + Ideal.ofBits .f32 0x3F000000#32 * proj (P.a x) P.wd k

/-- The logistic function is the shifted hyperbolic tangent, at the infinities too. -/
theorem logistic_tanh (v : EReal) : ((1 / 2 : ℝ) : EReal) * Ideal.tanh (((1 / 2 : ℝ) : EReal) * v) + ((1 / 2 : ℝ) : EReal)
    = Ideal.logistic v := by
  have one : (1 : EReal) = ((1 : ℝ) : EReal) := rfl
  induction v with
  | bot =>
    have h : ((1 / 2 : ℝ) : EReal) * ⊥ = ⊥ := EReal.coe_mul_bot_of_pos (by norm_num)
    rw [h, Ideal.tanh_bot, Ideal.logistic, EReal.neg_bot, Ideal.exp_top, one, ← EReal.coe_neg, ← EReal.coe_mul,
      ← EReal.coe_add, EReal.coe_add_top]
    simp [Ideal.div]
  | coe r =>
    rw [← EReal.coe_mul, Ideal.tanh_coe, ← EReal.coe_mul, ← EReal.coe_add, tanh_sg, Ideal.logistic, ← EReal.coe_neg,
      Ideal.exp_coe, one, ← EReal.coe_add, div_coe_coe _ (one_add_exp_pos r).ne', sg, one_div]
  | top =>
    have h : ((1 / 2 : ℝ) : EReal) * ⊤ = ⊤ := EReal.coe_mul_top_of_pos (by norm_num)
    rw [h, Ideal.tanh_top, Ideal.logistic, EReal.neg_top, Ideal.exp_bot, one, ← EReal.coe_mul, ← EReal.coe_add,
      add_zero, div_coe_coe _ one_ne_zero]
    norm_num

/-! ## One grid point -/

section Program

open Cert.FfnFwdIdeal Cert.FfnFwdIdeal.Gen

/-- The blocks of a grid point hold these rows of the input and these shared arguments. -/
structure Blocks (x0 : Vec Ideal S512x1024 .f32) (x1 : Vec Ideal S1x1024 .f32) (x2 x3 : Vec Ideal S1x1024x2816 .bf16)
    (x4 : Vec Ideal S1x2816x1024 .bf16) (P : Ffn) (x : Fin 512 → Fin 1024 → EReal) : Prop where
  h0 : ∀ r k, x0 (ix2 r k) = x r k
  h1 : ∀ k, x1 (ix2 0 k) = P.w k
  h2 : ∀ k f, x2 (ix3 0 k f) = P.wg k f
  h3 : ∀ k f, x3 (ix3 0 k f) = P.wu k f
  h4 : ∀ f k, x4 (ix3 0 f k) = P.wd f k

section Point

variable {x0 : Vec Ideal S512x1024 .f32} {x1 : Vec Ideal S1x1024 .f32} {x2 x3 : Vec Ideal S1x1024x2816 .bf16}
  {x4 : Vec Ideal S1x2816x1024 .bf16} {P : Ffn} {x : Fin 512 → Fin 1024 → EReal} (B : Blocks x0 x1 x2 x3 x4 P x)
include B

theorem h_apply (r : Fin 512) (k : Fin 1024) : k0_pay2 (F := Ideal) x0 x1 (ix2 r k) = hn (x r) P.w k := by
  pointwise [k0_pay2]
  simp only [B.h0, B.h1]
  rfl

theorem g_apply (r : Fin 512) (f : Fin 2816) : k0_pay3 (F := Ideal) x0 x1 x2 (ix2 r f) = P.g (x r) f := by
  pointwise [k0_pay3]
  simp only [h_apply B, B.h2]
  rfl

theorem u_apply (r : Fin 512) (f : Fin 2816) : k0_pay4 (F := Ideal) x0 x1 x3 (ix2 r f) = P.u (x r) f := by
  pointwise [k0_pay4]
  simp only [h_apply B, B.h3]
  rfl

theorem a_apply (r : Fin 512) (f : Fin 2816) : k0_pay5 (F := Ideal) x0 x1 x2 x3 (ix2 r f) = P.a (x r) f := by
  pointwise [k0_pay5]
  rw [g_apply B, u_apply B, half_lit, logistic_tanh]
  rfl

theorem g_out (r : Fin 512) (f : Fin 2816) : k0_pay6 (F := Ideal) x0 x1 x2 (ix2 r f) = P.g (x r) f := by
  pointwise [k0_pay6]
  exact g_apply B r f

theorem u_out (r : Fin 512) (f : Fin 2816) : k0_pay7 (F := Ideal) x0 x1 x3 (ix2 r f) = P.u (x r) f := by
  pointwise [k0_pay7]
  exact u_apply B r f

theorem y_apply (r : Fin 512) (k : Fin 1024) :
    k0_pay1 (F := Ideal) x0 (k0_pay5 x0 x1 x2 x3) x4 (ix2 r k) = P.y (x r) k := by
  pointwise [k0_pay1]
  simp only [a_apply B, B.h0, B.h4]
  rfl

end Point

/-! ## The arrays put together from the points -/

variable (m : (ℓ : Loc nD τ sig) → Buf (Elt Ideal) ℓ) (c : Dev nD)

/-- The shared arguments of the program. -/
def args : Ffn where
  w k := m ((c : Thread nD τ).loc main_arg1) (ix1 k)
  wg k f := m ((c : Thread nD τ).loc main_arg2) (ix2 k f)
  wu k f := m ((c : Thread nD τ).loc main_arg3) (ix2 k f)
  wd f k := m ((c : Thread nD τ).loc main_arg4) (ix2 f k)

/-- The rows of its input. -/
def input (r : Fin 16384) (k : Fin 1024) : EReal := m ((c : Thread nD τ).loc main_arg0) (ix2 r k)

/-- The rows of a point's block. -/
def row (t : Fin cfg0.N) (r : Fin 512) : Fin 16384 :=
  ⟨t.val * 512 + r.val, by have h : t.val < 32 := t.isLt; omega⟩

theorem w_entry (k : Fin 1024) : V m c main_v0 (ix2 0 k) = (args m c).w k := by
  entry_read
  pointwise
  rfl

theorem wg_entry (k : Fin 1024) (f : Fin 2816) : V m c main_v1 (ix3 0 k f) = (args m c).wg k f := by
  entry_read
  pointwise
  rfl

theorem wu_entry (k : Fin 1024) (f : Fin 2816) : V m c main_v2 (ix3 0 k f) = (args m c).wu k f := by
  entry_read
  pointwise
  rfl

theorem wd_entry (f : Fin 2816) (k : Fin 1024) : V m c main_v3 (ix3 0 f k) = (args m c).wd f k := by
  entry_read
  pointwise
  rfl

/-- Which block of its array each window of a point is. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0]
    ∧ win0_6.index t = ![t.val, 0] ∧ win0_7.index t = ![t.val, 0] ∧ win0_8.index t = ![t.val, 0] :=
  (by decide +kernel : ∀ t : Fin grid0.N, _)

theorem blocks (t : Fin cfg0.N) : Blocks (iblk m c 0 t) (iblk m c 1 t) (iblk m c 2 t) (iblk m c 3 t) (iblk m c 4 t)
    (args m c) (fun r => input m c (row t r)) where
  h0 r k := by
    unfold input
    blk_simp [iblk, idx t, row, V]
    blk_ext [idx t, row]
  h1 k := by
    refine Eq.trans ?_ (w_entry m c k)
    blk_simp [iblk, idx t, row]
    blk_ext [idx t, row]
  h2 k f := by
    refine Eq.trans ?_ (wg_entry m c k f)
    blk_simp [iblk, idx t, row]
    blk_ext [idx t, row]
  h3 k f := by
    refine Eq.trans ?_ (wu_entry m c k f)
    blk_simp [iblk, idx t, row]
    blk_ext [idx t, row]
  h4 f k := by
    refine Eq.trans ?_ (wd_entry m c f k)
    blk_simp [iblk, idx t, row]
    blk_ext [idx t, row]

theorem out5 : (dats m 0 c).arrAt 5 cfg0.N = fun i => (args m c).y (input m c (i 0)) (i 1) := by
  refine (dats m 0 c).arrAt_eq_of_covers 5 _ (by decide +kernel) fun t hf y => ?_
  have e : (win0_5.blk t).view.emb y = ix2 (row t (y 0)) (y 1) := by
    blk_ext [idx t, row]
  blk_simp
  rw [after0_5, e]
  unfold_out out0_5
  frame_out
  rw [eq_ix2 y]
  exact y_apply (blocks m c t) (y 0) (y 1)

theorem out6 : (dats m 0 c).arrAt 6 cfg0.N = fun i => (args m c).g (input m c (i 0)) (i 1) := by
  refine (dats m 0 c).arrAt_eq_of_covers 6 _ (by decide +kernel) fun t hf y => ?_
  have e : (win0_6.blk t).view.emb y = ix2 (row t (y 0)) (y 1) := by
    blk_ext [idx t, row]
  blk_simp
  rw [after0_6, e]
  frame_out
  rw [eq_ix2 y]
  exact g_out (blocks m c t) (y 0) (y 1)

theorem out7 : (dats m 0 c).arrAt 7 cfg0.N = fun i => (args m c).u (input m c (i 0)) (i 1) := by
  refine (dats m 0 c).arrAt_eq_of_covers 7 _ (by decide +kernel) fun t hf y => ?_
  have e : (win0_7.blk t).view.emb y = ix2 (row t (y 0)) (y 1) := by
    blk_ext [idx t, row]
  blk_simp
  rw [after0_7, e]
  frame_out
  rw [eq_ix2 y]
  exact u_out (blocks m c t) (y 0) (y 1)

theorem out8 : (dats m 0 c).arrAt 8 cfg0.N = fun i => (args m c).a (input m c (i 0)) (i 1) := by
  refine (dats m 0 c).arrAt_eq_of_covers 8 _ (by decide +kernel) fun t hf y => ?_
  have e : (win0_8.blk t).view.emb y = ix2 (row t (y 0)) (y 1) := by
    blk_ext [idx t, row]
  blk_simp
  rw [after0_8, e]
  unfold_out out0_8
  frame_out
  rw [eq_ix2 y]
  exact a_apply (blocks m c t) (y 0) (y 1)

end Program

/-! ## The reference -/

section Reference

open Cert.FfnFwdRefIdeal Cert.FfnFwdRefIdeal.Read Cert.FfnFwdRefIdeal.Gen

/-- The arguments of the reference are these. -/
structure Args (a0 : Vec Ideal S16384x1024 .f32) (a1 : Vec Ideal S1024 .f32) (a2 a3 : Vec Ideal S1024x2816 .bf16)
    (a4 : Vec Ideal S2816x1024 .bf16) (P : Ffn) (x : Fin 16384 → Fin 1024 → EReal) : Prop where
  h0 : ∀ r k, a0 (ix2 r k) = x r k
  h1 : ∀ k, a1 (ix1 k) = P.w k
  h2 : ∀ k f, a2 (ix2 k f) = P.wg k f
  h3 : ∀ k f, a3 (ix2 k f) = P.wu k f
  h4 : ∀ f k, a4 (ix2 f k) = P.wd f k

section Stages

variable {a0 : Vec Ideal S16384x1024 .f32} {a1 : Vec Ideal S1024 .f32} {a2 a3 : Vec Ideal S1024x2816 .bf16}
  {a4 : Vec Ideal S2816x1024 .bf16} {P : Ffn} {x : Fin 16384 → Fin 1024 → EReal} (A : Args a0 a1 a2 a3 a4 P x)
include A

theorem ref_h (r : Fin 16384) (k : Fin 1024) : val_main_v15 (F := Ideal) a0 a1 (ix2 r k) = hn (x r) P.w k := by
  pointwise [val_main_v15, val_main_v14, val_main_v13, val_main_v12, val_main_v11, val_main_v10, val_main_v9,
    val_main_v8, val_main_cst_1, val_main_v7, val_main_v6, val_main_cst_0, val_main_v5, val_main_v4, val_main_v3,
    val_main_cst]
  simp only [A.h0, A.h1]
  rfl

theorem ref_g (r : Fin 16384) (f : Fin 2816) : val_main_v16 (F := Ideal) a0 a1 a2 (ix2 r f) = P.g (x r) f := by
  pointwise [val_main_v16, val_main_v0]
  simp only [ref_h A, A.h2]
  rfl

theorem ref_u (r : Fin 16384) (f : Fin 2816) : val_main_v17 (F := Ideal) a0 a1 a3 (ix2 r f) = P.u (x r) f := by
  pointwise [val_main_v17, val_main_v1]
  simp only [ref_h A, A.h3]
  rfl

theorem ref_a (r : Fin 16384) (f : Fin 2816) : val_main_v19 (F := Ideal) a0 a1 a2 a3 (ix2 r f) = P.a (x r) f := by
  pointwise [val_main_v19, val_main_v18, val_main_call0_v0, val_main_call0_v1, val_main_call0_v2, val_main_call0_v3,
    val_main_call0_v4, val_main_call0_v5, val_main_call0_cst, val_main_call0_cst_0]
  rw [ref_g A, ref_u A]
  rfl

theorem ref_y (r : Fin 16384) (k : Fin 1024) : val_main_v23 (F := Ideal) a0 a1 a2 a3 a4 (ix2 r k) = P.y (x r) k := by
  pointwise [val_main_v23, val_main_v22, val_main_v21, val_main_cst_2, val_main_v20, val_main_v2]
  simp only [ref_a A, A.h0, A.h4]
  rfl

theorem ref_g_out (r : Fin 16384) (f : Fin 2816) : val_main_v24 (F := Ideal) a0 a1 a2 (ix2 r f) = P.g (x r) f := by
  pointwise [val_main_v24]
  exact ref_g A r f

theorem ref_u_out (r : Fin 16384) (f : Fin 2816) : val_main_v25 (F := Ideal) a0 a1 a3 (ix2 r f) = P.u (x r) f := by
  pointwise [val_main_v25]
  exact ref_u A r f

theorem ref_a_out (r : Fin 16384) (f : Fin 2816) : val_main_v26 (F := Ideal) a0 a1 a2 a3 (ix2 r f) = P.a (x r) f := by
  pointwise [val_main_v26]
  exact ref_a A r f

end Stages

/-- The reference's results. -/
theorem ref_run (m : (ℓ : Loc nD τ sig) → Buf (Elt Ideal) ℓ) (ρ : Dev nD → PrngReg)
    (P : Dev nD → Ffn) (x : Dev nD → Fin 16384 → Fin 1024 → EReal)
    (A : ∀ c : Dev nD, Args (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (P c) (x c)) :
    θ_run (defs (F := Ideal)) (onTc (τ := τ) (main (F := Ideal))) ⟨m, fun _ => 0, ρ⟩ fun r => ∀ c : Dev nD,
      r.2.mem ((c.tc : Thread nD τ).loc main_v23) = (fun i => (P c).y (x c (i 0)) (i 1))
      ∧ r.2.mem ((c.tc : Thread nD τ).loc main_v24) = (fun i => (P c).g (x c (i 0)) (i 1))
      ∧ r.2.mem ((c.tc : Thread nD τ).loc main_v25) = (fun i => (P c).u (x c (i 0)) (i 1))
      ∧ r.2.mem ((c.tc : Thread nD τ).loc main_v26) = (fun i => (P c).a (x c (i 0)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨e0, e1, e2, e3, rest⟩ := h c
  replace e0 := e0.trans (Read.val_main_v23_eq _ _ _ _ _)
  replace e1 := e1.trans (Read.val_main_v24_eq _ _ _)
  replace e2 := e2.trans (Read.val_main_v25_eq _ _ _)
  replace e3 := e3.trans (Read.val_main_v26_eq _ _ _ _)
  refine ⟨e0.trans (funext fun i => ?_), e1.trans (funext fun i => ?_), e2.trans (funext fun i => ?_),
    e3.trans (funext fun i => ?_), rest⟩
  · exact (congrArg _ (eq_ix2 i)).trans (ref_y (A c) _ _)
  · exact (congrArg _ (eq_ix2 i)).trans (ref_g_out (A c) _ _)
  · exact (congrArg _ (eq_ix2 i)).trans (ref_u_out (A c) _ _)
  · exact (congrArg _ (eq_ix2 i)).trans (ref_a_out (A c) _ _)

end Reference

theorem algebraic : Cert.algebraic_FfnFwdIdeal_FfnFwdRefIdeal := by
  intro m g m' g' _ hagree
  refine ⟨fun c i => (args m c).y (input m c (i 0)) (i 1), fun c i => (args m c).g (input m c (i 0)) (i 1),
    fun c i => (args m c).u (input m c (i 0)) (i 1), fun c i => (args m c).a (input m c (i 0)) (i 1), ?_, ?_⟩
  · refine (θ_run Cert.FfnFwdIdeal.defs _ _).mono (fun r h c => ?_) (Cert.FfnFwdIdeal.Value.run_blocks m g)
    obtain ⟨e0, e1, e2, e3, rest⟩ := h c
    exact ⟨e0.trans (out5 m c), e1.trans (out6 m c), e2.trans (out7 m c), e3.trans (out8 m c), rest⟩
  · refine ref_run m' g' (args m) (input m) fun c => ?_
    obtain ⟨e0, e1, e2, e3, e4⟩ := hagree c
    rw [e0, e1, e2, e3, e4]
    exact ⟨fun _ _ => rfl, fun _ => rfl, fun _ _ => rfl, fun _ _ => rfl, fun _ _ => rfl⟩

end Cert.FfnFwdValue

end
-- ==== Proof.InRows.lean ====
/- The backward pass of a norm that is followed by products, over the reals and over all rows: what the calls that end
   in it leave, given the cotangent of the norm's result. -/
module

public import proofs.«01_k».proof.Proof.Rows
import Idealize.ShloMosaic.Lib.Pipeline.ValueKit

@[expose] public section

noncomputable section

namespace Cert.InRows

open Idealize.ShloMosaic Cert.Scalars Cert.Rows

/-- The rows of the norm's input, the cotangents of the path that passes by, the weights of the norm, and the
    cotangents of the norm's result. -/
structure In where
  x : Fin 16384 → Fin 1024 → ℝ
  d : Fin 16384 → Fin 1024 → ℝ
  w : Fin 1024 → ℝ
  dh : Fin 16384 → Fin 1024 → ℝ

namespace In

variable (I : In)

/-- The cotangent of the input. -/
def dx (r : Fin 16384) (k : Fin 1024) : ℝ := I.d r k + dnorm (I.x r) I.w (I.dh r) k

/-- One row's part of the cotangent of the norm's weights. -/
def dw (r : Fin 16384) (k : Fin 1024) : ℝ := I.dh r k * xh (I.x r) k

/-- The normalized rows. -/
def h (r : Fin 16384) (k : Fin 1024) : ℝ := hn (I.x r) I.w k

end In

/-- The rows of a point's block. -/
def row (t : Fin 32) (r : Fin 512) : Fin 16384 := ⟨t.val * 512 + r.val, by omega⟩

/-- A sum over the points and the rows of each is the sum over all rows. -/
theorem sum_rows (f : Fin 16384 → ℝ) : ∑ t : Fin 32, ∑ r, f (row t r) = ∑ r, f r := by
  refine (Fin.sum_points_lanes_congr (A := 1) 32 (g := fun _ r => f r) (N := 32) (n := 512) (L := 16384)
    fun t r ha hl => ?_).trans (Fin.sum_univ_one _)
  have : row t r = ⟨t.val % 32 * 512 + r.val, hl⟩ := Fin.ext (by
    show t.val * 512 + r.val = t.val % 32 * 512 + r.val
    rw [Nat.mod_eq_of_lt t.isLt])
  rw [← this]

end Cert.InRows

end
-- ==== Proof.SsdInValue.lean ====
/- The backward pass of the norm and the three products in front of the scan: the program's results and the reference's
   are the same functions of the arguments, when the arguments hold reals. -/
module

public import proofs.«01_k».proof.Defs
public import proofs.«01_k».proof.Proof.InRows
public import proofs.«01_k».proof.Proof.Finite
public import proofs.«01_k».proof.Proof.Gen.Pre_ssd_in_finite
public import proofs.«01_k».proof.Proof.Gen.SsdInIdeal.Value
public import proofs.«01_k».proof.Proof.Gen.SsdInRefIdeal.Run
public import proofs.«01_k».proof.Proof.Gen.SsdInRefIdeal.Read
import Idealize.ShloMosaic.Lib.Pointwise
import Idealize.ShloMosaic.Lib.Pipeline.ValueKit

@[expose] public section

set_option maxRecDepth 16384

noncomputable section

namespace Cert.SsdInValue

open Idealize.ShloMosaic Idealize.ShloMosaic.TcCoe Idealize.SL.Sem Cert.Scalars Cert.Rows Cert.InRows Cert.Finite

/-- The step sizes' columns, filled up with zeros to a whole register. -/
def pad (f : Fin 32 → ℝ) (l : Fin 128) : ℝ := if h : l.val < 32 then f ⟨l.val, h⟩ else 0

/-- The filling adds nothing to a product. -/
theorem sum_pad (f g : Fin 32 → ℝ) : ∑ l, pad f l * pad g l = ∑ j, f j * g j := by
  refine (Fin.sum_univ_add (a := 32) (b := 96) fun l : Fin 128 => pad f l * pad g l).trans ?_
  have hz : ∑ i : Fin 96, pad f (Fin.natAdd 32 i) * pad g (Fin.natAdd 32 i) = 0 :=
    Finset.sum_eq_zero fun i _ => by simp [pad]
  refine (congrArg _ hz).trans ((add_zero _).trans (Finset.sum_congr rfl fun i _ => ?_))
  simp [pad]

/-- The cotangents of the three products of a row. -/
structure Cots where
  z : Fin 2048 → ℝ
  x : Fin 3072 → ℝ
  t : Fin 32 → ℝ

/-- The three products' columns of the weights. -/
def colz (W : Fin 1024 → Fin 5152 → ℝ) (k : Fin 1024) (f : Fin 2048) : ℝ := W k ⟨f.val, by omega⟩
def colx (W : Fin 1024 → Fin 5152 → ℝ) (k : Fin 1024) (f : Fin 3072) : ℝ := W k ⟨2048 + f.val, by omega⟩
def colt (W : Fin 1024 → Fin 5152 → ℝ) (k : Fin 1024) (f : Fin 32) : ℝ := W k ⟨5120 + f.val, by omega⟩

/-- The cotangent of the norm's result. -/
def dh (W : Fin 1024 → Fin 5152 → ℝ) (q : Cots) (k : Fin 1024) : ℝ :=
  projT q.z (colz W) k + projT q.x (colx W) k + projT q.t (colt W) k

section Program

open Cert.SsdInIdeal Cert.SsdInIdeal.Gen

/-- The blocks of a grid point hold these reals. -/
structure Blocks (x0 : Vec Ideal S512x1024 .f32) (x1 : Vec Ideal S1x1024 .f32) (x2 : Vec Ideal S512x1024 .f32)
    (x3 : Vec Ideal S512x2048 .bf16) (x4 : Vec Ideal S512x3072 .bf16) (x5 : Vec Ideal S512x128 .bf16)
    (x6 : Vec Ideal S1024x2048 .bf16) (x7 : Vec Ideal S1024x3072 .bf16) (x8 : Vec Ideal S1024x128 .bf16)
    (x d : Fin 512 → Fin 1024 → ℝ) (w : Fin 1024 → ℝ) (q : Fin 512 → Cots) (W : Fin 1024 → Fin 5152 → ℝ) : Prop where
  h0 : ∀ r k, x0 (ix2 r k) = ((x r k : ℝ) : EReal)
  h1 : ∀ k, x1 (ix2 0 k) = ((w k : ℝ) : EReal)
  h2 : ∀ r k, x2 (ix2 r k) = ((d r k : ℝ) : EReal)
  h3 : ∀ r f, x3 (ix2 r f) = (((q r).z f : ℝ) : EReal)
  h4 : ∀ r f, x4 (ix2 r f) = (((q r).x f : ℝ) : EReal)
  h5 : ∀ r l, x5 (ix2 r l) = ((pad (q r).t l : ℝ) : EReal)
  h6 : ∀ k f, x6 (ix2 k f) = ((colz W k f : ℝ) : EReal)
  h7 : ∀ k f, x7 (ix2 k f) = ((colx W k f : ℝ) : EReal)
  h8 : ∀ k l, x8 (ix2 k l) = ((pad (colt W k) l : ℝ) : EReal)

section Point

variable {x0 : Vec Ideal S512x1024 .f32} {x1 : Vec Ideal S1x1024 .f32} {x2 : Vec Ideal S512x1024 .f32}
    {x3 : Vec Ideal S512x2048 .bf16} {x4 : Vec Ideal S512x3072 .bf16} {x5 : Vec Ideal S512x128 .bf16}
    {x6 : Vec Ideal S1024x2048 .bf16} {x7 : Vec Ideal S1024x3072 .bf16} {x8 : Vec Ideal S1024x128 .bf16}
    {x d : Fin 512 → Fin 1024 → ℝ} {w : Fin 1024 → ℝ} {q : Fin 512 → Cots} {W : Fin 1024 → Fin 5152 → ℝ}
    (B : Blocks x0 x1 x2 x3 x4 x5 x6 x7 x8 x d w q W)
include B

theorem inv_apply (r : Fin 512) : k0_pay6 (F := Ideal) x0 (ix2 r 0) = ((inv (x r) : ℝ) : EReal) := by
  pointwise [k0_pay6]
  simp only [B.h0, ← EReal.coe_mul, sum_coe, k1024_lit, eps_lit]
  rw [div_coe_coe _ (by norm_num), ← EReal.coe_add]
  exact rsqrt_pos (ms_pos (x r))

theorem xh_apply (r : Fin 512) (k : Fin 1024) : k0_pay7 (F := Ideal) x0 (ix2 r k) = ((xh (x r) k : ℝ) : EReal) := by
  pointwise [k0_pay7]
  rw [inv_apply B, B.h0, ← EReal.coe_mul]
  rfl

/-- The normalized rows, as stored. -/
theorem h_apply (r : Fin 512) (k : Fin 1024) :
    k0_pay2 (F := Ideal) (k0_pay8 x1 x0) (ix2 r k) = ((hn (x r) w k : ℝ) : EReal) := by
  pointwise [k0_pay2, k0_pay8, k0_pay5]
  rw [xh_apply B, B.h1, ← EReal.coe_mul]
  rfl

theorem dh_apply (r : Fin 512) (k : Fin 1024) :
    k0_pay9 (F := Ideal) x3 x6 x4 x7 x5 x8 (ix2 r k) = ((dh W (q r) k : ℝ) : EReal) := by
  pointwise [k0_pay9]
  simp only [B.h3, B.h4, B.h5, B.h6, B.h7, B.h8, ← EReal.coe_mul, sum_coe, ← EReal.coe_add, sum_pad]
  rfl

theorem dhw_apply (r : Fin 512) (k : Fin 1024) :
    k0_pay10 (F := Ideal) x1 x3 x6 x4 x7 x5 x8 (ix2 r k) = ((dh W (q r) k * w k : ℝ) : EReal) := by
  pointwise [k0_pay10, k0_pay5]
  rw [dh_apply B, B.h1, ← EReal.coe_mul]

theorem s_apply (r : Fin 512) :
    k0_pay11 (F := Ideal) x1 x0 x3 x6 x4 x7 x5 x8 (ix2 r 0)
      = ((∑ k, dh W (q r) k * w k * xh (x r) k : ℝ) : EReal) := by
  pointwise [k0_pay11]
  simp only [dhw_apply B, xh_apply B, ← EReal.coe_mul, sum_coe]

/-- The cotangent of the input, as stored. -/
theorem dx_apply (r : Fin 512) (k : Fin 1024) :
    k0_pay1 (F := Ideal) (k0_pay6 x0) (k0_pay7 x0) (k0_pay10 x1 x3 x6 x4 x7 x5 x8) (k0_pay11 x1 x0 x3 x6 x4 x7 x5 x8)
      (Scalar.ofBits .f32 0x44800000#32) x2 (ix2 r k) = ((d r k + dnorm (x r) w (dh W (q r)) k : ℝ) : EReal) := by
  pointwise [k0_pay1]
  simp only [s_apply B, dhw_apply B, xh_apply B, inv_apply B, B.h2, k1024_lit]
  rw [div_coe_coe _ (by norm_num)]
  simp only [← EReal.coe_mul, ← EReal.coe_sub, ← EReal.coe_add]
  rfl

/-- One block's part of the cotangent of the norm's weights is added to what was there. -/
theorem dw_apply (v : Vec Ideal S1x1024 .f32) (k : Fin 1024) :
    k0_pay4 (F := Ideal) (k0_pay7 x0) (k0_pay9 x3 x6 x4 x7 x5 x8) v (ix2 0 k)
      = v (ix2 0 k) + ((∑ r, dh W (q r) k * xh (x r) k : ℝ) : EReal) := by
  pointwise [k0_pay4]
  simp only [dh_apply B, xh_apply B, ← EReal.coe_mul, sum_coe]

end Point

/-- The arguments of the program hold these reals. -/
structure Args (m : (ℓ : Loc nD τ sig) → Buf (Elt Ideal) ℓ) (c : Dev nD) (I : In) (q : Fin 16384 → Cots)
    (W : Fin 1024 → Fin 5152 → ℝ) : Prop where
  h0 : ∀ r k, m ((c : Thread nD τ).loc main_arg0) (ix2 r k) = ((I.x r k : ℝ) : EReal)
  h1 : ∀ k, m ((c : Thread nD τ).loc main_arg1) (ix1 k) = ((I.w k : ℝ) : EReal)
  h2 : ∀ r k, m ((c : Thread nD τ).loc main_arg2) (ix2 r k) = ((I.d r k : ℝ) : EReal)
  h3 : ∀ r f, m ((c : Thread nD τ).loc main_arg3) (ix2 r f) = (((q r).z f : ℝ) : EReal)
  h4 : ∀ r f, m ((c : Thread nD τ).loc main_arg4) (ix2 r f) = (((q r).x f : ℝ) : EReal)
  h5 : ∀ r f, m ((c : Thread nD τ).loc main_arg5) (ix2 r f) = (((q r).t f : ℝ) : EReal)
  h6 : ∀ k f, m ((c : Thread nD τ).loc main_arg6) (ix2 k f) = ((W k f : ℝ) : EReal)
  hd : ∀ r, I.dh r = dh W (q r)

variable {m : (ℓ : Loc nD τ sig) → Buf (Elt Ideal) ℓ} {c : Dev nD} {I : In} {q : Fin 16384 → Cots}
  {W : Fin 1024 → Fin 5152 → ℝ} (A : Args m c I q W)

/-- Which block of its array each window of a point is. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![t.val, 0]
    ∧ win0_10.index t = ![t.val, 0] ∧ win0_11.index t = ![0, 0] :=
  (by decide +kernel : ∀ t : Fin grid0.N, _)

include A

theorem w_entry (k : Fin 1024) : V m c main_v7 (ix2 0 k) = ((I.w k : ℝ) : EReal) := by
  entry_read
  pointwise
  exact A.h1 k

theorem wz_entry (k : Fin 1024) (f : Fin 2048) : V m c main_v0 (ix2 k f) = ((colz W k f : ℝ) : EReal) := by
  entry_read
  pointwise
  exact A.h6 k _

theorem wx_entry (k : Fin 1024) (f : Fin 3072) : V m c main_v1 (ix2 k f) = ((colx W k f : ℝ) : EReal) := by
  entry_read
  pointwise
  exact A.h6 k _

theorem wt_entry (k : Fin 1024) (l : Fin 128) : V m c main_v4 (ix2 k l) = ((pad (colt W k) l : ℝ) : EReal) := by
  entry_read
  pointwise
  unfold pad
  split
  · exact A.h6 k _
  · rfl

theorem dt_entry (r : Fin 16384) (l : Fin 128) : V m c main_v6 (ix2 r l) = ((pad (q r).t l : ℝ) : EReal) := by
  entry_read
  pointwise
  unfold pad
  split
  · exact A.h5 r _
  · rfl

theorem block0 (t : Fin cfg0.N) (r : Fin 512) (k : Fin 1024) :
    iblk m c 0 t (ix2 r k) = ((I.x (row t r) k : ℝ) : EReal) := by
  refine Eq.trans ?_ (A.h0 (row t r) k)
  blk_simp [iblk, idx t, row, V]
  blk_ext [idx t, row]

theorem block1 (t : Fin cfg0.N) (k : Fin 1024) : iblk m c 1 t (ix2 0 k) = ((I.w k : ℝ) : EReal) := by
  refine Eq.trans ?_ (w_entry A k)
  blk_simp [iblk, idx t, row]
  blk_ext [idx t, row]

theorem block2 (t : Fin cfg0.N) (r : Fin 512) (k : Fin 1024) :
    iblk m c 2 t (ix2 r k) = ((I.d (row t r) k : ℝ) : EReal) := by
  refine Eq.trans ?_ (A.h2 (row t r) k)
  blk_simp [iblk, idx t, row, V]
  blk_ext [idx t, row]

theorem block3 (t : Fin cfg0.N) (r : Fin 512) (f : Fin 2048) :
    iblk m c 3 t (ix2 r f) = (((q (row t r)).z f : ℝ) : EReal) := by
  refine Eq.trans ?_ (A.h3 (row t r) f)
  blk_simp [iblk, idx t, row, V]
  blk_ext [idx t, row]

theorem block4 (t : Fin cfg0.N) (r : Fin 512) (f : Fin 3072) :
    iblk m c 4 t (ix2 r f) = (((q (row t r)).x f : ℝ) : EReal) := by
  refine Eq.trans ?_ (A.h4 (row t r) f)
  blk_simp [iblk, idx t, row, V]
  blk_ext [idx t, row]

theorem block5 (t : Fin cfg0.N) (r : Fin 512) (l : Fin 128) :
    iblk m c 5 t (ix2 r l) = ((pad (q (row t r)).t l : ℝ) : EReal) := by
  refine Eq.trans ?_ (dt_entry A (row t r) l)
  blk_simp [iblk, idx t, row]
  blk_ext [idx t, row]

theorem block6 (t : Fin cfg0.N) (k : Fin 1024) (f : Fin 2048) : iblk m c 6 t (ix2 k f) = ((colz W k f : ℝ) : EReal) := by
  refine Eq.trans ?_ (wz_entry A k f)
  blk_simp [iblk, idx t, row]
  blk_ext [idx t, row]

theorem block7 (t : Fin cfg0.N) (k : Fin 1024) (f : Fin 3072) : iblk m c 7 t (ix2 k f) = ((colx W k f : ℝ) : EReal) := by
  refine Eq.trans ?_ (wx_entry A k f)
  blk_simp [iblk, idx t, row]
  blk_ext [idx t, row]

theorem block8 (t : Fin cfg0.N) (k : Fin 1024) (l : Fin 128) :
    iblk m c 8 t (ix2 k l) = ((pad (colt W k) l : ℝ) : EReal) := by
  refine Eq.trans ?_ (wt_entry A k l)
  blk_simp [iblk, idx t, row]
  blk_ext [idx t, row]

/-- A point's blocks hold the rows of the arguments. -/
theorem blocks (t : Fin cfg0.N) : Blocks (iblk m c 0 t) (iblk m c 1 t) (iblk m c 2 t) (iblk m c 3 t) (iblk m c 4 t)
    (iblk m c 5 t) (iblk m c 6 t) (iblk m c 7 t) (iblk m c 8 t)
    (fun r => I.x (row t r)) (fun r => I.d (row t r)) I.w (fun r => q (row t r)) W :=
  ⟨block0 A t, block1 A t, block2 A t, block3 A t, block4 A t, block5 A t, block6 A t, block7 A t, block8 A t⟩

theorem dx_block (t : Fin cfg0.N) (y : S512x1024.Idx) :
    k0_pay1 (F := Ideal) (k0_pay6 (iblk m c 0 t)) (k0_pay7 (iblk m c 0 t))
      (k0_pay10 (iblk m c 1 t) (iblk m c 3 t) (iblk m c 6 t) (iblk m c 4 t) (iblk m c 7 t) (iblk m c 5 t) (iblk m c 8 t))
      (k0_pay11 (iblk m c 1 t) (iblk m c 0 t) (iblk m c 3 t) (iblk m c 6 t) (iblk m c 4 t) (iblk m c 7 t) (iblk m c 5 t) (iblk m c 8 t))
      (Scalar.ofBits .f32 0x44800000#32) (iblk m c 2 t) y = ((I.dx (row t (y 0)) (y 1) : ℝ) : EReal) :=
  (congrArg _ (eq_ix2 y)).trans ((dx_apply (blocks A t) (y 0) (y 1)).trans (by unfold In.dx; rw [A.hd]))

theorem h_block (t : Fin cfg0.N) (y : S512x1024.Idx) :
    k0_pay2 (F := Ideal) (k0_pay8 (iblk m c 1 t) (iblk m c 0 t)) y = ((I.h (row t (y 0)) (y 1) : ℝ) : EReal) :=
  (congrArg _ (eq_ix2 y)).trans (h_apply (blocks A t) (y 0) (y 1))

theorem dw_block (t : Fin cfg0.N) (v : Vec Ideal S1x1024 .f32) (k : Fin 1024) :
    k0_pay4 (F := Ideal) (k0_pay7 (iblk m c 0 t))
      (k0_pay9 (iblk m c 3 t) (iblk m c 6 t) (iblk m c 4 t) (iblk m c 7 t) (iblk m c 5 t) (iblk m c 8 t)) v (ix2 0 k)
      = v (ix2 0 k) + ((∑ r, I.dw (row t r) k : ℝ) : EReal) :=
  (dw_apply (blocks A t) v k).trans (by simp only [In.dw, A.hd])

theorem out9 : (dats m 0 c).arrAt 9 cfg0.N = fun i => ((I.dx (i 0) (i 1) : ℝ) : EReal) := by
  refine (dats m 0 c).arrAt_eq_of_covers 9 _ (by decide +kernel) fun t hf y => ?_
  have e : (win0_9.blk t).view.emb y = ix2 (row t (y 0)) (y 1) := by
    blk_ext [idx t, row]
  blk_simp
  rw [after0_9, e]
  by_cases h : t.val % 32 = 0
  · rw [outsAt0_A m c t h]
    frame_out
    exact dx_block A t y
  · rw [outsAt0_B m c t h]
    frame_out
    exact dx_block A t y

theorem out10 : (dats m 0 c).arrAt 10 cfg0.N = fun i => ((I.h (i 0) (i 1) : ℝ) : EReal) := by
  refine (dats m 0 c).arrAt_eq_of_covers 10 _ (by decide +kernel) fun t hf y => ?_
  have e : (win0_10.blk t).view.emb y = ix2 (row t (y 0)) (y 1) := by
    blk_ext [idx t, row]
  blk_simp
  rw [after0_10, e]
  by_cases h : t.val % 32 = 0
  · rw [outsAt0_A m c t h]
    frame_out
    exact h_block A t y
  · rw [outsAt0_B m c t h]
    frame_out
    exact h_block A t y

omit A in
/-- The last point. -/
def last : Fin cfg0.N := ⟨31, by decide⟩

omit A in
theorem zero_apply (k : Fin 1024) : k0_pay3 (F := Ideal) (ix2 0 k) = 0 := by
  pointwise [k0_pay3]

theorem acc (k : Fin 1024) : (outsAt0 m c last.val last.isLt).2.2 (ix2 0 k)
    = 0 + ∑ t : Fin cfg0.N, ((∑ r, I.dw (row t r) k : ℝ) : EReal) := by
  refine Pipeline.eq_sum_fin_of_reset_step_apply_last (fun n h k => (outsAt0 m c n h).2.2 (ix2 0 k)) 32 (fun _ : Fin 1024 => (0 : EReal))
    (fun t k => ((∑ r, I.dw (row t r) k : ℝ) : EReal)) (fun t h k => ?_) (fun t h k => ?_) (by decide) last rfl k
  · rw [outsAt0_A m c t h]
    frame_out
    exact (dw_block A t _ k).trans (congrArg (· + _) (zero_apply k))
  · rw [outsAt0_B m c t h]
    frame_out
    exact dw_block A t _ k

theorem out11 : (dats m 0 c).arrAt 11 cfg0.N = fun i => ((∑ r, I.dw r (i 1) : ℝ) : EReal) := by
  refine (dats m 0 c).arrAt_eq_of_after_last 11 last (by decide +kernel) _ fun j => ?_
  blk_simp
  rw [after0_11]
  have e : j = ix2 0 (j 1) := (eq_ix2 j).trans (congrArg (ix2 · (j 1)) (Fin.eq_zero (j 0)))
  rw [e]
  refine (acc A (j 1)).trans ?_
  rw [zero_add, sum_coe]
  exact congrArg _ (sum_rows fun r => I.dw r (j 1))

end Program

section Reference

open Cert.SsdInRefIdeal Cert.SsdInRefIdeal.Read Cert.SsdInRefIdeal.Gen

/-- The reference's arguments hold these reals. -/
structure RefArgs (x0 : Vec Ideal S16384x1024 .f32) (x1 : Vec Ideal S1024 .f32) (x2 : Vec Ideal S16384x1024 .f32)
    (x3 : Vec Ideal S16384x2048 .bf16) (x4 : Vec Ideal S16384x3072 .bf16) (x5 : Vec Ideal S16384x32 .bf16)
    (x6 : Vec Ideal S1024x5152 .bf16) (I : In) (q : Fin 16384 → Cots) (W : Fin 1024 → Fin 5152 → ℝ) : Prop where
  h0 : ∀ r k, x0 (ix2 r k) = ((I.x r k : ℝ) : EReal)
  h1 : ∀ k, x1 (ix1 k) = ((I.w k : ℝ) : EReal)
  h2 : ∀ r k, x2 (ix2 r k) = ((I.d r k : ℝ) : EReal)
  h3 : ∀ r f, x3 (ix2 r f) = (((q r).z f : ℝ) : EReal)
  h4 : ∀ r f, x4 (ix2 r f) = (((q r).x f : ℝ) : EReal)
  h5 : ∀ r f, x5 (ix2 r f) = (((q r).t f : ℝ) : EReal)
  h6 : ∀ k f, x6 (ix2 k f) = ((W k f : ℝ) : EReal)
  hd : ∀ r, I.dh r = dh W (q r)

variable {x0 : Vec Ideal S16384x1024 .f32} {x1 : Vec Ideal S1024 .f32} {x2 : Vec Ideal S16384x1024 .f32}
    {x3 : Vec Ideal S16384x2048 .bf16} {x4 : Vec Ideal S16384x3072 .bf16} {x5 : Vec Ideal S16384x32 .bf16}
    {x6 : Vec Ideal S1024x5152 .bf16} {I : In} {q : Fin 16384 → Cots} {W : Fin 1024 → Fin 5152 → ℝ}
    (A : RefArgs x0 x1 x2 x3 x4 x5 x6 I q W)
include A

theorem ref_z (r : Fin 16384) (k : Fin 1024) :
    val_main_v29 (F := Ideal) x3 x6 (ix2 r k) = ((projT (q r).z (colz W) k : ℝ) : EReal) := by
  pointwise [val_main_v29, val_main_v23, val_main_v1, val_main_v0]
  simp only [A.h3, A.h6, ← EReal.coe_mul, sum_coe]
  rfl

theorem ref_x (r : Fin 16384) (k : Fin 1024) :
    val_main_v27 (F := Ideal) x4 x6 (ix2 r k) = ((projT (q r).x (colx W) k : ℝ) : EReal) := by
  pointwise [val_main_v27, val_main_v24, val_main_v2, val_main_v0]
  simp only [A.h4, A.h6, ← EReal.coe_mul, sum_coe]
  rfl

theorem ref_t (r : Fin 16384) (k : Fin 1024) :
    val_main_v26 (F := Ideal) x5 x6 (ix2 r k) = ((projT (q r).t (colt W) k : ℝ) : EReal) := by
  pointwise [val_main_v26, val_main_v25, val_main_v3, val_main_v0]
  simp only [A.h5, A.h6, ← EReal.coe_mul, sum_coe]
  rfl

theorem ref_dh (r : Fin 16384) (k : Fin 1024) :
    val_main_v30 (F := Ideal) x3 x4 x5 x6 (ix2 r k) = ((I.dh r k : ℝ) : EReal) := by
  pointwise [val_main_v30, val_main_v28]
  rw [ref_z A, ref_x A, ref_t A, ← EReal.coe_add, ← EReal.coe_add, A.hd]
  exact congrArg _ (by unfold dh; ring)

theorem ref_ms (r : Fin 16384) : val_main_v10 (F := Ideal) x0 (ix2 r 0) = ((ms (I.x r) : ℝ) : EReal) := by
  pointwise [val_main_v10, val_main_v9, val_main_cst_1, val_main_v8, val_main_v7, val_main_cst_0, val_main_v6,
    val_main_v5, val_main_v4, val_main_cst]
  simp only [A.h0, ← EReal.coe_mul, sum_coe, k1024_lit, eps_lit]
  rw [div_coe_coe _ (by norm_num), ← EReal.coe_add]
  rfl

theorem ref_inv (r : Fin 16384) : val_main_v11 (F := Ideal) x0 (ix2 r 0) = ((inv (I.x r) : ℝ) : EReal) := by
  pointwise [val_main_v11]
  rw [ref_ms A, rsqrt_pos (ms_pos _)]
  rfl

theorem ref_dhw (r : Fin 16384) (k : Fin 1024) :
    val_main_v35 (F := Ideal) x1 x3 x4 x5 x6 (ix2 r k) = ((I.dh r k * I.w k : ℝ) : EReal) := by
  pointwise [val_main_v35, val_main_v34, val_main_v17]
  rw [ref_dh A, A.h1, ← EReal.coe_mul]

theorem ref_s (r : Fin 16384) :
    val_main_v46 (F := Ideal) x0 x1 x3 x4 x5 x6 (ix1 r)
      = (((∑ k, I.x r k * (I.dh r k * I.w k)) * (-(1 / 2) * (inv (I.x r) / ms (I.x r))) / 1024 : ℝ) : EReal) := by
  pointwise [val_main_v46, val_main_cst_7, val_main_v45, val_main_v44, val_main_cst_6, val_main_v43, val_main_v39,
    val_main_v38, val_main_cst_5, val_main_v37, val_main_v14, val_main_v13, val_main_cst_2, val_main_v12]
  rw [Fin.sum_univ_one]
  simp only [ref_inv A, ref_ms A, ref_dhw A, A.h0, ← EReal.coe_mul, sum_coe, k1024_lit, neg_half_lit]
  rw [div_coe_coe _ (ms_pos _).ne', ← EReal.coe_mul, ← EReal.coe_mul, div_coe_coe _ (by norm_num)]

theorem ref_dx (r : Fin 16384) (k : Fin 1024) :
    val_main_v51 (F := Ideal) x0 x1 x2 x3 x4 x5 x6 (ix2 r k) = ((I.dx r k : ℝ) : EReal) := by
  pointwise [val_main_v51, val_main_v50, val_main_v49, val_main_v48, val_main_v47, val_main_v42, val_main_v41, val_main_v40]
  rw [ref_s A, ref_dhw A, ref_inv A, A.h0, A.h2]
  simp only [← EReal.coe_mul, ← EReal.coe_add]
  exact congrArg _ (by rw [In.dx, dnorm_eq]; ring)

theorem ref_h (r : Fin 16384) (k : Fin 1024) : val_main_v65 (F := Ideal) x0 x1 (ix2 r k) = ((I.h r k : ℝ) : EReal) := by
  have e : val_main_v59 (F := Ideal) x0 = val_main_v11 (F := Ideal) x0 := rfl
  pointwise [val_main_v65, val_main_v64, val_main_v63, val_main_v62, val_main_v61, val_main_v60]
  rw [e, ref_inv A, A.h0, A.h1, ← EReal.coe_mul, ← EReal.coe_mul]
  rfl

theorem ref_dw (k : Fin 1024) : val_main_v66 (F := Ideal) x0 x3 x4 x5 x6 (ix2 0 k) = ((∑ r, I.dw r k : ℝ) : EReal) := by
  pointwise [val_main_v66, val_main_v36, val_main_cst_4, val_main_v33, val_main_v32, val_main_cst_3, val_main_v31,
    val_main_v16, val_main_v15]
  rw [Fin.sum_univ_one]
  simp only [ref_dh A, ref_inv A, A.h0, ← EReal.coe_mul, sum_coe]
  exact congrArg _ (Finset.sum_congr rfl fun r _ => mul_comm _ _)

end Reference

/-- The precondition says that the arguments hold reals. -/
theorem args_of_pre (m : (ℓ : Loc Cert.SsdInIdeal.nD Cert.SsdInIdeal.τ Cert.SsdInIdeal.sig) → Buf (Elt Ideal) ℓ)
    (h : Cert.Pre_SsdInIdeal_ssd_in_finite m) (c : Dev Cert.SsdInIdeal.nD) :
    ∃ (I : In) (q : Fin 16384 → Cots) (W : Fin 1024 → Fin 5152 → ℝ), Args m c I q W := by
  have e := congrFun (h c) ix0
  simp only [Cert.Pre_ssd_in_finite.fn, Cert.Pre_ssd_in_finite.fn_part1, Cert.Pre_ssd_in_finite.fn_part2, andi,
    IntOp.andi_eq_one] at e
  obtain ⟨⟨⟨⟨⟨⟨e0, e1⟩, e2⟩, e3⟩, e4⟩, e5⟩, e6⟩ := e
  have inf : ∀ (s : Shape) (h : Shape.BroadcastsInDim ⟨0, ![]⟩ s (![] : Fin 0 → Fin s.rank)) (i : s.Idx),
      broadcastInDim s ![] h (constant (F := Ideal) ⟨0, ![]⟩ .f32 0x7F800000#32) i = ⊤ := fun s h i => Scalars.inf_lit
  obtain ⟨y0, h0⟩ := real_of_all _ _ _ (inf _ _) _ _ _ e0
  obtain ⟨y1, h1⟩ := real_of_all _ _ _ (inf _ _) _ _ _ e1
  obtain ⟨y2, h2⟩ := real_of_all _ _ _ (inf _ _) _ _ _ e2
  obtain ⟨y3, h3⟩ := real_of_all _ _ _ (inf _ _) _ _ _ e3
  obtain ⟨y4, h4⟩ := real_of_all _ _ _ (inf _ _) _ _ _ e4
  obtain ⟨y5, h5⟩ := real_of_all _ _ _ (inf _ _) _ _ _ e5
  obtain ⟨y6, h6⟩ := real_of_all _ _ _ (inf _ _) _ _ _ e6
  let q (r : Fin 16384) : Cots := ⟨fun f => y3 (ix2 r f), fun f => y4 (ix2 r f), fun f => y5 (ix2 r f)⟩
  exact ⟨⟨fun r k => y0 (ix2 r k), fun r k => y2 (ix2 r k), fun k => y1 (ix1 k),
      fun r => dh (fun k f => y6 (ix2 k f)) (q r)⟩, q, fun k f => y6 (ix2 k f),
    ⟨fun r k => h0 _, fun k => h1 _, fun r k => h2 _, fun r f => h3 _, fun r f => h4 _, fun r f => h5 _, fun k f => h6 _,
      fun r => rfl⟩⟩

theorem algebraic : Cert.algebraic_SsdInIdeal_SsdInRefIdeal_pre_ssd_in_finite := by
  intro m g m' g' hpre hagree
  choose I q W A using args_of_pre m hpre
  refine ⟨fun c i => (((I c).dx (i 0) (i 1) : ℝ) : EReal), fun c i => (((I c).h (i 0) (i 1) : ℝ) : EReal),
    fun c i => ((∑ r, (I c).dw r (i 1) : ℝ) : EReal), ?_, ?_⟩
  · refine (θ_run Cert.SsdInIdeal.defs _ _).mono (fun r h c => ?_) (Cert.SsdInIdeal.Value.run_blocks m g)
    obtain ⟨e0, e1, e2, rest⟩ := h c
    exact ⟨e0.trans (out9 (A c)), e1.trans (out10 (A c)), e2.trans (out11 (A c)), rest⟩
  · refine (θ_run Cert.SsdInRefIdeal.defs _ _).mono (fun r h c => ?_) (Cert.SsdInRefIdeal.Value.run m' g')
    obtain ⟨a0, a1, a2, a3, a4, a5, a6⟩ := hagree c
    have A' : RefArgs (m' ((c.tc : Thread Cert.SsdInRefIdeal.nD Cert.SsdInRefIdeal.τ).loc Cert.SsdInRefIdeal.main_arg0))
        (m' ((c.tc : Thread Cert.SsdInRefIdeal.nD Cert.SsdInRefIdeal.τ).loc Cert.SsdInRefIdeal.main_arg1))
        (m' ((c.tc : Thread Cert.SsdInRefIdeal.nD Cert.SsdInRefIdeal.τ).loc Cert.SsdInRefIdeal.main_arg2))
        (m' ((c.tc : Thread Cert.SsdInRefIdeal.nD Cert.SsdInRefIdeal.τ).loc Cert.SsdInRefIdeal.main_arg3))
        (m' ((c.tc : Thread Cert.SsdInRefIdeal.nD Cert.SsdInRefIdeal.τ).loc Cert.SsdInRefIdeal.main_arg4))
        (m' ((c.tc : Thread Cert.SsdInRefIdeal.nD Cert.SsdInRefIdeal.τ).loc Cert.SsdInRefIdeal.main_arg5))
        (m' ((c.tc : Thread Cert.SsdInRefIdeal.nD Cert.SsdInRefIdeal.τ).loc Cert.SsdInRefIdeal.main_arg6)) (I c) (q c) (W c) := by
      rw [a0, a1, a2, a3, a4, a5, a6]
      exact ⟨(A c).h0, (A c).h1, (A c).h2, (A c).h3, (A c).h4, (A c).h5, (A c).h6, (A c).hd⟩
    obtain ⟨e0, e1, e2, rest⟩ := h c
    exact ⟨(e0.trans (Cert.SsdInRefIdeal.Read.val_main_v51_eq m' c)).trans
        (funext fun i => (congrArg _ (eq_ix2 i)).trans (ref_dx A' (i 0) (i 1))),
      (e1.trans (Cert.SsdInRefIdeal.Read.val_main_v65_eq _ _)).trans
        (funext fun i => (congrArg _ (eq_ix2 i)).trans (ref_h A' (i 0) (i 1))),
      (e2.trans (Cert.SsdInRefIdeal.Read.val_main_v66_eq _ _ _ _ _)).trans (funext fun i =>
        (congrArg _ ((eq_ix2 i).trans (congrArg (ix2 · (i 1)) (Fin.eq_zero (i 0))))).trans (ref_dw A' (i 1))), rest⟩

end Cert.SsdInValue

end
-- ==== Proof.ScInValue.lean ====
/- The backward pass of the norm and the product in front of the short convolution: the program's results and the
   reference's are the same functions of the arguments, when the arguments hold reals. -/
module

public import proofs.«01_k».proof.Defs
public import proofs.«01_k».proof.Proof.InRows
public import proofs.«01_k».proof.Proof.Finite
public import proofs.«01_k».proof.Proof.Gen.Pre_sc_in_finite
public import proofs.«01_k».proof.Proof.Gen.ScInIdeal.Value
public import proofs.«01_k».proof.Proof.Gen.ScInRefIdeal.Run
public import proofs.«01_k».proof.Proof.Gen.ScInRefIdeal.Read
import Idealize.ShloMosaic.Lib.Pointwise
import Idealize.ShloMosaic.Lib.Pipeline.ValueKit

@[expose] public section

set_option maxRecDepth 16384

noncomputable section

namespace Cert.ScInValue

open Idealize.ShloMosaic Idealize.ShloMosaic.TcCoe Idealize.SL.Sem Cert.Scalars Cert.Rows Cert.InRows Cert.Finite

section Program

open Cert.ScInIdeal Cert.ScInIdeal.Gen

/-- The blocks of a grid point hold these reals. -/
structure Blocks (x0 : Vec Ideal S512x1024 .f32) (x1 : Vec Ideal S1x1024 .f32) (x2 : Vec Ideal S512x1024 .f32)
    (x3 : Vec Ideal S512x3072 .bf16) (x4 : Vec Ideal S1024x3072 .bf16)
    (x d : Fin 512 → Fin 1024 → ℝ) (w : Fin 1024 → ℝ) (dy : Fin 512 → Fin 3072 → ℝ) (W : Fin 1024 → Fin 3072 → ℝ) : Prop where
  h0 : ∀ r k, x0 (ix2 r k) = ((x r k : ℝ) : EReal)
  h1 : ∀ k, x1 (ix2 0 k) = ((w k : ℝ) : EReal)
  h2 : ∀ r k, x2 (ix2 r k) = ((d r k : ℝ) : EReal)
  h3 : ∀ r f, x3 (ix2 r f) = ((dy r f : ℝ) : EReal)
  h4 : ∀ k f, x4 (ix2 k f) = ((W k f : ℝ) : EReal)

section Point

variable {x0 : Vec Ideal S512x1024 .f32} {x1 : Vec Ideal S1x1024 .f32} {x2 : Vec Ideal S512x1024 .f32}
    {x3 : Vec Ideal S512x3072 .bf16} {x4 : Vec Ideal S1024x3072 .bf16}
    {x d : Fin 512 → Fin 1024 → ℝ} {w : Fin 1024 → ℝ} {dy : Fin 512 → Fin 3072 → ℝ} {W : Fin 1024 → Fin 3072 → ℝ}
    (B : Blocks x0 x1 x2 x3 x4 x d w dy W)
include B

theorem inv_apply (r : Fin 512) : k0_pay4 (F := Ideal) x0 (ix2 r 0) = ((inv (x r) : ℝ) : EReal) := by
  pointwise [k0_pay4]
  simp only [B.h0, ← EReal.coe_mul, sum_coe, k1024_lit, eps_lit]
  rw [div_coe_coe _ (by norm_num), ← EReal.coe_add]
  exact rsqrt_pos (ms_pos (x r))

theorem xh_apply (r : Fin 512) (k : Fin 1024) : k0_pay5 (F := Ideal) x0 (ix2 r k) = ((xh (x r) k : ℝ) : EReal) := by
  pointwise [k0_pay5]
  rw [inv_apply B, B.h0, ← EReal.coe_mul]
  rfl

theorem w_apply (k : Fin 1024) : k0_pay3 (F := Ideal) x1 (ix2 0 k) = ((w k : ℝ) : EReal) := by
  pointwise [k0_pay3]
  exact B.h1 k

theorem dh_apply (r : Fin 512) (k : Fin 1024) :
    k0_pay6 (F := Ideal) x3 x4 (ix2 r k) = ((projT (dy r) W k : ℝ) : EReal) := by
  pointwise [k0_pay6]
  simp only [B.h3, B.h4, ← EReal.coe_mul, sum_coe]
  rfl

/-- One block's part of the cotangent of the norm's weights. -/
theorem dw_apply (k : Fin 1024) :
    k0_pay7 (F := Ideal) x0 x3 x4 (ix2 0 k) = ((∑ r, projT (dy r) W k * xh (x r) k : ℝ) : EReal) := by
  pointwise [k0_pay7]
  simp only [dh_apply B, xh_apply B, ← EReal.coe_mul, sum_coe]

/-- The cotangent of the input, as stored. -/
theorem dx_apply (r : Fin 512) (k : Fin 1024) :
    k0_pay8 (F := Ideal) x1 x0 x3 x4 x2 (ix2 r k) = ((d r k + dnorm (x r) w (projT (dy r) W) k : ℝ) : EReal) := by
  pointwise [k0_pay8]
  simp only [dh_apply B, xh_apply B, w_apply B, inv_apply B, B.h2, ← EReal.coe_mul, sum_coe, k1024_lit]
  rw [div_coe_coe _ (by norm_num)]
  simp only [← EReal.coe_mul, ← EReal.coe_sub, ← EReal.coe_add]
  rfl

/-- The normalized rows, as stored. -/
theorem h_apply (r : Fin 512) (k : Fin 1024) : k0_pay9 (F := Ideal) x1 x0 (ix2 r k) = ((hn (x r) w k : ℝ) : EReal) := by
  pointwise [k0_pay9]
  rw [xh_apply B, w_apply B, ← EReal.coe_mul]
  rfl

end Point

/-- The arguments of the program hold these reals. -/
structure Args (m : (ℓ : Loc nD τ sig) → Buf (Elt Ideal) ℓ) (c : Dev nD) (I : In) (dy : Fin 16384 → Fin 3072 → ℝ)
    (W : Fin 1024 → Fin 3072 → ℝ) : Prop where
  h0 : ∀ r k, m ((c : Thread nD τ).loc main_arg0) (ix2 r k) = ((I.x r k : ℝ) : EReal)
  h1 : ∀ k, m ((c : Thread nD τ).loc main_arg1) (ix1 k) = ((I.w k : ℝ) : EReal)
  h2 : ∀ r k, m ((c : Thread nD τ).loc main_arg2) (ix2 r k) = ((I.d r k : ℝ) : EReal)
  h3 : ∀ r f, m ((c : Thread nD τ).loc main_arg3) (ix2 r f) = ((dy r f : ℝ) : EReal)
  h4 : ∀ k f, m ((c : Thread nD τ).loc main_arg4) (ix2 k f) = ((W k f : ℝ) : EReal)
  hd : ∀ r, I.dh r = projT (dy r) W

variable {m : (ℓ : Loc nD τ sig) → Buf (Elt Ideal) ℓ} {c : Dev nD} {I : In} {dy : Fin 16384 → Fin 3072 → ℝ}
  {W : Fin 1024 → Fin 3072 → ℝ} (A : Args m c I dy W)

/-- Which block of its array each window of a point is. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0]
    ∧ win0_6.index t = ![t.val, 0] ∧ win0_7.index t = ![0, 0] :=
  (by decide +kernel : ∀ t : Fin grid0.N, _)

include A

theorem w_entry (k : Fin 1024) : V m c main_v0 (ix2 0 k) = ((I.w k : ℝ) : EReal) := by
  entry_read
  pointwise
  exact A.h1 k

theorem block0 (t : Fin cfg0.N) (r : Fin 512) (k : Fin 1024) :
    iblk m c 0 t (ix2 r k) = ((I.x (row t r) k : ℝ) : EReal) := by
  refine Eq.trans ?_ (A.h0 (row t r) k)
  blk_simp [iblk, idx t, row, V]
  blk_ext [idx t, row]

theorem block1 (t : Fin cfg0.N) (k : Fin 1024) : iblk m c 1 t (ix2 0 k) = ((I.w k : ℝ) : EReal) := by
  refine Eq.trans ?_ (w_entry A k)
  blk_simp [iblk, idx t, row]
  blk_ext [idx t, row]

theorem block2 (t : Fin cfg0.N) (r : Fin 512) (k : Fin 1024) :
    iblk m c 2 t (ix2 r k) = ((I.d (row t r) k : ℝ) : EReal) := by
  refine Eq.trans ?_ (A.h2 (row t r) k)
  blk_simp [iblk, idx t, row, V]
  blk_ext [idx t, row]

theorem block3 (t : Fin cfg0.N) (r : Fin 512) (f : Fin 3072) :
    iblk m c 3 t (ix2 r f) = ((dy (row t r) f : ℝ) : EReal) := by
  refine Eq.trans ?_ (A.h3 (row t r) f)
  blk_simp [iblk, idx t, row, V]
  blk_ext [idx t, row]

theorem block4 (t : Fin cfg0.N) (k : Fin 1024) (f : Fin 3072) : iblk m c 4 t (ix2 k f) = ((W k f : ℝ) : EReal) := by
  refine Eq.trans ?_ (A.h4 k f)
  blk_simp [iblk, idx t, row, V]
  blk_ext [idx t, row]

/-- A point's blocks hold the rows of the arguments. -/
theorem blocks (t : Fin cfg0.N) : Blocks (iblk m c 0 t) (iblk m c 1 t) (iblk m c 2 t) (iblk m c 3 t) (iblk m c 4 t)
    (fun r => I.x (row t r)) (fun r => I.d (row t r)) I.w (fun r => dy (row t r)) W :=
  ⟨block0 A t, block1 A t, block2 A t, block3 A t, block4 A t⟩

theorem dx_block (t : Fin cfg0.N) (y : S512x1024.Idx) :
    k0_pay8 (F := Ideal) (iblk m c 1 t) (iblk m c 0 t) (iblk m c 3 t) (iblk m c 4 t) (iblk m c 2 t) y
      = ((I.dx (row t (y 0)) (y 1) : ℝ) : EReal) :=
  (congrArg _ (eq_ix2 y)).trans ((dx_apply (blocks A t) (y 0) (y 1)).trans (by unfold In.dx; rw [A.hd]))

theorem h_block (t : Fin cfg0.N) (y : S512x1024.Idx) :
    k0_pay9 (F := Ideal) (iblk m c 1 t) (iblk m c 0 t) y = ((I.h (row t (y 0)) (y 1) : ℝ) : EReal) :=
  (congrArg _ (eq_ix2 y)).trans (h_apply (blocks A t) (y 0) (y 1))

theorem dw_block (t : Fin cfg0.N) (k : Fin 1024) :
    k0_pay7 (F := Ideal) (iblk m c 0 t) (iblk m c 3 t) (iblk m c 4 t) (ix2 0 k)
      = ((∑ r, I.dw (row t r) k : ℝ) : EReal) :=
  (dw_apply (blocks A t) k).trans (by simp only [In.dw, A.hd])

theorem out5 : (dats m 0 c).arrAt 5 cfg0.N = fun i => ((I.dx (i 0) (i 1) : ℝ) : EReal) := by
  refine (dats m 0 c).arrAt_eq_of_covers 5 _ (by decide +kernel) fun t hf y => ?_
  have e : (win0_5.blk t).view.emb y = ix2 (row t (y 0)) (y 1) := by
    blk_ext [idx t, row]
  blk_simp
  rw [after0_5, e]
  by_cases h : t.val % 32 = 0
  · rw [outsAt0_A m c t h]
    frame_out
    exact dx_block A t y
  · rw [outsAt0_B m c t h]
    frame_out
    exact dx_block A t y

theorem out6 : (dats m 0 c).arrAt 6 cfg0.N = fun i => ((I.h (i 0) (i 1) : ℝ) : EReal) := by
  refine (dats m 0 c).arrAt_eq_of_covers 6 _ (by decide +kernel) fun t hf y => ?_
  have e : (win0_6.blk t).view.emb y = ix2 (row t (y 0)) (y 1) := by
    blk_ext [idx t, row]
  blk_simp
  rw [after0_6, e]
  by_cases h : t.val % 32 = 0
  · rw [outsAt0_A m c t h]
    frame_out
    exact h_block A t y
  · rw [outsAt0_B m c t h]
    frame_out
    exact h_block A t y

omit A in
/-- The last point. -/
def last : Fin cfg0.N := ⟨31, by decide⟩

omit A in
theorem zero_apply (k : Fin 1024) : k0_pay1 (F := Ideal) (ix2 0 k) = 0 := by
  pointwise [k0_pay1]

omit A in
theorem add_apply (v w : Vec Ideal S1x1024 .f32) (k : Fin 1024) : k0_pay2 (F := Ideal) v w (ix2 0 k) = w (ix2 0 k) + v (ix2 0 k) := by
  pointwise [k0_pay2]

theorem acc (k : Fin 1024) : (outsAt0 m c last.val last.isLt).2.2 (ix2 0 k)
    = 0 + ∑ t : Fin cfg0.N, ((∑ r, I.dw (row t r) k : ℝ) : EReal) := by
  refine Pipeline.eq_sum_fin_of_reset_step_apply_last (fun n h k => (outsAt0 m c n h).2.2 (ix2 0 k)) 32 (fun _ : Fin 1024 => (0 : EReal))
    (fun t k => ((∑ r, I.dw (row t r) k : ℝ) : EReal)) (fun t h k => ?_) (fun t h k => ?_) (by decide) last rfl k
  · rw [outsAt0_A m c t h]
    frame_out
    rw [add_apply, zero_apply]
    exact congrArg _ (dw_block A t k)
  · rw [outsAt0_B m c t h]
    frame_out
    rw [add_apply]
    exact congrArg _ (dw_block A t k)

theorem out7 : (dats m 0 c).arrAt 7 cfg0.N = fun i => ((∑ r, I.dw r (i 1) : ℝ) : EReal) := by
  refine (dats m 0 c).arrAt_eq_of_after_last 7 last (by decide +kernel) _ fun j => ?_
  blk_simp
  rw [after0_7]
  have e : j = ix2 0 (j 1) := (eq_ix2 j).trans (congrArg (ix2 · (j 1)) (Fin.eq_zero (j 0)))
  rw [e]
  refine (acc A (j 1)).trans ?_
  rw [zero_add, sum_coe]
  exact congrArg _ (sum_rows fun r => I.dw r (j 1))

end Program

section Reference

open Cert.ScInRefIdeal Cert.ScInRefIdeal.Read Cert.ScInRefIdeal.Gen

/-- The reference's arguments hold these reals. -/
structure RefArgs (x0 : Vec Ideal S16384x1024 .f32) (x1 : Vec Ideal S1024 .f32) (x2 : Vec Ideal S16384x1024 .f32)
    (x3 : Vec Ideal S16384x3072 .bf16) (x4 : Vec Ideal S1024x3072 .bf16) (I : In) (dy : Fin 16384 → Fin 3072 → ℝ)
    (W : Fin 1024 → Fin 3072 → ℝ) : Prop where
  h0 : ∀ r k, x0 (ix2 r k) = ((I.x r k : ℝ) : EReal)
  h1 : ∀ k, x1 (ix1 k) = ((I.w k : ℝ) : EReal)
  h2 : ∀ r k, x2 (ix2 r k) = ((I.d r k : ℝ) : EReal)
  h3 : ∀ r f, x3 (ix2 r f) = ((dy r f : ℝ) : EReal)
  h4 : ∀ k f, x4 (ix2 k f) = ((W k f : ℝ) : EReal)
  hd : ∀ r, I.dh r = projT (dy r) W

variable {x0 : Vec Ideal S16384x1024 .f32} {x1 : Vec Ideal S1024 .f32} {x2 : Vec Ideal S16384x1024 .f32}
    {x3 : Vec Ideal S16384x3072 .bf16} {x4 : Vec Ideal S1024x3072 .bf16} {I : In} {dy : Fin 16384 → Fin 3072 → ℝ}
    {W : Fin 1024 → Fin 3072 → ℝ} (A : RefArgs x0 x1 x2 x3 x4 I dy W)
include A

theorem ref_dh (r : Fin 16384) (k : Fin 1024) : val_main_v19 (F := Ideal) x3 x4 (ix2 r k) = ((I.dh r k : ℝ) : EReal) := by
  pointwise [val_main_v19, val_main_v18, val_main_v16]
  simp only [A.h3, A.h4, ← EReal.coe_mul, sum_coe, A.hd]
  rfl

theorem ref_ms (r : Fin 16384) : val_main_v6 (F := Ideal) x0 (ix2 r 0) = ((ms (I.x r) : ℝ) : EReal) := by
  pointwise [val_main_v6, val_main_v5, val_main_cst_1, val_main_v4, val_main_v3, val_main_cst_0, val_main_v2,
    val_main_v1, val_main_v0, val_main_cst]
  simp only [A.h0, ← EReal.coe_mul, sum_coe, k1024_lit, eps_lit]
  rw [div_coe_coe _ (by norm_num), ← EReal.coe_add]
  rfl

theorem ref_inv (r : Fin 16384) : val_main_v7 (F := Ideal) x0 (ix2 r 0) = ((inv (I.x r) : ℝ) : EReal) := by
  pointwise [val_main_v7]
  rw [ref_ms A, rsqrt_pos (ms_pos _)]
  rfl

theorem ref_dhw (r : Fin 16384) (k : Fin 1024) :
    val_main_v24 (F := Ideal) x1 x3 x4 (ix2 r k) = ((I.dh r k * I.w k : ℝ) : EReal) := by
  pointwise [val_main_v24, val_main_v23, val_main_v13]
  rw [ref_dh A, A.h1, ← EReal.coe_mul]

theorem ref_s (r : Fin 16384) :
    val_main_v35 (F := Ideal) x0 x1 x3 x4 (ix1 r)
      = (((∑ k, I.x r k * (I.dh r k * I.w k)) * (-(1 / 2) * (inv (I.x r) / ms (I.x r))) / 1024 : ℝ) : EReal) := by
  pointwise [val_main_v35, val_main_cst_7, val_main_v34, val_main_v33, val_main_cst_6, val_main_v32, val_main_v28,
    val_main_v27, val_main_cst_5, val_main_v26, val_main_v10, val_main_v9, val_main_cst_2, val_main_v8]
  rw [Fin.sum_univ_one]
  simp only [ref_inv A, ref_ms A, ref_dhw A, A.h0, ← EReal.coe_mul, sum_coe, k1024_lit, neg_half_lit]
  rw [div_coe_coe _ (ms_pos _).ne', ← EReal.coe_mul, ← EReal.coe_mul, div_coe_coe _ (by norm_num)]

theorem ref_dx (r : Fin 16384) (k : Fin 1024) :
    val_main_v40 (F := Ideal) x0 x1 x2 x3 x4 (ix2 r k) = ((I.dx r k : ℝ) : EReal) := by
  pointwise [val_main_v40, val_main_v39, val_main_v38, val_main_v37, val_main_v36, val_main_v31, val_main_v30, val_main_v29]
  rw [ref_s A, ref_dhw A, ref_inv A, A.h0, A.h2]
  simp only [← EReal.coe_mul, ← EReal.coe_add]
  exact congrArg _ (by rw [In.dx, dnorm_eq]; ring)

theorem ref_h (r : Fin 16384) (k : Fin 1024) : val_main_v54 (F := Ideal) x0 x1 (ix2 r k) = ((I.h r k : ℝ) : EReal) := by
  have e : val_main_v48 (F := Ideal) x0 = val_main_v7 (F := Ideal) x0 := rfl
  pointwise [val_main_v54, val_main_v53, val_main_v52, val_main_v51, val_main_v50, val_main_v49]
  rw [e, ref_inv A, A.h0, A.h1, ← EReal.coe_mul, ← EReal.coe_mul]
  rfl

theorem ref_dw (k : Fin 1024) : val_main_v55 (F := Ideal) x0 x3 x4 (ix2 0 k) = ((∑ r, I.dw r k : ℝ) : EReal) := by
  pointwise [val_main_v55, val_main_v25, val_main_cst_4, val_main_v22, val_main_v21, val_main_cst_3, val_main_v20,
    val_main_v12, val_main_v11]
  rw [Fin.sum_univ_one]
  simp only [ref_dh A, ref_inv A, A.h0, ← EReal.coe_mul, sum_coe]
  exact congrArg _ (Finset.sum_congr rfl fun r _ => mul_comm _ _)

end Reference

/-- The precondition says that the arguments hold reals. -/
theorem args_of_pre (m : (ℓ : Loc Cert.ScInIdeal.nD Cert.ScInIdeal.τ Cert.ScInIdeal.sig) → Buf (Elt Ideal) ℓ)
    (h : Cert.Pre_ScInIdeal_sc_in_finite m) (c : Dev Cert.ScInIdeal.nD) :
    ∃ (I : In) (dy : Fin 16384 → Fin 3072 → ℝ) (W : Fin 1024 → Fin 3072 → ℝ), Args m c I dy W := by
  have e := congrFun (h c) ix0
  simp only [Cert.Pre_sc_in_finite.fn, Cert.Pre_sc_in_finite.fn_part1, andi, IntOp.andi_eq_one] at e
  obtain ⟨⟨⟨⟨e0, e1⟩, e2⟩, e3⟩, e4⟩ := e
  have inf : ∀ (s : Shape) (h : Shape.BroadcastsInDim ⟨0, ![]⟩ s (![] : Fin 0 → Fin s.rank)) (i : s.Idx),
      broadcastInDim s ![] h (constant (F := Ideal) ⟨0, ![]⟩ .f32 0x7F800000#32) i = ⊤ := fun s h i => Scalars.inf_lit
  obtain ⟨y0, h0⟩ := real_of_all _ _ _ (inf _ _) _ _ _ e0
  obtain ⟨y1, h1⟩ := real_of_all _ _ _ (inf _ _) _ _ _ e1
  obtain ⟨y2, h2⟩ := real_of_all _ _ _ (inf _ _) _ _ _ e2
  obtain ⟨y3, h3⟩ := real_of_all _ _ _ (inf _ _) _ _ _ e3
  obtain ⟨y4, h4⟩ := real_of_all _ _ _ (inf _ _) _ _ _ e4
  exact ⟨⟨fun r k => y0 (ix2 r k), fun r k => y2 (ix2 r k), fun k => y1 (ix1 k),
      fun r => projT (fun f => y3 (ix2 r f)) fun k f => y4 (ix2 k f)⟩,
    fun r f => y3 (ix2 r f), fun k f => y4 (ix2 k f),
    ⟨fun r k => h0 _, fun k => h1 _, fun r k => h2 _, fun r f => h3 _, fun k f => h4 _, fun r => rfl⟩⟩

theorem algebraic : Cert.algebraic_ScInIdeal_ScInRefIdeal_pre_sc_in_finite := by
  intro m g m' g' hpre hagree
  choose I dy W A using args_of_pre m hpre
  refine ⟨fun c i => (((I c).dx (i 0) (i 1) : ℝ) : EReal), fun c i => (((I c).h (i 0) (i 1) : ℝ) : EReal),
    fun c i => ((∑ r, (I c).dw r (i 1) : ℝ) : EReal), ?_, ?_⟩
  · refine (θ_run Cert.ScInIdeal.defs _ _).mono (fun r h c => ?_) (Cert.ScInIdeal.Value.run_blocks m g)
    obtain ⟨e0, e1, e2, rest⟩ := h c
    exact ⟨e0.trans (out5 (A c)), e1.trans (out6 (A c)), e2.trans (out7 (A c)), rest⟩
  · refine (θ_run Cert.ScInRefIdeal.defs _ _).mono (fun r h c => ?_) (Cert.ScInRefIdeal.Value.run m' g')
    obtain ⟨a0, a1, a2, a3, a4⟩ := hagree c
    have A' : RefArgs (m' ((c.tc : Thread Cert.ScInRefIdeal.nD Cert.ScInRefIdeal.τ).loc Cert.ScInRefIdeal.main_arg0))
        (m' ((c.tc : Thread Cert.ScInRefIdeal.nD Cert.ScInRefIdeal.τ).loc Cert.ScInRefIdeal.main_arg1))
        (m' ((c.tc : Thread Cert.ScInRefIdeal.nD Cert.ScInRefIdeal.τ).loc Cert.ScInRefIdeal.main_arg2))
        (m' ((c.tc : Thread Cert.ScInRefIdeal.nD Cert.ScInRefIdeal.τ).loc Cert.ScInRefIdeal.main_arg3))
        (m' ((c.tc : Thread Cert.ScInRefIdeal.nD Cert.ScInRefIdeal.τ).loc Cert.ScInRefIdeal.main_arg4)) (I c) (dy c) (W c) := by
      rw [a0, a1, a2, a3, a4]
      exact ⟨(A c).h0, (A c).h1, (A c).h2, (A c).h3, (A c).h4, (A c).hd⟩
    obtain ⟨e0, e1, e2, rest⟩ := h c
    exact ⟨(e0.trans (Cert.ScInRefIdeal.Read.val_main_v40_eq m' c)).trans (funext fun i => (congrArg _ (eq_ix2 i)).trans (ref_dx A' (i 0) (i 1))),
      (e1.trans (Cert.ScInRefIdeal.Read.val_main_v54_eq _ _)).trans (funext fun i => (congrArg _ (eq_ix2 i)).trans (ref_h A' (i 0) (i 1))),
      (e2.trans (Cert.ScInRefIdeal.Read.val_main_v55_eq _ _ _)).trans (funext fun i =>
        (congrArg _ ((eq_ix2 i).trans (congrArg (ix2 · (i 1)) (Fin.eq_zero (i 0))))).trans (ref_dw A' (i 1))), rest⟩

end Cert.ScInValue

end
-- ==== Proof.ProductGrads.lean ====
/- Three weight gradients of the scan's first products: each program adds the products of its blocks of 1024 rows, and
   the reference's product is the sum over all rows, whatever extended reals the arguments are. -/
module

public import proofs.«01_k».proof.Defs
public import proofs.«01_k».proof.Proof.Scalars
public import proofs.«01_k».proof.Proof.Gen.ZGradIdeal.Value
public import proofs.«01_k».proof.Proof.Gen.ZGradRefIdeal.Run
public import proofs.«01_k».proof.Proof.Gen.ZGradRefIdeal.Read
public import proofs.«01_k».proof.Proof.Gen.XbcGradIdeal.Value
public import proofs.«01_k».proof.Proof.Gen.XbcGradRefIdeal.Run
public import proofs.«01_k».proof.Proof.Gen.XbcGradRefIdeal.Read
public import proofs.«01_k».proof.Proof.Gen.DtGradIdeal.Value
public import proofs.«01_k».proof.Proof.Gen.DtGradRefIdeal.Run
public import proofs.«01_k».proof.Proof.Gen.DtGradRefIdeal.Read
import Idealize.ShloMosaic.Lib.Pointwise
import Idealize.ShloMosaic.Lib.Pipeline.ValueKit

@[expose] public section

set_option maxRecDepth 16384

noncomputable section

namespace Cert.ProductGrads

open Idealize.ShloMosaic Idealize.ShloMosaic.TcCoe Idealize.SL.Sem

section Sums

variable {P Q : Type} (a : Fin 16384 → P → EReal) (d : Fin 16384 → Q → EReal)

/-- One entry of the gradient: the product's left factor by its cotangent, over all the rows. -/
def wsum (p : P) (q : Q) : EReal := ∑ r, a r p * d r q

/-- The rows of a point's block. -/
def row (t : Fin 16) (r : Fin 1024) : Fin 16384 := ⟨t.val * 1024 + r.val, by omega⟩

/-- A point's share of an entry. -/
def share (t : Fin 16) (y : P × Q) : EReal := ∑ r, a (row t r) y.1 * d (row t r) y.2

/-- What starts at the first point's share and adds every later point's ends at the gradient. -/
theorem total (o : (n : ℕ) → n < 16 → P × Q → EReal)
    (first : ∀ t : Fin 16, t.val % 16 = 0 → ∀ y, o t.val t.isLt y = 0 + share a d t y)
    (next : ∀ t : Fin 16, ¬t.val % 16 = 0 → ∀ y,
      o t.val t.isLt y = o (t.val - 1) (Nat.lt_of_le_of_lt (Nat.sub_le _ _) t.isLt) y + share a d t y)
    (p : P) (q : Q) : o 15 (by decide) (p, q) = wsum a d p q := by
  refine (Pipeline.eq_sum_fin_of_reset_step_apply_last o 16 (fun _ => (0 : EReal)) (share a d) first next (by decide) 15 rfl
    (p, q)).trans ?_
  rw [zero_add]
  refine (Fin.sum_points_lanes_congr (A := 1) 16 (g := fun _ r => a r p * d r q)
    (N := 16) (n := 1024) (L := 16384) fun t r ha hl => ?_).trans (Fin.sum_univ_one _)
  have : row t r = ⟨t.val % 16 * 1024 + r.val, hl⟩ := Fin.ext (by
    show t.val * 1024 + r.val = t.val % 16 * 1024 + r.val
    rw [Nat.mod_eq_of_lt t.isLt])
  rw [← this]

end Sums

namespace Z

section Kernel

open Cert.ZGradIdeal Cert.ZGradIdeal.Gen

variable (m : (ℓ : Loc nD τ sig) → Buf (Elt Ideal) ℓ) (c : Dev nD)

/-- The left factor and the cotangent, entry by entry. -/
def left (r : Fin 16384) (p : Fin 1024) : EReal := m ((c : Thread nD τ).loc main_arg0) (ix2 r p)
def cot (r : Fin 16384) (q : Fin 2048) : EReal := m ((c : Thread nD τ).loc main_arg1) (ix2 r q)

theorem idx : ∀ t : Fin cfg0.N, win0_0.index t = ![t.val, 0] ∧ win0_1.index t = ![t.val, 0] :=
  (by decide +kernel : ∀ t : Fin grid0.N, _)

/-- The last point. -/
def last : Fin cfg0.N := ⟨15, by decide⟩

theorem add_apply (v : Vec Ideal S1024x2048 .f32) (t : Fin cfg0.N) (y : Fin 1024 × Fin 2048) :
    k0_pay2 (F := Ideal) v (iblk m c 0 t) (iblk m c 1 t) (ix2 y.1 y.2)
      = v (ix2 y.1 y.2) + share (left m c) (cot m c) t y := by
  have ea (r : Fin 1024) : iblk m c 0 t (ix2 r y.1) = left m c (row t r) y.1 := by
    unfold left
    blk_simp [iblk, idx t, row, V]
    blk_ext [idx t, row]
  have ed (r : Fin 1024) : iblk m c 1 t (ix2 r y.2) = cot m c (row t r) y.2 := by
    unfold cot
    blk_simp [iblk, idx t, row, V]
    blk_ext [idx t, row]
  generalize iblk m c 0 t = x0 at ea ⊢
  generalize iblk m c 1 t = x1 at ed ⊢
  pointwise [k0_pay2]
  exact congrArg _ (Finset.sum_congr rfl fun r _ => congrArg₂ _ (ea r) (ed r))

theorem out (p : Fin 1024) (q : Fin 2048) : outsAt0 m c last.val last.isLt (ix2 p q) = wsum (left m c) (cot m c) p q := by
  refine total (left m c) (cot m c) (fun n h y => outsAt0 m c n h (ix2 y.1 y.2)) (fun t h y => ?_) (fun t h y => ?_) p q
  · refine (congrFun (outsAt0_A m c t h) (ix2 y.1 y.2)).trans ?_
    frame_out
    refine (add_apply m c _ t y).trans (congrArg (· + _) ?_)
    pointwise [k0_pay1]
  · refine (congrFun (outsAt0_B m c t h) (ix2 y.1 y.2)).trans ?_
    frame_out
    exact add_apply m c _ t y

theorem result : (dats m 0 c).arrAt 2 cfg0.N = fun i => wsum (left m c) (cot m c) (i 0) (i 1) := by
  refine (dats m 0 c).arrAt_eq_of_after_last 2 last (by decide +kernel) _ fun j => ?_
  blk_simp
  rw [after0_2]
  exact (congrArg _ (eq_ix2 j)).trans (out m c (j 0) (j 1))

end Kernel

section Reference

open Cert.ZGradRefIdeal Cert.ZGradRefIdeal.Read Cert.ZGradRefIdeal.Gen

theorem ref_apply (x0 : Vec Ideal S16384x1024 .bf16) (x1 : Vec Ideal S16384x2048 .bf16) (y : S1024x2048.Idx) :
    val_main_v5 (F := Ideal) x0 x1 y = wsum (fun r p => x0 (ix2 r p)) (fun r q => x1 (ix2 r q)) (y 0) (y 1) := by
  refine (congrArg _ (eq_ix2 y)).trans ?_
  generalize y 0 = p
  generalize y 1 = q
  pointwise [val_main_v5, val_main_v4, val_main_v3, val_main_v1]
  exact Finset.sum_congr rfl fun r _ => mul_comm _ _

end Reference

theorem algebraic : Cert.algebraic_ZGradIdeal_ZGradRefIdeal := by
  intro m g m' g' _ hagree
  refine ⟨fun c i => wsum (left m c) (cot m c) (i 0) (i 1), ?_, ?_⟩
  · refine (θ_run Cert.ZGradIdeal.defs _ _).mono (fun r h c => ?_) (Cert.ZGradIdeal.Value.run_blocks m g)
    exact ⟨(h c).1.trans (result m c), (h c).2⟩
  · refine (θ_run Cert.ZGradRefIdeal.defs _ _).mono (fun r h c => ?_) (Cert.ZGradRefIdeal.Value.run m' g')
    obtain ⟨e, rest⟩ := h c
    refine ⟨(e.trans (Cert.ZGradRefIdeal.Read.val_main_v5_eq _ _)).trans (funext fun y => ?_), rest⟩
    obtain ⟨e0, e1⟩ := hagree c
    rw [ref_apply, e0, e1]
    rfl

end Z

namespace Xbc

section Kernel

open Cert.XbcGradIdeal Cert.XbcGradIdeal.Gen

variable (m : (ℓ : Loc nD τ sig) → Buf (Elt Ideal) ℓ) (c : Dev nD)

/-- The left factor and the cotangent, entry by entry. -/
def left (r : Fin 16384) (p : Fin 1024) : EReal := m ((c : Thread nD τ).loc main_arg0) (ix2 r p)
def cot (r : Fin 16384) (q : Fin 3072) : EReal := m ((c : Thread nD τ).loc main_arg1) (ix2 r q)

theorem idx : ∀ t : Fin cfg0.N, win0_0.index t = ![t.val, 0] ∧ win0_1.index t = ![t.val, 0] :=
  (by decide +kernel : ∀ t : Fin grid0.N, _)

/-- The last point. -/
def last : Fin cfg0.N := ⟨15, by decide⟩

theorem add_apply (v : Vec Ideal S1024x3072 .f32) (t : Fin cfg0.N) (y : Fin 1024 × Fin 3072) :
    k0_pay2 (F := Ideal) v (iblk m c 0 t) (iblk m c 1 t) (ix2 y.1 y.2)
      = v (ix2 y.1 y.2) + share (left m c) (cot m c) t y := by
  have ea (r : Fin 1024) : iblk m c 0 t (ix2 r y.1) = left m c (row t r) y.1 := by
    unfold left
    blk_simp [iblk, idx t, row, V]
    blk_ext [idx t, row]
  have ed (r : Fin 1024) : iblk m c 1 t (ix2 r y.2) = cot m c (row t r) y.2 := by
    unfold cot
    blk_simp [iblk, idx t, row, V]
    blk_ext [idx t, row]
  generalize iblk m c 0 t = x0 at ea ⊢
  generalize iblk m c 1 t = x1 at ed ⊢
  pointwise [k0_pay2]
  exact congrArg _ (Finset.sum_congr rfl fun r _ => congrArg₂ _ (ea r) (ed r))

theorem out (p : Fin 1024) (q : Fin 3072) : outsAt0 m c last.val last.isLt (ix2 p q) = wsum (left m c) (cot m c) p q := by
  refine total (left m c) (cot m c) (fun n h y => outsAt0 m c n h (ix2 y.1 y.2)) (fun t h y => ?_) (fun t h y => ?_) p q
  · refine (congrFun (outsAt0_A m c t h) (ix2 y.1 y.2)).trans ?_
    frame_out
    refine (add_apply m c _ t y).trans (congrArg (· + _) ?_)
    pointwise [k0_pay1]
  · refine (congrFun (outsAt0_B m c t h) (ix2 y.1 y.2)).trans ?_
    frame_out
    exact add_apply m c _ t y

theorem result : (dats m 0 c).arrAt 2 cfg0.N = fun i => wsum (left m c) (cot m c) (i 0) (i 1) := by
  refine (dats m 0 c).arrAt_eq_of_after_last 2 last (by decide +kernel) _ fun j => ?_
  blk_simp
  rw [after0_2]
  exact (congrArg _ (eq_ix2 j)).trans (out m c (j 0) (j 1))

end Kernel

section Reference

open Cert.XbcGradRefIdeal Cert.XbcGradRefIdeal.Read Cert.XbcGradRefIdeal.Gen

theorem ref_apply (x0 : Vec Ideal S16384x1024 .bf16) (x1 : Vec Ideal S16384x3072 .bf16) (y : S1024x3072.Idx) :
    val_main_v5 (F := Ideal) x0 x1 y = wsum (fun r p => x0 (ix2 r p)) (fun r q => x1 (ix2 r q)) (y 0) (y 1) := by
  refine (congrArg _ (eq_ix2 y)).trans ?_
  generalize y 0 = p
  generalize y 1 = q
  pointwise [val_main_v5, val_main_v4, val_main_v3, val_main_v1]
  exact Finset.sum_congr rfl fun r _ => mul_comm _ _

end Reference

theorem algebraic : Cert.algebraic_XbcGradIdeal_XbcGradRefIdeal := by
  intro m g m' g' _ hagree
  refine ⟨fun c i => wsum (left m c) (cot m c) (i 0) (i 1), ?_, ?_⟩
  · refine (θ_run Cert.XbcGradIdeal.defs _ _).mono (fun r h c => ?_) (Cert.XbcGradIdeal.Value.run_blocks m g)
    exact ⟨(h c).1.trans (result m c), (h c).2⟩
  · refine (θ_run Cert.XbcGradRefIdeal.defs _ _).mono (fun r h c => ?_) (Cert.XbcGradRefIdeal.Value.run m' g')
    obtain ⟨e, rest⟩ := h c
    refine ⟨(e.trans (Cert.XbcGradRefIdeal.Read.val_main_v5_eq _ _)).trans (funext fun y => ?_), rest⟩
    obtain ⟨e0, e1⟩ := hagree c
    rw [ref_apply, e0, e1]
    rfl

end Xbc

namespace Dt

section Kernel

open Cert.DtGradIdeal Cert.DtGradIdeal.Gen

variable (m : (ℓ : Loc nD τ sig) → Buf (Elt Ideal) ℓ) (c : Dev nD)

/-- The left factor and the cotangent, entry by entry. -/
def left (r : Fin 16384) (p : Fin 1024) : EReal := m ((c : Thread nD τ).loc main_arg0) (ix2 r p)
def cot (r : Fin 16384) (q : Fin 128) : EReal := m ((c : Thread nD τ).loc main_arg1) (ix2 r q)

theorem idx : ∀ t : Fin cfg0.N, win0_0.index t = ![t.val, 0] ∧ win0_1.index t = ![t.val, 0] :=
  (by decide +kernel : ∀ t : Fin grid0.N, _)

/-- The last point. -/
def last : Fin cfg0.N := ⟨15, by decide⟩

theorem add_apply (v : Vec Ideal S1024x128 .f32) (t : Fin cfg0.N) (y : Fin 1024 × Fin 128) :
    k0_pay2 (F := Ideal) v (iblk m c 0 t) (iblk m c 1 t) (ix2 y.1 y.2)
      = v (ix2 y.1 y.2) + share (left m c) (cot m c) t y := by
  have ea (r : Fin 1024) : iblk m c 0 t (ix2 r y.1) = left m c (row t r) y.1 := by
    unfold left
    blk_simp [iblk, idx t, row, V]
    blk_ext [idx t, row]
  have ed (r : Fin 1024) : iblk m c 1 t (ix2 r y.2) = cot m c (row t r) y.2 := by
    unfold cot
    blk_simp [iblk, idx t, row, V]
    blk_ext [idx t, row]
  generalize iblk m c 0 t = x0 at ea ⊢
  generalize iblk m c 1 t = x1 at ed ⊢
  pointwise [k0_pay2]
  exact congrArg _ (Finset.sum_congr rfl fun r _ => congrArg₂ _ (ea r) (ed r))

theorem out (p : Fin 1024) (q : Fin 128) : outsAt0 m c last.val last.isLt (ix2 p q) = wsum (left m c) (cot m c) p q := by
  refine total (left m c) (cot m c) (fun n h y => outsAt0 m c n h (ix2 y.1 y.2)) (fun t h y => ?_) (fun t h y => ?_) p q
  · refine (congrFun (outsAt0_A m c t h) (ix2 y.1 y.2)).trans ?_
    frame_out
    refine (add_apply m c _ t y).trans (congrArg (· + _) ?_)
    pointwise [k0_pay1]
  · refine (congrFun (outsAt0_B m c t h) (ix2 y.1 y.2)).trans ?_
    frame_out
    exact add_apply m c _ t y

theorem result : (dats m 0 c).arrAt 2 cfg0.N = fun i => wsum (left m c) (cot m c) (i 0) (i 1) := by
  refine (dats m 0 c).arrAt_eq_of_after_last 2 last (by decide +kernel) _ fun j => ?_
  blk_simp
  rw [after0_2]
  exact (congrArg _ (eq_ix2 j)).trans (out m c (j 0) (j 1))

end Kernel

section Reference

open Cert.DtGradRefIdeal Cert.DtGradRefIdeal.Read Cert.DtGradRefIdeal.Gen

theorem ref_apply (x0 : Vec Ideal S16384x1024 .bf16) (x1 : Vec Ideal S16384x128 .bf16) (y : S1024x128.Idx) :
    val_main_v5 (F := Ideal) x0 x1 y = wsum (fun r p => x0 (ix2 r p)) (fun r q => x1 (ix2 r q)) (y 0) (y 1) := by
  refine (congrArg _ (eq_ix2 y)).trans ?_
  generalize y 0 = p
  generalize y 1 = q
  pointwise [val_main_v5, val_main_v4, val_main_v3, val_main_v1]
  exact Finset.sum_congr rfl fun r _ => mul_comm _ _

end Reference

theorem algebraic : Cert.algebraic_DtGradIdeal_DtGradRefIdeal := by
  intro m g m' g' _ hagree
  refine ⟨fun c i => wsum (left m c) (cot m c) (i 0) (i 1), ?_, ?_⟩
  · refine (θ_run Cert.DtGradIdeal.defs _ _).mono (fun r h c => ?_) (Cert.DtGradIdeal.Value.run_blocks m g)
    exact ⟨(h c).1.trans (result m c), (h c).2⟩
  · refine (θ_run Cert.DtGradRefIdeal.defs _ _).mono (fun r h c => ?_) (Cert.DtGradRefIdeal.Value.run m' g')
    obtain ⟨e, rest⟩ := h c
    refine ⟨(e.trans (Cert.DtGradRefIdeal.Read.val_main_v5_eq _ _)).trans (funext fun y => ?_), rest⟩
    obtain ⟨e0, e1⟩ := hagree c
    rw [ref_apply, e0, e1]
    rfl

end Dt

end Cert.ProductGrads

end
-- ==== Proof.FirstProducts.lean ====
/- The forward pass of the norm and the first products of both mixers: the programs' results and the references' are
   the same functions of the arguments, whatever extended reals these are. -/
module

public import proofs.«01_k».proof.Defs
public import proofs.«01_k».proof.Proof.FfnFwdValue
public import proofs.«01_k».proof.Proof.Gen.SsdFirstIdeal.Value
public import proofs.«01_k».proof.Proof.Gen.SsdFirstRefIdeal.Run
public import proofs.«01_k».proof.Proof.Gen.SsdFirstRefIdeal.Read
public import proofs.«01_k».proof.Proof.Gen.ScFirstIdeal.Value
public import proofs.«01_k».proof.Proof.Gen.ScFirstRefIdeal.Run
public import proofs.«01_k».proof.Proof.Gen.ScFirstRefIdeal.Read
import Idealize.ShloMosaic.Lib.Pointwise
import Idealize.ShloMosaic.Lib.Pipeline.ValueKit

@[expose] public section

set_option maxRecDepth 16384

noncomputable section

namespace Cert.FirstProducts

open Idealize.ShloMosaic Idealize.ShloMosaic.TcCoe Idealize.SL.Sem Cert.Scalars Cert.FfnFwdValue

/-- The arguments of a mixer's first products: the rows, the weights of the norm and the products' weights. -/
structure Input (N : ℕ) where
  x : Fin 16384 → Fin 1024 → EReal
  w : Fin 1024 → EReal
  W : Fin 1024 → Fin N → EReal

/-- An entry of the products. -/
def Input.y {N : ℕ} (I : Input N) (r : Fin 16384) (f : Fin N) : EReal := proj (hn (I.x r) I.w) I.W f

/-- The rows of a point's block. -/
def row (t : Fin 32) (r : Fin 512) : Fin 16384 := ⟨t.val * 512 + r.val, by omega⟩

namespace Sc

section Kernel

open Cert.ScFirstIdeal Cert.ScFirstIdeal.Gen

variable (m : (ℓ : Loc nD τ sig) → Buf (Elt Ideal) ℓ) (c : Dev nD)

/-- The program's arguments. -/
def args : Input 3072 where
  x r k := m ((c : Thread nD τ).loc main_arg0) (ix2 r k)
  w k := m ((c : Thread nD τ).loc main_arg1) (ix1 k)
  W k f := m ((c : Thread nD τ).loc main_arg2) (ix2 k f)

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

theorem w_entry (k : Fin 1024) : V m c main_v0 (ix2 0 k) = (args m c).w k := by
  entry_read
  pointwise
  rfl

theorem block0 (t : Fin cfg0.N) (r : Fin 512) (k : Fin 1024) : iblk m c 0 t (ix2 r k) = (args m c).x (row t r) k := by
  unfold args
  blk_simp [iblk, idx t, row, V]
  blk_ext [idx t, row]

theorem block1 (t : Fin cfg0.N) (k : Fin 1024) : iblk m c 1 t (ix2 0 k) = (args m c).w k := by
  refine Eq.trans ?_ (w_entry m c k)
  blk_simp [iblk, idx t, row]
  blk_ext [idx t, row]

theorem block2 (t : Fin cfg0.N) (k : Fin 1024) (f : Fin 3072) : iblk m c 2 t (ix2 k f) = (args m c).W k f := by
  unfold args
  blk_simp [iblk, idx t, row, V]
  blk_ext [idx t, row]

theorem pay (t : Fin cfg0.N) (r : Fin 512) (f : Fin 3072) :
    k0_pay1 (F := Ideal) (iblk m c 0 t) (iblk m c 1 t) (iblk m c 2 t) (ix2 r f) = (args m c).y (row t r) f := by
  have e0 := block0 m c t
  have e1 := block1 m c t
  have e2 := block2 m c t
  generalize iblk m c 0 t = x0 at e0 ⊢
  generalize iblk m c 1 t = x1 at e1 ⊢
  generalize iblk m c 2 t = x2 at e2 ⊢
  pointwise [k0_pay1]
  simp only [e0, e1, e2]
  rfl

theorem out : (dats m 0 c).arrAt 3 cfg0.N = fun i => (args m c).y (i 0) (i 1) := by
  refine (dats m 0 c).arrAt_eq_of_covers 3 _ (by decide +kernel) fun t hf y => ?_
  have e : (win0_3.blk t).view.emb y = ix2 (row t (y 0)) (y 1) := by
    blk_ext [idx t, row]
  blk_simp
  rw [after0_3, e]
  unfold out0_3
  frame_out
  exact (congrArg _ (eq_ix2 y)).trans (pay m c t (y 0) (y 1))

end Kernel

section Reference

open Cert.ScFirstRefIdeal Cert.ScFirstRefIdeal.Read Cert.ScFirstRefIdeal.Gen

theorem ref_apply (x0 : Vec Ideal S16384x1024 .f32) (x1 : Vec Ideal S1024 .f32) (x2 : Vec Ideal S1024x3072 .bf16)
    (r : Fin 16384) (f : Fin 3072) : val_main_v15 (F := Ideal) x0 x1 x2 (ix2 r f)
      = Input.y ⟨fun r k => x0 (ix2 r k), fun k => x1 (ix1 k), fun k f => x2 (ix2 k f)⟩ r f := by
  pointwise [val_main_v15, val_main_v14, val_main_v13, val_main_v12, val_main_v11, val_main_v10, val_main_v9, val_main_v8,
    val_main_v7, val_main_v6, val_main_v5, val_main_cst_1, val_main_v4, val_main_v3, val_main_cst_0, val_main_v2,
    val_main_v1, val_main_v0, val_main_cst]
  rfl

end Reference

theorem algebraic : Cert.algebraic_ScFirstIdeal_ScFirstRefIdeal := by
  intro m g m' g' _ hagree
  refine ⟨fun c i => (args m c).y (i 0) (i 1), ?_, ?_⟩
  · refine (θ_run Cert.ScFirstIdeal.defs _ _).mono (fun r h c => ?_) (Cert.ScFirstIdeal.Value.run_blocks m g)
    exact ⟨(h c).1.trans (out m c), (h c).2⟩
  · refine (θ_run Cert.ScFirstRefIdeal.defs _ _).mono (fun r h c => ?_) (Cert.ScFirstRefIdeal.Value.run m' g')
    obtain ⟨e, rest⟩ := h c
    refine ⟨(e.trans (Cert.ScFirstRefIdeal.Read.val_main_v15_eq _ _ _)).trans (funext fun i => ?_), rest⟩
    obtain ⟨e0, e1, e2⟩ := hagree c
    refine (congrArg _ (eq_ix2 i)).trans ((ref_apply _ _ _ (i 0) (i 1)).trans ?_)
    rw [e0, e1, e2]
    rfl

end Sc

namespace Ssd

/-- The three products' columns. -/
def colz (f : Fin 2048) : Fin 5152 := ⟨f.val, by omega⟩
def colx (f : Fin 3072) : Fin 5152 := ⟨2048 + f.val, by omega⟩
def colt (l : Fin 128) (h : l.val < 32) : Fin 5152 := ⟨5120 + l.val, by omega⟩

/-- The step sizes' product, filled up with zeros to a whole register. -/
def dt (I : Input 5152) (r : Fin 16384) (l : Fin 128) : EReal := if h : l.val < 32 then I.y r (colt l h) else 0

section Kernel

open Cert.SsdFirstIdeal Cert.SsdFirstIdeal.Gen

variable (m : (ℓ : Loc nD τ sig) → Buf (Elt Ideal) ℓ) (c : Dev nD)

/-- The program's arguments. -/
def args : Input 5152 where
  x r k := m ((c : Thread nD τ).loc main_arg0) (ix2 r k)
  w k := m ((c : Thread nD τ).loc main_arg1) (ix1 k)
  W k f := m ((c : Thread nD τ).loc main_arg2) (ix2 k f)

/-- The step sizes' columns of the weights, filled up with zeros. -/
def wt (k : Fin 1024) (l : Fin 128) : EReal := if h : l.val < 32 then (args m c).W k (colt l h) else 0

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem w_entry (k : Fin 1024) : V m c main_v5 (ix2 0 k) = (args m c).w k := by
  entry_read
  pointwise
  rfl

theorem wz_entry (k : Fin 1024) (f : Fin 2048) : V m c main_v0 (ix2 k f) = (args m c).W k (colz f) := by
  entry_read
  pointwise
  rfl

theorem wx_entry (k : Fin 1024) (f : Fin 3072) : V m c main_v1 (ix2 k f) = (args m c).W k (colx f) := by
  entry_read
  pointwise
  rfl

theorem wt_entry (k : Fin 1024) (l : Fin 128) : V m c main_v4 (ix2 k l) = wt m c k l := by
  entry_read
  pointwise
  unfold wt
  split <;> rfl

/-- The blocks of a grid point hold these rows of the input and these shared arguments. -/
structure Blocks (x0 : Vec Ideal S512x1024 .f32) (x1 : Vec Ideal S1x1024 .f32) (x2 : Vec Ideal S1024x2048 .bf16)
    (x3 : Vec Ideal S1024x3072 .bf16) (x4 : Vec Ideal S1024x128 .bf16) (t : Fin 32) : Prop where
  h0 : ∀ r k, x0 (ix2 r k) = (args m c).x (row t r) k
  h1 : ∀ k, x1 (ix2 0 k) = (args m c).w k
  h2 : ∀ k f, x2 (ix2 k f) = (args m c).W k (colz f)
  h3 : ∀ k f, x3 (ix2 k f) = (args m c).W k (colx f)
  h4 : ∀ k l, x4 (ix2 k l) = wt m c k l

theorem blocks (t : Fin cfg0.N) : Blocks m c (iblk m c 0 t) (iblk m c 1 t) (iblk m c 2 t) (iblk m c 3 t) (iblk m c 4 t) t where
  h0 r k := by
    unfold args
    blk_simp [iblk, idx t, row, V]
    blk_ext [idx t, row]
  h1 k := by
    refine Eq.trans ?_ (w_entry m c k)
    blk_simp [iblk, idx t, row]
    blk_ext [idx t, row]
  h2 k f := by
    refine Eq.trans ?_ (wz_entry m c k f)
    blk_simp [iblk, idx t, row]
    blk_ext [idx t, row]
  h3 k f := by
    refine Eq.trans ?_ (wx_entry m c k f)
    blk_simp [iblk, idx t, row]
    blk_ext [idx t, row]
  h4 k l := by
    refine Eq.trans ?_ (wt_entry m c k l)
    blk_simp [iblk, idx t, row]
    blk_ext [idx t, row]

section Point

variable {m} {c} {x0 : Vec Ideal S512x1024 .f32} {x1 : Vec Ideal S1x1024 .f32} {x2 : Vec Ideal S1024x2048 .bf16}
  {x3 : Vec Ideal S1024x3072 .bf16} {x4 : Vec Ideal S1024x128 .bf16} {t : Fin 32} (B : Blocks m c x0 x1 x2 x3 x4 t)
include B

theorem h_apply (r : Fin 512) (k : Fin 1024) :
    k0_pay1 (F := Ideal) x0 x1 (ix2 r k) = hn ((args m c).x (row t r)) (args m c).w k := by
  pointwise [k0_pay1]
  simp only [B.h0, B.h1]
  rfl

theorem z_apply (r : Fin 512) (f : Fin 2048) :
    k0_pay2 (F := Ideal) x0 x1 x2 (ix2 r f) = (args m c).y (row t r) (colz f) := by
  pointwise [k0_pay2]
  simp only [h_apply B, B.h2]
  rfl

theorem x_apply (r : Fin 512) (f : Fin 3072) :
    k0_pay3 (F := Ideal) x0 x1 x3 (ix2 r f) = (args m c).y (row t r) (colx f) := by
  pointwise [k0_pay3]
  simp only [h_apply B, B.h3]
  rfl

theorem dt_apply (r : Fin 512) (l : Fin 128) : k0_pay4 (F := Ideal) x0 x1 x4 (ix2 r l) = dt (args m c) (row t r) l := by
  pointwise [k0_pay4]
  simp only [h_apply B, B.h4]
  unfold wt dt
  split
  · rfl
  · simp only [mul_zero, Finset.sum_const_zero]

end Point

theorem out5 : (dats m 0 c).arrAt 5 cfg0.N = fun i => (args m c).y (i 0) (colz (i 1)) := by
  refine (dats m 0 c).arrAt_eq_of_covers 5 _ (by decide +kernel) fun t hf y => ?_
  have e : (win0_5.blk t).view.emb y = ix2 (row t (y 0)) (y 1) := by
    blk_ext [idx t, row]
  blk_simp
  rw [after0_5, e]
  unfold out0_5
  frame_out
  exact (congrArg _ (eq_ix2 y)).trans (z_apply (blocks m c t) (y 0) (y 1))

theorem out6 : (dats m 0 c).arrAt 6 cfg0.N = fun i => (args m c).y (i 0) (colx (i 1)) := by
  refine (dats m 0 c).arrAt_eq_of_covers 6 _ (by decide +kernel) fun t hf y => ?_
  have e : (win0_6.blk t).view.emb y = ix2 (row t (y 0)) (y 1) := by
    blk_ext [idx t, row]
  blk_simp
  rw [after0_6, e]
  unfold out0_6
  frame_out
  exact (congrArg _ (eq_ix2 y)).trans (x_apply (blocks m c t) (y 0) (y 1))

theorem out7 : (dats m 0 c).arrAt 7 cfg0.N = fun i => dt (args m c) (i 0) (i 1) := by
  refine (dats m 0 c).arrAt_eq_of_covers 7 _ (by decide +kernel) fun t hf y => ?_
  have e : (win0_7.blk t).view.emb y = ix2 (row t (y 0)) (y 1) := by
    blk_ext [idx t, row]
  blk_simp
  rw [after0_7, e]
  unfold out0_7
  frame_out
  exact (congrArg _ (eq_ix2 y)).trans (dt_apply (blocks m c t) (y 0) (y 1))

end Kernel

section Reference

open Cert.SsdFirstRefIdeal Cert.SsdFirstRefIdeal.Read Cert.SsdFirstRefIdeal.Gen

variable (x0 : Vec Ideal S16384x1024 .f32) (x1 : Vec Ideal S1024 .f32) (x2 : Vec Ideal S1024x5152 .bf16)

/-- The reference's arguments. -/
def refArgs : Input 5152 := ⟨fun r k => x0 (ix2 r k), fun k => x1 (ix1 k), fun k f => x2 (ix2 k f)⟩

theorem ref_y (r : Fin 16384) (f : Fin 5152) : val_main_v14 (F := Ideal) x0 x1 x2 (ix2 r f) = (refArgs x0 x1 x2).y r f := by
  pointwise [val_main_v14, val_main_v13, val_main_v12, val_main_v11, val_main_v10, val_main_v9, val_main_v8,
    val_main_v7, val_main_v6, val_main_v5, val_main_cst_1, val_main_v4, val_main_v3, val_main_cst_0, val_main_v2,
    val_main_v1, val_main_v0, val_main_cst]
  rfl

theorem ref_z (r : Fin 16384) (f : Fin 2048) :
    val_main_v18 (F := Ideal) x0 x1 x2 (ix2 r f) = (refArgs x0 x1 x2).y r (colz f) := by
  pointwise [val_main_v18, val_main_v15]
  exact ref_y x0 x1 x2 r (colz f)

theorem ref_x (r : Fin 16384) (f : Fin 3072) :
    val_main_v19 (F := Ideal) x0 x1 x2 (ix2 r f) = (refArgs x0 x1 x2).y r (colx f) := by
  pointwise [val_main_v19, val_main_v16]
  exact ref_y x0 x1 x2 r (colx f)

theorem ref_dt (r : Fin 16384) (l : Fin 128) : val_main_v21 (F := Ideal) x0 x1 x2 (ix2 r l) = dt (refArgs x0 x1 x2) r l := by
  pointwise [val_main_v21, val_main_v20, val_main_cst_2, val_main_v17]
  unfold dt
  split
  · exact ref_y x0 x1 x2 r _
  · rfl

end Reference

theorem algebraic : Cert.algebraic_SsdFirstIdeal_SsdFirstRefIdeal := by
  intro m g m' g' _ hagree
  refine ⟨fun c i => (args m c).y (i 0) (colz (i 1)), fun c i => (args m c).y (i 0) (colx (i 1)),
    fun c i => dt (args m c) (i 0) (i 1), ?_, ?_⟩
  · refine (θ_run Cert.SsdFirstIdeal.defs _ _).mono (fun r h c => ?_) (Cert.SsdFirstIdeal.Value.run_blocks m g)
    obtain ⟨e0, e1, e2, rest⟩ := h c
    exact ⟨e0.trans (out5 m c), e1.trans (out6 m c), e2.trans (out7 m c), rest⟩
  · refine (θ_run Cert.SsdFirstRefIdeal.defs _ _).mono (fun r h c => ?_) (Cert.SsdFirstRefIdeal.Value.run m' g')
    obtain ⟨a0, a1, a2⟩ := hagree c
    have ea : refArgs (m' ((c.tc : Thread Cert.SsdFirstRefIdeal.nD Cert.SsdFirstRefIdeal.τ).loc Cert.SsdFirstRefIdeal.main_arg0))
        (m' ((c.tc : Thread Cert.SsdFirstRefIdeal.nD Cert.SsdFirstRefIdeal.τ).loc Cert.SsdFirstRefIdeal.main_arg1))
        (m' ((c.tc : Thread Cert.SsdFirstRefIdeal.nD Cert.SsdFirstRefIdeal.τ).loc Cert.SsdFirstRefIdeal.main_arg2)) = args m c := by
      rw [a0, a1, a2]
      rfl
    obtain ⟨e0, e1, e2, rest⟩ := h c
    refine ⟨(e0.trans (Cert.SsdFirstRefIdeal.Read.val_main_v18_eq _ _ _)).trans (funext fun i => ?_),
      (e1.trans (Cert.SsdFirstRefIdeal.Read.val_main_v19_eq _ _ _)).trans (funext fun i => ?_),
      (e2.trans (Cert.SsdFirstRefIdeal.Read.val_main_v21_eq _ _ _)).trans (funext fun i => ?_), rest⟩
    · exact (congrArg _ (eq_ix2 i)).trans ((ref_z _ _ _ (i 0) (i 1)).trans (by rw [ea]))
    · exact (congrArg _ (eq_ix2 i)).trans ((ref_x _ _ _ (i 0) (i 1)).trans (by rw [ea]))
    · exact (congrArg _ (eq_ix2 i)).trans ((ref_dt _ _ _ (i 0) (i 1)).trans (by rw [ea]))

end Ssd

end Cert.FirstProducts

end
-- ==== Proof.LastProducts.lean ====
/- The forward pass of both mixers' last products, added to the layer's input: the programs' results and the references'
   are the same functions of the arguments, whatever extended reals these are. -/
module

public import proofs.«01_k».proof.Defs
public import proofs.«01_k».proof.Proof.Scalars
public import proofs.«01_k».proof.Proof.Gen.SsdLastIdeal.Value
public import proofs.«01_k».proof.Proof.Gen.SsdLastRefIdeal.Run
public import proofs.«01_k».proof.Proof.Gen.SsdLastRefIdeal.Read
public import proofs.«01_k».proof.Proof.Gen.ScLastIdeal.Value
public import proofs.«01_k».proof.Proof.Gen.ScLastRefIdeal.Run
public import proofs.«01_k».proof.Proof.Gen.ScLastRefIdeal.Read
import Idealize.ShloMosaic.Lib.Pointwise
import Idealize.ShloMosaic.Lib.Pipeline.ValueKit

@[expose] public section

set_option maxRecDepth 16384

noncomputable section

namespace Cert.LastProducts

open Idealize.ShloMosaic Idealize.ShloMosaic.TcCoe Idealize.SL.Sem

/-- The arguments of a mixer's last product: the layer's input, the product's rows and its weights. -/
structure Input (N : ℕ) where
  x : Fin 16384 → Fin 1024 → EReal
  g : Fin 16384 → Fin N → EReal
  W : Fin N → Fin 1024 → EReal

/-- An entry of the layer's result. -/
def Input.y {N : ℕ} (I : Input N) (r : Fin 16384) (k : Fin 1024) : EReal := I.x r k + ∑ f, I.g r f * I.W f k

/-- The rows of a point's block. -/
def row (t : Fin 16) (r : Fin 1024) : Fin 16384 := ⟨t.val * 1024 + r.val, by omega⟩

namespace Ssd

section Kernel

open Cert.SsdLastIdeal Cert.SsdLastIdeal.Gen

variable (m : (ℓ : Loc nD τ sig) → Buf (Elt Ideal) ℓ) (c : Dev nD)

/-- The program's arguments. -/
def args : Input 2048 where
  x r k := m ((c : Thread nD τ).loc main_arg0) (ix2 r k)
  g r f := m ((c : Thread nD τ).loc main_arg1) (ix2 r f)
  W f k := m ((c : Thread nD τ).loc main_arg2) (ix2 f k)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem pay (t : Fin cfg0.N) (r : Fin 1024) (k : Fin 1024) :
    k0_pay1 (F := Ideal) (iblk m c 0 t) (iblk m c 1 t) (iblk m c 2 t) (ix2 r k) = (args m c).y (row t r) k := by
  have e0 : iblk m c 0 t (ix2 r k) = (args m c).x (row t r) k := by
    unfold args
    blk_simp [iblk, idx t, row, V]
    blk_ext [idx t, row]
  have e1 (f : Fin 2048) : iblk m c 1 t (ix2 r f) = (args m c).g (row t r) f := by
    unfold args
    blk_simp [iblk, idx t, row, V]
    blk_ext [idx t, row]
  have e2 (f : Fin 2048) : iblk m c 2 t (ix2 f k) = (args m c).W f k := by
    unfold args
    blk_simp [iblk, idx t, row, V]
    blk_ext [idx t, row]
  generalize iblk m c 0 t = x0 at e0 ⊢
  generalize iblk m c 1 t = x1 at e1 ⊢
  generalize iblk m c 2 t = x2 at e2 ⊢
  pointwise [k0_pay1]
  exact congrArg₂ _ e0 (Finset.sum_congr rfl fun f _ => congrArg₂ _ (e1 f) (e2 f))

theorem out : (dats m 0 c).arrAt 3 cfg0.N = fun i => (args m c).y (i 0) (i 1) := by
  refine (dats m 0 c).arrAt_eq_of_covers 3 _ (by decide +kernel) fun t hf y => ?_
  have e : (win0_3.blk t).view.emb y = ix2 (row t (y 0)) (y 1) := by
    blk_ext [idx t, row]
  blk_simp
  rw [after0_3, e]
  unfold out0_3
  frame_out
  exact (congrArg _ (eq_ix2 y)).trans (pay m c t (y 0) (y 1))

end Kernel

section Reference

open Cert.SsdLastRefIdeal Cert.SsdLastRefIdeal.Read Cert.SsdLastRefIdeal.Gen

theorem ref_apply (x0 : Vec Ideal S16384x1024 .f32) (x1 : Vec Ideal S16384x2048 .bf16) (x2 : Vec Ideal S2048x1024 .bf16)
    (r : Fin 16384) (k : Fin 1024) : val_main_v3 (F := Ideal) x0 x1 x2 (ix2 r k)
      = Input.y ⟨fun r k => x0 (ix2 r k), fun r f => x1 (ix2 r f), fun f k => x2 (ix2 f k)⟩ r k := by
  pointwise [val_main_v3, val_main_v2, val_main_v1, val_main_v0]
  rfl

end Reference

theorem algebraic : Cert.algebraic_SsdLastIdeal_SsdLastRefIdeal := by
  intro m g m' g' _ hagree
  refine ⟨fun c i => (args m c).y (i 0) (i 1), ?_, ?_⟩
  · refine (θ_run Cert.SsdLastIdeal.defs _ _).mono (fun r h c => ?_) (Cert.SsdLastIdeal.Value.run_blocks m g)
    exact ⟨(h c).1.trans (out m c), (h c).2⟩
  · refine (θ_run Cert.SsdLastRefIdeal.defs _ _).mono (fun r h c => ?_) (Cert.SsdLastRefIdeal.Value.run m' g')
    obtain ⟨e, rest⟩ := h c
    refine ⟨(e.trans (Cert.SsdLastRefIdeal.Read.val_main_v3_eq _ _ _)).trans (funext fun i => ?_), rest⟩
    obtain ⟨e0, e1, e2⟩ := hagree c
    refine (congrArg _ (eq_ix2 i)).trans ((ref_apply _ _ _ (i 0) (i 1)).trans ?_)
    rw [e0, e1, e2]
    rfl

end Ssd

namespace Sc

section Kernel

open Cert.ScLastIdeal Cert.ScLastIdeal.Gen

variable (m : (ℓ : Loc nD τ sig) → Buf (Elt Ideal) ℓ) (c : Dev nD)

/-- The program's arguments. -/
def args : Input 1024 where
  x r k := m ((c : Thread nD τ).loc main_arg0) (ix2 r k)
  g r f := m ((c : Thread nD τ).loc main_arg1) (ix2 r f)
  W f k := m ((c : Thread nD τ).loc main_arg2) (ix2 f k)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem pay (t : Fin cfg0.N) (r k : Fin 1024) :
    k0_pay1 (F := Ideal) (iblk m c 0 t) (iblk m c 1 t) (iblk m c 2 t) (ix2 r k) = (args m c).y (row t r) k := by
  have e : iblk m c 0 t (ix2 r k) = (args m c).x (row t r) k
      ∧ ∀ f, iblk m c 1 t (ix2 r f) = (args m c).g (row t r) f ∧ iblk m c 2 t (ix2 f k) = (args m c).W f k := by
    unfold args
    refine ⟨?_, fun f => ⟨?_, ?_⟩⟩ <;> blk_simp [iblk, idx t, row, V] <;> blk_ext [idx t, row]
  generalize iblk m c 0 t = x0 at e ⊢
  generalize iblk m c 1 t = x1 at e ⊢
  generalize iblk m c 2 t = x2 at e ⊢
  pointwise [k0_pay1]
  exact congrArg₂ _ e.1 (Finset.sum_congr rfl fun f _ => congrArg₂ _ (e.2 f).1 (e.2 f).2)

theorem out : (dats m 0 c).arrAt 3 cfg0.N = fun i => (args m c).y (i 0) (i 1) := by
  refine (dats m 0 c).arrAt_eq_of_covers 3 _ (by decide +kernel) fun t hf y => ?_
  have e : (win0_3.blk t).view.emb y = ix2 (row t (y 0)) (y 1) := by
    blk_ext [idx t, row]
  blk_simp
  rw [after0_3, e]
  unfold out0_3
  frame_out
  exact (congrArg _ (eq_ix2 y)).trans (pay m c t (y 0) (y 1))

end Kernel

section Reference

open Cert.ScLastRefIdeal Cert.ScLastRefIdeal.Read Cert.ScLastRefIdeal.Gen

theorem ref_apply (x0 : Vec Ideal S16384x1024 .f32) (x1 : Vec Ideal S16384x1024 .bf16) (x2 : Vec Ideal S1024x1024 .bf16)
    (r : Fin 16384) (k : Fin 1024) : val_main_v3 (F := Ideal) x0 x1 x2 (ix2 r k)
      = Input.y ⟨fun r k => x0 (ix2 r k), fun r f => x1 (ix2 r f), fun f k => x2 (ix2 f k)⟩ r k := by
  pointwise [val_main_v3, val_main_v2, val_main_v1, val_main_v0]
  rfl

end Reference

theorem algebraic : Cert.algebraic_ScLastIdeal_ScLastRefIdeal := by
  intro m g m' g' _ hagree
  refine ⟨fun c i => (args m c).y (i 0) (i 1), ?_, ?_⟩
  · refine (θ_run Cert.ScLastIdeal.defs _ _).mono (fun r h c => ?_) (Cert.ScLastIdeal.Value.run_blocks m g)
    exact ⟨(h c).1.trans (out m c), (h c).2⟩
  · refine (θ_run Cert.ScLastRefIdeal.defs _ _).mono (fun r h c => ?_) (Cert.ScLastRefIdeal.Value.run m' g')
    obtain ⟨e, rest⟩ := h c
    refine ⟨(e.trans (Cert.ScLastRefIdeal.Read.val_main_v3_eq _ _ _)).trans (funext fun i => ?_), rest⟩
    obtain ⟨e0, e1, e2⟩ := hagree c
    refine (congrArg _ (eq_ix2 i)).trans ((ref_apply _ _ _ (i 0) (i 1)).trans ?_)
    rw [e0, e1, e2]
    rfl

end Sc

end Cert.LastProducts

end
-- ==== Proof.ScWGradRun.lean ====
/- The last grid point of the weight gradient in front of the short convolution, run with the result it copies out named: what the generated frame says of that
   point, and the contents of the result. -/
module

public import proofs.«01_k».proof.Proof.Gen.ScWGradIdeal.Frame
public import Idealize.ShloMosaic.Lib.Pipeline.FrameValue
public import Idealize.ShloMosaic.Lib.Pipeline.ValueKit
public import Idealize.ShloMosaic.Lib.Pipeline.ReadBack

@[expose] public section

set_option maxRecDepth 16384

noncomputable section

namespace Cert.ScWGradRun

open Cert.ScWGradIdeal Cert.ScWGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The last point's run: the pieces it leaves in the sum, and what its copy leaves in the result over whatever the
    result and the staging buffer held. -/
noncomputable def lastRun (c : Dev nD) (i : grid0.Coords) (arg1 : Memref sig .tc .vmem S1024x1024 .bf16) (harg1 : arg1.IsWhole)
    (arg2 : Memref sig .tc .vmem S1024x3072 .bf16) (harg2 : arg2.IsWhole)
    (arg4 : Memref sig .tc .vmem S1024x3072 .f32) (harg4 : arg4.IsWhole)
    (arg5 : Memref sig .tc .vmem S2x4x1024x384 .f32) (harg5 : arg5.IsWhole) (hc0 : ¬cond0_0 i) (hc1 : cond0_1 i)
    (x0 : Vec F S1024x1024 .bf16) (x1 : Vec F S1024x3072 .bf16) (xs0 : Vec F S1024x3072 .f32) :
    Σ' (LS0 : List (View.Piece (Elt F) S1024x3072 .f32))
      (out : HbBuf0 (F := F) c hbM0_0 → Buf (Elt F) (arg5.view.loc (c : Thread nD τ)) → HbBuf0 (F := F) c hbM0_0),
      ∀ (W : Waits sig Unit) (K : PUnit → sProp 𝕄),
        iprop(owns (c : Thread nD τ) arg1 fullShare x0 ∗ owns (c : Thread nD τ) arg2 fullShare x1
            ∗ owns (c : Thread nD τ) arg4 fullShare xs0 ∗ (∃ d, owns (c : Thread nD τ) arg5 fullShare d)
            ∗ semVal ((c : Thread nD τ), SemLoc.dma 4) 0 ∗ (∃ f, hbPt0 c hbM0_0 f) ∗ owes (c : Thread nD τ) 0 W
            ∗ (iprop(owns (c : Thread nD τ) arg1 fullShare x0 ∗ owns (c : Thread nD τ) arg2 fullShare x1
                ∗ (∃ f, arg4.view.loc (c : Thread nD τ) ↦[arg4.view.set]{fullShare} arg4.view.writes (Elt F) f LS0)
                ∗ (∃ d, owns (c : Thread nD τ) arg5 fullShare d) ∗ semVal ((c : Thread nD τ), SemLoc.dma 4) 0
                ∗ (∃ f g, hbPt0 c hbM0_0 (out f g)) ∗ (∃ W', owes (c : Thread nD τ) 0 W')) -∗ K ⟨⟩))
          ⊢ wp frame (wpE (defs₀ (F := F)) Variants.none c none) Set.univ
              (cc0_tn_matmul_to_shards_1024x3072_1 i arg1 harg1 arg2 harg2 (Memref.whole main_v0) (Memref.isWhole_whole _)
                arg4 harg4 arg5 harg5 cc0_scratch2) K := by
  refine ⟨?_, ?_, fun W K => ?run⟩
  case run =>
    simp only [cc0_tn_matmul_to_shards_1024x3072_1_eq_skeleton]; unfold cc0_tn_matmul_to_shards_1024x3072_1_skel
    simp only [k0_part1_eq_skeleton]
    unfold owns
    iintro ⟨⟨%f0, %hf0, H0⟩, ⟨%f1, %hf1, H1⟩, ⟨%fs0, %hfs0, HS0⟩, ⟨%ds1, %fs1, -, HS1⟩, Hq0, ⟨%fw0, Hh0⟩, HW, Hk⟩
    obtain rfl := harg1.eq_unread hf0; obtain rfl := harg2.eq_unread hf1; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    isplitl [HS1]
    · iexists _, _; isplitr; swap; · iexact HS1
      ipureintro; rfl
    isplitl [Hq0]; · iexact Hq0
    isplitl [Hh0]
    · iexists fw0, fs1; iexact Hh0
    iexists _; iexact HW

/-- A staged slab is the columns it was cast from. -/
theorem slab (v : Vec F S1024x384 .f32) (x : S1x1x1024x384.Idx) : k0_pay3 v x = v (ix2 (x 2) (x 3)) := by
  rw [eq_ix4 x]
  pointwise [k0_pay3]

/-- What the staging buffer holds: shard d of the sum's columns at [d % 2, d / 2]. -/
def staged (acc : Vec F S1024x3072 .f32) (y : S2x4x1024x384.Idx) : Elt F .f32 :=
  acc (ix2 (y 2) ⟨(2 * (y 1).val + (y 0).val) * 384 + (y 3).val, by
    have h0 : (y 0).val < 2 := (y 0).isLt
    have h1 : (y 1).val < 4 := (y 1).isLt
    have h3 : (y 3).val < 384 := (y 3).isLt
    omega⟩)

/-- One staged slab of the sum. -/
theorem piece (acc : Vec F S1024x3072 .f32) {o q r : ℕ} (ho : o = (2 * r + q) * 384)
    (inb : ∀ a, (![0, o] : Fin 2 → ℕ) a + S1024x384.size a ≤ S1024x3072.size a)
    (inb' : ∀ a, (![q, r, 0, 0] : Fin 4 → ℕ) a + S1x1x1024x384.size a ≤ S2x4x1024x384.size a) (x : S1x1x1024x384.Idx) :
    k0_pay3 (View.ld acc (Rect.unit (s := S1024x3072) ![0, o] S1024x384.size inb)) x
      = staged acc ((Rect.unit (s := S2x4x1024x384) ![q, r, 0, 0] S1x1x1024x384.size inb').emb x) := by
  have h0 : (x 0).val = 0 := Nat.lt_one_iff.mp (x 0).isLt
  have h1 : (x 1).val = 0 := Nat.lt_one_iff.mp (x 1).isLt
  rw [slab]
  unfold staged View.ld
  refine congrArg acc (funext fun a => Fin.ext ?_)
  match a with
  | ⟨0, _⟩ => simp [ValueKit.rect_emb_unit_val, ix2]
  | ⟨1, _⟩ => simp [ValueKit.rect_emb_unit_val, ix2, h0, h1, ho]

/-- The result's indices as the copy's target names them: without the axis of length one. -/
theorem squeeze_idx (h : S2x4x1024x384.numel = S2x4x1x1024x384.numel) (a : Fin 2) (b : Fin 4) (p : Fin 1024) (q : Fin 384) :
    Shape.reshapeEquiv (s := S2x4x1x1024x384) (s' := S2x4x1024x384) h (ix4 a b p q) = ix5 a b (0 : Fin 1) p q :=
  Shape.reshapeEquiv_eq_of_rowMajor h (by
    rw [Shape.rowMajor_val_five, Shape.rowMajor_val_four]
    show ((((a.val * 4 + b.val) * 1 + 0) * 1024 + p.val) * 384 + q.val) = ((a.val * 4 + b.val) * 1024 + p.val) * 384 + q.val
    simp only [Nat.mul_one, Nat.add_zero])

section Last

variable (c : Dev nD) (i : grid0.Coords) (arg1 : Memref sig .tc .vmem S1024x1024 .bf16) (harg1 : arg1.IsWhole)
  (arg2 : Memref sig .tc .vmem S1024x3072 .bf16) (harg2 : arg2.IsWhole) (hc0 : ¬cond0_0 i) (hc1 : cond0_1 i)
  (x0 : Vec F S1024x1024 .bf16) (x1 : Vec F S1024x3072 .bf16) (xs0 : Vec F S1024x3072 .f32)

/-- A load of the sum at the last point reads the sum with that point's product added. -/
theorem sum_read (r : Rect S1024x3072) :
    (View.whole cc0_scratch0).readCov (lastRun.sl.HS0_1 c arg1 harg1 arg2 harg2 scM0_0 (Memref.isWhole_whole _) x0 x1 xs0) r.toLoadRect
      = View.ld (k0_pay2 xs0 x0 x1) r := by
  unfold lastRun.sl.HS0_1
  refine (View.readCov_fill (s := S1024x3072) (View.whole cc0_scratch0) inb_S1024x3072_S1024x3072_0_0 _ [] r (by decide)).trans ?_
  simp (disch := decide) only [View.readAt_eq_ld, View.ld_unit_lit', Memref.IsWhole.read_unread]
  rw [read_unread_whole cc0_scratch0]

/-- The eight stores into the staging buffer. -/
theorem staged_pieces : View.PiecesOf (staged (k0_pay2 xs0 x0 x1))
    (lastRun.sl.HS1_8 c arg1 harg1 arg2 harg2 scM0_0 (Memref.isWhole_whole _) x0 x1 xs0) := by
  unfold lastRun.sl.HS1_8 lastRun.sl.v42 lastRun.sl.v38 lastRun.sl.v34 lastRun.sl.v30 lastRun.sl.v26 lastRun.sl.v22 lastRun.sl.v18 lastRun.sl.v14
  simp only [sum_read]
  rw [show k0_pay4 (F := F) = k0_pay3 from rfl, show k0_pay5 (F := F) = k0_pay3 from rfl, show k0_pay6 (F := F) = k0_pay3 from rfl,
    show k0_pay7 (F := F) = k0_pay3 from rfl, show k0_pay8 (F := F) = k0_pay3 from rfl, show k0_pay9 (F := F) = k0_pay3 from rfl,
    show k0_pay10 (F := F) = k0_pay3 from rfl]
  generalize k0_pay2 xs0 x0 x1 = acc
  exact ⟨piece acc (o := 2688) rfl _ inb_S2x4x1024x384_S1x1x1024x384_1_3_0_0, piece acc (o := 2304) rfl _ inb_S2x4x1024x384_S1x1x1024x384_0_3_0_0,
    piece acc (o := 1920) rfl _ inb_S2x4x1024x384_S1x1x1024x384_1_2_0_0, piece acc (o := 1536) rfl _ inb_S2x4x1024x384_S1x1x1024x384_0_2_0_0,
    piece acc (o := 1152) rfl _ inb_S2x4x1024x384_S1x1x1024x384_1_1_0_0, piece acc (o := 768) rfl _ inb_S2x4x1024x384_S1x1x1024x384_0_1_0_0,
    piece acc (o := 384) rfl _ inb_S2x4x1024x384_S1x1x1024x384_1_0_0_0, piece acc (o := 0) rfl _ inb_S2x4x1024x384_S1x1x1024x384_0_0_0_0, trivial⟩

/-- What the copy leaves in the result: the shards of the sum, whatever the result and the staging buffer held. -/
theorem lastRun_out (f : HbBuf0 (F := F) c hbM0_0) (g : Buf (Elt F) (scM0_1.view.loc (c : Thread nD τ))) :
    (lastRun c i arg1 harg1 arg2 harg2 scM0_0 (Memref.isWhole_whole _) scM0_1 (Memref.isWhole_whole _) hc0 hc1 x0 x1 xs0).2.1 f g
      = fun y : S2x4x1x1024x384.Idx => staged (k0_pay2 xs0 x0 x1) (ix4 (y 0) (y 1) (y 3) (y 4)) := by
  unfold lastRun
  dsimp only
  unfold lastRun.sl.dma29
  have h : View.read (Elt F) scM0_1.view (scM0_1.view.writes (Elt F) g
        (lastRun.sl.HS1_8 c arg1 harg1 arg2 harg2 scM0_0 (Memref.isWhole_whole _) x0 x1 xs0)) = staged (k0_pay2 xs0 x0 x1) := by
    funext y
    exact View.read_writes_apply_of_pieces _ _ (staged (k0_pay2 xs0 x0 x1)) _ (staged_pieces _ _ _ _ _ _ _ _).mem y
      (View.cover_of_tiledL _ ![1, 1, 1024, 384] (by sl_kernel_rfl) y)
  rw [h]
  generalize staged (k0_pay2 xs0 x0 x1) = w
  funext y
  have e : (((View.whole main_v0).slice (Rect.unit (s := S2x4x1x1024x384) ![0, 0, 0, 0, 0] S2x4x1x1024x384.size
      inb_S2x4x1x1024x384_S2x4x1x1024x384_0_0_0_0_0)).reshape S2x4x1024x384 squeezes_S2x4x1x1024x384_S2x4x1024x384.numel_eq).emb
        (ix4 (y 0) (y 1) (y 3) (y 4)) = y := by
    refine (congrArg ((View.whole main_v0).slice (Rect.unit (s := S2x4x1x1024x384) ![0, 0, 0, 0, 0] S2x4x1x1024x384.size
      inb_S2x4x1x1024x384_S2x4x1x1024x384_0_0_0_0_0)).emb (squeeze_idx _ (y 0) (y 1) (y 3) (y 4))).trans (funext fun a => Fin.ext ?_)
    rw [ValueKit.view_emb_slice_whole_unit_val]
    have h2 : (y 2).val = 0 := Nat.lt_one_iff.mp (y 2).isLt
    match a with
    | ⟨0, _⟩ => exact Nat.zero_add _
    | ⟨1, _⟩ => exact Nat.zero_add _
    | ⟨2, _⟩ => exact h2.symm
    | ⟨3, _⟩ => exact Nat.zero_add _
    | ⟨4, _⟩ => exact Nat.zero_add _
  exact (congrArg _ e.symm).trans (View.write_emb_of_mem _ _ (Finset.mem_univ _))

end Last

section Launch

variable (m : (ℓ : Loc nD τ sig) → Buf (Elt F) ℓ) (ρ : Dev nD → PrngReg)

/-- The grid's last point. -/
def lastPt : Fin cfg0.N := ⟨15, lt_of_lt_of_eq (by decide) (show 16 = cfg0.N from N_0.symm)⟩

/-- The result: the shards of the sum as the last point leaves it. -/
def result (c : Dev nD) : HbBuf0 (F := F) c hbM0_0 := fun y : S2x4x1x1024x384.Idx =>
  staged (k0_pay2 (outsAt0 m c (lastPt.val - 1) (Nat.lt_of_le_of_lt (Nat.sub_le _ _) lastPt.isLt)) (iblk m c 0 lastPt) (iblk m c 1 lastPt))
    (ix4 (y 0) (y 1) (y 3) (y 4))

/-- The invariant after the last point: the result named. -/
def PhiEnd (c : Dev nD) : sProp 𝕄 :=
  iprop(iprop((∃ d, owns (c : Thread nD τ) scM0_0 fullShare d) ∗ (∃ d, owns (c : Thread nD τ) scM0_1 fullShare d)) ∗ (∃ r, prngReg c r)
    ∗ iprop(semVal ((c : Thread nD τ), SemLoc.dma 4) 0) ∗ iprop(emp) ∗ iprop(hbPt0 c hbM0_0 (result m c)))

/-- The generated proof data with that last invariant. -/
def vdats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 16 then PhiEnd m c else PhiS m c t.val (Nat.le_of_lt_succ t.isLt)
  q _ := fullShare
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d

/-- The invariant before a point is the generated one. -/
theorem vPhi_castSucc (c : Dev nD) (t : Fin cfg0.N) :
    (vdats m 0 c).Φ t.castSucc = PhiS m c t.val (Nat.le_of_lt t.isLt) := by
  have h : t.val < 16 := lt_of_lt_of_eq t.isLt (show cfg0.N = 16 from N_0)
  show (if t.castSucc.val = 16 then PhiEnd m c else PhiS m c t.castSucc.val (Nat.le_of_lt_succ t.castSucc.isLt)) = _
  exact if_neg (by rw [Fin.val_castSucc]; omega)

/-- So it is after any point but the last. -/
theorem vPhi_succ (c : Dev nD) (t : Fin cfg0.N) (ht : t.val ≠ 15) : (vdats m 0 c).Φ t.succ = PhiS m c (t.val + 1) t.isLt := by
  show (if t.succ.val = 16 then PhiEnd m c else PhiS m c t.succ.val (Nat.le_of_lt_succ t.succ.isLt)) = _
  exact if_neg (by rw [Fin.val_succ]; omega)

theorem vPhi_last (c : Dev nD) : (vdats m 0 c).Φ lastPt.succ = PhiEnd m c := rfl

/-- The body at the last point. -/
theorem sound_last (c : Dev nD) :
    iprop((vdats m 0 c).Φ lastPt.castSucc ∗ (vdats m 0 c).owesAt () lastPt.castSucc
      ∗ (∃ d, owns (c : Thread nD τ) (ms0_0 lastPt) fullShare ((vdats m 0 c).before 0 lastPt d))
      ∗ (∃ d, owns (c : Thread nD τ) (ms0_1 lastPt) fullShare ((vdats m 0 c).before 1 lastPt d)))
    ⊢ wp frame (wpE (defs₀ (F := F)) Variants.none c none) Set.univ (bodyAt0 lastPt) (fun _ =>
      iprop((vdats m 0 c).Φ lastPt.succ ∗ (vdats m 0 c).owesAt () lastPt.succ
        ∗ owns (c : Thread nD τ) (ms0_0 lastPt) fullShare ((vdats m 0 c).after 0 lastPt)
        ∗ owns (c : Thread nD τ) (ms0_1 lastPt) fullShare ((vdats m 0 c).after 1 lastPt))) := by
  unfold bodyAt0
  simp only [vbefore_0, vbefore_1]
  rw [vPhi_last, vafter_0, vafter_1, vPhi_castSucc, PhiS_pos m c _ _ (by decide)]
  unfold Dat.owesAt Pipeline.owesWithin PhiEnd
  rw [show (vdats m 0 c).owed lastPt.castSucc = 0 from rfl, show (vdats m 0 c).owed lastPt.succ = 0 from rfl]
  iintro ⟨⟨⟨HS0, HS1⟩, Hg, Hq0, -, Hh0⟩, ⟨%W, -, HW⟩, ⟨%d0, H0⟩, ⟨%d1, H1⟩⟩
  iapply ((lastRun c (grid0.coords lastPt) _ _ _ _ _ _ _ _ (fun h => absurd ((hcond0_0 lastPt).mp h) (by decide))
    ((hcond0_1 lastPt).mpr (by decide)) (iblk m c 0 lastPt) (iblk m c 1 lastPt) _).2.2 W _)
  isplitl [H0]; · iexact H0
  isplitl [H1]; · iexact H1
  isplitl [HS0]; · iexact HS0
  isplitl [HS1]; · iexact HS1
  isplitl [Hq0]; · iexact Hq0
  isplitl [Hh0]; · iexact Hh0
  isplitl [HW]; · iexact HW
  iintro ⟨H0, H1, ⟨%es0, HS0⟩, HS1, Hq0, ⟨%f, %g, Hh0⟩, ⟨%W', HW'⟩⟩
  isplitl [HS0 HS1 Hg Hq0 Hh0]
  · isplitl [HS0 HS1]
    · isplitl [HS0]
      · unfold owns; iexists _, _; isplitr
        swap; · iexact HS0
        ipureintro; rfl
      iexact HS1
    isplitl [Hg]
    · iexact Hg
    isplitl [Hq0]
    · iexact Hq0
    isplitr; · iempintro
    rw [lastRun_out]
    iexact Hh0
  isplitl [HW']
  · iexists W'; isplitr; · ipureintro; exact fun _ _ => Or.inl trivial
    iexact HW'
  isplitl [H0]; · iexact H0
  iexact H1

/-- The body at any point: the generated triple at all but the last. -/
theorem sound (c : Dev nD) (t : Fin cfg0.N) :
    iprop((vdats m 0 c).Φ t.castSucc ∗ (vdats m 0 c).owesAt () t.castSucc
      ∗ (∃ d, owns (c : Thread nD τ) (ms0_0 t) fullShare ((vdats m 0 c).before 0 t d))
      ∗ (∃ d, owns (c : Thread nD τ) (ms0_1 t) fullShare ((vdats m 0 c).before 1 t d)))
    ⊢ wp frame (wpE (defs₀ (F := F)) Variants.none c none) Set.univ (bodyAt0 t) (fun _ =>
      iprop((vdats m 0 c).Φ t.succ ∗ (vdats m 0 c).owesAt () t.succ
        ∗ owns (c : Thread nD τ) (ms0_0 t) fullShare ((vdats m 0 c).after 0 t)
        ∗ owns (c : Thread nD τ) (ms0_1 t) fullShare ((vdats m 0 c).after 1 t))) := by
  by_cases ht : t.val = 15
  · obtain rfl : t = lastPt := Fin.ext ht
    exact sound_last m c
  · have h := sound_body m c t
    unfold bodyPre bodyPost at h
    simp only [before0_0, before0_1, after0_0, after0_1, PhiS_castSucc] at h
    rw [show (dats m 0 c).Φ t.succ = PhiS m c (t.val + 1) t.isLt from rfl] at h
    simp only [vbefore_0, vbefore_1, vafter_0, vafter_1, vPhi_castSucc, vPhi_succ m c t ht]
    exact h

theorem obligation (c : Dev nD) : BodyObligation (vdats (F := F) m 0 c) (defs₀ (F := F)) Variants.none () Set.univ := fun t => by
  rw [bigSep_W0, bigSep_W0, defs₀_row]
  exact triple_restated (sound m c t) rfl .rfl fun _ => .rfl

/-- What every buffer the body writes holds at the end. -/
def G (c : Dev nD) : (b : Ref sig .tc) → Buf (Elt F) ((c.tc : Thread nD τ).loc b) :=
  Function.update (V m c) main_v0 (result m c)

theorem vhin (c : Dev nD) : Pipeline.ΦDRG osem0 spec0 H0 R0 (V m) (V m) c ⊢ (vdats m 0 c).Φ 0 :=
  (Pipeline.ΦDRG_ΦDR osem0 spec0 H0 R0 (V m) (V m) c).trans (by
    rw [show (vdats m 0 c).Φ 0 = PhiS m c 0 (Nat.zero_le _) from rfl, PhiS_zero m c 0 _ rfl])

theorem vhout (c : Dev nD) : (vdats m 0 c).Φ (Fin.last cfg0.N) ⊢ Pipeline.ΦDRG osem0 spec0 H0 R0 (V m) (G m) c := by
  have hr : (Pipeline.routed R0 c (G m c) : sProp 𝕄) = hbPt0 c hbM0_0 (result m c) := by
    unfold Pipeline.routed G
    rw [BI.bigSep_eq_bigSepL_of_eq [main_v0] (by decide) (by decide)]
    simp only [BI.bigSepL_singleton, Function.update_self]
  rw [show (vdats m 0 c).Φ (Fin.last cfg0.N) = PhiEnd m c from rfl, Pipeline.ΦDRG_eq, hr, scopedRest0_eq, ownSems00_eq, hbmPts0_eq]
  unfold PhiEnd
  simp only [scM0_0, scM0_1, owns_whole]
  iintro H; iexact H

set_option backward.isDefEq.respectTransparency.types false in
theorem run : θ_run defs (onTc (τ := τ) (main (F := F))) (s₀ m ρ) (Pipeline.FramePostRG cfgs (vdats m) 0 R0 (V m) (G m)) :=
  Pipeline.θ_run_frame_dmaRG (Q' := _) cfgs (vdats m) (0 : Fin 1) launch0 osem0 defs₀ Variants.none ownSemFacts0 H0 R0 H0_sub R0_sub m ρ main
    (hbody := fun c => (obligation m c).loose) (hshare := fun c => (vdats m 0 c).share_full fun _ => rfl)
    (howed := fun _ _ => rfl) (V := V m) (hmain := hmain m Variants.none) (hA := vA_eq m) (G := G m)
    (hin := vhin m) (hout := vhout m)

/-- The launch: the result is `result`, and the arguments are unchanged. -/
theorem value : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  have h₁ : θ_run defs (onTc (τ := τ) (main (F := F))) ⟨m, fun _ => 0, ρ⟩
      (fun r => ∀ c : Dev nD, r.2.mem ((c.tc : Thread nD τ).loc main_v0) = result m c) :=
    (θ_run defs _ _).mono (fun _ h c => (h.written c (b := main_v0) (by decide)).trans (Function.update_self _ _ _)) (run m ρ)
  have h₂ := frame_of m ρ (vdats m) (vA_eq m) ((θ_run defs _ _).mono (fun _ h => h.toR) (run m ρ))
  (θ_run defs _ _).mono (fun _ h c => ⟨h.1 c, h.2 c⟩) (θ_run_and h₁ h₂)

end Launch

end Cert.ScWGradRun

end
-- ==== Proof.ScWGradValue.lean ====
/- The weight gradient in front of the short convolution: the shards the kernel copies out are those of the reference's
   product. -/
module

public import proofs.«01_k».proof.Proof.ScWGradRun
public import proofs.«01_k».proof.Proof.ProductGrads
public import proofs.«01_k».proof.Proof.Gen.ScWGradRefIdeal.Run
public import proofs.«01_k».proof.Proof.Gen.ScWGradRefIdeal.Read
import Idealize.ShloMosaic.Lib.Pointwise
import Idealize.ShloMosaic.Lib.Pipeline.ValueKit

@[expose] public section

set_option maxRecDepth 16384

noncomputable section

namespace Cert.ScWGradValue

open Idealize.ShloMosaic Idealize.ShloMosaic.TcCoe Idealize.SL.Sem Cert.ProductGrads

/-- The column of the gradient that an entry of the shards holds. -/
def shardCol (i j : ℕ) (hi : i < 2) (hj : j < 4) (k : Fin 384) : Fin 3072 :=
  ⟨(2 * j + i) * 384 + k.val, by omega⟩

section Kernel

open Cert.ScWGradIdeal Cert.ScWGradIdeal.Gen Cert.ScWGradRun

variable (m : (ℓ : Loc nD τ sig) → Buf (Elt Ideal) ℓ) (c : Dev nD)

/-- The left factor and the cotangent, entry by entry. -/
def left (r : Fin 16384) (p : Fin 1024) : EReal := m ((c : Thread nD τ).loc main_arg0) (ix2 r p)
def cot (r : Fin 16384) (q : Fin 3072) : EReal := m ((c : Thread nD τ).loc main_arg1) (ix2 r q)

theorem idx : ∀ t : Fin cfg0.N, win0_0.index t = ![t.val, 0] ∧ win0_1.index t = ![t.val, 0] :=
  (by decide +kernel : ∀ t : Fin grid0.N, _)

theorem step (t : Fin cfg0.N) (v : Vec Ideal S1024x3072 .f32) (y : Fin 1024 × Fin 3072) :
    k0_pay2 (F := Ideal) v (iblk m c 0 t) (iblk m c 1 t) (ix2 y.1 y.2)
      = v (ix2 y.1 y.2) + share (left m c) (cot m c) t y := by
  have ea (r : Fin 1024) : iblk m c 0 t (ix2 r y.1) = left m c (row t r) y.1 := by
    unfold left
    blk_simp [iblk, idx t, row, V]
    blk_ext [idx t, row]
  have ed (r : Fin 1024) : iblk m c 1 t (ix2 r y.2) = cot m c (row t r) y.2 := by
    unfold cot
    blk_simp [iblk, idx t, row, V]
    blk_ext [idx t, row]
  generalize iblk m c 0 t = x0 at ea ⊢
  generalize iblk m c 1 t = x1 at ed ⊢
  pointwise [k0_pay2]
  exact congrArg _ (Finset.sum_congr rfl fun r _ => congrArg₂ _ (ea r) (ed r))

/-- The sum as the last point leaves it. -/
theorem sum (p : Fin 1024) (q : Fin 3072) :
    k0_pay2 (outsAt0 m c (lastPt.val - 1) (Nat.lt_of_le_of_lt (Nat.sub_le _ _) lastPt.isLt)) (iblk m c 0 lastPt)
      (iblk m c 1 lastPt) (ix2 p q) = wsum (left m c) (cot m c) p q := by
  refine Eq.trans ?_ (total (left m c) (cot m c) (fun n h y => outsAt0 m c n h (ix2 y.1 y.2)) (fun t h y => ?_) (fun t h y => ?_) p q)
  · refine Eq.symm ((congrFun (outsAt0_C m c lastPt (by decide) (by decide)) (ix2 p q)).trans ?_)
    frame_out
    rw [read_unread_whole cc0_scratch0]
  · refine (congrFun (outsAt0_A m c t h (by omega)) (ix2 y.1 y.2)).trans ?_
    frame_out
    refine (step m c t _ y).trans (congrArg (· + _) ?_)
    pointwise [k0_pay1]
  · by_cases h' : t.val % 16 = 15
    · refine (congrFun (outsAt0_C m c t h h') (ix2 y.1 y.2)).trans ?_
      frame_out
      rw [read_unread_whole cc0_scratch0]
      exact step m c t _ y
    · refine (congrFun (outsAt0_B m c t h h') (ix2 y.1 y.2)).trans ?_
      frame_out
      rw [read_unread_whole cc0_scratch0]
      exact step m c t _ y

/-- The kernel's result, entry by entry. -/
def shards (y : S2x4x1x1024x384.Idx) : EReal :=
  wsum (left m c) (cot m c) (y 3) (shardCol (y 0).val (y 1).val (y 0).isLt (y 1).isLt (y 4))

theorem result_eq : result m c = shards m c := funext fun y => by
  have e := sum m c (y 3) (shardCol (y 0).val (y 1).val (y 0).isLt (y 1).isLt (y 4))
  unfold result
  generalize k0_pay2 (F := Ideal) _ _ _ = w at e ⊢
  exact e

end Kernel

section Reference

open Cert.ScWGradRefIdeal Cert.ScWGradRefIdeal.Read Cert.ScWGradRefIdeal.Gen

theorem ref_apply (x0 : Vec Ideal S16384x1024 .bf16) (x1 : Vec Ideal S16384x3072 .bf16) (y : S2x4x1x1024x384.Idx) :
    val_main_v8 (F := Ideal) x0 x1 y = wsum (fun r p => x0 (ix2 r p)) (fun r q => x1 (ix2 r q)) (y 3)
      (shardCol (y 0).val (y 1).val (y 0).isLt (y 1).isLt (y 4)) := by
  have e : idx_main_v6 (idx_main_v7 (idx_main_v8 y)) = ix2 (y 3) (shardCol (y 0).val (y 1).val (y 0).isLt (y 1).isLt (y 4)) := by
    have h0 : (y 0).val < 2 := (y 0).isLt
    have h1 : (y 1).val < 4 := (y 1).isLt
    have h4 : (y 4).val < 384 := (y 4).isLt
    refine (eq_ix2 _).trans (congrArg₂ ix2 (Fin.ext ?_) (Fin.ext ?_))
    · show ((((y 3).val * 4 + (y 1).val) * 2 + (y 0).val) * 384 + (y 4).val) / 3072 = (y 3).val
      omega
    · show ((((y 3).val * 4 + (y 1).val) * 2 + (y 0).val) * 384 + (y 4).val) % 3072 = (2 * (y 1).val + (y 0).val) * 384 + (y 4).val
      omega
  rw [val_main_v8_apply, val_main_v7_apply, val_main_v6_apply, e]
  pointwise [val_main_v5, val_main_v4, val_main_v3, val_main_v1]
  exact Finset.sum_congr rfl fun r _ => mul_comm _ _

end Reference

theorem algebraic : Cert.algebraic_ScWGradIdeal_ScWGradRefIdeal := by
  intro m g m' g' _ hagree
  refine ⟨fun c => shards m c, ?_, ?_⟩
  · refine (θ_run Cert.ScWGradIdeal.defs _ _).mono (fun r h c => ?_) (Cert.ScWGradRun.value m g)
    exact ⟨(h c).1.trans (result_eq m c), (h c).2⟩
  · refine (θ_run Cert.ScWGradRefIdeal.defs _ _).mono (fun r h c => ?_) (Cert.ScWGradRefIdeal.Value.run m' g')
    obtain ⟨e, rest⟩ := h c
    refine ⟨(e.trans (Cert.ScWGradRefIdeal.Read.val_main_v8_eq _ _)).trans (funext fun y => ?_), rest⟩
    obtain ⟨e0, e1⟩ := hagree c
    rw [ref_apply, e0, e1]
    rfl

end Cert.ScWGradValue

end
-- ==== Proof.GateFwdTrip.lean ====
/- The gate behind the scan, one grid point of its forward pass: a row's channels fall into four groups, and each
   group has its own norm. -/
module

public import proofs.«01_k».proof.Proof.Scalars
public import proofs.«01_k».proof.Proof.FfnFwdValue
public import proofs.«01_k».proof.Proof.Gen.GateFwdIdeal.Loops
public import proofs.«01_k».proof.Proof.Gen.GateFwdIdeal.Frame
import Idealize.ShloMosaic.Lib.Pointwise
import Idealize.ShloMosaic.Lib.WholeRead
import Idealize.ShloMosaic.Lib.Pipeline.ValueKit

@[expose] public section

set_option maxRecDepth 16384

noncomputable section

namespace Cert.GateFwdValue

open Idealize.ShloMosaic Idealize.ShloMosaic.TcCoe Idealize.SL.Sem Idealize.ShloMosaic.Tactic Cert.Scalars

/-- A gated value: the scan's result with the skip, times the gate. -/
def gated (y x z d : EReal) : EReal := (y + x * d) * (z * Ideal.logistic z)

/-- One group of one row after its norm. -/
def grp (y x z d n : Fin 512 → EReal) (j : Fin 512) : EReal :=
  gated (y j) (x j) (z j) (d j)
    * Ideal.rsqrt (Ideal.div (∑ l, gated (y l) (x l) (z l) (d l) * gated (y l) (x l) (z l) (d l))
        (Ideal.ofBits .f32 0x44000000#32) + Ideal.ofBits .f32 0x3727C5AC#32)
    * n j

/-- The channels of a group. -/
def col (g : Fin 4) (j : Fin 512) : Fin 2048 := ⟨g.val * 512 + j.val, by omega⟩

/-- The group of a channel. -/
def gr (c : Fin 2048) : Fin 4 := ⟨c.val / 512, by omega⟩

/-- The place of a channel in its group. -/
def ln (c : Fin 2048) : Fin 512 := ⟨c.val % 512, by omega⟩

theorem col_gr_ln (c : Fin 2048) : col (gr c) (ln c) = c := Fin.ext (by simp [gr, ln, col]; omega)

/-- One row after the norm of each of its groups. -/
def out (y x z d n : Fin 2048 → EReal) (c : Fin 2048) : EReal :=
  grp (fun j => y (col (gr c) j)) (fun j => x (col (gr c) j)) (fun j => z (col (gr c) j)) (fun j => d (col (gr c) j))
    (fun j => n (col (gr c) j)) (ln c)

open Cert.GateFwdIdeal Cert.GateFwdIdeal.Gen

theorem group_apply (y x z : Vec Ideal S256x512 .bf16) (d n : Vec Ideal S1x512 .f32) (r : Fin 256) (j : Fin 512) :
    k0_pay2 (F := Ideal) y x z d n (ix2 r j)
      = grp (fun l => y (ix2 r l)) (fun l => x (ix2 r l)) (fun l => z (ix2 r l)) (fun l => d (ix2 0 l))
          (fun l => n (ix2 0 l)) j := by
  pointwise [k0_pay2]
  simp only [half_lit, Cert.FfnFwdValue.logistic_tanh]
  rfl

/-- The results of a block of rows. -/
def blockOut (y x z : Vec Ideal S512x2048 .bf16) (d n : Vec Ideal S1x2048 .f32) (i : S512x2048.Idx) : EReal :=
  out (fun c => y (ix2 (i 0) c)) (fun c => x (ix2 (i 0) c)) (fun c => z (ix2 (i 0) c)) (fun c => d (ix2 0 c))
    (fun c => n (ix2 0 c)) (i 1)

section Trip

variable {arg1 arg2 arg3 : Memref sig .tc .vmem S512x2048 .bf16} {arg4 arg5 : Memref sig .tc .vmem S1x2048 .f32}
  (h1 : arg1.IsWhole) (h2 : arg2.IsWhole) (h3 : arg3.IsWhole) (h4 : arg4.IsWhole) (h5 : arg5.IsWhole)
  (y x z : Vec Ideal S512x2048 .bf16) (d n : Vec Ideal S1x2048 .f32)

/-- What is computed from the blocks of one group is the group's part of the results. -/
theorem piece (o : Fin 2 → ℕ) (od : Fin 2 → ℕ) (io : ∀ a, o a + S256x512.size a ≤ S512x2048.size a)
    (id : ∀ a, od a + S1x512.size a ≤ S1x2048.size a) (g : Fin 4) (ho : o 1 = g.val * 512) (hd0 : od 0 = 0)
    (hd : od 1 = g.val * 512) (w : S256x512.Idx) :
    k0_pay2 (F := Ideal)
        (View.readAt (Elt Ideal) arg1.view (Rect.unit (s := S512x2048) o S256x512.size io).toLoadRect (h1.unread y))
        (View.readAt (Elt Ideal) arg2.view (Rect.unit (s := S512x2048) o S256x512.size io).toLoadRect (h2.unread x))
        (View.readAt (Elt Ideal) arg3.view (Rect.unit (s := S512x2048) o S256x512.size io).toLoadRect (h3.unread z))
        (View.readAt (Elt Ideal) arg4.view (Rect.unit (s := S1x2048) od S1x512.size id).toLoadRect (h4.unread d))
        (View.readAt (Elt Ideal) arg5.view (Rect.unit (s := S1x2048) od S1x512.size id).toLoadRect (h5.unread n)) w
      = blockOut y x z d n ((Rect.unit (s := S512x2048) o S256x512.size io).emb w) := by
  have hw : (w 1).val < 512 := (w 1).isLt
  have e1 : ((Rect.unit (s := S512x2048) o S256x512.size io).emb w 1).val = g.val * 512 + (w 1).val := by
    rw [← ho]; simp [Rect.unit, Rect.emb]
  have eg : gr ((Rect.unit (s := S512x2048) o S256x512.size io).emb w 1) = g :=
    Fin.ext (by show Fin.val _ / 512 = _; rw [e1]; omega)
  have el : ln ((Rect.unit (s := S512x2048) o S256x512.size io).emb w 1) = w 1 :=
    Fin.ext (by show Fin.val _ % 512 = _; rw [e1]; omega)
  have er (l : Fin 512) : (Rect.unit (s := S512x2048) o S256x512.size io).toLoadRect.idx (ix2 (w 0) l)
      = ix2 ((Rect.unit (s := S512x2048) o S256x512.size io).emb w 0) (col g l) := by
    funext a
    refine Fin.ext ?_
    match a with
    | 0 => simp [Rect.unit, Rect.emb, Rect.toLoadRect, LoadRect.idx, ix2]
    | 1 => simp [Rect.unit, Rect.emb, Rect.toLoadRect, LoadRect.idx, ix2, col, ho]
  have ed (l : Fin 512) : (Rect.unit (s := S1x2048) od S1x512.size id).toLoadRect.idx (ix2 0 l) = ix2 0 (col g l) := by
    funext a
    refine Fin.ext ?_
    match a with
    | 0 => simp [Rect.unit, Rect.toLoadRect, LoadRect.idx, ix2, hd0]
    | 1 => simp [Rect.unit, Rect.toLoadRect, LoadRect.idx, ix2, col, hd]
  unfold blockOut out
  rw [eg, el]
  refine (congrArg _ (eq_ix2 w)).trans ((group_apply _ _ _ _ _ (w 0) (w 1)).trans ?_)
  simp only [Memref.IsWhole.readAt_unread, er, ed]
  rfl

theorem trip_pieces (𝒱 : Variants) (c : Dev nD) (bd : Option 𝒱.V) (i : grid0.Coords)
    (arg6 : Memref sig .tc .vmem S512x2048 .bf16) (h6 : arg6.IsWhole) (k : Fin k0_t1_loop.trips) :
    ∀ p ∈ (trip_k0_t1 (F := Ideal) 𝒱 c bd i arg1 h1 arg2 h2 arg3 h3 arg4 h4 arg5 h5 arg6 h6 (h1.unread y) (h2.unread x)
        (h3.unread z) (h4.unread d) (h5.unread n) k).1,
      ∀ w, p.2 w = blockOut y x z d n (p.1.emb w) := by
  unfold trip_k0_t1
  dsimp only
  sl_unfold_words
  intro p hp
  simp only [List.mem_cons, List.not_mem_nil, or_false] at hp
  rcases hp with rfl | rfl | rfl | rfl <;> intro w
  · exact piece h1 h2 h3 h4 h5 y x z d n _ _ (k0_off4_inb k) _ 3 rfl rfl rfl w
  · exact piece h1 h2 h3 h4 h5 y x z d n _ _ (k0_off3_inb k) _ 2 rfl rfl rfl w
  · exact piece h1 h2 h3 h4 h5 y x z d n _ _ (k0_off2_inb k) _ 1 rfl rfl rfl w
  · exact piece h1 h2 h3 h4 h5 y x z d n _ _ (k0_off1_inb k) _ 0 rfl rfl rfl w

theorem trips_pieces (𝒱 : Variants) (c : Dev nD) (bd : Option 𝒱.V) (i : grid0.Coords)
    (arg6 : Memref sig .tc .vmem S512x2048 .bf16) (h6 : arg6.IsWhole) (k : ℕ) (hk : k ≤ k0_t1_loop.trips) :
    ∀ p ∈ pb_k0_t1 (F := Ideal) 𝒱 c bd i arg1 h1 arg2 h2 arg3 h3 arg4 h4 arg5 h5 arg6 h6 (h1.unread y) (h2.unread x)
        (h3.unread z) (h4.unread d) (h5.unread n) k,
      ∀ w, p.2 w = blockOut y x z d n (p.1.emb w) := by
  induction k with
  | zero => intro p hp; exact absurd hp List.not_mem_nil
  | succ k ih =>
    intro p hp
    rw [pb_k0_t1_succ 𝒱 c bd i arg1 h1 arg2 h2 arg3 h3 arg4 h4 arg5 h5 arg6 h6 _ _ _ _ _ ⟨k, hk⟩] at hp
    rcases List.mem_append.mp hp with hp | hp
    · exact trip_pieces h1 h2 h3 h4 h5 y x z d n 𝒱 c bd i arg6 h6 ⟨k, hk⟩ p hp
    · exact ih (Nat.le_of_succ_le hk) p hp

end Trip

end Cert.GateFwdValue

end
-- ==== Proof.GateFwdValue.lean ====
/- The gate behind the scan, forward: the program's result and the reference's are the same function of the
   arguments, whatever extended reals these are. -/
module

public import proofs.«01_k».proof.Defs
public import proofs.«01_k».proof.Proof.GateFwdTrip
public import proofs.«01_k».proof.Proof.Gen.GateFwdIdeal.Value
public import proofs.«01_k».proof.Proof.Gen.GateFwdRefIdeal.Run
public import proofs.«01_k».proof.Proof.Gen.GateFwdRefIdeal.Read
import Idealize.ShloMosaic.Lib.Pointwise
import Idealize.ShloMosaic.Lib.Pipeline.ValueKit

@[expose] public section

set_option maxRecDepth 16384

noncomputable section

namespace Cert.GateFwdValue

open Idealize.ShloMosaic Idealize.ShloMosaic.TcCoe Idealize.SL.Sem Cert.Scalars

/-- The arguments: the scan's result, the convolution's channels, the gate, the skip weights and the norm's weights. -/
structure In where
  y : Fin 16384 → Fin 2048 → EReal
  x : Fin 16384 → Fin 2048 → EReal
  z : Fin 16384 → Fin 2048 → EReal
  d : Fin 2048 → EReal
  n : Fin 2048 → EReal

def In.out (I : In) (r : Fin 16384) : Fin 2048 → EReal := Cert.GateFwdValue.out (I.y r) (I.x r) (I.z r) I.d I.n

section Program

open Cert.GateFwdIdeal Cert.GateFwdIdeal.Gen

variable (m : (ℓ : Loc nD τ sig) → Buf (Elt Ideal) ℓ) (c : Dev nD)

/-- The program's arguments. -/
def args : In where
  y r k := m ((c : Thread nD τ).loc main_arg0) (ix2 r k)
  x r k := m ((c : Thread nD τ).loc main_arg1) (ix2 r ⟨k.val, by omega⟩)
  z r k := m ((c : Thread nD τ).loc main_arg2) (ix2 r k)
  d k := m ((c : Thread nD τ).loc main_arg3) (ix1 k)
  n k := m ((c : Thread nD τ).loc main_arg4) (ix1 k)

/-- The rows of a point's block. -/
def row (t : Fin cfg0.N) (r : Fin 512) : Fin 16384 :=
  ⟨t.val * 512 + r.val, by have h : t.val < 32 := t.isLt; omega⟩

theorem d_entry (k : Fin 2048) : V m c main_v0 (ix2 0 k) = (args m c).d k := by
  entry_read
  pointwise
  rfl

theorem n_entry (k : Fin 2048) : V m c main_v1 (ix2 0 k) = (args m c).n k := by
  entry_read
  pointwise
  rfl

/-- Which block of its array each window of a point is. -/
theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![t.val, 0] :=
  (by decide +kernel : ∀ t : Fin grid0.N, _)

theorem y_block (t : Fin cfg0.N) (r : Fin 512) (k : Fin 2048) : iblk m c 0 t (ix2 r k) = (args m c).y (row t r) k := by
  unfold args
  blk_simp [iblk, idx t, row, V]
  blk_ext [idx t, row]

theorem x_block (t : Fin cfg0.N) (r : Fin 512) (k : Fin 2048) : X0_1 m c t (ix2 r k) = (args m c).x (row t r) k := by
  unfold args X0_1 Pipeline.Window.fill
  rw [dif_pos (moved0_1 t _)]
  blk_simp [iblk, idx t, row, V]
  blk_ext [idx t, row]

theorem z_block (t : Fin cfg0.N) (r : Fin 512) (k : Fin 2048) : iblk m c 2 t (ix2 r k) = (args m c).z (row t r) k := by
  unfold args
  blk_simp [iblk, idx t, row, V]
  blk_ext [idx t, row]

theorem d_block (t : Fin cfg0.N) (k : Fin 2048) : iblk m c 3 t (ix2 0 k) = (args m c).d k := by
  refine Eq.trans ?_ (d_entry m c k)
  blk_simp [iblk, idx t, row]
  blk_ext [idx t, row]

theorem n_block (t : Fin cfg0.N) (k : Fin 2048) : iblk m c 4 t (ix2 0 k) = (args m c).n k := by
  refine Eq.trans ?_ (n_entry m c k)
  blk_simp [iblk, idx t, row]
  blk_ext [idx t, row]

/-- What a point leaves in its block of the result. -/
theorem point (t : Fin cfg0.N) (r : Fin 512) (k : Fin 2048) : outsAt0 m c t (ix2 r k) = (args m c).out (row t r) k := by
  have h : outsAt0 m c t (ix2 r k)
      = blockOut (iblk m c 0 t) (X0_1 m c t) (iblk m c 2 t) (iblk m c 3 t) (iblk m c 4 t) (ix2 r k) := by
    unfold outsAt0 out0_A_5
    refine View.read_writes_apply_of_pieces VO0_5 _ _ _ ?_ _ ?_
    · unfold kernelRun0_A
      dsimp only
      exact trips_pieces _ _ _ _ _ _ _ _ _ _ _ _ _ _ _ _ _ le_rfl
    · exact cover0_A_5 c _ _ _ _ _ _ _ _ _ _ _ _ _ _ _ _ _ _ _
  rw [h]
  unfold blockOut In.out
  have ey : (fun k => iblk m c 0 t (ix2 r k)) = (args m c).y (row t r) := funext fun k => y_block m c t r k
  have ex : (fun k => X0_1 m c t (ix2 r k)) = (args m c).x (row t r) := funext fun k => x_block m c t r k
  have ez : (fun k => iblk m c 2 t (ix2 r k)) = (args m c).z (row t r) := funext fun k => z_block m c t r k
  have ed : (fun k => iblk m c 3 t (ix2 0 k)) = (args m c).d := funext fun k => d_block m c t k
  have en : (fun k => iblk m c 4 t (ix2 0 k)) = (args m c).n := funext fun k => n_block m c t k
  show out (fun k => iblk m c 0 t (ix2 r k)) (fun k => X0_1 m c t (ix2 r k)) (fun k => iblk m c 2 t (ix2 r k))
    (fun k => iblk m c 3 t (ix2 0 k)) (fun k => iblk m c 4 t (ix2 0 k)) k = _
  rw [ey, ex, ez, ed, en]

theorem out5 : (dats m 0 c).arrAt 5 cfg0.N = fun i => (args m c).out (i 0) (i 1) := by
  refine (dats m 0 c).arrAt_eq_of_covers 5 _ (by decide +kernel) fun t hf y => ?_
  have e : (win0_5.blk t).view.emb y = ix2 (row t (y 0)) (y 1) := by
    blk_ext [idx t, row]
  blk_simp
  rw [after0_5, e]
  rw [eq_ix2 y]
  exact point m c t (y 0) (y 1)

end Program

/-! ## The reference -/

section Reference

open Cert.GateFwdRefIdeal Cert.GateFwdRefIdeal.Read Cert.GateFwdRefIdeal.Gen

/-- The arguments of the reference are these. -/
structure Args (a0 : Vec Ideal S16384x2048 .bf16) (a1 : Vec Ideal S16384x3072 .bf16) (a2 : Vec Ideal S16384x2048 .bf16)
    (a3 a4 : Vec Ideal S2048 .f32) (I : In) : Prop where
  h0 : ∀ r k, a0 (ix2 r k) = I.y r k
  h1 : ∀ r (k : Fin 2048), a1 (ix2 r ⟨k.val, by omega⟩) = I.x r k
  h2 : ∀ r k, a2 (ix2 r k) = I.z r k
  h3 : ∀ k, a3 (ix1 k) = I.d k
  h4 : ∀ k, a4 (ix1 k) = I.n k

section Stages

variable {a0 : Vec Ideal S16384x2048 .bf16} {a1 : Vec Ideal S16384x3072 .bf16} {a2 : Vec Ideal S16384x2048 .bf16}
    {a3 a4 : Vec Ideal S2048 .f32} {I : In} (A : Args a0 a1 a2 a3 a4 I)
include A

theorem ref_g (r : Fin 16384) (k : Fin 2048) :
    val_main_v9 (F := Ideal) a0 a1 a2 a3 (ix2 r k) = gated (I.y r k) (I.x r k) (I.z r k) (I.d k) := by
  pointwise [val_main_v9, val_main_v8, val_main_v7, val_main_v6, val_main_v5, val_main_v4, val_main_v3, val_main_v2,
    val_main_v1, val_main_v0, val_main_call0_v0, val_main_call0_v1, val_main_call0_v2, val_main_call0_v3,
    val_main_call0_v4, val_main_call0_v5, val_main_call0_cst, val_main_call0_cst_0]
  simp only [A.h0, A.h2, A.h3, ← A.h1]
  rfl

theorem ref_gr (r : Fin 16384) (g : Fin 4) (j : Fin 512) :
    val_main_v10 (F := Ideal) a0 a1 a2 a3 (ix3 r g j)
      = gated (I.y r (col g j)) (I.x r (col g j)) (I.z r (col g j)) (I.d (col g j)) := by
  refine Eq.trans ?_ (ref_g A r (col g j))
  pointwise [val_main_v10]
  rfl

theorem ref_n (r : Fin 16384) (g : Fin 4) (j : Fin 512) :
    val_main_v20 (F := Ideal) a0 a1 a2 a3 (ix3 r g j)
      = gated (I.y r (col g j)) (I.x r (col g j)) (I.z r (col g j)) (I.d (col g j))
    * Ideal.rsqrt (Ideal.div (∑ l, gated (I.y r (col g l)) (I.x r (col g l)) (I.z r (col g l)) (I.d (col g l))
          * gated (I.y r (col g l)) (I.x r (col g l)) (I.z r (col g l)) (I.d (col g l)))
        (Ideal.ofBits .f32 0x44000000#32) + Ideal.ofBits .f32 0x3727C5AC#32) := by
  pointwise [val_main_v20, val_main_v19, val_main_v18, val_main_v17, val_main_v16, val_main_cst_1, val_main_v15,
    val_main_v14, val_main_cst_0, val_main_v13, val_main_v12, val_main_v11, val_main_cst]
  simp only [ref_gr A]

theorem ref_out (r : Fin 16384) (k : Fin 2048) : val_main_v25 (F := Ideal) a0 a1 a2 a3 a4 (ix2 r k) = I.out r k := by
  have h : val_main_v21 (F := Ideal) a0 a1 a2 a3 (ix2 r k) = val_main_v20 (F := Ideal) a0 a1 a2 a3 (ix3 r (gr k) (ln k)) := by
    pointwise [val_main_v21]
    rfl
  pointwise [val_main_v25, val_main_v24, val_main_v23, val_main_v22]
  rw [h, ref_n A, A.h4]
  unfold In.out out grp
  simp only [col_gr_ln]

end Stages

/-- The reference's result. -/
theorem ref_run (m : (ℓ : Loc nD τ sig) → Buf (Elt Ideal) ℓ) (ρ : Dev nD → PrngReg) (I : Dev nD → In)
    (A : ∀ c : Dev nD, Args (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (I c)) :
    θ_run (defs (F := Ideal)) (onTc (τ := τ) (main (F := Ideal))) ⟨m, fun _ => 0, ρ⟩ fun r => ∀ c : Dev nD,
      r.2.mem ((c.tc : Thread nD τ).loc main_v25) = (fun i => (I c).out (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨e0, rest⟩ := h c
  replace e0 := e0.trans (Read.val_main_v25_eq _ _ _ _ _)
  refine ⟨e0.trans (funext fun i => ?_), rest⟩
  exact (congrArg _ (eq_ix2 i)).trans (ref_out (A c) _ _)

end Reference

theorem algebraic : Cert.algebraic_GateFwdIdeal_GateFwdRefIdeal := by
  intro m g m' g' _ hagree
  refine ⟨fun c i => (args m c).out (i 0) (i 1), ?_, ?_⟩
  · refine (θ_run Cert.GateFwdIdeal.defs _ _).mono (fun r h c => ?_) (Cert.GateFwdIdeal.Value.run_blocks m g)
    obtain ⟨e0, rest⟩ := h c
    exact ⟨e0.trans (out5 m c), rest⟩
  · refine ref_run m' g' (args m) fun c => ?_
    obtain ⟨e0, e1, e2, e3, e4⟩ := hagree c
    rw [e0, e1, e2, e3, e4]
    exact ⟨fun _ _ => rfl, fun _ _ => rfl, fun _ _ => rfl, fun _ => rfl, fun _ => rfl⟩

end Cert.GateFwdValue

end
-- ==== Proof.lean ====
module

public import proofs.«01_k».proof.Defs
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnRefIdeal
public import proofs.«01_k».proof.Proof.Gen.Pre_ffn_finite
public import proofs.«01_k».proof.Proof.Gen.FfnBwdIdeal.Value
public import proofs.«01_k».proof.Proof.Gen.FfnRefIdeal.Run
public import proofs.«01_k».proof.Proof.Gen.FfnRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.WGrad
public import proofs.«01_k».proof.Proof.Gen.WGrad.Skeleton
public import proofs.«01_k».proof.Proof.Gen.WGrad.Launch
public import proofs.«01_k».proof.Proof.Gen.WGrad.Points
public import proofs.«01_k».proof.Proof.Gen.WGrad.Frame
public import proofs.«01_k».proof.Proof.Gen.WGradIdeal
public import proofs.«01_k».proof.Proof.Gen.WGradIdeal.Skeleton
public import proofs.«01_k».proof.Proof.Gen.WGradIdeal.Launch
public import proofs.«01_k».proof.Proof.Gen.WGradIdeal.Points
public import proofs.«01_k».proof.Proof.Gen.WGradIdeal.Frame
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.WGradRefIdeal
public import proofs.«01_k».proof.Proof.Gen.WGradRefIdeal.Run
public import proofs.«01_k».proof.Proof.Gen.WGradRefIdeal.Read
public import proofs.«01_k».proof.Proof.Gen.FfnFwdIdeal.Value
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanIdeal.Value
public import proofs.«01_k».proof.Proof.Gen.ScanRefIdeal
public import proofs.«01_k».proof.Proof.Gen.ScanRefIdeal.Run
public import proofs.«01_k».proof.Proof.Gen.ScanRefIdeal.Read
public import proofs.«01_k».proof.Proof.Gen.Pre_scan_finite
public import proofs.«01_k».proof.Proof.Gen.SsdIn
public import proofs.«01_k».proof.Proof.Gen.SsdIn.Skeleton
public import proofs.«01_k».proof.Proof.Gen.SsdIn.Launch
public import proofs.«01_k».proof.Proof.Gen.SsdIn.Points
public import proofs.«01_k».proof.Proof.Gen.SsdIn.Frame
public import proofs.«01_k».proof.Proof.Gen.SsdInIdeal
public import proofs.«01_k».proof.Proof.Gen.SsdInIdeal.Skeleton
public import proofs.«01_k».proof.Proof.Gen.SsdInIdeal.Launch
public import proofs.«01_k».proof.Proof.Gen.SsdInIdeal.Points
public import proofs.«01_k».proof.Proof.Gen.SsdInIdeal.Frame
public import proofs.«01_k».proof.Proof.Gen.SsdInIdeal.Value
public import proofs.«01_k».proof.Proof.Gen.SsdInRefIdeal
public import proofs.«01_k».proof.Proof.Gen.SsdInRefIdeal.Run
public import proofs.«01_k».proof.Proof.Gen.SsdInRefIdeal.Read
public import proofs.«01_k».proof.Proof.Gen.ScIn
public import proofs.«01_k».proof.Proof.Gen.ScIn.Skeleton
public import proofs.«01_k».proof.Proof.Gen.ScIn.Launch
public import proofs.«01_k».proof.Proof.Gen.ScIn.Points
public import proofs.«01_k».proof.Proof.Gen.ScIn.Frame
public import proofs.«01_k».proof.Proof.Gen.ScInIdeal
public import proofs.«01_k».proof.Proof.Gen.ScInIdeal.Skeleton
public import proofs.«01_k».proof.Proof.Gen.ScInIdeal.Launch
public import proofs.«01_k».proof.Proof.Gen.ScInIdeal.Points
public import proofs.«01_k».proof.Proof.Gen.ScInIdeal.Frame
public import proofs.«01_k».proof.Proof.Gen.ScInIdeal.Value
public import proofs.«01_k».proof.Proof.Gen.ScInRefIdeal
public import proofs.«01_k».proof.Proof.Gen.ScInRefIdeal.Run
public import proofs.«01_k».proof.Proof.Gen.ScInRefIdeal.Read
public import proofs.«01_k».proof.Proof.Gen.ZGrad
public import proofs.«01_k».proof.Proof.Gen.ZGrad.Skeleton
public import proofs.«01_k».proof.Proof.Gen.ZGrad.Launch
public import proofs.«01_k».proof.Proof.Gen.ZGrad.Points
public import proofs.«01_k».proof.Proof.Gen.ZGrad.Frame
public import proofs.«01_k».proof.Proof.Gen.ZGradIdeal
public import proofs.«01_k».proof.Proof.Gen.ZGradIdeal.Skeleton
public import proofs.«01_k».proof.Proof.Gen.ZGradIdeal.Launch
public import proofs.«01_k».proof.Proof.Gen.ZGradIdeal.Points
public import proofs.«01_k».proof.Proof.Gen.ZGradIdeal.Frame
public import proofs.«01_k».proof.Proof.Gen.ZGradIdeal.Value
public import proofs.«01_k».proof.Proof.Gen.ZGradRefIdeal
public import proofs.«01_k».proof.Proof.Gen.ZGradRefIdeal.Run
public import proofs.«01_k».proof.Proof.Gen.ZGradRefIdeal.Read
public import proofs.«01_k».proof.Proof.Gen.XbcGrad
public import proofs.«01_k».proof.Proof.Gen.XbcGrad.Skeleton
public import proofs.«01_k».proof.Proof.Gen.XbcGrad.Launch
public import proofs.«01_k».proof.Proof.Gen.XbcGrad.Points
public import proofs.«01_k».proof.Proof.Gen.XbcGrad.Frame
public import proofs.«01_k».proof.Proof.Gen.XbcGradIdeal
public import proofs.«01_k».proof.Proof.Gen.XbcGradIdeal.Skeleton
public import proofs.«01_k».proof.Proof.Gen.XbcGradIdeal.Launch
public import proofs.«01_k».proof.Proof.Gen.XbcGradIdeal.Points
public import proofs.«01_k».proof.Proof.Gen.XbcGradIdeal.Frame
public import proofs.«01_k».proof.Proof.Gen.XbcGradIdeal.Value
public import proofs.«01_k».proof.Proof.Gen.XbcGradRefIdeal
public import proofs.«01_k».proof.Proof.Gen.XbcGradRefIdeal.Run
public import proofs.«01_k».proof.Proof.Gen.XbcGradRefIdeal.Read
public import proofs.«01_k».proof.Proof.Gen.SsdFirst
public import proofs.«01_k».proof.Proof.Gen.SsdFirst.Skeleton
public import proofs.«01_k».proof.Proof.Gen.SsdFirst.Launch
public import proofs.«01_k».proof.Proof.Gen.SsdFirst.Points
public import proofs.«01_k».proof.Proof.Gen.SsdFirst.Frame
public import proofs.«01_k».proof.Proof.Gen.SsdFirstIdeal
public import proofs.«01_k».proof.Proof.Gen.SsdFirstIdeal.Skeleton
public import proofs.«01_k».proof.Proof.Gen.SsdFirstIdeal.Launch
public import proofs.«01_k».proof.Proof.Gen.SsdFirstIdeal.Points
public import proofs.«01_k».proof.Proof.Gen.SsdFirstIdeal.Frame
public import proofs.«01_k».proof.Proof.Gen.SsdFirstIdeal.Value
public import proofs.«01_k».proof.Proof.Gen.SsdFirstRefIdeal
public import proofs.«01_k».proof.Proof.Gen.SsdFirstRefIdeal.Run
public import proofs.«01_k».proof.Proof.Gen.SsdFirstRefIdeal.Read
public import proofs.«01_k».proof.Proof.Gen.ScFirst
public import proofs.«01_k».proof.Proof.Gen.ScFirst.Skeleton
public import proofs.«01_k».proof.Proof.Gen.ScFirst.Launch
public import proofs.«01_k».proof.Proof.Gen.ScFirst.Points
public import proofs.«01_k».proof.Proof.Gen.ScFirst.Frame
public import proofs.«01_k».proof.Proof.Gen.ScFirstIdeal
public import proofs.«01_k».proof.Proof.Gen.ScFirstIdeal.Skeleton
public import proofs.«01_k».proof.Proof.Gen.ScFirstIdeal.Launch
public import proofs.«01_k».proof.Proof.Gen.ScFirstIdeal.Points
public import proofs.«01_k».proof.Proof.Gen.ScFirstIdeal.Frame
public import proofs.«01_k».proof.Proof.Gen.ScFirstIdeal.Value
public import proofs.«01_k».proof.Proof.Gen.ScFirstRefIdeal
public import proofs.«01_k».proof.Proof.Gen.ScFirstRefIdeal.Run
public import proofs.«01_k».proof.Proof.Gen.ScFirstRefIdeal.Read
public import proofs.«01_k».proof.Proof.Gen.SsdLast
public import proofs.«01_k».proof.Proof.Gen.SsdLast.Skeleton
public import proofs.«01_k».proof.Proof.Gen.SsdLast.Launch
public import proofs.«01_k».proof.Proof.Gen.SsdLast.Points
public import proofs.«01_k».proof.Proof.Gen.SsdLast.Frame
public import proofs.«01_k».proof.Proof.Gen.SsdLastIdeal
public import proofs.«01_k».proof.Proof.Gen.SsdLastIdeal.Skeleton
public import proofs.«01_k».proof.Proof.Gen.SsdLastIdeal.Launch
public import proofs.«01_k».proof.Proof.Gen.SsdLastIdeal.Points
public import proofs.«01_k».proof.Proof.Gen.SsdLastIdeal.Frame
public import proofs.«01_k».proof.Proof.Gen.SsdLastIdeal.Value
public import proofs.«01_k».proof.Proof.Gen.SsdLastRefIdeal
public import proofs.«01_k».proof.Proof.Gen.SsdLastRefIdeal.Run
public import proofs.«01_k».proof.Proof.Gen.SsdLastRefIdeal.Read
public import proofs.«01_k».proof.Proof.Gen.ScLast
public import proofs.«01_k».proof.Proof.Gen.ScLast.Skeleton
public import proofs.«01_k».proof.Proof.Gen.ScLast.Launch
public import proofs.«01_k».proof.Proof.Gen.ScLast.Points
public import proofs.«01_k».proof.Proof.Gen.ScLast.Frame
public import proofs.«01_k».proof.Proof.Gen.ScLastIdeal
public import proofs.«01_k».proof.Proof.Gen.ScLastIdeal.Skeleton
public import proofs.«01_k».proof.Proof.Gen.ScLastIdeal.Launch
public import proofs.«01_k».proof.Proof.Gen.ScLastIdeal.Points
public import proofs.«01_k».proof.Proof.Gen.ScLastIdeal.Frame
public import proofs.«01_k».proof.Proof.Gen.ScLastIdeal.Value
public import proofs.«01_k».proof.Proof.Gen.ScLastRefIdeal
public import proofs.«01_k».proof.Proof.Gen.ScLastRefIdeal.Run
public import proofs.«01_k».proof.Proof.Gen.ScLastRefIdeal.Read
public import proofs.«01_k».proof.Proof.Gen.DtGrad
public import proofs.«01_k».proof.Proof.Gen.DtGrad.Skeleton
public import proofs.«01_k».proof.Proof.Gen.DtGrad.Launch
public import proofs.«01_k».proof.Proof.Gen.DtGrad.Points
public import proofs.«01_k».proof.Proof.Gen.DtGrad.Frame
public import proofs.«01_k».proof.Proof.Gen.DtGradIdeal
public import proofs.«01_k».proof.Proof.Gen.DtGradIdeal.Skeleton
public import proofs.«01_k».proof.Proof.Gen.DtGradIdeal.Launch
public import proofs.«01_k».proof.Proof.Gen.DtGradIdeal.Points
public import proofs.«01_k».proof.Proof.Gen.DtGradIdeal.Frame
public import proofs.«01_k».proof.Proof.Gen.DtGradIdeal.Value
public import proofs.«01_k».proof.Proof.Gen.DtGradRefIdeal
public import proofs.«01_k».proof.Proof.Gen.DtGradRefIdeal.Run
public import proofs.«01_k».proof.Proof.Gen.DtGradRefIdeal.Read
public import proofs.«01_k».proof.Proof.Gen.ScWGrad
public import proofs.«01_k».proof.Proof.Gen.ScWGrad.Skeleton
public import proofs.«01_k».proof.Proof.Gen.ScWGrad.Launch
public import proofs.«01_k».proof.Proof.Gen.ScWGrad.Points
public import proofs.«01_k».proof.Proof.Gen.ScWGrad.Frame
public import proofs.«01_k».proof.Proof.Gen.ScWGradIdeal
public import proofs.«01_k».proof.Proof.Gen.ScWGradIdeal.Skeleton
public import proofs.«01_k».proof.Proof.Gen.ScWGradIdeal.Launch
public import proofs.«01_k».proof.Proof.Gen.ScWGradIdeal.Points
public import proofs.«01_k».proof.Proof.Gen.ScWGradIdeal.Frame
public import proofs.«01_k».proof.Proof.Gen.ScWGradRefIdeal
public import proofs.«01_k».proof.Proof.Gen.ScWGradRefIdeal.Run
public import proofs.«01_k».proof.Proof.Gen.ScWGradRefIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.Pre_ssd_in_finite
public import proofs.«01_k».proof.Proof.Gen.Pre_sc_in_finite
public import proofs.«01_k».proof.Proof.FfnValue
public import proofs.«01_k».proof.Proof.ScanValue
public import proofs.«01_k».proof.Proof.WGradValue
public import proofs.«01_k».proof.Proof.FfnFwdValue
public import proofs.«01_k».proof.Proof.SsdInValue
public import proofs.«01_k».proof.Proof.ScInValue
public import proofs.«01_k».proof.Proof.ProductGrads
public import proofs.«01_k».proof.Proof.FirstProducts
public import proofs.«01_k».proof.Proof.LastProducts
public import proofs.«01_k».proof.Proof.ScWGradValue
public import proofs.«01_k».proof.Proof.GateFwdValue
public import Idealize.ShloMosaic.Adequacy
public import Idealize.ShloMosaic.Init

@[expose] public section

noncomputable section

namespace Cert.Proof

open Idealize.ShloMosaic Idealize.SL.Sem Cert.FfnBwd

/-- The reference's frame: the last part of its run; it declares no semaphore. -/
theorem ffn_ref_frame : Cert.quiescent_FfnRefIdeal := fun m ρ _ =>
  (θ_run (Cert.FfnRefIdeal.defs (F := Ideal)) _ _).mono (fun r h => ⟨fun c => (h c).2.2.2.2.2.2,
      Idealize.ShloMosaic.sem_eq_zero_of_no_sems (by decide) r.2⟩)
    (Cert.FfnRefIdeal.Value.run m ρ)

/-- The same of the forward reference. -/
theorem ffn_fwd_ref_frame : Cert.quiescent_FfnFwdRefIdeal := fun m ρ _ =>
  (θ_run (Cert.FfnFwdRefIdeal.defs (F := Ideal)) _ _).mono (fun r h => ⟨fun c => (h c).2.2.2.2,
      Idealize.ShloMosaic.sem_eq_zero_of_no_sems (by decide) r.2⟩)
    (Cert.FfnFwdRefIdeal.Value.run m ρ)

/-- The same of the weight gradient's reference. -/
theorem wgrad_ref_frame : Cert.quiescent_WGradRefIdeal := fun m ρ _ =>
  (θ_run (Cert.WGradRefIdeal.defs (F := Ideal)) _ _).mono (fun r h => ⟨fun c => (h c).2,
      Idealize.ShloMosaic.sem_eq_zero_of_no_sems (by decide) r.2⟩)
    (Cert.WGradRefIdeal.Value.run m ρ)

/-- The same of the scan's reference. -/
theorem scan_ref_frame : Cert.quiescent_ScanRefIdeal := fun m ρ _ =>
  (θ_run (Cert.ScanRefIdeal.defs (F := Ideal)) _ _).mono (fun r h => ⟨fun c => (h c).2.2.2,
      Idealize.ShloMosaic.sem_eq_zero_of_no_sems (by decide) r.2⟩)
    (Cert.ScanRefIdeal.Value.run m ρ)

/-- The same of the reference of the products in front of the scan. -/
theorem ssd_in_ref_frame : Cert.quiescent_SsdInRefIdeal := fun m ρ _ =>
  (θ_run (Cert.SsdInRefIdeal.defs (F := Ideal)) _ _).mono (fun r h => ⟨fun c => (h c).2.2.2,
      Idealize.ShloMosaic.sem_eq_zero_of_no_sems (by decide) r.2⟩)
    (Cert.SsdInRefIdeal.Value.run m ρ)

/-- The same of the reference of the product in front of the short convolution. -/
theorem sc_in_ref_frame : Cert.quiescent_ScInRefIdeal := fun m ρ _ =>
  (θ_run (Cert.ScInRefIdeal.defs (F := Ideal)) _ _).mono (fun r h => ⟨fun c => (h c).2.2.2,
      Idealize.ShloMosaic.sem_eq_zero_of_no_sems (by decide) r.2⟩)
    (Cert.ScInRefIdeal.Value.run m ρ)

/-- The same of the gate's weight gradient's reference. -/
theorem z_grad_ref_frame : Cert.quiescent_ZGradRefIdeal := fun m ρ _ =>
  (θ_run (Cert.ZGradRefIdeal.defs (F := Ideal)) _ _).mono (fun r h => ⟨fun c => (h c).2,
      Idealize.ShloMosaic.sem_eq_zero_of_no_sems (by decide) r.2⟩)
    (Cert.ZGradRefIdeal.Value.run m ρ)

/-- The same of the scan inputs' weight gradient's reference. -/
theorem xbc_grad_ref_frame : Cert.quiescent_XbcGradRefIdeal := fun m ρ _ =>
  (θ_run (Cert.XbcGradRefIdeal.defs (F := Ideal)) _ _).mono (fun r h => ⟨fun c => (h c).2,
      Idealize.ShloMosaic.sem_eq_zero_of_no_sems (by decide) r.2⟩)
    (Cert.XbcGradRefIdeal.Value.run m ρ)

/-- The same of the reference of the forward pass of the products in front of the scan. -/
theorem ssd_first_ref_frame : Cert.quiescent_SsdFirstRefIdeal := fun m ρ _ =>
  (θ_run (Cert.SsdFirstRefIdeal.defs (F := Ideal)) _ _).mono (fun r h => ⟨fun c => (h c).2.2.2,
      Idealize.ShloMosaic.sem_eq_zero_of_no_sems (by decide) r.2⟩)
    (Cert.SsdFirstRefIdeal.Value.run m ρ)

/-- The same of the reference of the forward pass of the product in front of the short convolution. -/
theorem sc_first_ref_frame : Cert.quiescent_ScFirstRefIdeal := fun m ρ _ =>
  (θ_run (Cert.ScFirstRefIdeal.defs (F := Ideal)) _ _).mono (fun r h => ⟨fun c => (h c).2,
      Idealize.ShloMosaic.sem_eq_zero_of_no_sems (by decide) r.2⟩)
    (Cert.ScFirstRefIdeal.Value.run m ρ)

/-- The same of the reference of the product behind the scan. -/
theorem ssd_last_ref_frame : Cert.quiescent_SsdLastRefIdeal := fun m ρ _ =>
  (θ_run (Cert.SsdLastRefIdeal.defs (F := Ideal)) _ _).mono (fun r h => ⟨fun c => (h c).2,
      Idealize.ShloMosaic.sem_eq_zero_of_no_sems (by decide) r.2⟩)
    (Cert.SsdLastRefIdeal.Value.run m ρ)

/-- The same of the reference of the product behind the short convolution. -/
theorem sc_last_ref_frame : Cert.quiescent_ScLastRefIdeal := fun m ρ _ =>
  (θ_run (Cert.ScLastRefIdeal.defs (F := Ideal)) _ _).mono (fun r h => ⟨fun c => (h c).2,
      Idealize.ShloMosaic.sem_eq_zero_of_no_sems (by decide) r.2⟩)
    (Cert.ScLastRefIdeal.Value.run m ρ)

/-- The same of the reference of the step sizes' weight gradient. -/
theorem dt_grad_ref_frame : Cert.quiescent_DtGradRefIdeal := fun m ρ _ =>
  (θ_run (Cert.DtGradRefIdeal.defs (F := Ideal)) _ _).mono (fun r h => ⟨fun c => (h c).2,
      Idealize.ShloMosaic.sem_eq_zero_of_no_sems (by decide) r.2⟩)
    (Cert.DtGradRefIdeal.Value.run m ρ)

/-- The same of the reference of the weight gradient in front of the short convolution. -/
theorem sc_wgrad_ref_frame : Cert.quiescent_ScWGradRefIdeal := fun m ρ _ =>
  (θ_run (Cert.ScWGradRefIdeal.defs (F := Ideal)) _ _).mono (fun r h => ⟨fun c => (h c).2,
      Idealize.ShloMosaic.sem_eq_zero_of_no_sems (by decide) r.2⟩)
    (Cert.ScWGradRefIdeal.Value.run m ρ)

theorem gate_fwd_ref_frame : Cert.quiescent_GateFwdRefIdeal := fun m ρ _ =>
  (θ_run (Cert.GateFwdRefIdeal.defs (F := Ideal)) _ _).mono (fun r h => ⟨fun c => (h c).2,
      Idealize.ShloMosaic.sem_eq_zero_of_no_sems (by decide) r.2⟩)
    (Cert.GateFwdRefIdeal.Value.run m ρ)

/-- The scan's mask is minus infinity. -/
theorem scan_preserves : Cert.preserves_Scan_ScanIdeal :=
  IdealRules.named_const.statement Cert.ScanIdeal.κ "mask" .f32 0xF149F2CA#32 ⊥ rfl

theorem claim : Cert.Claim :=
  ⟨Cert.FfnBwd.Gen.facts, Cert.FfnBwdIdeal.Gen.facts, Cert.FfnRefIdeal.Gen.facts,
    Cert.FfnFwd.Gen.facts, Cert.FfnFwdIdeal.Gen.facts, Cert.FfnFwdRefIdeal.Gen.facts,
    Cert.WGrad.Gen.facts, Cert.WGradIdeal.Gen.facts, Cert.WGradRefIdeal.Gen.facts,
    Cert.Scan.Gen.facts, Cert.ScanIdeal.Gen.facts, Cert.ScanRefIdeal.Gen.facts,
    Cert.SsdIn.Gen.facts, Cert.SsdInIdeal.Gen.facts, Cert.SsdInRefIdeal.Gen.facts,
    Cert.ScIn.Gen.facts, Cert.ScInIdeal.Gen.facts, Cert.ScInRefIdeal.Gen.facts,
    Cert.ZGrad.Gen.facts, Cert.ZGradIdeal.Gen.facts, Cert.ZGradRefIdeal.Gen.facts,
    Cert.XbcGrad.Gen.facts, Cert.XbcGradIdeal.Gen.facts, Cert.XbcGradRefIdeal.Gen.facts,
    Cert.SsdFirst.Gen.facts, Cert.SsdFirstIdeal.Gen.facts, Cert.SsdFirstRefIdeal.Gen.facts,
    Cert.ScFirst.Gen.facts, Cert.ScFirstIdeal.Gen.facts, Cert.ScFirstRefIdeal.Gen.facts,
    Cert.SsdLast.Gen.facts, Cert.SsdLastIdeal.Gen.facts, Cert.SsdLastRefIdeal.Gen.facts,
    Cert.ScLast.Gen.facts, Cert.ScLastIdeal.Gen.facts, Cert.ScLastRefIdeal.Gen.facts,
    Cert.DtGrad.Gen.facts, Cert.DtGradIdeal.Gen.facts, Cert.DtGradRefIdeal.Gen.facts,
    Cert.ScWGrad.Gen.facts, Cert.ScWGradIdeal.Gen.facts, Cert.ScWGradRefIdeal.Gen.facts,
    Cert.GateFwd.Gen.facts, Cert.GateFwdIdeal.Gen.facts, Cert.GateFwdRefIdeal.Gen.facts,
    Cert.Pre_ffn_finite.Gen.facts, Cert.Pre_scan_finite.Gen.facts, Cert.Pre_ssd_in_finite.Gen.facts, Cert.Pre_sc_in_finite.Gen.facts,
    fun m ρ _ => Cert.FfnBwd.Gen.frame m ρ,
    fun m ρ _ => Cert.FfnBwdIdeal.Gen.frame m ρ,
    fun m ρ _ => Cert.FfnBwdIdeal.Gen.frame m ρ,
    ffn_ref_frame,
    fun m ρ _ => ffn_ref_frame m ρ trivial,
    fun m ρ _ => Cert.FfnFwd.Gen.frame m ρ,
    fun m ρ _ => Cert.FfnFwdIdeal.Gen.frame m ρ,
    ffn_fwd_ref_frame,
    fun m ρ _ => Cert.WGrad.Gen.frame m ρ,
    fun m ρ _ => Cert.WGradIdeal.Gen.frame m ρ,
    wgrad_ref_frame,
    fun m ρ _ => Cert.Scan.Gen.frame m ρ,
    fun m ρ _ => Cert.ScanIdeal.Gen.frame m ρ,
    fun m ρ _ => Cert.ScanIdeal.Gen.frame m ρ,
    scan_ref_frame,
    fun m ρ _ => scan_ref_frame m ρ trivial,
    fun m ρ _ => Cert.SsdIn.Gen.frame m ρ,
    fun m ρ _ => Cert.SsdInIdeal.Gen.frame m ρ,
    fun m ρ _ => Cert.SsdInIdeal.Gen.frame m ρ,
    ssd_in_ref_frame,
    fun m ρ _ => ssd_in_ref_frame m ρ trivial,
    fun m ρ _ => Cert.ScIn.Gen.frame m ρ,
    fun m ρ _ => Cert.ScInIdeal.Gen.frame m ρ,
    fun m ρ _ => Cert.ScInIdeal.Gen.frame m ρ,
    sc_in_ref_frame,
    fun m ρ _ => sc_in_ref_frame m ρ trivial,
    fun m ρ _ => Cert.ZGrad.Gen.frame m ρ,
    fun m ρ _ => Cert.ZGradIdeal.Gen.frame m ρ,
    z_grad_ref_frame,
    fun m ρ _ => Cert.XbcGrad.Gen.frame m ρ,
    fun m ρ _ => Cert.XbcGradIdeal.Gen.frame m ρ,
    xbc_grad_ref_frame,
    fun m ρ _ => Cert.SsdFirst.Gen.frame m ρ,
    fun m ρ _ => Cert.SsdFirstIdeal.Gen.frame m ρ,
    ssd_first_ref_frame,
    fun m ρ _ => Cert.ScFirst.Gen.frame m ρ,
    fun m ρ _ => Cert.ScFirstIdeal.Gen.frame m ρ,
    sc_first_ref_frame,
    fun m ρ _ => Cert.SsdLast.Gen.frame m ρ,
    fun m ρ _ => Cert.SsdLastIdeal.Gen.frame m ρ,
    ssd_last_ref_frame,
    fun m ρ _ => Cert.ScLast.Gen.frame m ρ,
    fun m ρ _ => Cert.ScLastIdeal.Gen.frame m ρ,
    sc_last_ref_frame,
    fun m ρ _ => Cert.DtGrad.Gen.frame m ρ,
    fun m ρ _ => Cert.DtGradIdeal.Gen.frame m ρ,
    dt_grad_ref_frame,
    fun m ρ _ => Cert.ScWGrad.Gen.frame m ρ,
    fun m ρ _ => Cert.ScWGradIdeal.Gen.frame m ρ,
    sc_wgrad_ref_frame,
    fun m ρ _ => Cert.GateFwd.Gen.frame m ρ,
    fun m ρ _ => Cert.GateFwdIdeal.Gen.frame m ρ,
    gate_fwd_ref_frame,
    trivial, Cert.FfnValue.algebraic,
    trivial, Cert.FfnFwdValue.algebraic,
    trivial, Cert.WGradValue.algebraic,
    scan_preserves, Cert.ScanValue.algebraic,
    trivial, Cert.SsdInValue.algebraic,
    trivial, Cert.ScInValue.algebraic,
    trivial, Cert.ProductGrads.Z.algebraic,
    trivial, Cert.ProductGrads.Xbc.algebraic,
    trivial, Cert.FirstProducts.Ssd.algebraic,
    trivial, Cert.FirstProducts.Sc.algebraic,
    trivial, Cert.LastProducts.Ssd.algebraic,
    trivial, Cert.LastProducts.Sc.algebraic,
    trivial, Cert.ProductGrads.Dt.algebraic,
    trivial, Cert.ScWGradValue.algebraic,
    trivial, Cert.GateFwdValue.algebraic⟩

end Cert.Proof

end
